-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2 = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_finite_prompt [hPre_finite_prompt : Cert.Pre_finite_prompt.Facts] (m : (ℓ : Loc Cert.PromptIdeal.nD Cert.PromptIdeal.τ Cert.PromptIdeal.sig) → Buf (Elt Ideal) ℓ) : Prop :=
  ∀ c : Dev Cert.PromptIdeal.nD,
    (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14))).1 = (fun _ => 1#1)
    ∧ (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14))).2.1 = (fun _ => 1#1)
    ∧ (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14))).2.2.1 = (fun _ => 1#1)
    ∧ (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14))).2.2.2.1 = (fun _ => 1#1)
    ∧ (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14))).2.2.2.2.1 = (fun _ => 1#1)
    ∧ (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14))).2.2.2.2.2 = (fun _ => 1#1)

def Pre_PromptReferenceIdeal (m : (ℓ : Loc Cert.PromptReferenceIdeal.nD Cert.PromptReferenceIdeal.τ Cert.PromptReferenceIdeal.sig) → Buf (Elt Ideal) ℓ) : Prop :=
  True

def Pre_PromptReferenceIdeal_finite_prompt [hPre_finite_prompt : Cert.Pre_finite_prompt.Facts] (m : (ℓ : Loc Cert.PromptReferenceIdeal.nD Cert.PromptReferenceIdeal.τ Cert.PromptReferenceIdeal.sig) → Buf (Elt Ideal) ℓ) : Prop :=
  ∀ c : Dev Cert.PromptReferenceIdeal.nD,
    (Cert.Pre_finite_prompt.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7)) (m ((c.tc : Thread Cert.PromptReferenceIdeal.nD Cert.PromptReferenceIdeal.τ).loc Cert.PromptReferenceIdeal.main_arg8)) (m ((c.tc : Thread Cert.PromptReferenceIdeal.nD Cert.PromptReferenceIdeal.τ).loc Cert.PromptReferenceIdeal.main_arg9)) (m ((c.tc : Thread Cert.PromptReferenceIdeal.nD Cert.PromptReferenceIdeal.τ).loc Cert.PromptReferenceIdeal.main_arg10)) (m ((c.tc : Thread Cert.PromptReferenceIdeal.nD Cert.PromptReferenceIdeal.τ).loc Cert.PromptReferenceIdeal.main_arg11)) (m ((c.tc : Thread Cert.PromptReferenceIdeal.nD Cert.PromptReferenceIdeal.τ).loc Cert.PromptReferenceIdeal.main_arg12)) (m ((c.tc : Thread Cert.PromptReferenceIdeal.nD Cert.PromptReferenceIdeal.τ).loc Cert.PromptReferenceIdeal.main_arg13)) (m ((c.tc : Thread Cert.PromptReferenceIdeal.nD Cert.PromptReferenceIdeal.τ).loc Cert.PromptReferenceIdeal.main_arg14))).1 = (fun _ => 1#1)
    ∧ (Cert.Pre_finite_prompt.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7)) (m ((c.tc : Thread Cert.PromptReferenceIdeal.nD Cert.PromptReferenceIdeal.τ).loc Cert.PromptReferenceIdeal.main_arg8)) (m ((c.tc : Thread Cert.PromptReferenceIdeal.nD Cert.PromptReferenceIdeal.τ).loc Cert.PromptReferenceIdeal.main_arg9)) (m ((c.tc : Thread Cert.PromptReferenceIdeal.nD Cert.PromptReferenceIdeal.τ).loc Cert.PromptReferenceIdeal.main_arg10)) (m ((c.tc : Thread Cert.PromptReferenceIdeal.nD Cert.PromptReferenceIdeal.τ).loc Cert.PromptReferenceIdeal.main_arg11)) (m ((c.tc : Thread Cert.PromptReferenceIdeal.nD Cert.PromptReferenceIdeal.τ).loc Cert.PromptReferenceIdeal.main_arg12)) (m ((c.tc : Thread Cert.PromptReferenceIdeal.nD Cert.PromptReferenceIdeal.τ).loc Cert.PromptReferenceIdeal.main_arg13)) (m ((c.tc : Thread Cert.PromptReferenceIdeal.nD Cert.PromptReferenceIdeal.τ).loc Cert.PromptReferenceIdeal.main_arg14))).2.1 = (fun _ => 1#1)
    ∧ (Cert.Pre_finite_prompt.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7)) (m ((c.tc : Thread Cert.PromptReferenceIdeal.nD Cert.PromptReferenceIdeal.τ).loc Cert.PromptReferenceIdeal.main_arg8)) (m ((c.tc : Thread Cert.PromptReferenceIdeal.nD Cert.PromptReferenceIdeal.τ).loc Cert.PromptReferenceIdeal.main_arg9)) (m ((c.tc : Thread Cert.PromptReferenceIdeal.nD Cert.PromptReferenceIdeal.τ).loc Cert.PromptReferenceIdeal.main_arg10)) (m ((c.tc : Thread Cert.PromptReferenceIdeal.nD Cert.PromptReferenceIdeal.τ).loc Cert.PromptReferenceIdeal.main_arg11)) (m ((c.tc : Thread Cert.PromptReferenceIdeal.nD Cert.PromptReferenceIdeal.τ).loc Cert.PromptReferenceIdeal.main_arg12)) (m ((c.tc : Thread Cert.PromptReferenceIdeal.nD Cert.PromptReferenceIdeal.τ).loc Cert.PromptReferenceIdeal.main_arg13)) (m ((c.tc : Thread Cert.PromptReferenceIdeal.nD Cert.PromptReferenceIdeal.τ).loc Cert.PromptReferenceIdeal.main_arg14))).2.2.1 = (fun _ => 1#1)
    ∧ (Cert.Pre_finite_prompt.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7)) (m ((c.tc : Thread Cert.PromptReferenceIdeal.nD Cert.PromptReferenceIdeal.τ).loc Cert.PromptReferenceIdeal.main_arg8)) (m ((c.tc : Thread Cert.PromptReferenceIdeal.nD Cert.PromptReferenceIdeal.τ).loc Cert.PromptReferenceIdeal.main_arg9)) (m ((c.tc : Thread Cert.PromptReferenceIdeal.nD Cert.PromptReferenceIdeal.τ).loc Cert.PromptReferenceIdeal.main_arg10)) (m ((c.tc : Thread Cert.PromptReferenceIdeal.nD Cert.PromptReferenceIdeal.τ).loc Cert.PromptReferenceIdeal.main_arg11)) (m ((c.tc : Thread Cert.PromptReferenceIdeal.nD Cert.PromptReferenceIdeal.τ).loc Cert.PromptReferenceIdeal.main_arg12)) (m ((c.tc : Thread Cert.PromptReferenceIdeal.nD Cert.PromptReferenceIdeal.τ).loc Cert.PromptReferenceIdeal.main_arg13)) (m ((c.tc : Thread Cert.PromptReferenceIdeal.nD Cert.PromptReferenceIdeal.τ).loc Cert.PromptReferenceIdeal.main_arg14))).2.2.2.1 = (fun _ => 1#1)
    ∧ (Cert.Pre_finite_prompt.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7)) (m ((c.tc : Thread Cert.PromptReferenceIdeal.nD Cert.PromptReferenceIdeal.τ).loc Cert.PromptReferenceIdeal.main_arg8)) (m ((c.tc : Thread Cert.PromptReferenceIdeal.nD Cert.PromptReferenceIdeal.τ).loc Cert.PromptReferenceIdeal.main_arg9)) (m ((c.tc : Thread Cert.PromptReferenceIdeal.nD Cert.PromptReferenceIdeal.τ).loc Cert.PromptReferenceIdeal.main_arg10)) (m ((c.tc : Thread Cert.PromptReferenceIdeal.nD Cert.PromptReferenceIdeal.τ).loc Cert.PromptReferenceIdeal.main_arg11)) (m ((c.tc : Thread Cert.PromptReferenceIdeal.nD Cert.PromptReferenceIdeal.τ).loc Cert.PromptReferenceIdeal.main_arg12)) (m ((c.tc : Thread Cert.PromptReferenceIdeal.nD Cert.PromptReferenceIdeal.τ).loc Cert.PromptReferenceIdeal.main_arg13)) (m ((c.tc : Thread Cert.PromptReferenceIdeal.nD Cert.PromptReferenceIdeal.τ).loc Cert.PromptReferenceIdeal.main_arg14))).2.2.2.2.1 = (fun _ => 1#1)
    ∧ (Cert.Pre_finite_prompt.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7)) (m ((c.tc : Thread Cert.PromptReferenceIdeal.nD Cert.PromptReferenceIdeal.τ).loc Cert.PromptReferenceIdeal.main_arg8)) (m ((c.tc : Thread Cert.PromptReferenceIdeal.nD Cert.PromptReferenceIdeal.τ).loc Cert.PromptReferenceIdeal.main_arg9)) (m ((c.tc : Thread Cert.PromptReferenceIdeal.nD Cert.PromptReferenceIdeal.τ).loc Cert.PromptReferenceIdeal.main_arg10)) (m ((c.tc : Thread Cert.PromptReferenceIdeal.nD Cert.PromptReferenceIdeal.τ).loc Cert.PromptReferenceIdeal.main_arg11)) (m ((c.tc : Thread Cert.PromptReferenceIdeal.nD Cert.PromptReferenceIdeal.τ).loc Cert.PromptReferenceIdeal.main_arg12)) (m ((c.tc : Thread Cert.PromptReferenceIdeal.nD Cert.PromptReferenceIdeal.τ).loc Cert.PromptReferenceIdeal.main_arg13)) (m ((c.tc : Thread Cert.PromptReferenceIdeal.nD Cert.PromptReferenceIdeal.τ).loc Cert.PromptReferenceIdeal.main_arg14))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12)
      ∧ r.2.mem ((c.tc : Thread Cert.Prompt.nD Cert.Prompt.τ).loc Cert.Prompt.main_arg13) = m ((c.tc : Thread Cert.Prompt.nD Cert.Prompt.τ).loc Cert.Prompt.main_arg13)
      ∧ r.2.mem ((c.tc : Thread Cert.Prompt.nD Cert.Prompt.τ).loc Cert.Prompt.main_arg14) = m ((c.tc : Thread Cert.Prompt.nD Cert.Prompt.τ).loc Cert.Prompt.main_arg14))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14))
      ∧ r.2.sem = fun _ => 0)

def quiescent_PromptIdeal_pre_finite_prompt [hPromptIdeal : Cert.PromptIdeal.Facts] [hPre_finite_prompt : Cert.Pre_finite_prompt.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_finite_prompt m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9)
      ∧ r.2.mem ((c.tc : Thread Cert.PromptReferenceIdeal.nD Cert.PromptReferenceIdeal.τ).loc Cert.PromptReferenceIdeal.main_arg10) = m ((c.tc : Thread Cert.PromptReferenceIdeal.nD Cert.PromptReferenceIdeal.τ).loc Cert.PromptReferenceIdeal.main_arg10)
      ∧ r.2.mem ((c.tc : Thread Cert.PromptReferenceIdeal.nD Cert.PromptReferenceIdeal.τ).loc Cert.PromptReferenceIdeal.main_arg11) = m ((c.tc : Thread Cert.PromptReferenceIdeal.nD Cert.PromptReferenceIdeal.τ).loc Cert.PromptReferenceIdeal.main_arg11)
      ∧ r.2.mem ((c.tc : Thread Cert.PromptReferenceIdeal.nD Cert.PromptReferenceIdeal.τ).loc Cert.PromptReferenceIdeal.main_arg12) = m ((c.tc : Thread Cert.PromptReferenceIdeal.nD Cert.PromptReferenceIdeal.τ).loc Cert.PromptReferenceIdeal.main_arg12)
      ∧ r.2.mem ((c.tc : Thread Cert.PromptReferenceIdeal.nD Cert.PromptReferenceIdeal.τ).loc Cert.PromptReferenceIdeal.main_arg13) = m ((c.tc : Thread Cert.PromptReferenceIdeal.nD Cert.PromptReferenceIdeal.τ).loc Cert.PromptReferenceIdeal.main_arg13)
      ∧ r.2.mem ((c.tc : Thread Cert.PromptReferenceIdeal.nD Cert.PromptReferenceIdeal.τ).loc Cert.PromptReferenceIdeal.main_arg14) = m ((c.tc : Thread Cert.PromptReferenceIdeal.nD Cert.PromptReferenceIdeal.τ).loc Cert.PromptReferenceIdeal.main_arg14))
      ∧ r.2.sem = fun _ => 0)

def quiescent_PromptReferenceIdeal_pre_finite_prompt [hPromptReferenceIdeal : Cert.PromptReferenceIdeal.Facts] [hPre_finite_prompt : Cert.Pre_finite_prompt.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal_finite_prompt m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9)
      ∧ r.2.mem ((c.tc : Thread Cert.PromptReferenceIdeal.nD Cert.PromptReferenceIdeal.τ).loc Cert.PromptReferenceIdeal.main_arg10) = m ((c.tc : Thread Cert.PromptReferenceIdeal.nD Cert.PromptReferenceIdeal.τ).loc Cert.PromptReferenceIdeal.main_arg10)
      ∧ r.2.mem ((c.tc : Thread Cert.PromptReferenceIdeal.nD Cert.PromptReferenceIdeal.τ).loc Cert.PromptReferenceIdeal.main_arg11) = m ((c.tc : Thread Cert.PromptReferenceIdeal.nD Cert.PromptReferenceIdeal.τ).loc Cert.PromptReferenceIdeal.main_arg11)
      ∧ r.2.mem ((c.tc : Thread Cert.PromptReferenceIdeal.nD Cert.PromptReferenceIdeal.τ).loc Cert.PromptReferenceIdeal.main_arg12) = m ((c.tc : Thread Cert.PromptReferenceIdeal.nD Cert.PromptReferenceIdeal.τ).loc Cert.PromptReferenceIdeal.main_arg12)
      ∧ r.2.mem ((c.tc : Thread Cert.PromptReferenceIdeal.nD Cert.PromptReferenceIdeal.τ).loc Cert.PromptReferenceIdeal.main_arg13) = m ((c.tc : Thread Cert.PromptReferenceIdeal.nD Cert.PromptReferenceIdeal.τ).loc Cert.PromptReferenceIdeal.main_arg13)
      ∧ r.2.mem ((c.tc : Thread Cert.PromptReferenceIdeal.nD Cert.PromptReferenceIdeal.τ).loc Cert.PromptReferenceIdeal.main_arg14) = m ((c.tc : Thread Cert.PromptReferenceIdeal.nD Cert.PromptReferenceIdeal.τ).loc Cert.PromptReferenceIdeal.main_arg14))
      ∧ r.2.sem = fun _ => 0)

def preserves_Kernel_KernelIdeal : Prop :=
  IdealRules.bf16_pair.BufferStatement Cert.KernelIdeal.S512x2x7168 Cert.KernelIdeal.S512x1x7168
  ∧ IdealRules.bf16_pair.BufferStatement Cert.KernelIdeal.S512x2x256 Cert.KernelIdeal.S512x1x256
  ∧ IdealRules.bf16_pair.BufferStatement Cert.KernelIdeal.S512x2x1024 Cert.KernelIdeal.S512x1x1024
  ∧ IdealRules.bf16_pair.BufferStatement Cert.KernelIdeal.S256x2x1024 Cert.KernelIdeal.S256x1x1024
  ∧ IdealRules.bf16_pair.BufferStatement Cert.KernelIdeal.S64x2x7168 Cert.KernelIdeal.S64x1x7168
  ∧ IdealRules.bf16_pair.BufferStatement Cert.KernelIdeal.S64x2x256 Cert.KernelIdeal.S64x1x256
  ∧ IdealRules.bf16_pair.BufferStatement Cert.KernelIdeal.S64x2x1024 Cert.KernelIdeal.S64x1x1024
  ∧ IdealRules.bf16_pair.BufferStatement Cert.KernelIdeal.S32x2x1024 Cert.KernelIdeal.S32x1x1024
  ∧ IdealRules.bf16_pair.Statement Cert.KernelIdeal.S128x7168 Cert.KernelIdeal.S64x7168
  ∧ IdealRules.bf16_pair.Statement Cert.KernelIdeal.S64x2x7168 Cert.KernelIdeal.S64x1x7168
  ∧ IdealRules.bf16_pair.Statement Cert.KernelIdeal.S128x256 Cert.KernelIdeal.S64x256
  ∧ IdealRules.bf16_pair.Statement Cert.KernelIdeal.S64x2x256 Cert.KernelIdeal.S64x1x256
  ∧ IdealRules.bf16_pair.Statement Cert.KernelIdeal.S128x1024 Cert.KernelIdeal.S64x1024
  ∧ IdealRules.bf16_pair.Statement Cert.KernelIdeal.S64x2x1024 Cert.KernelIdeal.S64x1x1024
  ∧ IdealRules.bf16_pair.Statement Cert.KernelIdeal.S64x1024 Cert.KernelIdeal.S32x1024
  ∧ IdealRules.bf16_pair.Statement Cert.KernelIdeal.S32x2x1024 Cert.KernelIdeal.S32x1x1024
  ∧ IdealRules.bf16_pair.Statement Cert.KernelIdeal.S512x2x1024 Cert.KernelIdeal.S512x1x1024
  ∧ IdealRules.bf16_pair.Statement Cert.KernelIdeal.S1024x1024 Cert.KernelIdeal.S512x1024
  ∧ IdealRules.bf16_pair.Statement Cert.KernelIdeal.S512x2x512 Cert.KernelIdeal.S512x1x512
  ∧ IdealRules.bf16_pair.Statement Cert.KernelIdeal.S1024x512 Cert.KernelIdeal.S512x512
  ∧ IdealRules.bf16_pair.Statement Cert.KernelIdeal.S128x2x256 Cert.KernelIdeal.S128x1x256
  ∧ IdealRules.bf16_pair.Statement Cert.KernelIdeal.S256x256 Cert.KernelIdeal.S128x256
  ∧ IdealRules.bf16_pair.Statement Cert.KernelIdeal.S256x2x1024 Cert.KernelIdeal.S256x1x1024
  ∧ IdealRules.bf16_pair.Statement Cert.KernelIdeal.S512x1024 Cert.KernelIdeal.S256x1024

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Prompt_PromptIdeal : Prop :=
  IdealRules.bf16_pair.BufferStatement Cert.PromptIdeal.S512x2x7168 Cert.PromptIdeal.S512x1x7168
  ∧ IdealRules.bf16_pair.BufferStatement Cert.PromptIdeal.S512x2x256 Cert.PromptIdeal.S512x1x256
  ∧ IdealRules.bf16_pair.BufferStatement Cert.PromptIdeal.S512x2x1024 Cert.PromptIdeal.S512x1x1024
  ∧ IdealRules.bf16_pair.BufferStatement Cert.PromptIdeal.S256x2x1024 Cert.PromptIdeal.S256x1x1024
  ∧ IdealRules.bf16_pair.BufferStatement Cert.PromptIdeal.S64x2x7168 Cert.PromptIdeal.S64x1x7168
  ∧ IdealRules.bf16_pair.BufferStatement Cert.PromptIdeal.S64x2x256 Cert.PromptIdeal.S64x1x256
  ∧ IdealRules.bf16_pair.BufferStatement Cert.PromptIdeal.S64x2x1024 Cert.PromptIdeal.S64x1x1024
  ∧ IdealRules.bf16_pair.BufferStatement Cert.PromptIdeal.S32x2x1024 Cert.PromptIdeal.S32x1x1024
  ∧ IdealRules.bf16_pair.Statement Cert.PromptIdeal.S128x7168 Cert.PromptIdeal.S64x7168
  ∧ IdealRules.bf16_pair.Statement Cert.PromptIdeal.S64x2x7168 Cert.PromptIdeal.S64x1x7168
  ∧ IdealRules.bf16_pair.Statement Cert.PromptIdeal.S128x256 Cert.PromptIdeal.S64x256
  ∧ IdealRules.bf16_pair.Statement Cert.PromptIdeal.S64x2x256 Cert.PromptIdeal.S64x1x256
  ∧ IdealRules.bf16_pair.Statement Cert.PromptIdeal.S128x1024 Cert.PromptIdeal.S64x1024
  ∧ IdealRules.bf16_pair.Statement Cert.PromptIdeal.S64x2x1024 Cert.PromptIdeal.S64x1x1024
  ∧ IdealRules.bf16_pair.Statement Cert.PromptIdeal.S64x1024 Cert.PromptIdeal.S32x1024
  ∧ IdealRules.bf16_pair.Statement Cert.PromptIdeal.S32x2x1024 Cert.PromptIdeal.S32x1x1024
  ∧ IdealRules.bf16_pair.Statement Cert.PromptIdeal.S512x2x1024 Cert.PromptIdeal.S512x1x1024
  ∧ IdealRules.bf16_pair.Statement Cert.PromptIdeal.S1024x1024 Cert.PromptIdeal.S512x1024
  ∧ IdealRules.bf16_pair.Statement Cert.PromptIdeal.S512x2x512 Cert.PromptIdeal.S512x1x512
  ∧ IdealRules.bf16_pair.Statement Cert.PromptIdeal.S1024x512 Cert.PromptIdeal.S512x512
  ∧ IdealRules.bf16_pair.Statement Cert.PromptIdeal.S128x2x256 Cert.PromptIdeal.S128x1x256
  ∧ IdealRules.bf16_pair.Statement Cert.PromptIdeal.S256x256 Cert.PromptIdeal.S128x256
  ∧ IdealRules.bf16_pair.Statement Cert.PromptIdeal.S256x2x1024 Cert.PromptIdeal.S256x1x1024
  ∧ IdealRules.bf16_pair.Statement Cert.PromptIdeal.S512x1024 Cert.PromptIdeal.S256x1024

def algebraic_PromptIdeal_PromptReferenceIdeal_pre_finite_prompt [hPromptIdeal : Cert.PromptIdeal.Facts] [hPromptReferenceIdeal : Cert.PromptReferenceIdeal.Facts] [hPre_finite_prompt : Cert.Pre_finite_prompt.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal_finite_prompt m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
      ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
      ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
      ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)
      ∧ m' ((c.tc : Thread Cert.PromptReferenceIdeal.nD Cert.PromptReferenceIdeal.τ).loc Cert.PromptReferenceIdeal.main_arg8) = m ((c.tc : Thread Cert.PromptIdeal.nD Cert.PromptIdeal.τ).loc Cert.PromptIdeal.main_arg8)
      ∧ m' ((c.tc : Thread Cert.PromptReferenceIdeal.nD Cert.PromptReferenceIdeal.τ).loc Cert.PromptReferenceIdeal.main_arg9) = m ((c.tc : Thread Cert.PromptIdeal.nD Cert.PromptIdeal.τ).loc Cert.PromptIdeal.main_arg9)
      ∧ m' ((c.tc : Thread Cert.PromptReferenceIdeal.nD Cert.PromptReferenceIdeal.τ).loc Cert.PromptReferenceIdeal.main_arg10) = m ((c.tc : Thread Cert.PromptIdeal.nD Cert.PromptIdeal.τ).loc Cert.PromptIdeal.main_arg10)
      ∧ m' ((c.tc : Thread Cert.PromptReferenceIdeal.nD Cert.PromptReferenceIdeal.τ).loc Cert.PromptReferenceIdeal.main_arg11) = m ((c.tc : Thread Cert.PromptIdeal.nD Cert.PromptIdeal.τ).loc Cert.PromptIdeal.main_arg11)
      ∧ m' ((c.tc : Thread Cert.PromptReferenceIdeal.nD Cert.PromptReferenceIdeal.τ).loc Cert.PromptReferenceIdeal.main_arg12) = m ((c.tc : Thread Cert.PromptIdeal.nD Cert.PromptIdeal.τ).loc Cert.PromptIdeal.main_arg12)
      ∧ m' ((c.tc : Thread Cert.PromptReferenceIdeal.nD Cert.PromptReferenceIdeal.τ).loc Cert.PromptReferenceIdeal.main_arg13) = m ((c.tc : Thread Cert.PromptIdeal.nD Cert.PromptIdeal.τ).loc Cert.PromptIdeal.main_arg13)
      ∧ m' ((c.tc : Thread Cert.PromptReferenceIdeal.nD Cert.PromptReferenceIdeal.τ).loc Cert.PromptReferenceIdeal.main_arg14) = m ((c.tc : Thread Cert.PromptIdeal.nD Cert.PromptIdeal.τ).loc Cert.PromptIdeal.main_arg14)) →
    ∃ (v0 : (c : Dev Cert.PromptIdeal.nD) → Buf (Elt Ideal) ((c.tc : Thread Cert.PromptIdeal.nD Cert.PromptIdeal.τ).loc Cert.PromptIdeal.main_v11)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v11) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
          ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
          ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v201) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7)
          ∧ r.2.mem ((c.tc : Thread Cert.PromptReferenceIdeal.nD Cert.PromptReferenceIdeal.τ).loc Cert.PromptReferenceIdeal.main_arg8) = m' ((c.tc : Thread Cert.PromptReferenceIdeal.nD Cert.PromptReferenceIdeal.τ).loc Cert.PromptReferenceIdeal.main_arg8)
          ∧ r.2.mem ((c.tc : Thread Cert.PromptReferenceIdeal.nD Cert.PromptReferenceIdeal.τ).loc Cert.PromptReferenceIdeal.main_arg9) = m' ((c.tc : Thread Cert.PromptReferenceIdeal.nD Cert.PromptReferenceIdeal.τ).loc Cert.PromptReferenceIdeal.main_arg9)
          ∧ r.2.mem ((c.tc : Thread Cert.PromptReferenceIdeal.nD Cert.PromptReferenceIdeal.τ).loc Cert.PromptReferenceIdeal.main_arg10) = m' ((c.tc : Thread Cert.PromptReferenceIdeal.nD Cert.PromptReferenceIdeal.τ).loc Cert.PromptReferenceIdeal.main_arg10)
          ∧ r.2.mem ((c.tc : Thread Cert.PromptReferenceIdeal.nD Cert.PromptReferenceIdeal.τ).loc Cert.PromptReferenceIdeal.main_arg11) = m' ((c.tc : Thread Cert.PromptReferenceIdeal.nD Cert.PromptReferenceIdeal.τ).loc Cert.PromptReferenceIdeal.main_arg11)
          ∧ r.2.mem ((c.tc : Thread Cert.PromptReferenceIdeal.nD Cert.PromptReferenceIdeal.τ).loc Cert.PromptReferenceIdeal.main_arg12) = m' ((c.tc : Thread Cert.PromptReferenceIdeal.nD Cert.PromptReferenceIdeal.τ).loc Cert.PromptReferenceIdeal.main_arg12)
          ∧ r.2.mem ((c.tc : Thread Cert.PromptReferenceIdeal.nD Cert.PromptReferenceIdeal.τ).loc Cert.PromptReferenceIdeal.main_arg13) = m' ((c.tc : Thread Cert.PromptReferenceIdeal.nD Cert.PromptReferenceIdeal.τ).loc Cert.PromptReferenceIdeal.main_arg13)
          ∧ r.2.mem ((c.tc : Thread Cert.PromptReferenceIdeal.nD Cert.PromptReferenceIdeal.τ).loc Cert.PromptReferenceIdeal.main_arg14) = m' ((c.tc : Thread Cert.PromptReferenceIdeal.nD Cert.PromptReferenceIdeal.τ).loc Cert.PromptReferenceIdeal.main_arg14))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptReferenceIdeal : Cert.PromptReferenceIdeal.Facts) (hPre_finite : Cert.Pre_finite.Facts) (hPre_finite_prompt : Cert.Pre_finite_prompt.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prompt (hPrompt := hPrompt)
    ∧ quiescent_PromptIdeal (hPromptIdeal := hPromptIdeal)
    ∧ quiescent_PromptIdeal_pre_finite_prompt (hPromptIdeal := hPromptIdeal) (hPre_finite_prompt := hPre_finite_prompt)
    ∧ quiescent_PromptReferenceIdeal (hPromptReferenceIdeal := hPromptReferenceIdeal)
    ∧ quiescent_PromptReferenceIdeal_pre_finite_prompt (hPromptReferenceIdeal := hPromptReferenceIdeal) (hPre_finite_prompt := hPre_finite_prompt)
    ∧ preserves_Kernel_KernelIdeal
    ∧ algebraic_KernelIdeal_ReferenceIdeal_pre_finite (hKernelIdeal := hKernelIdeal) (hReferenceIdeal := hReferenceIdeal) (hPre_finite := hPre_finite)
    ∧ preserves_Prompt_PromptIdeal
    ∧ algebraic_PromptIdeal_PromptReferenceIdeal_pre_finite_prompt (hPromptIdeal := hPromptIdeal) (hPromptReferenceIdeal := hPromptReferenceIdeal) (hPre_finite_prompt := hPre_finite_prompt)
-- ==== Pre_finite.lean ====
abbrev S1x16384x1024 : Shape := ⟨3, ![1, 16384, 1024]⟩
abbrev S1x16384x512 : Shape := ⟨3, ![1, 16384, 512]⟩
abbrev S1x256x1024 : Shape := ⟨3, ![1, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S_ : Shape := ⟨0, ![]⟩

class Facts : Prop where
  bcast_S_S1x16384x1024 : S_.BroadcastsInDim S1x16384x1024 (![] : Fin 0 → Fin S1x16384x1024.rank)
  bcast_S_S1x256x1024 : S_.BroadcastsInDim S1x256x1024 (![] : Fin 0 → Fin S1x256x1024.rank)
  bcast_S_S1x1024 : S_.BroadcastsInDim S1x1024 (![] : Fin 0 → Fin S1x1024.rank)
  bcast_S_S1x1024x7168 : S_.BroadcastsInDim S1x1024x7168 (![] : Fin 0 → Fin S1x1024x7168.rank)
  bcast_S_S1x1024x1024 : S_.BroadcastsInDim S1x1024x1024 (![] : Fin 0 → Fin S1x1024x1024.rank)

variable [Facts]

def fn {F : FTy → Type} [FloatOps F] (main_arg0 : FVec F S1x16384x1024 .f32) (main_arg1 : FVec F S1x16384x512 .bf16) (main_arg2 : FVec F S1x256x1024 .f32) (main_arg3 : FVec F S1x1024 .f32) (main_arg4 : FVec F S1x1024 .f32) (main_arg5 : FVec F S1x1024x7168 .f32) (main_arg6 : FVec F S1x4x256x256 .f32) (main_arg7 : FVec F S1x1024 .f32) (main_arg8 : FVec F S1x1024x1024 .f32) (main_arg9 : FVec F S1x1024x1024 .f32) (main_arg10 : FVec F S1x512x1024 .f32) (main_arg11 : FVec F S1x512x1024 .f32) (main_arg12 : FVec F S1x3072 .f32) (main_arg13 : FVec F S1x1024x1024 .f32) (main_arg14 : FVec F S1024 .f32) : IVec S1x16384x1024 1 × IVec S1x256x1024 1 × IVec S1x1024 1 × IVec S1x1024 1 × IVec S1x1024x7168 1 × IVec S1x1024x1024 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_v3 : FVec F S1x256x1024 .f32 := Host.absf main_arg2
  let main_cst_0 : FVec F S_ .f32 := constant S_ .f32 0x7F800000#32
  let main_v4 : FVec F S1x256x1024 .f32 := broadcastInDim S1x256x1024 ![] bcast_S_S1x256x1024 main_cst_0
  let main_v5 : IVec S1x256x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x7168 .f32 := Host.absf main_arg5
  let main_cst_3 : FVec F S_ .f32 := constant S_ .f32 0x7F800000#32
  let main_v13 : FVec F S1x1024x7168 .f32 := broadcastInDim S1x1024x7168 ![] bcast_S_S1x1024x7168 main_cst_3
  let main_v14 : IVec S1x1024x7168 1 := cmpf .olt main_v12 main_v13
  let main_v15 : FVec F S1x1024x1024 .f32 := Host.absf main_arg8
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  (main_v2, main_v5, main_v8, main_v11, main_v14, main_v17)
-- ==== Pre_finite_prompt.lean ====
abbrev S16x2048x1024 : Shape := ⟨3, ![16, 2048, 1024]⟩
abbrev S16x2048x512 : Shape := ⟨3, ![16, 2048, 512]⟩
abbrev S16x256x1024 : Shape := ⟨3, ![16, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  bcast_S_S16x256x1024 : S_.BroadcastsInDim S16x256x1024 (![] : Fin 0 → Fin S16x256x1024.rank)
  bcast_S_S1x1024 : S_.BroadcastsInDim S1x1024 (![] : Fin 0 → Fin S1x1024.rank)
  bcast_S_S1x1024x7168 : S_.BroadcastsInDim S1x1024x7168 (![] : Fin 0 → Fin S1x1024x7168.rank)
  bcast_S_S1x1024x1024 : S_.BroadcastsInDim S1x1024x1024 (![] : Fin 0 → Fin S1x1024x1024.rank)

variable [Facts]

def fn {F : FTy → Type} [FloatOps F] (main_arg0 : FVec F S16x2048x1024 .f32) (main_arg1 : FVec F S16x2048x512 .bf16) (main_arg2 : FVec F S16x256x1024 .f32) (main_arg3 : FVec F S1x1024 .f32) (main_arg4 : FVec F S1x1024 .f32) (main_arg5 : FVec F S1x1024x7168 .f32) (main_arg6 : FVec F S1x4x256x256 .f32) (main_arg7 : FVec F S1x1024 .f32) (main_arg8 : FVec F S1x1024x1024 .f32) (main_arg9 : FVec F S1x1024x1024 .f32) (main_arg10 : FVec F S1x512x1024 .f32) (main_arg11 : FVec F S1x512x1024 .f32) (main_arg12 : FVec F S1x3072 .f32) (main_arg13 : FVec F S1x1024x1024 .f32) (main_arg14 : FVec F S1024 .f32) : IVec S16x2048x1024 1 × IVec S16x256x1024 1 × IVec S1x1024 1 × IVec S1x1024 1 × IVec S1x1024x7168 1 × IVec S1x1024x1024 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x256x1024 .f32 := Host.absf main_arg2
  let main_cst_0 : FVec F S_ .f32 := constant S_ .f32 0x7F800000#32
  let main_v4 : FVec F S16x256x1024 .f32 := broadcastInDim S16x256x1024 ![] bcast_S_S16x256x1024 main_cst_0
  let main_v5 : IVec S16x256x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x7168 .f32 := Host.absf main_arg5
  let main_cst_3 : FVec F S_ .f32 := constant S_ .f32 0x7F800000#32
  let main_v13 : FVec F S1x1024x7168 .f32 := broadcastInDim S1x1024x7168 ![] bcast_S_S1x1024x7168 main_cst_3
  let main_v14 : IVec S1x1024x7168 1 := cmpf .olt main_v12 main_v13
  let main_v15 : FVec F S1x1024x1024 .f32 := Host.absf main_arg8
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  (main_v2, main_v5, main_v8, main_v11, main_v14, main_v17)
-- ==== Kernel.lean ====
abbrev S1x16384x1024 : Shape := ⟨3, ![1, 16384, 1024]⟩
abbrev S1x16384x512 : Shape := ⟨3, ![1, 16384, 512]⟩
abbrev S1x256x1024 : Shape := ⟨3, ![1, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S1024x7168 : Shape := ⟨2, ![1024, 7168]⟩
abbrev S4x256x256 : Shape := ⟨3, ![4, 256, 256]⟩
abbrev S1024x1024 : Shape := ⟨2, ![1024, 1024]⟩
abbrev S512x1024 : Shape := ⟨2, ![512, 1024]⟩
abbrev S1024x256 : Shape := ⟨2, ![1024, 256]⟩
abbrev S512x7168 : Shape := ⟨2, ![512, 7168]⟩
abbrev S512x256 : Shape := ⟨2, ![512, 256]⟩
abbrev S256x1024 : Shape := ⟨2, ![256, 1024]⟩
abbrev S128x7168 : Shape := ⟨2, ![128, 7168]⟩
abbrev S128x256 : Shape := ⟨2, ![128, 256]⟩
abbrev S128x1024 : Shape := ⟨2, ![128, 1024]⟩
abbrev S64x1024 : Shape := ⟨2, ![64, 1024]⟩
abbrev S64x7168 : Shape := ⟨2, ![64, 7168]⟩
abbrev S64x256 : Shape := ⟨2, ![64, 256]⟩
abbrev S32x1024 : Shape := ⟨2, ![32, 1024]⟩
abbrev S256 : Shape := ⟨1, ![256]⟩
abbrev S256x1 : Shape := ⟨2, ![256, 1]⟩
abbrev S1x8x1024 : Shape := ⟨3, ![1, 8, 1024]⟩
abbrev S1x512x512 : Shape := ⟨3, ![1, 512, 512]⟩
abbrev S8x528x128 : Shape := ⟨3, ![8, 528, 128]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S512x512 : Shape := ⟨2, ![512, 512]⟩
abbrev S1024x512 : Shape := ⟨2, ![1024, 512]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 33
  | .vmem => 54
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x256x1024, .f32⟩
  | .hbm, ⟨3, _⟩ => ⟨S1x1024, .f32⟩
  | .hbm, ⟨4, _⟩ => ⟨S1x1024, .f32⟩
  | .hbm, ⟨5, _⟩ => ⟨S1x1024x7168, .f32⟩
  | .hbm, ⟨6, _⟩ => ⟨S1x4x256x256, .f32⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x512x1024, .f32⟩
  | .hbm, ⟨11, _⟩ => ⟨S1x512x1024, .f32⟩
  | .hbm, ⟨12, _⟩ => ⟨S1x3072, .f32⟩
  | .hbm, ⟨13, _⟩ => ⟨S1x1024x1024, .f32⟩
  | .hbm, ⟨14, _⟩ => ⟨S1024, .f32⟩
  | .hbm, ⟨15, _⟩ => ⟨S1024x7168, .f32⟩
  | .hbm, ⟨16, _⟩ => ⟨S4x256x256, .f32⟩
  | .hbm, ⟨17, _⟩ => ⟨S1024x1024, .f32⟩
  | .hbm, ⟨18, _⟩ => ⟨S1024x1024, .f32⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1024x256, .f32⟩
  | .hbm, ⟨23, _⟩ => ⟨S512x7168, .i32⟩
  | .hbm, ⟨24, _⟩ => ⟨S512x256, .i32⟩
  | .hbm, ⟨25, _⟩ => ⟨S512x1024, .i32⟩
  | .hbm, ⟨26, _⟩ => ⟨S512x1024, .i32⟩
  | .hbm, ⟨27, _⟩ => ⟨S256x1024, .i32⟩
  | .hbm, ⟨28, _⟩ => ⟨S256x1024, .i32⟩
  | .hbm, ⟨29, _⟩ => ⟨S512x1024, .i32⟩
  | .hbm, ⟨30, _⟩ => ⟨S1x256x1024, .bf16⟩
  | .hbm, ⟨31, _⟩ => ⟨S1x1024, .f32⟩
  | .hbm, ⟨32, _⟩ => ⟨S1x16384x1024, .f32⟩
  | .local _ .vmem, ⟨0, _⟩ => ⟨S128x7168, .f32⟩
  | .local _ .vmem, ⟨1, _⟩ => ⟨S128x7168, .f32⟩
  | .local _ .vmem, ⟨2, _⟩ => ⟨S128x256, .f32⟩
  | .local _ .vmem, ⟨3, _⟩ => ⟨S128x256, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S128x1024, .f32⟩
  | .local _ .vmem, ⟨13, _⟩ => ⟨S128x1024, .f32⟩
  | .local _ .vmem, ⟨14, _⟩ => ⟨S64x7168, .i32⟩
  | .local _ .vmem, ⟨15, _⟩ => ⟨S64x7168, .i32⟩
  | .local _ .vmem, ⟨16, _⟩ => ⟨S64x256, .i32⟩
  | .local _ .vmem, ⟨17, _⟩ => ⟨S64x256, .i32⟩
  | .local _ .vmem, ⟨18, _⟩ => ⟨S64x1024, .i32⟩
  | .local _ .vmem, ⟨19, _⟩ => ⟨S64x1024, .i32⟩
  | .local _ .vmem, ⟨20, _⟩ => ⟨S64x1024, .i32⟩
  | .local _ .vmem, ⟨21, _⟩ => ⟨S64x1024, .i32⟩
  | .local _ .vmem, ⟨22, _⟩ => ⟨S32x1024, .i32⟩
  | .local _ .vmem, ⟨23, _⟩ => ⟨S32x1024, .i32⟩
  | .local _ .vmem, ⟨24, _⟩ => ⟨S32x1024, .i32⟩
  | .local _ .vmem, ⟨25, _⟩ => ⟨S32x1024, .i32⟩
  | .local _ .vmem, ⟨26, _⟩ => ⟨S64x1024, .i32⟩
  | .local _ .vmem, ⟨27, _⟩ => ⟨S64x1024, .i32⟩
  | .local _ .vmem, ⟨28, _⟩ => ⟨S1x256x1024, .f32⟩
  | .local _ .vmem, ⟨29, _⟩ => ⟨S1x1024, .f32⟩
  | .local _ .vmem, ⟨30, _⟩ => ⟨S512x1024, .i32⟩
  | .local _ .vmem, ⟨31, _⟩ => ⟨S1x256x1024, .bf16⟩
  | .local _ .vmem, ⟨32, _⟩ => ⟨S1x512x1024, .f32⟩
  | .local _ .vmem, ⟨33, _⟩ => ⟨S1x512x1024, .f32⟩
  | .local _ .vmem, ⟨34, _⟩ => ⟨S1x8x1024, .f32⟩
  | .local _ .vmem, ⟨35, _⟩ => ⟨S1x8x1024, .f32⟩
  | .local _ .vmem, ⟨36, _⟩ => ⟨S1x8x1024, .f32⟩
  | .local _ .vmem, ⟨37, _⟩ => ⟨S1x8x1024, .f32⟩
  | .local _ .vmem, ⟨38, _⟩ => ⟨S1x512x512, .bf16⟩
  | .local _ .vmem, ⟨39, _⟩ => ⟨S1x512x512, .bf16⟩
  | .local _ .vmem, ⟨40, _⟩ => ⟨S1x256x1024, .bf16⟩
  | .local _ .vmem, ⟨41, _⟩ => ⟨S1x1024, .f32⟩
  | .local _ .vmem, ⟨42, _⟩ => ⟨S512x7168, .i32⟩
  | .local _ .vmem, ⟨43, _⟩ => ⟨S512x256, .i32⟩
  | .local _ .vmem, ⟨44, _⟩ => ⟨S1x1024, .f32⟩
  | .local _ .vmem, ⟨45, _⟩ => ⟨S512x1024, .i32⟩
  | .local _ .vmem, ⟨46, _⟩ => ⟨S256x1024, .i32⟩
  | .local _ .vmem, ⟨47, _⟩ => ⟨S256x1024, .i32⟩
  | .local _ .vmem, ⟨48, _⟩ => ⟨S1x3072, .f32⟩
  | .local _ .vmem, ⟨49, _⟩ => ⟨S512x1024, .i32⟩
  | .local _ .vmem, ⟨50, _⟩ => ⟨S1x1024, .f32⟩
  | .local _ .vmem, ⟨51, _⟩ => ⟨S1x512x1024, .f32⟩
  | .local _ .vmem, ⟨52, _⟩ => ⟨S1x512x1024, .f32⟩
  | .local _ .vmem, ⟨53, _⟩ => ⟨S8x528x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg1_0 : Ref sig .tc := ⟨.vmem, 29, rfl⟩
abbrev cc1_stg2_0 : Ref sig .tc := ⟨.vmem, 30, rfl⟩
abbrev cc1_stg3_0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg11_0 : Ref sig .tc := ⟨.vmem, 47, rfl⟩
abbrev cc2_stg12_0 : Ref sig .tc := ⟨.vmem, 48, rfl⟩
abbrev cc2_stg13_0 : Ref sig .tc := ⟨.vmem, 49, rfl⟩
abbrev cc2_stg14_0 : Ref sig .tc := ⟨.vmem, 50, rfl⟩
abbrev cc2_stg15_0 : Ref sig .tc := ⟨.vmem, 51, rfl⟩
abbrev cc2_stg15_1 : Ref sig .tc := ⟨.vmem, 52, rfl⟩
abbrev cc2_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem1_0 : DmaSem sig := 29
abbrev cc1_sem2_0 : DmaSem sig := 30
abbrev cc1_sem3_0 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem10_0 : DmaSem sig := 46
abbrev cc2_sem11_0 : DmaSem sig := 47
abbrev cc2_sem12_0 : DmaSem sig := 48
abbrev cc2_sem13_0 : DmaSem sig := 49
abbrev cc2_sem14_0 : DmaSem sig := 50
abbrev cc2_sem15_0 : DmaSem sig := 51
abbrev cc2_sem15_1 : DmaSem sig := 52

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x7168 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1024 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨2, ![1, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x256x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S512x7168 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S512x256 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S512x1024 .i32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x1024 .i32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S256x1024 .i32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x3072 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S512x1024 .i32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 2 → Memref sig .tc .vmem S1x512x1024 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]
-- ==== KernelIdeal.lean ====
abbrev S1x16384x1024 : Shape := ⟨3, ![1, 16384, 1024]⟩
abbrev S1x16384x512 : Shape := ⟨3, ![1, 16384, 512]⟩
abbrev S1x256x1024 : Shape := ⟨3, ![1, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S1024x7168 : Shape := ⟨2, ![1024, 7168]⟩
abbrev S4x256x256 : Shape := ⟨3, ![4, 256, 256]⟩
abbrev S1024x1024 : Shape := ⟨2, ![1024, 1024]⟩
abbrev S512x1024 : Shape := ⟨2, ![512, 1024]⟩
abbrev S1024x256 : Shape := ⟨2, ![1024, 256]⟩
abbrev S512x2x7168 : Shape := ⟨3, ![512, 2, 7168]⟩
abbrev S512x2x256 : Shape := ⟨3, ![512, 2, 256]⟩
abbrev S512x2x1024 : Shape := ⟨3, ![512, 2, 1024]⟩
abbrev S256x2x1024 : Shape := ⟨3, ![256, 2, 1024]⟩
abbrev S512x1x7168 : Shape := ⟨3, ![512, 1, 7168]⟩
abbrev S512x7168 : Shape := ⟨2, ![512, 7168]⟩
abbrev S512x1x256 : Shape := ⟨3, ![512, 1, 256]⟩
abbrev S512x256 : Shape := ⟨2, ![512, 256]⟩
abbrev S512x1x1024 : Shape := ⟨3, ![512, 1, 1024]⟩
abbrev S256x1x1024 : Shape := ⟨3, ![256, 1, 1024]⟩
abbrev S256x1024 : Shape := ⟨2, ![256, 1024]⟩
abbrev S128x7168 : Shape := ⟨2, ![128, 7168]⟩
abbrev S128x256 : Shape := ⟨2, ![128, 256]⟩
abbrev S128x1024 : Shape := ⟨2, ![128, 1024]⟩
abbrev S64x1024 : Shape := ⟨2, ![64, 1024]⟩
abbrev S64x7168 : Shape := ⟨2, ![64, 7168]⟩
abbrev S64x2x7168 : Shape := ⟨3, ![64, 2, 7168]⟩
abbrev S64x1x7168 : Shape := ⟨3, ![64, 1, 7168]⟩
abbrev S64x256 : Shape := ⟨2, ![64, 256]⟩
abbrev S64x2x256 : Shape := ⟨3, ![64, 2, 256]⟩
abbrev S64x1x256 : Shape := ⟨3, ![64, 1, 256]⟩
abbrev S64x2x1024 : Shape := ⟨3, ![64, 2, 1024]⟩
abbrev S64x1x1024 : Shape := ⟨3, ![64, 1, 1024]⟩
abbrev S32x1024 : Shape := ⟨2, ![32, 1024]⟩
abbrev S32x2x1024 : Shape := ⟨3, ![32, 2, 1024]⟩
abbrev S32x1x1024 : Shape := ⟨3, ![32, 1, 1024]⟩
abbrev S256 : Shape := ⟨1, ![256]⟩
abbrev S256x1 : Shape := ⟨2, ![256, 1]⟩
abbrev S1x8x1024 : Shape := ⟨3, ![1, 8, 1024]⟩
abbrev S1x512x512 : Shape := ⟨3, ![1, 512, 512]⟩
abbrev S8x528x128 : Shape := ⟨3, ![8, 528, 128]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S512x512 : Shape := ⟨2, ![512, 512]⟩
abbrev S512x2x512 : Shape := ⟨3, ![512, 2, 512]⟩
abbrev S512x1x512 : Shape := ⟨3, ![512, 1, 512]⟩
abbrev S1024x512 : Shape := ⟨2, ![1024, 512]⟩
abbrev S1x256x128 : Shape := ⟨3, ![1, 256, 128]⟩
abbrev S256x128 : Shape := ⟨2, ![256, 128]⟩
abbrev S128x2x256 : Shape := ⟨3, ![128, 2, 256]⟩
abbrev S128x1x256 : Shape := ⟨3, ![128, 1, 256]⟩
abbrev S256x256 : Shape := ⟨2, ![256, 256]⟩

abbrev nBuf : Space → Nat
  | .hbm => 33
  | .vmem => 54
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .bf16⟩
  | .hbm, ⟨2, _⟩ => ⟨S1x256x1024, .f32⟩
  | .hbm, ⟨3, _⟩ => ⟨S1x1024, .f32⟩
  | .hbm, ⟨4, _⟩ => ⟨S1x1024, .f32⟩
  | .hbm, ⟨5, _⟩ => ⟨S1x1024x7168, .f32⟩
  | .hbm, ⟨6, _⟩ => ⟨S1x4x256x256, .f32⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x512x1024, .f32⟩
  | .hbm, ⟨11, _⟩ => ⟨S1x512x1024, .f32⟩
  | .hbm, ⟨12, _⟩ => ⟨S1x3072, .f32⟩
  | .hbm, ⟨13, _⟩ => ⟨S1x1024x1024, .f32⟩
  | .hbm, ⟨14, _⟩ => ⟨S1024, .f32⟩
  | .hbm, ⟨15, _⟩ => ⟨S1024x7168, .f32⟩
  | .hbm, ⟨16, _⟩ => ⟨S4x256x256, .f32⟩
  | .hbm, ⟨17, _⟩ => ⟨S1024x1024, .f32⟩
  | .hbm, ⟨18, _⟩ => ⟨S1024x1024, .f32⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1024x256, .f32⟩
  | .hbm, ⟨23, _⟩ => ⟨S512x2x7168, .bf16⟩
  | .hbm, ⟨24, _⟩ => ⟨S512x2x256, .bf16⟩
  | .hbm, ⟨25, _⟩ => ⟨S512x2x1024, .bf16⟩
  | .hbm, ⟨26, _⟩ => ⟨S512x2x1024, .bf16⟩
  | .hbm, ⟨27, _⟩ => ⟨S256x2x1024, .bf16⟩
  | .hbm, ⟨28, _⟩ => ⟨S256x2x1024, .bf16⟩
  | .hbm, ⟨29, _⟩ => ⟨S512x2x1024, .bf16⟩
  | .hbm, ⟨30, _⟩ => ⟨S1x256x1024, .bf16⟩
  | .hbm, ⟨31, _⟩ => ⟨S1x1024, .f32⟩
  | .hbm, ⟨32, _⟩ => ⟨S1x16384x1024, .f32⟩
  | .local _ .vmem, ⟨0, _⟩ => ⟨S128x7168, .f32⟩
  | .local _ .vmem, ⟨1, _⟩ => ⟨S128x7168, .f32⟩
  | .local _ .vmem, ⟨2, _⟩ => ⟨S128x256, .f32⟩
  | .local _ .vmem, ⟨3, _⟩ => ⟨S128x256, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S128x1024, .f32⟩
  | .local _ .vmem, ⟨13, _⟩ => ⟨S128x1024, .f32⟩
  | .local _ .vmem, ⟨14, _⟩ => ⟨S64x2x7168, .bf16⟩
  | .local _ .vmem, ⟨15, _⟩ => ⟨S64x2x7168, .bf16⟩
  | .local _ .vmem, ⟨16, _⟩ => ⟨S64x2x256, .bf16⟩
  | .local _ .vmem, ⟨17, _⟩ => ⟨S64x2x256, .bf16⟩
  | .local _ .vmem, ⟨18, _⟩ => ⟨S64x2x1024, .bf16⟩
  | .local _ .vmem, ⟨19, _⟩ => ⟨S64x2x1024, .bf16⟩
  | .local _ .vmem, ⟨20, _⟩ => ⟨S64x2x1024, .bf16⟩
  | .local _ .vmem, ⟨21, _⟩ => ⟨S64x2x1024, .bf16⟩
  | .local _ .vmem, ⟨22, _⟩ => ⟨S32x2x1024, .bf16⟩
  | .local _ .vmem, ⟨23, _⟩ => ⟨S32x2x1024, .bf16⟩
  | .local _ .vmem, ⟨24, _⟩ => ⟨S32x2x1024, .bf16⟩
  | .local _ .vmem, ⟨25, _⟩ => ⟨S32x2x1024, .bf16⟩
  | .local _ .vmem, ⟨26, _⟩ => ⟨S64x2x1024, .bf16⟩
  | .local _ .vmem, ⟨27, _⟩ => ⟨S64x2x1024, .bf16⟩
  | .local _ .vmem, ⟨28, _⟩ => ⟨S1x256x1024, .f32⟩
  | .local _ .vmem, ⟨29, _⟩ => ⟨S1x1024, .f32⟩
  | .local _ .vmem, ⟨30, _⟩ => ⟨S512x2x1024, .bf16⟩
  | .local _ .vmem, ⟨31, _⟩ => ⟨S1x256x1024, .bf16⟩
  | .local _ .vmem, ⟨32, _⟩ => ⟨S1x512x1024, .f32⟩
  | .local _ .vmem, ⟨33, _⟩ => ⟨S1x512x1024, .f32⟩
  | .local _ .vmem, ⟨34, _⟩ => ⟨S1x8x1024, .f32⟩
  | .local _ .vmem, ⟨35, _⟩ => ⟨S1x8x1024, .f32⟩
  | .local _ .vmem, ⟨36, _⟩ => ⟨S1x8x1024, .f32⟩
  | .local _ .vmem, ⟨37, _⟩ => ⟨S1x8x1024, .f32⟩
  | .local _ .vmem, ⟨38, _⟩ => ⟨S1x512x512, .bf16⟩
  | .local _ .vmem, ⟨39, _⟩ => ⟨S1x512x512, .bf16⟩
  | .local _ .vmem, ⟨40, _⟩ => ⟨S1x256x1024, .bf16⟩
  | .local _ .vmem, ⟨41, _⟩ => ⟨S1x1024, .f32⟩
  | .local _ .vmem, ⟨42, _⟩ => ⟨S512x2x7168, .bf16⟩
  | .local _ .vmem, ⟨43, _⟩ => ⟨S512x2x256, .bf16⟩
  | .local _ .vmem, ⟨44, _⟩ => ⟨S1x1024, .f32⟩
  | .local _ .vmem, ⟨45, _⟩ => ⟨S512x2x1024, .bf16⟩
  | .local _ .vmem, ⟨46, _⟩ => ⟨S256x2x1024, .bf16⟩
  | .local _ .vmem, ⟨47, _⟩ => ⟨S256x2x1024, .bf16⟩
  | .local _ .vmem, ⟨48, _⟩ => ⟨S1x3072, .f32⟩
  | .local _ .vmem, ⟨49, _⟩ => ⟨S512x2x1024, .bf16⟩
  | .local _ .vmem, ⟨50, _⟩ => ⟨S1x1024, .f32⟩
  | .local _ .vmem, ⟨51, _⟩ => ⟨S1x512x1024, .f32⟩
  | .local _ .vmem, ⟨52, _⟩ => ⟨S1x512x1024, .f32⟩
  | .local _ .vmem, ⟨53, _⟩ => ⟨S8x528x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg1_0 : Ref sig .tc := ⟨.vmem, 29, rfl⟩
abbrev cc1_stg2_0 : Ref sig .tc := ⟨.vmem, 30, rfl⟩
abbrev cc1_stg3_0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg11_0 : Ref sig .tc := ⟨.vmem, 47, rfl⟩
abbrev cc2_stg12_0 : Ref sig .tc := ⟨.vmem, 48, rfl⟩
abbrev cc2_stg13_0 : Ref sig .tc := ⟨.vmem, 49, rfl⟩
abbrev cc2_stg14_0 : Ref sig .tc := ⟨.vmem, 50, rfl⟩
abbrev cc2_stg15_0 : Ref sig .tc := ⟨.vmem, 51, rfl⟩
abbrev cc2_stg15_1 : Ref sig .tc := ⟨.vmem, 52, rfl⟩
abbrev cc2_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem1_0 : DmaSem sig := 29
abbrev cc1_sem2_0 : DmaSem sig := 30
abbrev cc1_sem3_0 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem10_0 : DmaSem sig := 46
abbrev cc2_sem11_0 : DmaSem sig := 47
abbrev cc2_sem12_0 : DmaSem sig := 48
abbrev cc2_sem13_0 : DmaSem sig := 49
abbrev cc2_sem14_0 : DmaSem sig := 50
abbrev cc2_sem15_0 : DmaSem sig := 51
abbrev cc2_sem15_1 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, 0, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨2, ![1, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x256x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S512x2x7168 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S512x2x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S512x2x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x2x1024 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S256x2x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x3072 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S512x2x1024 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 2 → Memref sig .tc .vmem S1x512x1024 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]
-- ==== ReferenceIdeal.lean ====
abbrev S1x16384x1024 : Shape := ⟨3, ![1, 16384, 1024]⟩
abbrev S1x16384x512 : Shape := ⟨3, ![1, 16384, 512]⟩
abbrev S1x256x1024 : Shape := ⟨3, ![1, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x256 : Shape := ⟨2, ![1, 256]⟩
abbrev S1x256x1 : Shape := ⟨3, ![1, 256, 1]⟩
abbrev S1024x7168 : Shape := ⟨2, ![1024, 7168]⟩
abbrev S1x16384x7168 : Shape := ⟨3, ![1, 16384, 7168]⟩
abbrev S1x16384x3072 : Shape := ⟨3, ![1, 16384, 3072]⟩
abbrev S3072 : Shape := ⟨1, ![3072]⟩
abbrev S1x1x3072 : Shape := ⟨3, ![1, 1, 3072]⟩
abbrev S4x256x256 : Shape := ⟨3, ![4, 256, 256]⟩
abbrev S1x16384x4x256 : Shape := ⟨4, ![1, 16384, 4, 256]⟩
abbrev S1x1x4x256 : Shape := ⟨4, ![1, 1, 4, 256]⟩
abbrev S1x16385x4x256 : Shape := ⟨4, ![1, 16385, 4, 256]⟩
abbrev S16384 : Shape := ⟨1, ![16384]⟩
abbrev S1x16385x1x256 : Shape := ⟨4, ![1, 16385, 1, 256]⟩
abbrev S1x16385x256 : Shape := ⟨3, ![1, 16385, 256]⟩
abbrev S16384x1 : Shape := ⟨2, ![16384, 1]⟩
abbrev S1 : Shape := ⟨1, ![1]⟩
abbrev S1x1 : Shape := ⟨2, ![1, 1]⟩
abbrev S1x16384x256 : Shape := ⟨3, ![1, 16384, 256]⟩
abbrev S1x16384x1x256 : Shape := ⟨4, ![1, 16384, 1, 256]⟩
abbrev S4x256x1x16384 : Shape := ⟨4, ![4, 256, 1, 16384]⟩
abbrev S1024x1024 : Shape := ⟨2, ![1024, 1024]⟩
abbrev S512x1024 : Shape := ⟨2, ![512, 1024]⟩
abbrev S1x256x512 : Shape := ⟨3, ![1, 256, 512]⟩
abbrev S1x16384x4x128 : Shape := ⟨4, ![1, 16384, 4, 128]⟩
abbrev S1x256x4x128 : Shape := ⟨4, ![1, 256, 4, 128]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x128x16384 : Shape := ⟨4, ![1, 4, 128, 16384]⟩

abbrev nBuf : Space → Nat
  | .hbm => 499
  | .vmem => 0
  | .smem => 0
  | _ => 0

abbrev hbmTy0_0 (i : Nat) : BufTy := match i % 128 with
  | 0 => ⟨S1x16384x1024, .f32⟩
  | 1 => ⟨S1x16384x512, .bf16⟩
  | 2 => ⟨S1x256x1024, .f32⟩
  | 3 => ⟨S1x1024, .f32⟩
  | 4 => ⟨S1x1024, .f32⟩
  | 5 => ⟨S1x1024x7168, .f32⟩
  | 6 => ⟨S1x4x256x256, .f32⟩
  | 7 => ⟨S1x1024, .f32⟩
  | 8 => ⟨S1x1024x1024, .f32⟩
  | 9 => ⟨S1x1024x1024, .f32⟩
  | 10 => ⟨S1x512x1024, .f32⟩
  | 11 => ⟨S1x512x1024, .f32⟩
  | 12 => ⟨S1x3072, .f32⟩
  | 13 => ⟨S1x1024x1024, .f32⟩
  | 14 => ⟨S1024, .f32⟩
  | 15 => ⟨S1024, .f32⟩
  | 16 => ⟨S1x16384x1024, .f32⟩
  | 17 => ⟨S_, .f32⟩
  | 18 => ⟨S1x16384, .f32⟩
  | 19 => ⟨S1x16384x1, .f32⟩
  | 20 => ⟨S_, .f32⟩
  | 21 => ⟨S1x16384x1, .f32⟩
  | 22 => ⟨S1x16384x1, .f32⟩
  | 23 => ⟨S_, .f32⟩
  | 24 => ⟨S1x16384x1, .f32⟩
  | 25 => ⟨S1x16384x1, .f32⟩
  | 26 => ⟨S1x16384x1, .f32⟩
  | 27 => ⟨S1x16384x1024, .f32⟩
  | 28 => ⟨S1x16384x1024, .f32⟩
  | 29 => ⟨S1x1x1024, .f32⟩
  | 30 => ⟨S1x16384x1024, .f32⟩
  | 31 => ⟨S1x16384x1024, .f32⟩
  | 32 => ⟨S1024, .f32⟩
  | 33 => ⟨S1x256x1024, .f32⟩
  | 34 => ⟨S_, .f32⟩
  | 35 => ⟨S1x256, .f32⟩
  | 36 => ⟨S1x256x1, .f32⟩
  | 37 => ⟨S_, .f32⟩
  | 38 => ⟨S1x256x1, .f32⟩
  | 39 => ⟨S1x256x1, .f32⟩
  | 40 => ⟨S_, .f32⟩
  | 41 => ⟨S1x256x1, .f32⟩
  | 42 => ⟨S1x256x1, .f32⟩
  | 43 => ⟨S1x256x1, .f32⟩
  | 44 => ⟨S1x256x1024, .f32⟩
  | 45 => ⟨S1x256x1024, .f32⟩
  | 46 => ⟨S1x1x1024, .f32⟩
  | 47 => ⟨S1x256x1024, .f32⟩
  | 48 => ⟨S1x256x1024, .f32⟩
  | 49 => ⟨S1024x7168, .f32⟩
  | 50 => ⟨S1x16384x7168, .f32⟩
  | 51 => ⟨S1x16384x1024, .f32⟩
  | 52 => ⟨S1x16384x1024, .f32⟩
  | 53 => ⟨S1x16384x512, .f32⟩
  | 54 => ⟨S1x16384x512, .f32⟩
  | 55 => ⟨S1x16384x512, .f32⟩
  | 56 => ⟨S1x16384x512, .f32⟩
  | 57 => ⟨S1x16384x3072, .f32⟩
  | 58 => ⟨S3072, .f32⟩
  | 59 => ⟨S1x1x3072, .f32⟩
  | 60 => ⟨S1x16384x3072, .f32⟩
  | 61 => ⟨S1x16384x3072, .f32⟩
  | 62 => ⟨S1x16384x3072, .f32⟩
  | 63 => ⟨S1x16384x3072, .f32⟩
  | 64 => ⟨S_, .f32⟩
  | 65 => ⟨S1x16384x3072, .f32⟩
  | 66 => ⟨S1x16384x3072, .f32⟩
  | 67 => ⟨S_, .f32⟩
  | 68 => ⟨S1x16384x3072, .f32⟩
  | 69 => ⟨S1x16384x3072, .f32⟩
  | 70 => ⟨S1x16384x1024, .f32⟩
  | 71 => ⟨S1x16384x1024, .f32⟩
  | 72 => ⟨S1x16384x1024, .f32⟩
  | 73 => ⟨S4x256x256, .f32⟩
  | 74 => ⟨S1024, .f32⟩
  | 75 => ⟨S1x16384x4x256, .f32⟩
  | 76 => ⟨S_, .f32⟩
  | 77 => ⟨S1x1x4x256, .f32⟩
  | 78 => ⟨S_, .f32⟩
  | 79 => ⟨S_, .f32⟩
  | 80 => ⟨S1x16384x4x256, .f32⟩
  | 81 => ⟨S1x16385x4x256, .f32⟩
  | 82 => ⟨S16384, .i32⟩
  | 83 => ⟨S_, .i32⟩
  | 84 => ⟨S16384, .i32⟩
  | 85 => ⟨S16384, .i32⟩
  | 86 => ⟨S_, .i32⟩
  | 87 => ⟨S_, .i32⟩
  | 88 => ⟨S_, .i32⟩
  | 89 => ⟨S16384, .i32⟩
  | 90 => ⟨S16384, .i32⟩
  | 91 => ⟨S_, .i32⟩
  | 92 => ⟨S16384, .i32⟩
  | 93 => ⟨S16384, .i32⟩
  | 94 => ⟨S_, .i32⟩
  | 95 => ⟨S16384, .i32⟩
  | 96 => ⟨S16384, .i32⟩
  | 97 => ⟨S_, .i32⟩
  | 98 => ⟨S_, .i32⟩
  | 99 => ⟨S_, .i32⟩
  | 100 => ⟨S16384, .i32⟩
  | 101 => ⟨S16384, .i32⟩
  | 102 => ⟨S_, .i32⟩
  | 103 => ⟨S16384, .i32⟩
  | 104 => ⟨S16384, .i32⟩
  | 105 => ⟨S16384, .i32⟩
  | 106 => ⟨S16384, .f32⟩
  | 107 => ⟨S1x16384x1, .f32⟩
  | 108 => ⟨S1x16385x1x256, .f32⟩
  | 109 => ⟨S1x16385x256, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S1, .i32⟩
  | 119 => ⟨S_, .i32⟩
  | 120 => ⟨S16384x1, .i32⟩
  | 121 => ⟨S16384x1, .i1⟩
  | 122 => ⟨S1x1, .i32⟩
  | 123 => ⟨S16384x1, .i32⟩
  | 124 => ⟨S16384x1, .i1⟩
  | 125 => ⟨S16384x1, .i1⟩
  | 126 => ⟨S_, .i1⟩
  | 127 => ⟨S16384, .i1⟩
  | _ => ⟨S1x16384x1024, .f32⟩

abbrev hbmTy0_1 (i : Nat) : BufTy := match i % 128 with
  | 0 => ⟨S1x16384x256, .f32⟩
  | 1 => ⟨S1x16384x256, .i1⟩
  | 2 => ⟨S_, .f32⟩
  | 3 => ⟨S1x16384x256, .f32⟩
  | 4 => ⟨S1x16384x256, .f32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S1, .i32⟩
  | 14 => ⟨S_, .i32⟩
  | 15 => ⟨S16384x1, .i32⟩
  | 16 => ⟨S16384x1, .i1⟩
  | 17 => ⟨S1x1, .i32⟩
  | 18 => ⟨S16384x1, .i32⟩
  | 19 => ⟨S16384x1, .i1⟩
  | 20 => ⟨S16384x1, .i1⟩
  | 21 => ⟨S_, .i1⟩
  | 22 => ⟨S16384, .i1⟩
  | 23 => ⟨S1x16384x256, .f32⟩
  | 24 => ⟨S1x16384x256, .i1⟩
  | 25 => ⟨S_, .f32⟩
  | 26 => ⟨S1x16384x256, .f32⟩
  | 27 => ⟨S1x16384x256, .f32⟩
  | 28 => ⟨S1x16384x256, .f32⟩
  | 29 => ⟨S1x16384x256, .f32⟩
  | 30 => ⟨S1x16384x256, .f32⟩
  | 31 => ⟨S1x16384x1x256, .f32⟩
  | 32 => ⟨S1x16384x256, .f32⟩
  | 33 => ⟨S1x16384x256, .f32⟩
  | 34 => ⟨S_, .i32⟩
  | 35 => ⟨S16384, .i32⟩
  | 36 => ⟨S16384, .i32⟩
  | 37 => ⟨S_, .i32⟩
  | 38 => ⟨S_, .i32⟩
  | 39 => ⟨S_, .i32⟩
  | 40 => ⟨S16384, .i32⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S_, .i32⟩
  | 49 => ⟨S_, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S16384, .i32⟩
  | 57 => ⟨S16384, .f32⟩
  | 58 => ⟨S1x16384x1, .f32⟩
  | 59 => ⟨S1x16385x1x256, .f32⟩
  | 60 => ⟨S1x16385x256, .f32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S1x16384x256, .f32⟩
  | 80 => ⟨S1x16384x256, .i1⟩
  | 81 => ⟨S_, .f32⟩
  | 82 => ⟨S1x16384x256, .f32⟩
  | 83 => ⟨S1x16384x256, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S1, .i32⟩
  | 93 => ⟨S_, .i32⟩
  | 94 => ⟨S16384x1, .i32⟩
  | 95 => ⟨S16384x1, .i1⟩
  | 96 => ⟨S1x1, .i32⟩
  | 97 => ⟨S16384x1, .i32⟩
  | 98 => ⟨S16384x1, .i1⟩
  | 99 => ⟨S16384x1, .i1⟩
  | 100 => ⟨S_, .i1⟩
  | 101 => ⟨S16384, .i1⟩
  | 102 => ⟨S1x16384x256, .f32⟩
  | 103 => ⟨S1x16384x256, .i1⟩
  | 104 => ⟨S_, .f32⟩
  | 105 => ⟨S1x16384x256, .f32⟩
  | 106 => ⟨S1x16384x256, .f32⟩
  | 107 => ⟨S1x16384x256, .f32⟩
  | 108 => ⟨S1x16384x256, .f32⟩
  | 109 => ⟨S1x16384x256, .f32⟩
  | 110 => ⟨S1x16384x1x256, .f32⟩
  | 111 => ⟨S1x16384x256, .f32⟩
  | 112 => ⟨S1x16384x256, .f32⟩
  | 113 => ⟨S_, .i32⟩
  | 114 => ⟨S16384, .i32⟩
  | 115 => ⟨S16384, .i32⟩
  | 116 => ⟨S_, .i32⟩
  | 117 => ⟨S_, .i32⟩
  | 118 => ⟨S_, .i32⟩
  | 119 => ⟨S16384, .i32⟩
  | 120 => ⟨S16384, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i32⟩
  | 127 => ⟨S_, .i32⟩
  | _ => ⟨S1x16384x1024, .f32⟩

abbrev hbmTy0_2 (i : Nat) : BufTy := match i % 128 with
  | 0 => ⟨S_, .i32⟩
  | 1 => ⟨S_, .i32⟩
  | 2 => ⟨S16384, .i32⟩
  | 3 => ⟨S16384, .i32⟩
  | 4 => ⟨S_, .i32⟩
  | 5 => ⟨S16384, .i32⟩
  | 6 => ⟨S16384, .i32⟩
  | 7 => ⟨S16384, .i32⟩
  | 8 => ⟨S16384, .f32⟩
  | 9 => ⟨S1x16384x1, .f32⟩
  | 10 => ⟨S1x16385x1x256, .f32⟩
  | 11 => ⟨S1x16385x256, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S1x16384x256, .f32⟩
  | 31 => ⟨S1x16384x256, .i1⟩
  | 32 => ⟨S_, .f32⟩
  | 33 => ⟨S1x16384x256, .f32⟩
  | 34 => ⟨S1x16384x256, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S1x16384x256, .f32⟩
  | 54 => ⟨S1x16384x256, .i1⟩
  | 55 => ⟨S_, .f32⟩
  | 56 => ⟨S1x16384x256, .f32⟩
  | 57 => ⟨S1x16384x256, .f32⟩
  | 58 => ⟨S1x16384x256, .f32⟩
  | 59 => ⟨S1x16384x256, .f32⟩
  | 60 => ⟨S1x16384x256, .f32⟩
  | 61 => ⟨S1x16384x1x256, .f32⟩
  | 62 => ⟨S1x16384x256, .f32⟩
  | 63 => ⟨S1x16384x256, .f32⟩
  | 64 => ⟨S_, .i32⟩
  | 65 => ⟨S16384, .i32⟩
  | 66 => ⟨S16384, .i32⟩
  | 67 => ⟨S_, .i32⟩
  | 68 => ⟨S_, .i32⟩
  | 69 => ⟨S_, .i32⟩
  | 70 => ⟨S16384, .i32⟩
  | 71 => ⟨S16384, .i32⟩
  | 72 => ⟨S_, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S_, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i32⟩
  | 86 => ⟨S16384, .i32⟩
  | 87 => ⟨S16384, .f32⟩
  | 88 => ⟨S1x16384x1, .f32⟩
  | 89 => ⟨S1x16385x1x256, .f32⟩
  | 90 => ⟨S1x16385x256, .f32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S1, .i32⟩
  | 100 => ⟨S_, .i32⟩
  | 101 => ⟨S16384x1, .i32⟩
  | 102 => ⟨S16384x1, .i1⟩
  | 103 => ⟨S1x1, .i32⟩
  | 104 => ⟨S16384x1, .i32⟩
  | 105 => ⟨S16384x1, .i1⟩
  | 106 => ⟨S16384x1, .i1⟩
  | 107 => ⟨S_, .i1⟩
  | 108 => ⟨S16384, .i1⟩
  | 109 => ⟨S1x16384x256, .f32⟩
  | 110 => ⟨S1x16384x256, .i1⟩
  | 111 => ⟨S_, .f32⟩
  | 112 => ⟨S1x16384x256, .f32⟩
  | 113 => ⟨S1x16384x256, .f32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S1x16384x1024, .f32⟩

abbrev hbmTy0_3 (i : Nat) : BufTy := match i % 128 with
  | 0 => ⟨S16384x1, .i1⟩
  | 1 => ⟨S16384x1, .i1⟩
  | 2 => ⟨S_, .i1⟩
  | 3 => ⟨S16384, .i1⟩
  | 4 => ⟨S1x16384x256, .f32⟩
  | 5 => ⟨S1x16384x256, .i1⟩
  | 6 => ⟨S_, .f32⟩
  | 7 => ⟨S1x16384x256, .f32⟩
  | 8 => ⟨S1x16384x256, .f32⟩
  | 9 => ⟨S1x16384x256, .f32⟩
  | 10 => ⟨S1x16384x256, .f32⟩
  | 11 => ⟨S1x16384x256, .f32⟩
  | 12 => ⟨S1x16384x1x256, .f32⟩
  | 13 => ⟨S1x16384x256, .f32⟩
  | 14 => ⟨S1x16384x256, .f32⟩
  | 15 => ⟨S1x16384x1x256, .f32⟩
  | 16 => ⟨S1x16384x1x256, .f32⟩
  | 17 => ⟨S1x16384x1x256, .f32⟩
  | 18 => ⟨S1x16384x1x256, .f32⟩
  | 19 => ⟨S1x16384x4x256, .f32⟩
  | 20 => ⟨S4x256x1x16384, .f32⟩
  | 21 => ⟨S1x16384x4x256, .f32⟩
  | 22 => ⟨S1x16384x1024, .f32⟩
  | 23 => ⟨S1x1x1024, .f32⟩
  | 24 => ⟨S1x16384x1024, .f32⟩
  | 25 => ⟨S1x16384x1024, .f32⟩
  | 26 => ⟨S1x16384x1024, .f32⟩
  | 27 => ⟨S1x16384x1024, .f32⟩
  | 28 => ⟨S_, .f32⟩
  | 29 => ⟨S1x16384x1024, .f32⟩
  | 30 => ⟨S1x16384x1024, .f32⟩
  | 31 => ⟨S_, .f32⟩
  | 32 => ⟨S1x16384x1024, .f32⟩
  | 33 => ⟨S1x16384x1024, .f32⟩
  | 34 => ⟨S1x16384x1024, .f32⟩
  | 35 => ⟨S1x16384x1024, .f32⟩
  | 36 => ⟨S1024x1024, .f32⟩
  | 37 => ⟨S1x16384x1024, .f32⟩
  | 38 => ⟨S1x16384x512, .f32⟩
  | 39 => ⟨S1x16384x512, .f32⟩
  | 40 => ⟨S1x16384x512, .f32⟩
  | 41 => ⟨S_, .f32⟩
  | 42 => ⟨S1x16384x512, .f32⟩
  | 43 => ⟨S1x16384x512, .f32⟩
  | 44 => ⟨S_, .f32⟩
  | 45 => ⟨S1x16384x512, .f32⟩
  | 46 => ⟨S1x16384x512, .f32⟩
  | 47 => ⟨S1x16384x512, .f32⟩
  | 48 => ⟨S1x16384x512, .f32⟩
  | 49 => ⟨S512x1024, .f32⟩
  | 50 => ⟨S1x16384x1024, .f32⟩
  | 51 => ⟨S1024x1024, .f32⟩
  | 52 => ⟨S1x256x1024, .f32⟩
  | 53 => ⟨S1x256x512, .f32⟩
  | 54 => ⟨S1x256x512, .f32⟩
  | 55 => ⟨S1x16384x4x128, .f32⟩
  | 56 => ⟨S1x256x4x128, .f32⟩
  | 57 => ⟨S1x256x4x128, .f32⟩
  | 58 => ⟨S1x4x16384x256, .f32⟩
  | 59 => ⟨S_, .f32⟩
  | 60 => ⟨S1x4x16384x256, .f32⟩
  | 61 => ⟨S1x4x16384x256, .f32⟩
  | 62 => ⟨S_, .f32⟩
  | 63 => ⟨S1x4x16384, .f32⟩
  | 64 => ⟨S_, .f32⟩
  | 65 => ⟨S1x4x16384, .f32⟩
  | 66 => ⟨S1x4x16384, .f32⟩
  | 67 => ⟨S1x4x16384x1, .f32⟩
  | 68 => ⟨S1x4x16384x256, .f32⟩
  | 69 => ⟨S1x4x16384x256, .f32⟩
  | 70 => ⟨S1x4x16384x256, .f32⟩
  | 71 => ⟨S_, .f32⟩
  | 72 => ⟨S1x4x16384, .f32⟩
  | 73 => ⟨S1x4x16384x1, .f32⟩
  | 74 => ⟨S1x4x16384x256, .f32⟩
  | 75 => ⟨S1x4x16384x256, .f32⟩
  | 76 => ⟨S1x4x128x16384, .f32⟩
  | 77 => ⟨S1x16384x4x128, .f32⟩
  | 78 => ⟨S1x16384x512, .f32⟩
  | 79 => ⟨S1x16384x512, .f32⟩
  | 80 => ⟨S1x16384x512, .f32⟩
  | 81 => ⟨S_, .f32⟩
  | 82 => ⟨S1x16384x512, .f32⟩
  | 83 => ⟨S1x16384x512, .f32⟩
  | 84 => ⟨S_, .f32⟩
  | 85 => ⟨S1x16384x512, .f32⟩
  | 86 => ⟨S1x16384x512, .f32⟩
  | 87 => ⟨S1x16384x512, .f32⟩
  | 88 => ⟨S1x16384x512, .f32⟩
  | 89 => ⟨S512x1024, .f32⟩
  | 90 => ⟨S1x16384x1024, .f32⟩
  | 91 => ⟨S1x16384x1024, .f32⟩
  | 92 => ⟨S1x16384x1024, .f32⟩
  | 93 => ⟨S1x16384x1024, .f32⟩
  | 94 => ⟨S1x16384x1024, .f32⟩
  | 95 => ⟨S1x16384x1024, .f32⟩
  | 96 => ⟨S1024x1024, .f32⟩
  | 97 => ⟨S1x16384x1024, .f32⟩
  | 98 => ⟨S1x16384x1024, .f32⟩
  | 99 => ⟨S1x16384x1024, .f32⟩
  | 100 => ⟨S_, .f32⟩
  | 101 => ⟨S1x16384, .f32⟩
  | 102 => ⟨S1x16384x1, .f32⟩
  | 103 => ⟨S_, .f32⟩
  | 104 => ⟨S1x16384x1, .f32⟩
  | 105 => ⟨S1x16384x1, .f32⟩
  | 106 => ⟨S_, .f32⟩
  | 107 => ⟨S1x16384x1, .f32⟩
  | 108 => ⟨S1x16384x1, .f32⟩
  | 109 => ⟨S1x16384x1, .f32⟩
  | 110 => ⟨S1x16384x1024, .f32⟩
  | 111 => ⟨S1x16384x1024, .f32⟩
  | 112 => ⟨S1x1x1024, .f32⟩
  | 113 => ⟨S1x16384x1024, .f32⟩
  | 114 => ⟨S1x16384x1024, .f32⟩
  | _ => ⟨S1x16384x1024, .f32⟩

abbrev hbmTy (i : Nat) : BufTy := match i / 128 with
  | 0 => hbmTy0_0 i
  | 1 => hbmTy0_1 i
  | 2 => hbmTy0_2 i
  | 3 => hbmTy0_3 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_call0_call0_cst : Ref sig .tc := ⟨.hbm, 78, rfl⟩
abbrev main_call0_call0_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c : Ref sig .tc := ⟨.hbm, 83, rfl⟩
abbrev main_v57 : Ref sig .tc := ⟨.hbm, 84, rfl⟩
abbrev main_v58 : Ref sig .tc := ⟨.hbm, 85, rfl⟩
abbrev main_c_8 : Ref sig .tc := ⟨.hbm, 86, rfl⟩
abbrev main_c_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v59 : Ref sig .tc := ⟨.hbm, 93, rfl⟩
abbrev main_c_10 : Ref sig .tc := ⟨.hbm, 94, rfl⟩
abbrev main_v60 : Ref sig .tc := ⟨.hbm, 95, rfl⟩
abbrev main_v61 : Ref sig .tc := ⟨.hbm, 96, rfl⟩
abbrev main_c_11 : Ref sig .tc := ⟨.hbm, 97, rfl⟩
abbrev main_c_12 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v68 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_c_1 : Ref sig .tc := ⟨.hbm, 141, rfl⟩
abbrev main_call4_c_2 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_3 : Ref sig .tc := ⟨.hbm, 149, rfl⟩
abbrev main_call4_v12 : Ref sig .tc := ⟨.hbm, 150, rfl⟩
abbrev main_call4_v13 : Ref sig .tc := ⟨.hbm, 151, rfl⟩
abbrev main_call4_v14 : Ref sig .tc := ⟨.hbm, 152, rfl⟩
abbrev main_call4_cst : Ref sig .tc := ⟨.hbm, 153, rfl⟩
abbrev main_call4_v15 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_c_13 : Ref sig .tc := ⟨.hbm, 162, rfl⟩
abbrev main_v76 : Ref sig .tc := ⟨.hbm, 163, rfl⟩
abbrev main_v77 : Ref sig .tc := ⟨.hbm, 164, rfl⟩
abbrev main_c_14 : Ref sig .tc := ⟨.hbm, 165, rfl⟩
abbrev main_c_15 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_v78 : Ref sig .tc := ⟨.hbm, 172, rfl⟩
abbrev main_c_16 : Ref sig .tc := ⟨.hbm, 173, rfl⟩
abbrev main_v79 : Ref sig .tc := ⟨.hbm, 174, rfl⟩
abbrev main_v80 : Ref sig .tc := ⟨.hbm, 175, rfl⟩
abbrev main_c_17 : Ref sig .tc := ⟨.hbm, 176, rfl⟩
abbrev main_c_18 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_v14 : Ref sig .tc := ⟨.hbm, 208, rfl⟩
abbrev main_call7_cst : Ref sig .tc := ⟨.hbm, 209, rfl⟩
abbrev main_call7_v15 : Ref sig .tc := ⟨.hbm, 210, rfl⟩
abbrev main_v87 : Ref sig .tc := ⟨.hbm, 211, rfl⟩
abbrev main_call8_c : Ref sig .tc := ⟨.hbm, 212, rfl⟩
abbrev main_call8_v0 : Ref sig .tc := ⟨.hbm, 213, rfl⟩
abbrev main_call8_v1 : Ref sig .tc := ⟨.hbm, 214, rfl⟩
abbrev main_call8_c_0 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_call8_v5 : Ref sig .tc := ⟨.hbm, 219, rfl⟩
abbrev main_call8_c_1 : Ref sig .tc := ⟨.hbm, 220, rfl⟩
abbrev main_call8_c_2 : Ref sig .tc := ⟨.hbm, 221, rfl⟩
abbrev main_call8_v6 : Ref sig .tc := ⟨.hbm, 222, rfl⟩
abbrev main_call8_v7 : Ref sig .tc := ⟨.hbm, 223, rfl⟩
abbrev main_call8_v8 : Ref sig .tc := ⟨.hbm, 224, rfl⟩
abbrev main_call8_v9 : Ref sig .tc := ⟨.hbm, 225, rfl⟩
abbrev main_call8_v10 : Ref sig .tc := ⟨.hbm, 226, rfl⟩
abbrev main_call8_v11 : Ref sig .tc := ⟨.hbm, 227, rfl⟩
abbrev main_call8_c_3 : Ref sig .tc := ⟨.hbm, 228, rfl⟩
abbrev main_call8_v12 : Ref sig .tc := ⟨.hbm, 229, rfl⟩
abbrev main_call8_v13 : Ref sig .tc := ⟨.hbm, 230, rfl⟩
abbrev main_call8_v14 : Ref sig .tc := ⟨.hbm, 231, rfl⟩
abbrev main_call8_cst : Ref sig .tc := ⟨.hbm, 232, rfl⟩
abbrev main_call8_v15 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_c_19 : Ref sig .tc := ⟨.hbm, 241, rfl⟩
abbrev main_v95 : Ref sig .tc := ⟨.hbm, 242, rfl⟩
abbrev main_v96 : Ref sig .tc := ⟨.hbm, 243, rfl⟩
abbrev main_c_20 : Ref sig .tc := ⟨.hbm, 244, rfl⟩
abbrev main_c_21 : Ref sig .tc := ⟨.hbm, 245, rfl⟩
abbrev main_call9_v0 : Ref sig .tc := ⟨.hbm, 246, rfl⟩
abbrev main_call9_v1 : Ref sig .tc := ⟨.hbm, 247, rfl⟩
abbrev main_call9_v2 : Ref sig .tc := ⟨.hbm, 248, rfl⟩
abbrev main_call9_v3 : Ref sig .tc := ⟨.hbm, 249, rfl⟩
abbrev main_call9_v4 : Ref sig .tc := ⟨.hbm, 250, rfl⟩
abbrev main_v97 : Ref sig .tc := ⟨.hbm, 251, rfl⟩
abbrev main_c_22 : Ref sig .tc := ⟨.hbm, 252, rfl⟩
abbrev main_v98 : Ref sig .tc := ⟨.hbm, 253, rfl⟩
abbrev main_v99 : Ref sig .tc := ⟨.hbm, 254, rfl⟩
abbrev main_c_23 : Ref sig .tc := ⟨.hbm, 255, rfl⟩
abbrev main_c_24 : Ref sig .tc := ⟨.hbm, 256, rfl⟩
abbrev main_call10_v0 : Ref sig .tc := ⟨.hbm, 257, rfl⟩
abbrev main_call10_v1 : Ref sig .tc := ⟨.hbm, 258, rfl⟩
abbrev main_call10_v2 : Ref sig .tc := ⟨.hbm, 259, rfl⟩
abbrev main_call10_v3 : Ref sig .tc := ⟨.hbm, 260, rfl⟩
abbrev main_call10_v4 : Ref sig .tc := ⟨.hbm, 261, rfl⟩
abbrev main_v100 : Ref sig .tc := ⟨.hbm, 262, rfl⟩
abbrev main_v101 : Ref sig .tc := ⟨.hbm, 263, rfl⟩
abbrev main_v102 : Ref sig .tc := ⟨.hbm, 264, rfl⟩
abbrev main_v103 : Ref sig .tc := ⟨.hbm, 265, rfl⟩
abbrev main_v104 : Ref sig .tc := ⟨.hbm, 266, rfl⟩
abbrev main_v105 : Ref sig .tc := ⟨.hbm, 267, rfl⟩
abbrev main_call11_c : Ref sig .tc := ⟨.hbm, 268, rfl⟩
abbrev main_call11_v0 : Ref sig .tc := ⟨.hbm, 269, rfl⟩
abbrev main_call11_v1 : Ref sig .tc := ⟨.hbm, 270, rfl⟩
abbrev main_call11_c_0 : Ref sig .tc := ⟨.hbm, 271, rfl⟩
abbrev main_call11_v2 : Ref sig .tc := ⟨.hbm, 272, rfl⟩
abbrev main_call11_v3 : Ref sig .tc := ⟨.hbm, 273, rfl⟩
abbrev main_call11_v4 : Ref sig .tc := ⟨.hbm, 274, rfl⟩
abbrev main_call11_v5 : Ref sig .tc := ⟨.hbm, 275, rfl⟩
abbrev main_call11_c_1 : Ref sig .tc := ⟨.hbm, 276, rfl⟩
abbrev main_call11_c_2 : Ref sig .tc := ⟨.hbm, 277, rfl⟩
abbrev main_call11_v6 : Ref sig .tc := ⟨.hbm, 278, rfl⟩
abbrev main_call11_v7 : Ref sig .tc := ⟨.hbm, 279, rfl⟩
abbrev main_call11_v8 : Ref sig .tc := ⟨.hbm, 280, rfl⟩
abbrev main_call11_v9 : Ref sig .tc := ⟨.hbm, 281, rfl⟩
abbrev main_call11_v10 : Ref sig .tc := ⟨.hbm, 282, rfl⟩
abbrev main_call11_v11 : Ref sig .tc := ⟨.hbm, 283, rfl⟩
abbrev main_call11_c_3 : Ref sig .tc := ⟨.hbm, 284, rfl⟩
abbrev main_call11_v12 : Ref sig .tc := ⟨.hbm, 285, rfl⟩
abbrev main_call11_v13 : Ref sig .tc := ⟨.hbm, 286, rfl⟩
abbrev main_call11_v14 : Ref sig .tc := ⟨.hbm, 287, rfl⟩
abbrev main_call11_cst : Ref sig .tc := ⟨.hbm, 288, rfl⟩
abbrev main_call11_v15 : Ref sig .tc := ⟨.hbm, 289, rfl⟩
abbrev main_v106 : Ref sig .tc := ⟨.hbm, 290, rfl⟩
abbrev main_call12_c : Ref sig .tc := ⟨.hbm, 291, rfl⟩
abbrev main_call12_v0 : Ref sig .tc := ⟨.hbm, 292, rfl⟩
abbrev main_call12_v1 : Ref sig .tc := ⟨.hbm, 293, rfl⟩
abbrev main_call12_c_0 : Ref sig .tc := ⟨.hbm, 294, rfl⟩
abbrev main_call12_v2 : Ref sig .tc := ⟨.hbm, 295, rfl⟩
abbrev main_call12_v3 : Ref sig .tc := ⟨.hbm, 296, rfl⟩
abbrev main_call12_v4 : Ref sig .tc := ⟨.hbm, 297, rfl⟩
abbrev main_call12_v5 : Ref sig .tc := ⟨.hbm, 298, rfl⟩
abbrev main_call12_c_1 : Ref sig .tc := ⟨.hbm, 299, rfl⟩
abbrev main_call12_c_2 : Ref sig .tc := ⟨.hbm, 300, rfl⟩
abbrev main_call12_v6 : Ref sig .tc := ⟨.hbm, 301, rfl⟩
abbrev main_call12_v7 : Ref sig .tc := ⟨.hbm, 302, rfl⟩
abbrev main_call12_v8 : Ref sig .tc := ⟨.hbm, 303, rfl⟩
abbrev main_call12_v9 : Ref sig .tc := ⟨.hbm, 304, rfl⟩
abbrev main_call12_v10 : Ref sig .tc := ⟨.hbm, 305, rfl⟩
abbrev main_call12_v11 : Ref sig .tc := ⟨.hbm, 306, rfl⟩
abbrev main_call12_c_3 : Ref sig .tc := ⟨.hbm, 307, rfl⟩
abbrev main_call12_v12 : Ref sig .tc := ⟨.hbm, 308, rfl⟩
abbrev main_call12_v13 : Ref sig .tc := ⟨.hbm, 309, rfl⟩
abbrev main_call12_v14 : Ref sig .tc := ⟨.hbm, 310, rfl⟩
abbrev main_call12_cst : Ref sig .tc := ⟨.hbm, 311, rfl⟩
abbrev main_call12_v15 : Ref sig .tc := ⟨.hbm, 312, rfl⟩
abbrev main_v107 : Ref sig .tc := ⟨.hbm, 313, rfl⟩
abbrev main_v108 : Ref sig .tc := ⟨.hbm, 314, rfl⟩
abbrev main_v109 : Ref sig .tc := ⟨.hbm, 315, rfl⟩
abbrev main_v110 : Ref sig .tc := ⟨.hbm, 316, rfl⟩
abbrev main_v111 : Ref sig .tc := ⟨.hbm, 317, rfl⟩
abbrev main_v112 : Ref sig .tc := ⟨.hbm, 318, rfl⟩
abbrev main_v113 : Ref sig .tc := ⟨.hbm, 319, rfl⟩
abbrev main_c_25 : Ref sig .tc := ⟨.hbm, 320, rfl⟩
abbrev main_v114 : Ref sig .tc := ⟨.hbm, 321, rfl⟩
abbrev main_v115 : Ref sig .tc := ⟨.hbm, 322, rfl⟩
abbrev main_c_26 : Ref sig .tc := ⟨.hbm, 323, rfl⟩
abbrev main_c_27 : Ref sig .tc := ⟨.hbm, 324, rfl⟩
abbrev main_call13_v0 : Ref sig .tc := ⟨.hbm, 325, rfl⟩
abbrev main_call13_v1 : Ref sig .tc := ⟨.hbm, 326, rfl⟩
abbrev main_call13_v2 : Ref sig .tc := ⟨.hbm, 327, rfl⟩
abbrev main_call13_v3 : Ref sig .tc := ⟨.hbm, 328, rfl⟩
abbrev main_call13_v4 : Ref sig .tc := ⟨.hbm, 329, rfl⟩
abbrev main_v116 : Ref sig .tc := ⟨.hbm, 330, rfl⟩
abbrev main_c_28 : Ref sig .tc := ⟨.hbm, 331, rfl⟩
abbrev main_v117 : Ref sig .tc := ⟨.hbm, 332, rfl⟩
abbrev main_v118 : Ref sig .tc := ⟨.hbm, 333, rfl⟩
abbrev main_c_29 : Ref sig .tc := ⟨.hbm, 334, rfl⟩
abbrev main_c_30 : Ref sig .tc := ⟨.hbm, 335, rfl⟩
abbrev main_call14_v0 : Ref sig .tc := ⟨.hbm, 336, rfl⟩
abbrev main_call14_v1 : Ref sig .tc := ⟨.hbm, 337, rfl⟩
abbrev main_call14_v2 : Ref sig .tc := ⟨.hbm, 338, rfl⟩
abbrev main_call14_v3 : Ref sig .tc := ⟨.hbm, 339, rfl⟩
abbrev main_call14_v4 : Ref sig .tc := ⟨.hbm, 340, rfl⟩
abbrev main_v119 : Ref sig .tc := ⟨.hbm, 341, rfl⟩
abbrev main_v120 : Ref sig .tc := ⟨.hbm, 342, rfl⟩
abbrev main_v121 : Ref sig .tc := ⟨.hbm, 343, rfl⟩
abbrev main_v122 : Ref sig .tc := ⟨.hbm, 344, rfl⟩
abbrev main_v123 : Ref sig .tc := ⟨.hbm, 345, rfl⟩
abbrev main_v124 : Ref sig .tc := ⟨.hbm, 346, rfl⟩
abbrev main_call15_c : Ref sig .tc := ⟨.hbm, 347, rfl⟩
abbrev main_call15_v0 : Ref sig .tc := ⟨.hbm, 348, rfl⟩
abbrev main_call15_v1 : Ref sig .tc := ⟨.hbm, 349, rfl⟩
abbrev main_call15_c_0 : Ref sig .tc := ⟨.hbm, 350, rfl⟩
abbrev main_call15_v2 : Ref sig .tc := ⟨.hbm, 351, rfl⟩
abbrev main_call15_v3 : Ref sig .tc := ⟨.hbm, 352, rfl⟩
abbrev main_call15_v4 : Ref sig .tc := ⟨.hbm, 353, rfl⟩
abbrev main_call15_v5 : Ref sig .tc := ⟨.hbm, 354, rfl⟩
abbrev main_call15_c_1 : Ref sig .tc := ⟨.hbm, 355, rfl⟩
abbrev main_call15_c_2 : Ref sig .tc := ⟨.hbm, 356, rfl⟩
abbrev main_call15_v6 : Ref sig .tc := ⟨.hbm, 357, rfl⟩
abbrev main_call15_v7 : Ref sig .tc := ⟨.hbm, 358, rfl⟩
abbrev main_call15_v8 : Ref sig .tc := ⟨.hbm, 359, rfl⟩
abbrev main_call15_v9 : Ref sig .tc := ⟨.hbm, 360, rfl⟩
abbrev main_call15_v10 : Ref sig .tc := ⟨.hbm, 361, rfl⟩
abbrev main_call15_v11 : Ref sig .tc := ⟨.hbm, 362, rfl⟩
abbrev main_call15_c_3 : Ref sig .tc := ⟨.hbm, 363, rfl⟩
abbrev main_call15_v12 : Ref sig .tc := ⟨.hbm, 364, rfl⟩
abbrev main_call15_v13 : Ref sig .tc := ⟨.hbm, 365, rfl⟩
abbrev main_call15_v14 : Ref sig .tc := ⟨.hbm, 366, rfl⟩
abbrev main_call15_cst : Ref sig .tc := ⟨.hbm, 367, rfl⟩
abbrev main_call15_v15 : Ref sig .tc := ⟨.hbm, 368, rfl⟩
abbrev main_v125 : Ref sig .tc := ⟨.hbm, 369, rfl⟩
abbrev main_call16_c : Ref sig .tc := ⟨.hbm, 370, rfl⟩
abbrev main_call16_v0 : Ref sig .tc := ⟨.hbm, 371, rfl⟩
abbrev main_call16_v1 : Ref sig .tc := ⟨.hbm, 372, rfl⟩
abbrev main_call16_c_0 : Ref sig .tc := ⟨.hbm, 373, rfl⟩
abbrev main_call16_v2 : Ref sig .tc := ⟨.hbm, 374, rfl⟩
abbrev main_call16_v3 : Ref sig .tc := ⟨.hbm, 375, rfl⟩
abbrev main_call16_v4 : Ref sig .tc := ⟨.hbm, 376, rfl⟩
abbrev main_call16_v5 : Ref sig .tc := ⟨.hbm, 377, rfl⟩
abbrev main_call16_c_1 : Ref sig .tc := ⟨.hbm, 378, rfl⟩
abbrev main_call16_c_2 : Ref sig .tc := ⟨.hbm, 379, rfl⟩
abbrev main_call16_v6 : Ref sig .tc := ⟨.hbm, 380, rfl⟩
abbrev main_call16_v7 : Ref sig .tc := ⟨.hbm, 381, rfl⟩
abbrev main_call16_v8 : Ref sig .tc := ⟨.hbm, 382, rfl⟩
abbrev main_call16_v9 : Ref sig .tc := ⟨.hbm, 383, rfl⟩
abbrev main_call16_v10 : Ref sig .tc := ⟨.hbm, 384, rfl⟩
abbrev main_call16_v11 : Ref sig .tc := ⟨.hbm, 385, rfl⟩
abbrev main_call16_c_3 : Ref sig .tc := ⟨.hbm, 386, rfl⟩
abbrev main_call16_v12 : Ref sig .tc := ⟨.hbm, 387, rfl⟩
abbrev main_call16_v13 : Ref sig .tc := ⟨.hbm, 388, rfl⟩
abbrev main_call16_v14 : Ref sig .tc := ⟨.hbm, 389, rfl⟩
abbrev main_call16_cst : Ref sig .tc := ⟨.hbm, 390, rfl⟩
abbrev main_call16_v15 : Ref sig .tc := ⟨.hbm, 391, rfl⟩
abbrev main_v126 : Ref sig .tc := ⟨.hbm, 392, rfl⟩
abbrev main_v127 : Ref sig .tc := ⟨.hbm, 393, rfl⟩
abbrev main_v128 : Ref sig .tc := ⟨.hbm, 394, rfl⟩
abbrev main_v129 : Ref sig .tc := ⟨.hbm, 395, rfl⟩
abbrev main_v130 : Ref sig .tc := ⟨.hbm, 396, rfl⟩
abbrev main_v131 : Ref sig .tc := ⟨.hbm, 397, rfl⟩
abbrev main_v132 : Ref sig .tc := ⟨.hbm, 398, rfl⟩
abbrev main_v133 : Ref sig .tc := ⟨.hbm, 399, rfl⟩
abbrev main_v134 : Ref sig .tc := ⟨.hbm, 400, rfl⟩
abbrev main_v135 : Ref sig .tc := ⟨.hbm, 401, rfl⟩
abbrev main_v136 : Ref sig .tc := ⟨.hbm, 402, rfl⟩
abbrev main_v137 : Ref sig .tc := ⟨.hbm, 403, rfl⟩
abbrev main_v138 : Ref sig .tc := ⟨.hbm, 404, rfl⟩
abbrev main_v139 : Ref sig .tc := ⟨.hbm, 405, rfl⟩
abbrev main_v140 : Ref sig .tc := ⟨.hbm, 406, rfl⟩
abbrev main_v141 : Ref sig .tc := ⟨.hbm, 407, rfl⟩
abbrev main_v142 : Ref sig .tc := ⟨.hbm, 408, rfl⟩
abbrev main_v143 : Ref sig .tc := ⟨.hbm, 409, rfl⟩
abbrev main_call17_v0 : Ref sig .tc := ⟨.hbm, 410, rfl⟩
abbrev main_call17_v1 : Ref sig .tc := ⟨.hbm, 411, rfl⟩
abbrev main_call17_cst : Ref sig .tc := ⟨.hbm, 412, rfl⟩
abbrev main_call17_v2 : Ref sig .tc := ⟨.hbm, 413, rfl⟩
abbrev main_call17_v3 : Ref sig .tc := ⟨.hbm, 414, rfl⟩
abbrev main_call17_cst_0 : Ref sig .tc := ⟨.hbm, 415, rfl⟩
abbrev main_call17_v4 : Ref sig .tc := ⟨.hbm, 416, rfl⟩
abbrev main_call17_v5 : Ref sig .tc := ⟨.hbm, 417, rfl⟩
abbrev main_v144 : Ref sig .tc := ⟨.hbm, 418, rfl⟩
abbrev main_v145 : Ref sig .tc := ⟨.hbm, 419, rfl⟩
abbrev main_v146 : Ref sig .tc := ⟨.hbm, 420, rfl⟩
abbrev main_v147 : Ref sig .tc := ⟨.hbm, 421, rfl⟩
abbrev main_v148 : Ref sig .tc := ⟨.hbm, 422, rfl⟩
abbrev main_call18_v0 : Ref sig .tc := ⟨.hbm, 423, rfl⟩
abbrev main_call18_v1 : Ref sig .tc := ⟨.hbm, 424, rfl⟩
abbrev main_call18_cst : Ref sig .tc := ⟨.hbm, 425, rfl⟩
abbrev main_call18_v2 : Ref sig .tc := ⟨.hbm, 426, rfl⟩
abbrev main_call18_v3 : Ref sig .tc := ⟨.hbm, 427, rfl⟩
abbrev main_call18_cst_0 : Ref sig .tc := ⟨.hbm, 428, rfl⟩
abbrev main_call18_v4 : Ref sig .tc := ⟨.hbm, 429, rfl⟩
abbrev main_call18_v5 : Ref sig .tc := ⟨.hbm, 430, rfl⟩
abbrev main_v149 : Ref sig .tc := ⟨.hbm, 431, rfl⟩
abbrev main_v150 : Ref sig .tc := ⟨.hbm, 432, rfl⟩
abbrev main_v151 : Ref sig .tc := ⟨.hbm, 433, rfl⟩
abbrev main_v152 : Ref sig .tc := ⟨.hbm, 434, rfl⟩
abbrev main_v153 : Ref sig .tc := ⟨.hbm, 435, rfl⟩
abbrev main_v154 : Ref sig .tc := ⟨.hbm, 436, rfl⟩
abbrev main_v155 : Ref sig .tc := ⟨.hbm, 437, rfl⟩
abbrev main_v156 : Ref sig .tc := ⟨.hbm, 438, rfl⟩
abbrev main_v157 : Ref sig .tc := ⟨.hbm, 439, rfl⟩
abbrev main_v158 : Ref sig .tc := ⟨.hbm, 440, rfl⟩
abbrev main_v159 : Ref sig .tc := ⟨.hbm, 441, rfl⟩
abbrev main_v160 : Ref sig .tc := ⟨.hbm, 442, rfl⟩
abbrev main_cst_31 : Ref sig .tc := ⟨.hbm, 443, rfl⟩
abbrev main_v161 : Ref sig .tc := ⟨.hbm, 444, rfl⟩
abbrev main_v162 : Ref sig .tc := ⟨.hbm, 445, rfl⟩
abbrev main_cst_32 : Ref sig .tc := ⟨.hbm, 446, rfl⟩
abbrev main_v163 : Ref sig .tc := ⟨.hbm, 447, rfl⟩
abbrev main_cst_33 : Ref sig .tc := ⟨.hbm, 448, rfl⟩
abbrev main_v164 : Ref sig .tc := ⟨.hbm, 449, rfl⟩
abbrev main_v165 : Ref sig .tc := ⟨.hbm, 450, rfl⟩
abbrev main_v166 : Ref sig .tc := ⟨.hbm, 451, rfl⟩
abbrev main_v167 : Ref sig .tc := ⟨.hbm, 452, rfl⟩
abbrev main_v168 : Ref sig .tc := ⟨.hbm, 453, rfl⟩
abbrev main_v169 : Ref sig .tc := ⟨.hbm, 454, rfl⟩
abbrev main_cst_34 : Ref sig .tc := ⟨.hbm, 455, rfl⟩
abbrev main_v170 : Ref sig .tc := ⟨.hbm, 456, rfl⟩
abbrev main_v171 : Ref sig .tc := ⟨.hbm, 457, rfl⟩
abbrev main_v172 : Ref sig .tc := ⟨.hbm, 458, rfl⟩
abbrev main_v173 : Ref sig .tc := ⟨.hbm, 459, rfl⟩
abbrev main_v174 : Ref sig .tc := ⟨.hbm, 460, rfl⟩
abbrev main_v175 : Ref sig .tc := ⟨.hbm, 461, rfl⟩
abbrev main_v176 : Ref sig .tc := ⟨.hbm, 462, rfl⟩
abbrev main_call19_v0 : Ref sig .tc := ⟨.hbm, 463, rfl⟩
abbrev main_call19_v1 : Ref sig .tc := ⟨.hbm, 464, rfl⟩
abbrev main_call19_cst : Ref sig .tc := ⟨.hbm, 465, rfl⟩
abbrev main_call19_v2 : Ref sig .tc := ⟨.hbm, 466, rfl⟩
abbrev main_call19_v3 : Ref sig .tc := ⟨.hbm, 467, rfl⟩
abbrev main_call19_cst_0 : Ref sig .tc := ⟨.hbm, 468, rfl⟩
abbrev main_call19_v4 : Ref sig .tc := ⟨.hbm, 469, rfl⟩
abbrev main_call19_v5 : Ref sig .tc := ⟨.hbm, 470, rfl⟩
abbrev main_v177 : Ref sig .tc := ⟨.hbm, 471, rfl⟩
abbrev main_v178 : Ref sig .tc := ⟨.hbm, 472, rfl⟩
abbrev main_v179 : Ref sig .tc := ⟨.hbm, 473, rfl⟩
abbrev main_v180 : Ref sig .tc := ⟨.hbm, 474, rfl⟩
abbrev main_v181 : Ref sig .tc := ⟨.hbm, 475, rfl⟩
abbrev main_v182 : Ref sig .tc := ⟨.hbm, 476, rfl⟩
abbrev main_v183 : Ref sig .tc := ⟨.hbm, 477, rfl⟩
abbrev main_v184 : Ref sig .tc := ⟨.hbm, 478, rfl⟩
abbrev main_v185 : Ref sig .tc := ⟨.hbm, 479, rfl⟩
abbrev main_v186 : Ref sig .tc := ⟨.hbm, 480, rfl⟩
abbrev main_v187 : Ref sig .tc := ⟨.hbm, 481, rfl⟩
abbrev main_v188 : Ref sig .tc := ⟨.hbm, 482, rfl⟩
abbrev main_v189 : Ref sig .tc := ⟨.hbm, 483, rfl⟩
abbrev main_cst_35 : Ref sig .tc := ⟨.hbm, 484, rfl⟩
abbrev main_v190 : Ref sig .tc := ⟨.hbm, 485, rfl⟩
abbrev main_v191 : Ref sig .tc := ⟨.hbm, 486, rfl⟩
abbrev main_cst_36 : Ref sig .tc := ⟨.hbm, 487, rfl⟩
abbrev main_v192 : Ref sig .tc := ⟨.hbm, 488, rfl⟩
abbrev main_v193 : Ref sig .tc := ⟨.hbm, 489, rfl⟩
abbrev main_cst_37 : Ref sig .tc := ⟨.hbm, 490, rfl⟩
abbrev main_v194 : Ref sig .tc := ⟨.hbm, 491, rfl⟩
abbrev main_v195 : Ref sig .tc := ⟨.hbm, 492, rfl⟩
abbrev main_v196 : Ref sig .tc := ⟨.hbm, 493, rfl⟩
abbrev main_v197 : Ref sig .tc := ⟨.hbm, 494, rfl⟩
abbrev main_v198 : Ref sig .tc := ⟨.hbm, 495, rfl⟩
abbrev main_v199 : Ref sig .tc := ⟨.hbm, 496, rfl⟩
abbrev main_v200 : Ref sig .tc := ⟨.hbm, 497, rfl⟩
abbrev main_v201 : Ref sig .tc := ⟨.hbm, 498, rfl⟩

abbrev nD : Nat := 1
abbrev τ : Topo := Topo.v7x

variable {F : FTy → Type} [FloatOps F]
-- ==== Prompt.lean ====
abbrev S16x2048x1024 : Shape := ⟨3, ![16, 2048, 1024]⟩
abbrev S16x2048x512 : Shape := ⟨3, ![16, 2048, 512]⟩
abbrev S16x256x1024 : Shape := ⟨3, ![16, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S1024x7168 : Shape := ⟨2, ![1024, 7168]⟩
abbrev S4x256x256 : Shape := ⟨3, ![4, 256, 256]⟩
abbrev S1024x1024 : Shape := ⟨2, ![1024, 1024]⟩
abbrev S512x1024 : Shape := ⟨2, ![512, 1024]⟩
abbrev S1024x256 : Shape := ⟨2, ![1024, 256]⟩
abbrev S512x7168 : Shape := ⟨2, ![512, 7168]⟩
abbrev S512x256 : Shape := ⟨2, ![512, 256]⟩
abbrev S256x1024 : Shape := ⟨2, ![256, 1024]⟩
abbrev S128x7168 : Shape := ⟨2, ![128, 7168]⟩
abbrev S128x256 : Shape := ⟨2, ![128, 256]⟩
abbrev S128x1024 : Shape := ⟨2, ![128, 1024]⟩
abbrev S64x1024 : Shape := ⟨2, ![64, 1024]⟩
abbrev S64x7168 : Shape := ⟨2, ![64, 7168]⟩
abbrev S64x256 : Shape := ⟨2, ![64, 256]⟩
abbrev S32x1024 : Shape := ⟨2, ![32, 1024]⟩
abbrev S4x256x1024 : Shape := ⟨3, ![4, 256, 1024]⟩
abbrev S1024x1 : Shape := ⟨2, ![1024, 1]⟩
abbrev S1x8x1024 : Shape := ⟨3, ![1, 8, 1024]⟩
abbrev S1x512x512 : Shape := ⟨3, ![1, 512, 512]⟩
abbrev S1x256x1024 : Shape := ⟨3, ![1, 256, 1024]⟩
abbrev S8x528x128 : Shape := ⟨3, ![8, 528, 128]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S512x512 : Shape := ⟨2, ![512, 512]⟩
abbrev S1024x512 : Shape := ⟨2, ![1024, 512]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 33
  | .vmem => 57
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x256x1024, .f32⟩
  | .hbm, ⟨3, _⟩ => ⟨S1x1024, .f32⟩
  | .hbm, ⟨4, _⟩ => ⟨S1x1024, .f32⟩
  | .hbm, ⟨5, _⟩ => ⟨S1x1024x7168, .f32⟩
  | .hbm, ⟨6, _⟩ => ⟨S1x4x256x256, .f32⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x512x1024, .f32⟩
  | .hbm, ⟨11, _⟩ => ⟨S1x512x1024, .f32⟩
  | .hbm, ⟨12, _⟩ => ⟨S1x3072, .f32⟩
  | .hbm, ⟨13, _⟩ => ⟨S1x1024x1024, .f32⟩
  | .hbm, ⟨14, _⟩ => ⟨S1024, .f32⟩
  | .hbm, ⟨15, _⟩ => ⟨S1024x7168, .f32⟩
  | .hbm, ⟨16, _⟩ => ⟨S4x256x256, .f32⟩
  | .hbm, ⟨17, _⟩ => ⟨S1024x1024, .f32⟩
  | .hbm, ⟨18, _⟩ => ⟨S1024x1024, .f32⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1024x256, .f32⟩
  | .hbm, ⟨23, _⟩ => ⟨S512x7168, .i32⟩
  | .hbm, ⟨24, _⟩ => ⟨S512x256, .i32⟩
  | .hbm, ⟨25, _⟩ => ⟨S512x1024, .i32⟩
  | .hbm, ⟨26, _⟩ => ⟨S512x1024, .i32⟩
  | .hbm, ⟨27, _⟩ => ⟨S256x1024, .i32⟩
  | .hbm, ⟨28, _⟩ => ⟨S256x1024, .i32⟩
  | .hbm, ⟨29, _⟩ => ⟨S512x1024, .i32⟩
  | .hbm, ⟨30, _⟩ => ⟨S16x256x1024, .bf16⟩
  | .hbm, ⟨31, _⟩ => ⟨S1x1024, .f32⟩
  | .hbm, ⟨32, _⟩ => ⟨S16x2048x1024, .f32⟩
  | .local _ .vmem, ⟨0, _⟩ => ⟨S128x7168, .f32⟩
  | .local _ .vmem, ⟨1, _⟩ => ⟨S128x7168, .f32⟩
  | .local _ .vmem, ⟨2, _⟩ => ⟨S128x256, .f32⟩
  | .local _ .vmem, ⟨3, _⟩ => ⟨S128x256, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S128x1024, .f32⟩
  | .local _ .vmem, ⟨13, _⟩ => ⟨S128x1024, .f32⟩
  | .local _ .vmem, ⟨14, _⟩ => ⟨S64x7168, .i32⟩
  | .local _ .vmem, ⟨15, _⟩ => ⟨S64x7168, .i32⟩
  | .local _ .vmem, ⟨16, _⟩ => ⟨S64x256, .i32⟩
  | .local _ .vmem, ⟨17, _⟩ => ⟨S64x256, .i32⟩
  | .local _ .vmem, ⟨18, _⟩ => ⟨S64x1024, .i32⟩
  | .local _ .vmem, ⟨19, _⟩ => ⟨S64x1024, .i32⟩
  | .local _ .vmem, ⟨20, _⟩ => ⟨S64x1024, .i32⟩
  | .local _ .vmem, ⟨21, _⟩ => ⟨S64x1024, .i32⟩
  | .local _ .vmem, ⟨22, _⟩ => ⟨S32x1024, .i32⟩
  | .local _ .vmem, ⟨23, _⟩ => ⟨S32x1024, .i32⟩
  | .local _ .vmem, ⟨24, _⟩ => ⟨S32x1024, .i32⟩
  | .local _ .vmem, ⟨25, _⟩ => ⟨S32x1024, .i32⟩
  | .local _ .vmem, ⟨26, _⟩ => ⟨S64x1024, .i32⟩
  | .local _ .vmem, ⟨27, _⟩ => ⟨S64x1024, .i32⟩
  | .local _ .vmem, ⟨28, _⟩ => ⟨S4x256x1024, .f32⟩
  | .local _ .vmem, ⟨29, _⟩ => ⟨S4x256x1024, .f32⟩
  | .local _ .vmem, ⟨30, _⟩ => ⟨S1x1024, .f32⟩
  | .local _ .vmem, ⟨31, _⟩ => ⟨S512x1024, .i32⟩
  | .local _ .vmem, ⟨32, _⟩ => ⟨S4x256x1024, .bf16⟩
  | .local _ .vmem, ⟨33, _⟩ => ⟨S4x256x1024, .bf16⟩
  | .local _ .vmem, ⟨34, _⟩ => ⟨S1x512x1024, .f32⟩
  | .local _ .vmem, ⟨35, _⟩ => ⟨S1x512x1024, .f32⟩
  | .local _ .vmem, ⟨36, _⟩ => ⟨S1x8x1024, .f32⟩
  | .local _ .vmem, ⟨37, _⟩ => ⟨S1x8x1024, .f32⟩
  | .local _ .vmem, ⟨38, _⟩ => ⟨S1x8x1024, .f32⟩
  | .local _ .vmem, ⟨39, _⟩ => ⟨S1x8x1024, .f32⟩
  | .local _ .vmem, ⟨40, _⟩ => ⟨S1x512x512, .bf16⟩
  | .local _ .vmem, ⟨41, _⟩ => ⟨S1x512x512, .bf16⟩
  | .local _ .vmem, ⟨42, _⟩ => ⟨S1x256x1024, .bf16⟩
  | .local _ .vmem, ⟨43, _⟩ => ⟨S1x256x1024, .bf16⟩
  | .local _ .vmem, ⟨44, _⟩ => ⟨S1x1024, .f32⟩
  | .local _ .vmem, ⟨45, _⟩ => ⟨S512x7168, .i32⟩
  | .local _ .vmem, ⟨46, _⟩ => ⟨S512x256, .i32⟩
  | .local _ .vmem, ⟨47, _⟩ => ⟨S1x1024, .f32⟩
  | .local _ .vmem, ⟨48, _⟩ => ⟨S512x1024, .i32⟩
  | .local _ .vmem, ⟨49, _⟩ => ⟨S256x1024, .i32⟩
  | .local _ .vmem, ⟨50, _⟩ => ⟨S256x1024, .i32⟩
  | .local _ .vmem, ⟨51, _⟩ => ⟨S1x3072, .f32⟩
  | .local _ .vmem, ⟨52, _⟩ => ⟨S512x1024, .i32⟩
  | .local _ .vmem, ⟨53, _⟩ => ⟨S1x1024, .f32⟩
  | .local _ .vmem, ⟨54, _⟩ => ⟨S1x512x1024, .f32⟩
  | .local _ .vmem, ⟨55, _⟩ => ⟨S1x512x1024, .f32⟩
  | .local _ .vmem, ⟨56, _⟩ => ⟨S8x528x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg2_0 : Ref sig .tc := ⟨.vmem, 31, rfl⟩
abbrev cc1_stg3_0 : Ref sig .tc := ⟨.vmem, 32, rfl⟩
abbrev cc1_stg3_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg11_0 : Ref sig .tc := ⟨.vmem, 50, rfl⟩
abbrev cc2_stg12_0 : Ref sig .tc := ⟨.vmem, 51, rfl⟩
abbrev cc2_stg13_0 : Ref sig .tc := ⟨.vmem, 52, rfl⟩
abbrev cc2_stg14_0 : Ref sig .tc := ⟨.vmem, 53, rfl⟩
abbrev cc2_stg15_0 : Ref sig .tc := ⟨.vmem, 54, rfl⟩
abbrev cc2_stg15_1 : Ref sig .tc := ⟨.vmem, 55, rfl⟩
abbrev cc2_scratch0 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem2_0 : DmaSem sig := 31
abbrev cc1_sem3_0 : DmaSem sig := 32
abbrev cc1_sem3_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev cc2_sem5_0 : DmaSem sig := 44
abbrev cc2_sem6_0 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem12_0 : DmaSem sig := 51
abbrev cc2_sem13_0 : DmaSem sig := 52
abbrev cc2_sem14_0 : DmaSem sig := 53
abbrev cc2_sem15_0 : DmaSem sig := 54
abbrev cc2_sem15_1 : DmaSem sig := 55

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x7168 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1024 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S512x7168 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S512x256 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S512x1024 .i32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x1024 .i32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S256x1024 .i32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x3072 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S512x1024 .i32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 2 → Memref sig .tc .vmem S1x512x1024 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]
-- ==== PromptIdeal.lean ====
abbrev S16x2048x1024 : Shape := ⟨3, ![16, 2048, 1024]⟩
abbrev S16x2048x512 : Shape := ⟨3, ![16, 2048, 512]⟩
abbrev S16x256x1024 : Shape := ⟨3, ![16, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S1024x7168 : Shape := ⟨2, ![1024, 7168]⟩
abbrev S4x256x256 : Shape := ⟨3, ![4, 256, 256]⟩
abbrev S1024x1024 : Shape := ⟨2, ![1024, 1024]⟩
abbrev S512x1024 : Shape := ⟨2, ![512, 1024]⟩
abbrev S1024x256 : Shape := ⟨2, ![1024, 256]⟩
abbrev S512x2x7168 : Shape := ⟨3, ![512, 2, 7168]⟩
abbrev S512x2x256 : Shape := ⟨3, ![512, 2, 256]⟩
abbrev S512x2x1024 : Shape := ⟨3, ![512, 2, 1024]⟩
abbrev S256x2x1024 : Shape := ⟨3, ![256, 2, 1024]⟩
abbrev S512x1x7168 : Shape := ⟨3, ![512, 1, 7168]⟩
abbrev S512x7168 : Shape := ⟨2, ![512, 7168]⟩
abbrev S512x1x256 : Shape := ⟨3, ![512, 1, 256]⟩
abbrev S512x256 : Shape := ⟨2, ![512, 256]⟩
abbrev S512x1x1024 : Shape := ⟨3, ![512, 1, 1024]⟩
abbrev S256x1x1024 : Shape := ⟨3, ![256, 1, 1024]⟩
abbrev S256x1024 : Shape := ⟨2, ![256, 1024]⟩
abbrev S128x7168 : Shape := ⟨2, ![128, 7168]⟩
abbrev S128x256 : Shape := ⟨2, ![128, 256]⟩
abbrev S128x1024 : Shape := ⟨2, ![128, 1024]⟩
abbrev S64x1024 : Shape := ⟨2, ![64, 1024]⟩
abbrev S64x7168 : Shape := ⟨2, ![64, 7168]⟩
abbrev S64x2x7168 : Shape := ⟨3, ![64, 2, 7168]⟩
abbrev S64x1x7168 : Shape := ⟨3, ![64, 1, 7168]⟩
abbrev S64x256 : Shape := ⟨2, ![64, 256]⟩
abbrev S64x2x256 : Shape := ⟨3, ![64, 2, 256]⟩
abbrev S64x1x256 : Shape := ⟨3, ![64, 1, 256]⟩
abbrev S64x2x1024 : Shape := ⟨3, ![64, 2, 1024]⟩
abbrev S64x1x1024 : Shape := ⟨3, ![64, 1, 1024]⟩
abbrev S32x1024 : Shape := ⟨2, ![32, 1024]⟩
abbrev S32x2x1024 : Shape := ⟨3, ![32, 2, 1024]⟩
abbrev S32x1x1024 : Shape := ⟨3, ![32, 1, 1024]⟩
abbrev S4x256x1024 : Shape := ⟨3, ![4, 256, 1024]⟩
abbrev S1024x1 : Shape := ⟨2, ![1024, 1]⟩
abbrev S1x8x1024 : Shape := ⟨3, ![1, 8, 1024]⟩
abbrev S1x512x512 : Shape := ⟨3, ![1, 512, 512]⟩
abbrev S1x256x1024 : Shape := ⟨3, ![1, 256, 1024]⟩
abbrev S8x528x128 : Shape := ⟨3, ![8, 528, 128]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S512x512 : Shape := ⟨2, ![512, 512]⟩
abbrev S512x2x512 : Shape := ⟨3, ![512, 2, 512]⟩
abbrev S512x1x512 : Shape := ⟨3, ![512, 1, 512]⟩
abbrev S1024x512 : Shape := ⟨2, ![1024, 512]⟩
abbrev S1x256x128 : Shape := ⟨3, ![1, 256, 128]⟩
abbrev S256x128 : Shape := ⟨2, ![256, 128]⟩
abbrev S128x2x256 : Shape := ⟨3, ![128, 2, 256]⟩
abbrev S128x1x256 : Shape := ⟨3, ![128, 1, 256]⟩
abbrev S256x256 : Shape := ⟨2, ![256, 256]⟩

abbrev nBuf : Space → Nat
  | .hbm => 33
  | .vmem => 57
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x256x1024, .f32⟩
  | .hbm, ⟨3, _⟩ => ⟨S1x1024, .f32⟩
  | .hbm, ⟨4, _⟩ => ⟨S1x1024, .f32⟩
  | .hbm, ⟨5, _⟩ => ⟨S1x1024x7168, .f32⟩
  | .hbm, ⟨6, _⟩ => ⟨S1x4x256x256, .f32⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x512x1024, .f32⟩
  | .hbm, ⟨11, _⟩ => ⟨S1x512x1024, .f32⟩
  | .hbm, ⟨12, _⟩ => ⟨S1x3072, .f32⟩
  | .hbm, ⟨13, _⟩ => ⟨S1x1024x1024, .f32⟩
  | .hbm, ⟨14, _⟩ => ⟨S1024, .f32⟩
  | .hbm, ⟨15, _⟩ => ⟨S1024x7168, .f32⟩
  | .hbm, ⟨16, _⟩ => ⟨S4x256x256, .f32⟩
  | .hbm, ⟨17, _⟩ => ⟨S1024x1024, .f32⟩
  | .hbm, ⟨18, _⟩ => ⟨S1024x1024, .f32⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1024x256, .f32⟩
  | .hbm, ⟨23, _⟩ => ⟨S512x2x7168, .bf16⟩
  | .hbm, ⟨24, _⟩ => ⟨S512x2x256, .bf16⟩
  | .hbm, ⟨25, _⟩ => ⟨S512x2x1024, .bf16⟩
  | .hbm, ⟨26, _⟩ => ⟨S512x2x1024, .bf16⟩
  | .hbm, ⟨27, _⟩ => ⟨S256x2x1024, .bf16⟩
  | .hbm, ⟨28, _⟩ => ⟨S256x2x1024, .bf16⟩
  | .hbm, ⟨29, _⟩ => ⟨S512x2x1024, .bf16⟩
  | .hbm, ⟨30, _⟩ => ⟨S16x256x1024, .bf16⟩
  | .hbm, ⟨31, _⟩ => ⟨S1x1024, .f32⟩
  | .hbm, ⟨32, _⟩ => ⟨S16x2048x1024, .f32⟩
  | .local _ .vmem, ⟨0, _⟩ => ⟨S128x7168, .f32⟩
  | .local _ .vmem, ⟨1, _⟩ => ⟨S128x7168, .f32⟩
  | .local _ .vmem, ⟨2, _⟩ => ⟨S128x256, .f32⟩
  | .local _ .vmem, ⟨3, _⟩ => ⟨S128x256, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S128x1024, .f32⟩
  | .local _ .vmem, ⟨13, _⟩ => ⟨S128x1024, .f32⟩
  | .local _ .vmem, ⟨14, _⟩ => ⟨S64x2x7168, .bf16⟩
  | .local _ .vmem, ⟨15, _⟩ => ⟨S64x2x7168, .bf16⟩
  | .local _ .vmem, ⟨16, _⟩ => ⟨S64x2x256, .bf16⟩
  | .local _ .vmem, ⟨17, _⟩ => ⟨S64x2x256, .bf16⟩
  | .local _ .vmem, ⟨18, _⟩ => ⟨S64x2x1024, .bf16⟩
  | .local _ .vmem, ⟨19, _⟩ => ⟨S64x2x1024, .bf16⟩
  | .local _ .vmem, ⟨20, _⟩ => ⟨S64x2x1024, .bf16⟩
  | .local _ .vmem, ⟨21, _⟩ => ⟨S64x2x1024, .bf16⟩
  | .local _ .vmem, ⟨22, _⟩ => ⟨S32x2x1024, .bf16⟩
  | .local _ .vmem, ⟨23, _⟩ => ⟨S32x2x1024, .bf16⟩
  | .local _ .vmem, ⟨24, _⟩ => ⟨S32x2x1024, .bf16⟩
  | .local _ .vmem, ⟨25, _⟩ => ⟨S32x2x1024, .bf16⟩
  | .local _ .vmem, ⟨26, _⟩ => ⟨S64x2x1024, .bf16⟩
  | .local _ .vmem, ⟨27, _⟩ => ⟨S64x2x1024, .bf16⟩
  | .local _ .vmem, ⟨28, _⟩ => ⟨S4x256x1024, .f32⟩
  | .local _ .vmem, ⟨29, _⟩ => ⟨S4x256x1024, .f32⟩
  | .local _ .vmem, ⟨30, _⟩ => ⟨S1x1024, .f32⟩
  | .local _ .vmem, ⟨31, _⟩ => ⟨S512x2x1024, .bf16⟩
  | .local _ .vmem, ⟨32, _⟩ => ⟨S4x256x1024, .bf16⟩
  | .local _ .vmem, ⟨33, _⟩ => ⟨S4x256x1024, .bf16⟩
  | .local _ .vmem, ⟨34, _⟩ => ⟨S1x512x1024, .f32⟩
  | .local _ .vmem, ⟨35, _⟩ => ⟨S1x512x1024, .f32⟩
  | .local _ .vmem, ⟨36, _⟩ => ⟨S1x8x1024, .f32⟩
  | .local _ .vmem, ⟨37, _⟩ => ⟨S1x8x1024, .f32⟩
  | .local _ .vmem, ⟨38, _⟩ => ⟨S1x8x1024, .f32⟩
  | .local _ .vmem, ⟨39, _⟩ => ⟨S1x8x1024, .f32⟩
  | .local _ .vmem, ⟨40, _⟩ => ⟨S1x512x512, .bf16⟩
  | .local _ .vmem, ⟨41, _⟩ => ⟨S1x512x512, .bf16⟩
  | .local _ .vmem, ⟨42, _⟩ => ⟨S1x256x1024, .bf16⟩
  | .local _ .vmem, ⟨43, _⟩ => ⟨S1x256x1024, .bf16⟩
  | .local _ .vmem, ⟨44, _⟩ => ⟨S1x1024, .f32⟩
  | .local _ .vmem, ⟨45, _⟩ => ⟨S512x2x7168, .bf16⟩
  | .local _ .vmem, ⟨46, _⟩ => ⟨S512x2x256, .bf16⟩
  | .local _ .vmem, ⟨47, _⟩ => ⟨S1x1024, .f32⟩
  | .local _ .vmem, ⟨48, _⟩ => ⟨S512x2x1024, .bf16⟩
  | .local _ .vmem, ⟨49, _⟩ => ⟨S256x2x1024, .bf16⟩
  | .local _ .vmem, ⟨50, _⟩ => ⟨S256x2x1024, .bf16⟩
  | .local _ .vmem, ⟨51, _⟩ => ⟨S1x3072, .f32⟩
  | .local _ .vmem, ⟨52, _⟩ => ⟨S512x2x1024, .bf16⟩
  | .local _ .vmem, ⟨53, _⟩ => ⟨S1x1024, .f32⟩
  | .local _ .vmem, ⟨54, _⟩ => ⟨S1x512x1024, .f32⟩
  | .local _ .vmem, ⟨55, _⟩ => ⟨S1x512x1024, .f32⟩
  | .local _ .vmem, ⟨56, _⟩ => ⟨S8x528x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg2_0 : Ref sig .tc := ⟨.vmem, 31, rfl⟩
abbrev cc1_stg3_0 : Ref sig .tc := ⟨.vmem, 32, rfl⟩
abbrev cc1_stg3_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg11_0 : Ref sig .tc := ⟨.vmem, 50, rfl⟩
abbrev cc2_stg12_0 : Ref sig .tc := ⟨.vmem, 51, rfl⟩
abbrev cc2_stg13_0 : Ref sig .tc := ⟨.vmem, 52, rfl⟩
abbrev cc2_stg14_0 : Ref sig .tc := ⟨.vmem, 53, rfl⟩
abbrev cc2_stg15_0 : Ref sig .tc := ⟨.vmem, 54, rfl⟩
abbrev cc2_stg15_1 : Ref sig .tc := ⟨.vmem, 55, rfl⟩
abbrev cc2_scratch0 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem2_0 : DmaSem sig := 31
abbrev cc1_sem3_0 : DmaSem sig := 32
abbrev cc1_sem3_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev cc2_sem5_0 : DmaSem sig := 44
abbrev cc2_sem6_0 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem12_0 : DmaSem sig := 51
abbrev cc2_sem13_0 : DmaSem sig := 52
abbrev cc2_sem14_0 : DmaSem sig := 53
abbrev cc2_sem15_0 : DmaSem sig := 54
abbrev cc2_sem15_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, 0, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_11 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, 0, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S512x2x7168 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S512x2x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S512x2x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x2x1024 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S256x2x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x3072 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S512x2x1024 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 2 → Memref sig .tc .vmem S1x512x1024 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]
-- ==== PromptReferenceIdeal.lean ====
abbrev S16x2048x1024 : Shape := ⟨3, ![16, 2048, 1024]⟩
abbrev S16x2048x512 : Shape := ⟨3, ![16, 2048, 512]⟩
abbrev S16x256x1024 : Shape := ⟨3, ![16, 256, 1024]⟩
abbrev S1x1024 : Shape := ⟨2, ![1, 1024]⟩
abbrev S1x1024x7168 : Shape := ⟨3, ![1, 1024, 7168]⟩
abbrev S1x4x256x256 : Shape := ⟨4, ![1, 4, 256, 256]⟩
abbrev S1x1024x1024 : Shape := ⟨3, ![1, 1024, 1024]⟩
abbrev S1x512x1024 : Shape := ⟨3, ![1, 512, 1024]⟩
abbrev S1x3072 : Shape := ⟨2, ![1, 3072]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S1024x7168 : Shape := ⟨2, ![1024, 7168]⟩
abbrev S16x2048x7168 : Shape := ⟨3, ![16, 2048, 7168]⟩
abbrev S16x2048x3072 : Shape := ⟨3, ![16, 2048, 3072]⟩
abbrev S3072 : Shape := ⟨1, ![3072]⟩
abbrev S1x1x3072 : Shape := ⟨3, ![1, 1, 3072]⟩
abbrev S4x256x256 : Shape := ⟨3, ![4, 256, 256]⟩
abbrev S16x2048x4x256 : Shape := ⟨4, ![16, 2048, 4, 256]⟩
abbrev S16x1x4x256 : Shape := ⟨4, ![16, 1, 4, 256]⟩
abbrev S16x2049x4x256 : Shape := ⟨4, ![16, 2049, 4, 256]⟩
abbrev S2048 : Shape := ⟨1, ![2048]⟩
abbrev S1x2048x1 : Shape := ⟨3, ![1, 2048, 1]⟩
abbrev S16x2049x1x256 : Shape := ⟨4, ![16, 2049, 1, 256]⟩
abbrev S16x2049x256 : Shape := ⟨3, ![16, 2049, 256]⟩
abbrev S2048x1 : Shape := ⟨2, ![2048, 1]⟩
abbrev S1 : Shape := ⟨1, ![1]⟩
abbrev S1x1 : Shape := ⟨2, ![1, 1]⟩
abbrev S16x2048x256 : Shape := ⟨3, ![16, 2048, 256]⟩
abbrev S16x2048x1x256 : Shape := ⟨4, ![16, 2048, 1, 256]⟩
abbrev S4x256x16x2048 : Shape := ⟨4, ![4, 256, 16, 2048]⟩
abbrev S1024x1024 : Shape := ⟨2, ![1024, 1024]⟩
abbrev S512x1024 : Shape := ⟨2, ![512, 1024]⟩
abbrev S16x256x512 : Shape := ⟨3, ![16, 256, 512]⟩
abbrev S16x2048x4x128 : Shape := ⟨4, ![16, 2048, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 499
  | .vmem => 0
  | .smem => 0
  | _ => 0

abbrev hbmTy0_0 (i : Nat) : BufTy := match i % 128 with
  | 0 => ⟨S16x2048x1024, .f32⟩
  | 1 => ⟨S16x2048x512, .bf16⟩
  | 2 => ⟨S16x256x1024, .f32⟩
  | 3 => ⟨S1x1024, .f32⟩
  | 4 => ⟨S1x1024, .f32⟩
  | 5 => ⟨S1x1024x7168, .f32⟩
  | 6 => ⟨S1x4x256x256, .f32⟩
  | 7 => ⟨S1x1024, .f32⟩
  | 8 => ⟨S1x1024x1024, .f32⟩
  | 9 => ⟨S1x1024x1024, .f32⟩
  | 10 => ⟨S1x512x1024, .f32⟩
  | 11 => ⟨S1x512x1024, .f32⟩
  | 12 => ⟨S1x3072, .f32⟩
  | 13 => ⟨S1x1024x1024, .f32⟩
  | 14 => ⟨S1024, .f32⟩
  | 15 => ⟨S1024, .f32⟩
  | 16 => ⟨S16x2048x1024, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S_, .f32⟩
  | 24 => ⟨S16x2048x1, .f32⟩
  | 25 => ⟨S16x2048x1, .f32⟩
  | 26 => ⟨S16x2048x1, .f32⟩
  | 27 => ⟨S16x2048x1024, .f32⟩
  | 28 => ⟨S16x2048x1024, .f32⟩
  | 29 => ⟨S1x1x1024, .f32⟩
  | 30 => ⟨S16x2048x1024, .f32⟩
  | 31 => ⟨S16x2048x1024, .f32⟩
  | 32 => ⟨S1024, .f32⟩
  | 33 => ⟨S16x256x1024, .f32⟩
  | 34 => ⟨S_, .f32⟩
  | 35 => ⟨S16x256, .f32⟩
  | 36 => ⟨S16x256x1, .f32⟩
  | 37 => ⟨S_, .f32⟩
  | 38 => ⟨S16x256x1, .f32⟩
  | 39 => ⟨S16x256x1, .f32⟩
  | 40 => ⟨S_, .f32⟩
  | 41 => ⟨S16x256x1, .f32⟩
  | 42 => ⟨S16x256x1, .f32⟩
  | 43 => ⟨S16x256x1, .f32⟩
  | 44 => ⟨S16x256x1024, .f32⟩
  | 45 => ⟨S16x256x1024, .f32⟩
  | 46 => ⟨S1x1x1024, .f32⟩
  | 47 => ⟨S16x256x1024, .f32⟩
  | 48 => ⟨S16x256x1024, .f32⟩
  | 49 => ⟨S1024x7168, .f32⟩
  | 50 => ⟨S16x2048x7168, .f32⟩
  | 51 => ⟨S16x2048x1024, .f32⟩
  | 52 => ⟨S16x2048x1024, .f32⟩
  | 53 => ⟨S16x2048x512, .f32⟩
  | 54 => ⟨S16x2048x512, .f32⟩
  | 55 => ⟨S16x2048x512, .f32⟩
  | 56 => ⟨S16x2048x512, .f32⟩
  | 57 => ⟨S16x2048x3072, .f32⟩
  | 58 => ⟨S3072, .f32⟩
  | 59 => ⟨S1x1x3072, .f32⟩
  | 60 => ⟨S16x2048x3072, .f32⟩
  | 61 => ⟨S16x2048x3072, .f32⟩
  | 62 => ⟨S16x2048x3072, .f32⟩
  | 63 => ⟨S16x2048x3072, .f32⟩
  | 64 => ⟨S_, .f32⟩
  | 65 => ⟨S16x2048x3072, .f32⟩
  | 66 => ⟨S16x2048x3072, .f32⟩
  | 67 => ⟨S_, .f32⟩
  | 68 => ⟨S16x2048x3072, .f32⟩
  | 69 => ⟨S16x2048x3072, .f32⟩
  | 70 => ⟨S16x2048x1024, .f32⟩
  | 71 => ⟨S16x2048x1024, .f32⟩
  | 72 => ⟨S16x2048x1024, .f32⟩
  | 73 => ⟨S4x256x256, .f32⟩
  | 74 => ⟨S1024, .f32⟩
  | 75 => ⟨S16x2048x4x256, .f32⟩
  | 76 => ⟨S_, .f32⟩
  | 77 => ⟨S16x1x4x256, .f32⟩
  | 78 => ⟨S_, .f32⟩
  | 79 => ⟨S_, .f32⟩
  | 80 => ⟨S16x2048x4x256, .f32⟩
  | 81 => ⟨S16x2049x4x256, .f32⟩
  | 82 => ⟨S2048, .i32⟩
  | 83 => ⟨S_, .i32⟩
  | 84 => ⟨S2048, .i32⟩
  | 85 => ⟨S2048, .i32⟩
  | 86 => ⟨S_, .i32⟩
  | 87 => ⟨S_, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i32⟩
  | 94 => ⟨S_, .i32⟩
  | 95 => ⟨S2048, .i32⟩
  | 96 => ⟨S2048, .i32⟩
  | 97 => ⟨S_, .i32⟩
  | 98 => ⟨S_, .i32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S2048, .i32⟩
  | 106 => ⟨S2048, .f32⟩
  | 107 => ⟨S1x2048x1, .f32⟩
  | 108 => ⟨S16x2049x1x256, .f32⟩
  | 109 => ⟨S16x2049x256, .f32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S1, .i32⟩
  | 119 => ⟨S_, .i32⟩
  | 120 => ⟨S2048x1, .i32⟩
  | 121 => ⟨S2048x1, .i1⟩
  | 122 => ⟨S1x1, .i32⟩
  | 123 => ⟨S2048x1, .i32⟩
  | 124 => ⟨S2048x1, .i1⟩
  | 125 => ⟨S2048x1, .i1⟩
  | 126 => ⟨S_, .i1⟩
  | 127 => ⟨S2048, .i1⟩
  | _ => ⟨S16x2048x1024, .f32⟩

abbrev hbmTy0_1 (i : Nat) : BufTy := match i % 128 with
  | 0 => ⟨S16x2048x256, .f32⟩
  | 1 => ⟨S16x2048x256, .i1⟩
  | 2 => ⟨S_, .f32⟩
  | 3 => ⟨S16x2048x256, .f32⟩
  | 4 => ⟨S16x2048x256, .f32⟩
  | 5 => ⟨S_, .i32⟩
  | 6 => ⟨S2048, .i32⟩
  | 7 => ⟨S2048, .i1⟩
  | 8 => ⟨S_, .i32⟩
  | 9 => ⟨S2048, .i32⟩
  | 10 => ⟨S2048, .i32⟩
  | 11 => ⟨S2048, .i32⟩
  | 12 => ⟨S2048x1, .i32⟩
  | 13 => ⟨S1, .i32⟩
  | 14 => ⟨S_, .i32⟩
  | 15 => ⟨S2048x1, .i32⟩
  | 16 => ⟨S2048x1, .i1⟩
  | 17 => ⟨S1x1, .i32⟩
  | 18 => ⟨S2048x1, .i32⟩
  | 19 => ⟨S2048x1, .i1⟩
  | 20 => ⟨S2048x1, .i1⟩
  | 21 => ⟨S_, .i1⟩
  | 22 => ⟨S2048, .i1⟩
  | 23 => ⟨S16x2048x256, .f32⟩
  | 24 => ⟨S16x2048x256, .i1⟩
  | 25 => ⟨S_, .f32⟩
  | 26 => ⟨S16x2048x256, .f32⟩
  | 27 => ⟨S16x2048x256, .f32⟩
  | 28 => ⟨S16x2048x256, .f32⟩
  | 29 => ⟨S16x2048x256, .f32⟩
  | 30 => ⟨S16x2048x256, .f32⟩
  | 31 => ⟨S16x2048x1x256, .f32⟩
  | 32 => ⟨S16x2048x256, .f32⟩
  | 33 => ⟨S16x2048x256, .f32⟩
  | 34 => ⟨S_, .i32⟩
  | 35 => ⟨S2048, .i32⟩
  | 36 => ⟨S2048, .i32⟩
  | 37 => ⟨S_, .i32⟩
  | 38 => ⟨S_, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S_, .i32⟩
  | 49 => ⟨S_, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .i32⟩
  | 57 => ⟨S2048, .f32⟩
  | 58 => ⟨S1x2048x1, .f32⟩
  | 59 => ⟨S16x2049x1x256, .f32⟩
  | 60 => ⟨S16x2049x256, .f32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S2048x1, .i32⟩
  | 69 => ⟨S1, .i32⟩
  | 70 => ⟨S_, .i32⟩
  | 71 => ⟨S2048x1, .i32⟩
  | 72 => ⟨S2048x1, .i1⟩
  | 73 => ⟨S1x1, .i32⟩
  | 74 => ⟨S2048x1, .i32⟩
  | 75 => ⟨S2048x1, .i1⟩
  | 76 => ⟨S2048x1, .i1⟩
  | 77 => ⟨S_, .i1⟩
  | 78 => ⟨S2048, .i1⟩
  | 79 => ⟨S16x2048x256, .f32⟩
  | 80 => ⟨S16x2048x256, .i1⟩
  | 81 => ⟨S_, .f32⟩
  | 82 => ⟨S16x2048x256, .f32⟩
  | 83 => ⟨S16x2048x256, .f32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S1, .i32⟩
  | 93 => ⟨S_, .i32⟩
  | 94 => ⟨S2048x1, .i32⟩
  | 95 => ⟨S2048x1, .i1⟩
  | 96 => ⟨S1x1, .i32⟩
  | 97 => ⟨S2048x1, .i32⟩
  | 98 => ⟨S2048x1, .i1⟩
  | 99 => ⟨S2048x1, .i1⟩
  | 100 => ⟨S_, .i1⟩
  | 101 => ⟨S2048, .i1⟩
  | 102 => ⟨S16x2048x256, .f32⟩
  | 103 => ⟨S16x2048x256, .i1⟩
  | 104 => ⟨S_, .f32⟩
  | 105 => ⟨S16x2048x256, .f32⟩
  | 106 => ⟨S16x2048x256, .f32⟩
  | 107 => ⟨S16x2048x256, .f32⟩
  | 108 => ⟨S16x2048x256, .f32⟩
  | 109 => ⟨S16x2048x256, .f32⟩
  | 110 => ⟨S16x2048x1x256, .f32⟩
  | 111 => ⟨S16x2048x256, .f32⟩
  | 112 => ⟨S16x2048x256, .f32⟩
  | 113 => ⟨S_, .i32⟩
  | 114 => ⟨S2048, .i32⟩
  | 115 => ⟨S2048, .i32⟩
  | 116 => ⟨S_, .i32⟩
  | 117 => ⟨S_, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S16x2048x1024, .f32⟩

abbrev hbmTy0_2 (i : Nat) : BufTy := match i % 128 with
  | 0 => ⟨S_, .i32⟩
  | 1 => ⟨S_, .i32⟩
  | 2 => ⟨S2048, .i32⟩
  | 3 => ⟨S2048, .i32⟩
  | 4 => ⟨S_, .i32⟩
  | 5 => ⟨S2048, .i32⟩
  | 6 => ⟨S2048, .i32⟩
  | 7 => ⟨S2048, .i32⟩
  | 8 => ⟨S2048, .f32⟩
  | 9 => ⟨S1x2048x1, .f32⟩
  | 10 => ⟨S16x2049x1x256, .f32⟩
  | 11 => ⟨S16x2049x256, .f32⟩
  | 12 => ⟨S_, .i32⟩
  | 13 => ⟨S2048, .i32⟩
  | 14 => ⟨S2048, .i1⟩
  | 15 => ⟨S_, .i32⟩
  | 16 => ⟨S2048, .i32⟩
  | 17 => ⟨S2048, .i32⟩
  | 18 => ⟨S2048, .i32⟩
  | 19 => ⟨S2048x1, .i32⟩
  | 20 => ⟨S1, .i32⟩
  | 21 => ⟨S_, .i32⟩
  | 22 => ⟨S2048x1, .i32⟩
  | 23 => ⟨S2048x1, .i1⟩
  | 24 => ⟨S1x1, .i32⟩
  | 25 => ⟨S2048x1, .i32⟩
  | 26 => ⟨S2048x1, .i1⟩
  | 27 => ⟨S2048x1, .i1⟩
  | 28 => ⟨S_, .i1⟩
  | 29 => ⟨S2048, .i1⟩
  | 30 => ⟨S16x2048x256, .f32⟩
  | 31 => ⟨S16x2048x256, .i1⟩
  | 32 => ⟨S_, .f32⟩
  | 33 => ⟨S16x2048x256, .f32⟩
  | 34 => ⟨S16x2048x256, .f32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S1, .i32⟩
  | 44 => ⟨S_, .i32⟩
  | 45 => ⟨S2048x1, .i32⟩
  | 46 => ⟨S2048x1, .i1⟩
  | 47 => ⟨S1x1, .i32⟩
  | 48 => ⟨S2048x1, .i32⟩
  | 49 => ⟨S2048x1, .i1⟩
  | 50 => ⟨S2048x1, .i1⟩
  | 51 => ⟨S_, .i1⟩
  | 52 => ⟨S2048, .i1⟩
  | 53 => ⟨S16x2048x256, .f32⟩
  | 54 => ⟨S16x2048x256, .i1⟩
  | 55 => ⟨S_, .f32⟩
  | 56 => ⟨S16x2048x256, .f32⟩
  | 57 => ⟨S16x2048x256, .f32⟩
  | 58 => ⟨S16x2048x256, .f32⟩
  | 59 => ⟨S16x2048x256, .f32⟩
  | 60 => ⟨S16x2048x256, .f32⟩
  | 61 => ⟨S16x2048x1x256, .f32⟩
  | 62 => ⟨S16x2048x256, .f32⟩
  | 63 => ⟨S16x2048x256, .f32⟩
  | 64 => ⟨S_, .i32⟩
  | 65 => ⟨S2048, .i32⟩
  | 66 => ⟨S2048, .i32⟩
  | 67 => ⟨S_, .i32⟩
  | 68 => ⟨S_, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S_, .i32⟩
  | 79 => ⟨S_, .i32⟩
  | 80 => ⟨S_, .i32⟩
  | 81 => ⟨S2048, .i32⟩
  | 82 => ⟨S2048, .i32⟩
  | 83 => ⟨S_, .i32⟩
  | 84 => ⟨S2048, .i32⟩
  | 85 => ⟨S2048, .i32⟩
  | 86 => ⟨S2048, .i32⟩
  | 87 => ⟨S2048, .f32⟩
  | 88 => ⟨S1x2048x1, .f32⟩
  | 89 => ⟨S16x2049x1x256, .f32⟩
  | 90 => ⟨S16x2049x256, .f32⟩
  | 91 => ⟨S_, .i32⟩
  | 92 => ⟨S2048, .i32⟩
  | 93 => ⟨S2048, .i1⟩
  | 94 => ⟨S_, .i32⟩
  | 95 => ⟨S2048, .i32⟩
  | 96 => ⟨S2048, .i32⟩
  | 97 => ⟨S2048, .i32⟩
  | 98 => ⟨S2048x1, .i32⟩
  | 99 => ⟨S1, .i32⟩
  | 100 => ⟨S_, .i32⟩
  | 101 => ⟨S2048x1, .i32⟩
  | 102 => ⟨S2048x1, .i1⟩
  | 103 => ⟨S1x1, .i32⟩
  | 104 => ⟨S2048x1, .i32⟩
  | 105 => ⟨S2048x1, .i1⟩
  | 106 => ⟨S2048x1, .i1⟩
  | 107 => ⟨S_, .i1⟩
  | 108 => ⟨S2048, .i1⟩
  | 109 => ⟨S16x2048x256, .f32⟩
  | 110 => ⟨S16x2048x256, .i1⟩
  | 111 => ⟨S_, .f32⟩
  | 112 => ⟨S16x2048x256, .f32⟩
  | 113 => ⟨S16x2048x256, .f32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S2048x1, .i32⟩
  | 122 => ⟨S1, .i32⟩
  | 123 => ⟨S_, .i32⟩
  | 124 => ⟨S2048x1, .i32⟩
  | 125 => ⟨S2048x1, .i1⟩
  | 126 => ⟨S1x1, .i32⟩
  | 127 => ⟨S2048x1, .i32⟩
  | _ => ⟨S16x2048x1024, .f32⟩

abbrev hbmTy0_3 (i : Nat) : BufTy := match i % 128 with
  | 0 => ⟨S2048x1, .i1⟩
  | 1 => ⟨S2048x1, .i1⟩
  | 2 => ⟨S_, .i1⟩
  | 3 => ⟨S2048, .i1⟩
  | 4 => ⟨S16x2048x256, .f32⟩
  | 5 => ⟨S16x2048x256, .i1⟩
  | 6 => ⟨S_, .f32⟩
  | 7 => ⟨S16x2048x256, .f32⟩
  | 8 => ⟨S16x2048x256, .f32⟩
  | 9 => ⟨S16x2048x256, .f32⟩
  | 10 => ⟨S16x2048x256, .f32⟩
  | 11 => ⟨S16x2048x256, .f32⟩
  | 12 => ⟨S16x2048x1x256, .f32⟩
  | 13 => ⟨S16x2048x256, .f32⟩
  | 14 => ⟨S16x2048x256, .f32⟩
  | 15 => ⟨S16x2048x1x256, .f32⟩
  | 16 => ⟨S16x2048x1x256, .f32⟩
  | 17 => ⟨S16x2048x1x256, .f32⟩
  | 18 => ⟨S16x2048x1x256, .f32⟩
  | 19 => ⟨S16x2048x4x256, .f32⟩
  | 20 => ⟨S4x256x16x2048, .f32⟩
  | 21 => ⟨S16x2048x4x256, .f32⟩
  | 22 => ⟨S16x2048x1024, .f32⟩
  | 23 => ⟨S1x1x1024, .f32⟩
  | 24 => ⟨S16x2048x1024, .f32⟩
  | 25 => ⟨S16x2048x1024, .f32⟩
  | 26 => ⟨S16x2048x1024, .f32⟩
  | 27 => ⟨S16x2048x1024, .f32⟩
  | 28 => ⟨S_, .f32⟩
  | 29 => ⟨S16x2048x1024, .f32⟩
  | 30 => ⟨S16x2048x1024, .f32⟩
  | 31 => ⟨S_, .f32⟩
  | 32 => ⟨S16x2048x1024, .f32⟩
  | 33 => ⟨S16x2048x1024, .f32⟩
  | 34 => ⟨S16x2048x1024, .f32⟩
  | 35 => ⟨S16x2048x1024, .f32⟩
  | 36 => ⟨S1024x1024, .f32⟩
  | 37 => ⟨S16x2048x1024, .f32⟩
  | 38 => ⟨S16x2048x512, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S_, .f32⟩
  | 45 => ⟨S16x2048x512, .f32⟩
  | 46 => ⟨S16x2048x512, .f32⟩
  | 47 => ⟨S16x2048x512, .f32⟩
  | 48 => ⟨S16x2048x512, .f32⟩
  | 49 => ⟨S512x1024, .f32⟩
  | 50 => ⟨S16x2048x1024, .f32⟩
  | 51 => ⟨S1024x1024, .f32⟩
  | 52 => ⟨S16x256x1024, .f32⟩
  | 53 => ⟨S16x256x512, .f32⟩
  | 54 => ⟨S16x256x512, .f32⟩
  | 55 => ⟨S16x2048x4x128, .f32⟩
  | 56 => ⟨S16x256x4x128, .f32⟩
  | 57 => ⟨S16x256x4x128, .f32⟩
  | 58 => ⟨S16x4x2048x256, .f32⟩
  | 59 => ⟨S_, .f32⟩
  | 60 => ⟨S16x4x2048x256, .f32⟩
  | 61 => ⟨S16x4x2048x256, .f32⟩
  | 62 => ⟨S_, .f32⟩
  | 63 => ⟨S16x4x2048, .f32⟩
  | 64 => ⟨S_, .f32⟩
  | 65 => ⟨S16x4x2048, .f32⟩
  | 66 => ⟨S16x4x2048, .f32⟩
  | 67 => ⟨S16x4x2048x1, .f32⟩
  | 68 => ⟨S16x4x2048x256, .f32⟩
  | 69 => ⟨S16x4x2048x256, .f32⟩
  | 70 => ⟨S16x4x2048x256, .f32⟩
  | 71 => ⟨S_, .f32⟩
  | 72 => ⟨S16x4x2048, .f32⟩
  | 73 => ⟨S16x4x2048x1, .f32⟩
  | 74 => ⟨S16x4x2048x256, .f32⟩
  | 75 => ⟨S16x4x2048x256, .f32⟩
  | 76 => ⟨S16x4x128x2048, .f32⟩
  | 77 => ⟨S16x2048x4x128, .f32⟩
  | 78 => ⟨S16x2048x512, .f32⟩
  | 79 => ⟨S16x2048x512, .f32⟩
  | 80 => ⟨S16x2048x512, .f32⟩
  | 81 => ⟨S_, .f32⟩
  | 82 => ⟨S16x2048x512, .f32⟩
  | 83 => ⟨S16x2048x512, .f32⟩
  | 84 => ⟨S_, .f32⟩
  | 85 => ⟨S16x2048x512, .f32⟩
  | 86 => ⟨S16x2048x512, .f32⟩
  | 87 => ⟨S16x2048x512, .f32⟩
  | 88 => ⟨S16x2048x512, .f32⟩
  | 89 => ⟨S512x1024, .f32⟩
  | 90 => ⟨S16x2048x1024, .f32⟩
  | 91 => ⟨S16x2048x1024, .f32⟩
  | 92 => ⟨S16x2048x1024, .f32⟩
  | 93 => ⟨S16x2048x1024, .f32⟩
  | 94 => ⟨S16x2048x1024, .f32⟩
  | 95 => ⟨S16x2048x1024, .f32⟩
  | 96 => ⟨S1024x1024, .f32⟩
  | 97 => ⟨S16x2048x1024, .f32⟩
  | 98 => ⟨S16x2048x1024, .f32⟩
  | 99 => ⟨S16x2048x1024, .f32⟩
  | 100 => ⟨S_, .f32⟩
  | 101 => ⟨S16x2048, .f32⟩
  | 102 => ⟨S16x2048x1, .f32⟩
  | 103 => ⟨S_, .f32⟩
  | 104 => ⟨S16x2048x1, .f32⟩
  | 105 => ⟨S16x2048x1, .f32⟩
  | 106 => ⟨S_, .f32⟩
  | 107 => ⟨S16x2048x1, .f32⟩
  | 108 => ⟨S16x2048x1, .f32⟩
  | 109 => ⟨S16x2048x1, .f32⟩
  | 110 => ⟨S16x2048x1024, .f32⟩
  | 111 => ⟨S16x2048x1024, .f32⟩
  | 112 => ⟨S1x1x1024, .f32⟩
  | 113 => ⟨S16x2048x1024, .f32⟩
  | 114 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_call0_call0_cst : Ref sig .tc := ⟨.hbm, 78, rfl⟩
abbrev main_call0_call0_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c : Ref sig .tc := ⟨.hbm, 83, rfl⟩
abbrev main_v57 : Ref sig .tc := ⟨.hbm, 84, rfl⟩
abbrev main_v58 : Ref sig .tc := ⟨.hbm, 85, rfl⟩
abbrev main_c_8 : Ref sig .tc := ⟨.hbm, 86, rfl⟩
abbrev main_c_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v59 : Ref sig .tc := ⟨.hbm, 93, rfl⟩
abbrev main_c_10 : Ref sig .tc := ⟨.hbm, 94, rfl⟩
abbrev main_v60 : Ref sig .tc := ⟨.hbm, 95, rfl⟩
abbrev main_v61 : Ref sig .tc := ⟨.hbm, 96, rfl⟩
abbrev main_c_11 : Ref sig .tc := ⟨.hbm, 97, rfl⟩
abbrev main_c_12 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v68 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_c_1 : Ref sig .tc := ⟨.hbm, 141, rfl⟩
abbrev main_call4_c_2 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_3 : Ref sig .tc := ⟨.hbm, 149, rfl⟩
abbrev main_call4_v12 : Ref sig .tc := ⟨.hbm, 150, rfl⟩
abbrev main_call4_v13 : Ref sig .tc := ⟨.hbm, 151, rfl⟩
abbrev main_call4_v14 : Ref sig .tc := ⟨.hbm, 152, rfl⟩
abbrev main_call4_cst : Ref sig .tc := ⟨.hbm, 153, rfl⟩
abbrev main_call4_v15 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_c_13 : Ref sig .tc := ⟨.hbm, 162, rfl⟩
abbrev main_v76 : Ref sig .tc := ⟨.hbm, 163, rfl⟩
abbrev main_v77 : Ref sig .tc := ⟨.hbm, 164, rfl⟩
abbrev main_c_14 : Ref sig .tc := ⟨.hbm, 165, rfl⟩
abbrev main_c_15 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_v78 : Ref sig .tc := ⟨.hbm, 172, rfl⟩
abbrev main_c_16 : Ref sig .tc := ⟨.hbm, 173, rfl⟩
abbrev main_v79 : Ref sig .tc := ⟨.hbm, 174, rfl⟩
abbrev main_v80 : Ref sig .tc := ⟨.hbm, 175, rfl⟩
abbrev main_c_17 : Ref sig .tc := ⟨.hbm, 176, rfl⟩
abbrev main_c_18 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_v14 : Ref sig .tc := ⟨.hbm, 208, rfl⟩
abbrev main_call7_cst : Ref sig .tc := ⟨.hbm, 209, rfl⟩
abbrev main_call7_v15 : Ref sig .tc := ⟨.hbm, 210, rfl⟩
abbrev main_v87 : Ref sig .tc := ⟨.hbm, 211, rfl⟩
abbrev main_call8_c : Ref sig .tc := ⟨.hbm, 212, rfl⟩
abbrev main_call8_v0 : Ref sig .tc := ⟨.hbm, 213, rfl⟩
abbrev main_call8_v1 : Ref sig .tc := ⟨.hbm, 214, rfl⟩
abbrev main_call8_c_0 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_call8_v5 : Ref sig .tc := ⟨.hbm, 219, rfl⟩
abbrev main_call8_c_1 : Ref sig .tc := ⟨.hbm, 220, rfl⟩
abbrev main_call8_c_2 : Ref sig .tc := ⟨.hbm, 221, rfl⟩
abbrev main_call8_v6 : Ref sig .tc := ⟨.hbm, 222, rfl⟩
abbrev main_call8_v7 : Ref sig .tc := ⟨.hbm, 223, rfl⟩
abbrev main_call8_v8 : Ref sig .tc := ⟨.hbm, 224, rfl⟩
abbrev main_call8_v9 : Ref sig .tc := ⟨.hbm, 225, rfl⟩
abbrev main_call8_v10 : Ref sig .tc := ⟨.hbm, 226, rfl⟩
abbrev main_call8_v11 : Ref sig .tc := ⟨.hbm, 227, rfl⟩
abbrev main_call8_c_3 : Ref sig .tc := ⟨.hbm, 228, rfl⟩
abbrev main_call8_v12 : Ref sig .tc := ⟨.hbm, 229, rfl⟩
abbrev main_call8_v13 : Ref sig .tc := ⟨.hbm, 230, rfl⟩
abbrev main_call8_v14 : Ref sig .tc := ⟨.hbm, 231, rfl⟩
abbrev main_call8_cst : Ref sig .tc := ⟨.hbm, 232, rfl⟩
abbrev main_call8_v15 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_c_19 : Ref sig .tc := ⟨.hbm, 241, rfl⟩
abbrev main_v95 : Ref sig .tc := ⟨.hbm, 242, rfl⟩
abbrev main_v96 : Ref sig .tc := ⟨.hbm, 243, rfl⟩
abbrev main_c_20 : Ref sig .tc := ⟨.hbm, 244, rfl⟩
abbrev main_c_21 : Ref sig .tc := ⟨.hbm, 245, rfl⟩
abbrev main_call9_v0 : Ref sig .tc := ⟨.hbm, 246, rfl⟩
abbrev main_call9_v1 : Ref sig .tc := ⟨.hbm, 247, rfl⟩
abbrev main_call9_v2 : Ref sig .tc := ⟨.hbm, 248, rfl⟩
abbrev main_call9_v3 : Ref sig .tc := ⟨.hbm, 249, rfl⟩
abbrev main_call9_v4 : Ref sig .tc := ⟨.hbm, 250, rfl⟩
abbrev main_v97 : Ref sig .tc := ⟨.hbm, 251, rfl⟩
abbrev main_c_22 : Ref sig .tc := ⟨.hbm, 252, rfl⟩
abbrev main_v98 : Ref sig .tc := ⟨.hbm, 253, rfl⟩
abbrev main_v99 : Ref sig .tc := ⟨.hbm, 254, rfl⟩
abbrev main_c_23 : Ref sig .tc := ⟨.hbm, 255, rfl⟩
abbrev main_c_24 : Ref sig .tc := ⟨.hbm, 256, rfl⟩
abbrev main_call10_v0 : Ref sig .tc := ⟨.hbm, 257, rfl⟩
abbrev main_call10_v1 : Ref sig .tc := ⟨.hbm, 258, rfl⟩
abbrev main_call10_v2 : Ref sig .tc := ⟨.hbm, 259, rfl⟩
abbrev main_call10_v3 : Ref sig .tc := ⟨.hbm, 260, rfl⟩
abbrev main_call10_v4 : Ref sig .tc := ⟨.hbm, 261, rfl⟩
abbrev main_v100 : Ref sig .tc := ⟨.hbm, 262, rfl⟩
abbrev main_v101 : Ref sig .tc := ⟨.hbm, 263, rfl⟩
abbrev main_v102 : Ref sig .tc := ⟨.hbm, 264, rfl⟩
abbrev main_v103 : Ref sig .tc := ⟨.hbm, 265, rfl⟩
abbrev main_v104 : Ref sig .tc := ⟨.hbm, 266, rfl⟩
abbrev main_v105 : Ref sig .tc := ⟨.hbm, 267, rfl⟩
abbrev main_call11_c : Ref sig .tc := ⟨.hbm, 268, rfl⟩
abbrev main_call11_v0 : Ref sig .tc := ⟨.hbm, 269, rfl⟩
abbrev main_call11_v1 : Ref sig .tc := ⟨.hbm, 270, rfl⟩
abbrev main_call11_c_0 : Ref sig .tc := ⟨.hbm, 271, rfl⟩
abbrev main_call11_v2 : Ref sig .tc := ⟨.hbm, 272, rfl⟩
abbrev main_call11_v3 : Ref sig .tc := ⟨.hbm, 273, rfl⟩
abbrev main_call11_v4 : Ref sig .tc := ⟨.hbm, 274, rfl⟩
abbrev main_call11_v5 : Ref sig .tc := ⟨.hbm, 275, rfl⟩
abbrev main_call11_c_1 : Ref sig .tc := ⟨.hbm, 276, rfl⟩
abbrev main_call11_c_2 : Ref sig .tc := ⟨.hbm, 277, rfl⟩
abbrev main_call11_v6 : Ref sig .tc := ⟨.hbm, 278, rfl⟩
abbrev main_call11_v7 : Ref sig .tc := ⟨.hbm, 279, rfl⟩
abbrev main_call11_v8 : Ref sig .tc := ⟨.hbm, 280, rfl⟩
abbrev main_call11_v9 : Ref sig .tc := ⟨.hbm, 281, rfl⟩
abbrev main_call11_v10 : Ref sig .tc := ⟨.hbm, 282, rfl⟩
abbrev main_call11_v11 : Ref sig .tc := ⟨.hbm, 283, rfl⟩
abbrev main_call11_c_3 : Ref sig .tc := ⟨.hbm, 284, rfl⟩
abbrev main_call11_v12 : Ref sig .tc := ⟨.hbm, 285, rfl⟩
abbrev main_call11_v13 : Ref sig .tc := ⟨.hbm, 286, rfl⟩
abbrev main_call11_v14 : Ref sig .tc := ⟨.hbm, 287, rfl⟩
abbrev main_call11_cst : Ref sig .tc := ⟨.hbm, 288, rfl⟩
abbrev main_call11_v15 : Ref sig .tc := ⟨.hbm, 289, rfl⟩
abbrev main_v106 : Ref sig .tc := ⟨.hbm, 290, rfl⟩
abbrev main_call12_c : Ref sig .tc := ⟨.hbm, 291, rfl⟩
abbrev main_call12_v0 : Ref sig .tc := ⟨.hbm, 292, rfl⟩
abbrev main_call12_v1 : Ref sig .tc := ⟨.hbm, 293, rfl⟩
abbrev main_call12_c_0 : Ref sig .tc := ⟨.hbm, 294, rfl⟩
abbrev main_call12_v2 : Ref sig .tc := ⟨.hbm, 295, rfl⟩
abbrev main_call12_v3 : Ref sig .tc := ⟨.hbm, 296, rfl⟩
abbrev main_call12_v4 : Ref sig .tc := ⟨.hbm, 297, rfl⟩
abbrev main_call12_v5 : Ref sig .tc := ⟨.hbm, 298, rfl⟩
abbrev main_call12_c_1 : Ref sig .tc := ⟨.hbm, 299, rfl⟩
abbrev main_call12_c_2 : Ref sig .tc := ⟨.hbm, 300, rfl⟩
abbrev main_call12_v6 : Ref sig .tc := ⟨.hbm, 301, rfl⟩
abbrev main_call12_v7 : Ref sig .tc := ⟨.hbm, 302, rfl⟩
abbrev main_call12_v8 : Ref sig .tc := ⟨.hbm, 303, rfl⟩
abbrev main_call12_v9 : Ref sig .tc := ⟨.hbm, 304, rfl⟩
abbrev main_call12_v10 : Ref sig .tc := ⟨.hbm, 305, rfl⟩
abbrev main_call12_v11 : Ref sig .tc := ⟨.hbm, 306, rfl⟩
abbrev main_call12_c_3 : Ref sig .tc := ⟨.hbm, 307, rfl⟩
abbrev main_call12_v12 : Ref sig .tc := ⟨.hbm, 308, rfl⟩
abbrev main_call12_v13 : Ref sig .tc := ⟨.hbm, 309, rfl⟩
abbrev main_call12_v14 : Ref sig .tc := ⟨.hbm, 310, rfl⟩
abbrev main_call12_cst : Ref sig .tc := ⟨.hbm, 311, rfl⟩
abbrev main_call12_v15 : Ref sig .tc := ⟨.hbm, 312, rfl⟩
abbrev main_v107 : Ref sig .tc := ⟨.hbm, 313, rfl⟩
abbrev main_v108 : Ref sig .tc := ⟨.hbm, 314, rfl⟩
abbrev main_v109 : Ref sig .tc := ⟨.hbm, 315, rfl⟩
abbrev main_v110 : Ref sig .tc := ⟨.hbm, 316, rfl⟩
abbrev main_v111 : Ref sig .tc := ⟨.hbm, 317, rfl⟩
abbrev main_v112 : Ref sig .tc := ⟨.hbm, 318, rfl⟩
abbrev main_v113 : Ref sig .tc := ⟨.hbm, 319, rfl⟩
abbrev main_c_25 : Ref sig .tc := ⟨.hbm, 320, rfl⟩
abbrev main_v114 : Ref sig .tc := ⟨.hbm, 321, rfl⟩
abbrev main_v115 : Ref sig .tc := ⟨.hbm, 322, rfl⟩
abbrev main_c_26 : Ref sig .tc := ⟨.hbm, 323, rfl⟩
abbrev main_c_27 : Ref sig .tc := ⟨.hbm, 324, rfl⟩
abbrev main_call13_v0 : Ref sig .tc := ⟨.hbm, 325, rfl⟩
abbrev main_call13_v1 : Ref sig .tc := ⟨.hbm, 326, rfl⟩
abbrev main_call13_v2 : Ref sig .tc := ⟨.hbm, 327, rfl⟩
abbrev main_call13_v3 : Ref sig .tc := ⟨.hbm, 328, rfl⟩
abbrev main_call13_v4 : Ref sig .tc := ⟨.hbm, 329, rfl⟩
abbrev main_v116 : Ref sig .tc := ⟨.hbm, 330, rfl⟩
abbrev main_c_28 : Ref sig .tc := ⟨.hbm, 331, rfl⟩
abbrev main_v117 : Ref sig .tc := ⟨.hbm, 332, rfl⟩
abbrev main_v118 : Ref sig .tc := ⟨.hbm, 333, rfl⟩
abbrev main_c_29 : Ref sig .tc := ⟨.hbm, 334, rfl⟩
abbrev main_c_30 : Ref sig .tc := ⟨.hbm, 335, rfl⟩
abbrev main_call14_v0 : Ref sig .tc := ⟨.hbm, 336, rfl⟩
abbrev main_call14_v1 : Ref sig .tc := ⟨.hbm, 337, rfl⟩
abbrev main_call14_v2 : Ref sig .tc := ⟨.hbm, 338, rfl⟩
abbrev main_call14_v3 : Ref sig .tc := ⟨.hbm, 339, rfl⟩
abbrev main_call14_v4 : Ref sig .tc := ⟨.hbm, 340, rfl⟩
abbrev main_v119 : Ref sig .tc := ⟨.hbm, 341, rfl⟩
abbrev main_v120 : Ref sig .tc := ⟨.hbm, 342, rfl⟩
abbrev main_v121 : Ref sig .tc := ⟨.hbm, 343, rfl⟩
abbrev main_v122 : Ref sig .tc := ⟨.hbm, 344, rfl⟩
abbrev main_v123 : Ref sig .tc := ⟨.hbm, 345, rfl⟩
abbrev main_v124 : Ref sig .tc := ⟨.hbm, 346, rfl⟩
abbrev main_call15_c : Ref sig .tc := ⟨.hbm, 347, rfl⟩
abbrev main_call15_v0 : Ref sig .tc := ⟨.hbm, 348, rfl⟩
abbrev main_call15_v1 : Ref sig .tc := ⟨.hbm, 349, rfl⟩
abbrev main_call15_c_0 : Ref sig .tc := ⟨.hbm, 350, rfl⟩
abbrev main_call15_v2 : Ref sig .tc := ⟨.hbm, 351, rfl⟩
abbrev main_call15_v3 : Ref sig .tc := ⟨.hbm, 352, rfl⟩
abbrev main_call15_v4 : Ref sig .tc := ⟨.hbm, 353, rfl⟩
abbrev main_call15_v5 : Ref sig .tc := ⟨.hbm, 354, rfl⟩
abbrev main_call15_c_1 : Ref sig .tc := ⟨.hbm, 355, rfl⟩
abbrev main_call15_c_2 : Ref sig .tc := ⟨.hbm, 356, rfl⟩
abbrev main_call15_v6 : Ref sig .tc := ⟨.hbm, 357, rfl⟩
abbrev main_call15_v7 : Ref sig .tc := ⟨.hbm, 358, rfl⟩
abbrev main_call15_v8 : Ref sig .tc := ⟨.hbm, 359, rfl⟩
abbrev main_call15_v9 : Ref sig .tc := ⟨.hbm, 360, rfl⟩
abbrev main_call15_v10 : Ref sig .tc := ⟨.hbm, 361, rfl⟩
abbrev main_call15_v11 : Ref sig .tc := ⟨.hbm, 362, rfl⟩
abbrev main_call15_c_3 : Ref sig .tc := ⟨.hbm, 363, rfl⟩
abbrev main_call15_v12 : Ref sig .tc := ⟨.hbm, 364, rfl⟩
abbrev main_call15_v13 : Ref sig .tc := ⟨.hbm, 365, rfl⟩
abbrev main_call15_v14 : Ref sig .tc := ⟨.hbm, 366, rfl⟩
abbrev main_call15_cst : Ref sig .tc := ⟨.hbm, 367, rfl⟩
abbrev main_call15_v15 : Ref sig .tc := ⟨.hbm, 368, rfl⟩
abbrev main_v125 : Ref sig .tc := ⟨.hbm, 369, rfl⟩
abbrev main_call16_c : Ref sig .tc := ⟨.hbm, 370, rfl⟩
abbrev main_call16_v0 : Ref sig .tc := ⟨.hbm, 371, rfl⟩
abbrev main_call16_v1 : Ref sig .tc := ⟨.hbm, 372, rfl⟩
abbrev main_call16_c_0 : Ref sig .tc := ⟨.hbm, 373, rfl⟩
abbrev main_call16_v2 : Ref sig .tc := ⟨.hbm, 374, rfl⟩
abbrev main_call16_v3 : Ref sig .tc := ⟨.hbm, 375, rfl⟩
abbrev main_call16_v4 : Ref sig .tc := ⟨.hbm, 376, rfl⟩
abbrev main_call16_v5 : Ref sig .tc := ⟨.hbm, 377, rfl⟩
abbrev main_call16_c_1 : Ref sig .tc := ⟨.hbm, 378, rfl⟩
abbrev main_call16_c_2 : Ref sig .tc := ⟨.hbm, 379, rfl⟩
abbrev main_call16_v6 : Ref sig .tc := ⟨.hbm, 380, rfl⟩
abbrev main_call16_v7 : Ref sig .tc := ⟨.hbm, 381, rfl⟩
abbrev main_call16_v8 : Ref sig .tc := ⟨.hbm, 382, rfl⟩
abbrev main_call16_v9 : Ref sig .tc := ⟨.hbm, 383, rfl⟩
abbrev main_call16_v10 : Ref sig .tc := ⟨.hbm, 384, rfl⟩
abbrev main_call16_v11 : Ref sig .tc := ⟨.hbm, 385, rfl⟩
abbrev main_call16_c_3 : Ref sig .tc := ⟨.hbm, 386, rfl⟩
abbrev main_call16_v12 : Ref sig .tc := ⟨.hbm, 387, rfl⟩
abbrev main_call16_v13 : Ref sig .tc := ⟨.hbm, 388, rfl⟩
abbrev main_call16_v14 : Ref sig .tc := ⟨.hbm, 389, rfl⟩
abbrev main_call16_cst : Ref sig .tc := ⟨.hbm, 390, rfl⟩
abbrev main_call16_v15 : Ref sig .tc := ⟨.hbm, 391, rfl⟩
abbrev main_v126 : Ref sig .tc := ⟨.hbm, 392, rfl⟩
abbrev main_v127 : Ref sig .tc := ⟨.hbm, 393, rfl⟩
abbrev main_v128 : Ref sig .tc := ⟨.hbm, 394, rfl⟩
abbrev main_v129 : Ref sig .tc := ⟨.hbm, 395, rfl⟩
abbrev main_v130 : Ref sig .tc := ⟨.hbm, 396, rfl⟩
abbrev main_v131 : Ref sig .tc := ⟨.hbm, 397, rfl⟩
abbrev main_v132 : Ref sig .tc := ⟨.hbm, 398, rfl⟩
abbrev main_v133 : Ref sig .tc := ⟨.hbm, 399, rfl⟩
abbrev main_v134 : Ref sig .tc := ⟨.hbm, 400, rfl⟩
abbrev main_v135 : Ref sig .tc := ⟨.hbm, 401, rfl⟩
abbrev main_v136 : Ref sig .tc := ⟨.hbm, 402, rfl⟩
abbrev main_v137 : Ref sig .tc := ⟨.hbm, 403, rfl⟩
abbrev main_v138 : Ref sig .tc := ⟨.hbm, 404, rfl⟩
abbrev main_v139 : Ref sig .tc := ⟨.hbm, 405, rfl⟩
abbrev main_v140 : Ref sig .tc := ⟨.hbm, 406, rfl⟩
abbrev main_v141 : Ref sig .tc := ⟨.hbm, 407, rfl⟩
abbrev main_v142 : Ref sig .tc := ⟨.hbm, 408, rfl⟩
abbrev main_v143 : Ref sig .tc := ⟨.hbm, 409, rfl⟩
abbrev main_call17_v0 : Ref sig .tc := ⟨.hbm, 410, rfl⟩
abbrev main_call17_v1 : Ref sig .tc := ⟨.hbm, 411, rfl⟩
abbrev main_call17_cst : Ref sig .tc := ⟨.hbm, 412, rfl⟩
abbrev main_call17_v2 : Ref sig .tc := ⟨.hbm, 413, rfl⟩
abbrev main_call17_v3 : Ref sig .tc := ⟨.hbm, 414, rfl⟩
abbrev main_call17_cst_0 : Ref sig .tc := ⟨.hbm, 415, rfl⟩
abbrev main_call17_v4 : Ref sig .tc := ⟨.hbm, 416, rfl⟩
abbrev main_call17_v5 : Ref sig .tc := ⟨.hbm, 417, rfl⟩
abbrev main_v144 : Ref sig .tc := ⟨.hbm, 418, rfl⟩
abbrev main_v145 : Ref sig .tc := ⟨.hbm, 419, rfl⟩
abbrev main_v146 : Ref sig .tc := ⟨.hbm, 420, rfl⟩
abbrev main_v147 : Ref sig .tc := ⟨.hbm, 421, rfl⟩
abbrev main_v148 : Ref sig .tc := ⟨.hbm, 422, rfl⟩
abbrev main_call18_v0 : Ref sig .tc := ⟨.hbm, 423, rfl⟩
abbrev main_call18_v1 : Ref sig .tc := ⟨.hbm, 424, rfl⟩
abbrev main_call18_cst : Ref sig .tc := ⟨.hbm, 425, rfl⟩
abbrev main_call18_v2 : Ref sig .tc := ⟨.hbm, 426, rfl⟩
abbrev main_call18_v3 : Ref sig .tc := ⟨.hbm, 427, rfl⟩
abbrev main_call18_cst_0 : Ref sig .tc := ⟨.hbm, 428, rfl⟩
abbrev main_call18_v4 : Ref sig .tc := ⟨.hbm, 429, rfl⟩
abbrev main_call18_v5 : Ref sig .tc := ⟨.hbm, 430, rfl⟩
abbrev main_v149 : Ref sig .tc := ⟨.hbm, 431, rfl⟩
abbrev main_v150 : Ref sig .tc := ⟨.hbm, 432, rfl⟩
abbrev main_v151 : Ref sig .tc := ⟨.hbm, 433, rfl⟩
abbrev main_v152 : Ref sig .tc := ⟨.hbm, 434, rfl⟩
abbrev main_v153 : Ref sig .tc := ⟨.hbm, 435, rfl⟩
abbrev main_v154 : Ref sig .tc := ⟨.hbm, 436, rfl⟩
abbrev main_v155 : Ref sig .tc := ⟨.hbm, 437, rfl⟩
abbrev main_v156 : Ref sig .tc := ⟨.hbm, 438, rfl⟩
abbrev main_v157 : Ref sig .tc := ⟨.hbm, 439, rfl⟩
abbrev main_v158 : Ref sig .tc := ⟨.hbm, 440, rfl⟩
abbrev main_v159 : Ref sig .tc := ⟨.hbm, 441, rfl⟩
abbrev main_v160 : Ref sig .tc := ⟨.hbm, 442, rfl⟩
abbrev main_cst_31 : Ref sig .tc := ⟨.hbm, 443, rfl⟩
abbrev main_v161 : Ref sig .tc := ⟨.hbm, 444, rfl⟩
abbrev main_v162 : Ref sig .tc := ⟨.hbm, 445, rfl⟩
abbrev main_cst_32 : Ref sig .tc := ⟨.hbm, 446, rfl⟩
abbrev main_v163 : Ref sig .tc := ⟨.hbm, 447, rfl⟩
abbrev main_cst_33 : Ref sig .tc := ⟨.hbm, 448, rfl⟩
abbrev main_v164 : Ref sig .tc := ⟨.hbm, 449, rfl⟩
abbrev main_v165 : Ref sig .tc := ⟨.hbm, 450, rfl⟩
abbrev main_v166 : Ref sig .tc := ⟨.hbm, 451, rfl⟩
abbrev main_v167 : Ref sig .tc := ⟨.hbm, 452, rfl⟩
abbrev main_v168 : Ref sig .tc := ⟨.hbm, 453, rfl⟩
abbrev main_v169 : Ref sig .tc := ⟨.hbm, 454, rfl⟩
abbrev main_cst_34 : Ref sig .tc := ⟨.hbm, 455, rfl⟩
abbrev main_v170 : Ref sig .tc := ⟨.hbm, 456, rfl⟩
abbrev main_v171 : Ref sig .tc := ⟨.hbm, 457, rfl⟩
abbrev main_v172 : Ref sig .tc := ⟨.hbm, 458, rfl⟩
abbrev main_v173 : Ref sig .tc := ⟨.hbm, 459, rfl⟩
abbrev main_v174 : Ref sig .tc := ⟨.hbm, 460, rfl⟩
abbrev main_v175 : Ref sig .tc := ⟨.hbm, 461, rfl⟩
abbrev main_v176 : Ref sig .tc := ⟨.hbm, 462, rfl⟩
abbrev main_call19_v0 : Ref sig .tc := ⟨.hbm, 463, rfl⟩
abbrev main_call19_v1 : Ref sig .tc := ⟨.hbm, 464, rfl⟩
abbrev main_call19_cst : Ref sig .tc := ⟨.hbm, 465, rfl⟩
abbrev main_call19_v2 : Ref sig .tc := ⟨.hbm, 466, rfl⟩
abbrev main_call19_v3 : Ref sig .tc := ⟨.hbm, 467, rfl⟩
abbrev main_call19_cst_0 : Ref sig .tc := ⟨.hbm, 468, rfl⟩
abbrev main_call19_v4 : Ref sig .tc := ⟨.hbm, 469, rfl⟩
abbrev main_call19_v5 : Ref sig .tc := ⟨.hbm, 470, rfl⟩
abbrev main_v177 : Ref sig .tc := ⟨.hbm, 471, rfl⟩
abbrev main_v178 : Ref sig .tc := ⟨.hbm, 472, rfl⟩
abbrev main_v179 : Ref sig .tc := ⟨.hbm, 473, rfl⟩
abbrev main_v180 : Ref sig .tc := ⟨.hbm, 474, rfl⟩
abbrev main_v181 : Ref sig .tc := ⟨.hbm, 475, rfl⟩
abbrev main_v182 : Ref sig .tc := ⟨.hbm, 476, rfl⟩
abbrev main_v183 : Ref sig .tc := ⟨.hbm, 477, rfl⟩
abbrev main_v184 : Ref sig .tc := ⟨.hbm, 478, rfl⟩
abbrev main_v185 : Ref sig .tc := ⟨.hbm, 479, rfl⟩
abbrev main_v186 : Ref sig .tc := ⟨.hbm, 480, rfl⟩
abbrev main_v187 : Ref sig .tc := ⟨.hbm, 481, rfl⟩
abbrev main_v188 : Ref sig .tc := ⟨.hbm, 482, rfl⟩
abbrev main_v189 : Ref sig .tc := ⟨.hbm, 483, rfl⟩
abbrev main_cst_35 : Ref sig .tc := ⟨.hbm, 484, rfl⟩
abbrev main_v190 : Ref sig .tc := ⟨.hbm, 485, rfl⟩
abbrev main_v191 : Ref sig .tc := ⟨.hbm, 486, rfl⟩
abbrev main_cst_36 : Ref sig .tc := ⟨.hbm, 487, rfl⟩
abbrev main_v192 : Ref sig .tc := ⟨.hbm, 488, rfl⟩
abbrev main_v193 : Ref sig .tc := ⟨.hbm, 489, rfl⟩
abbrev main_cst_37 : Ref sig .tc := ⟨.hbm, 490, rfl⟩
abbrev main_v194 : Ref sig .tc := ⟨.hbm, 491, rfl⟩
abbrev main_v195 : Ref sig .tc := ⟨.hbm, 492, rfl⟩
abbrev main_v196 : Ref sig .tc := ⟨.hbm, 493, rfl⟩
abbrev main_v197 : Ref sig .tc := ⟨.hbm, 494, rfl⟩
abbrev main_v198 : Ref sig .tc := ⟨.hbm, 495, rfl⟩
abbrev main_v199 : Ref sig .tc := ⟨.hbm, 496, rfl⟩
abbrev main_v200 : Ref sig .tc := ⟨.hbm, 497, rfl⟩
abbrev main_v201 : Ref sig .tc := ⟨.hbm, 498, rfl⟩

abbrev nD : Nat := 1
abbrev τ : Topo := Topo.v7x

variable {F : FTy → Type} [FloatOps F]
-- ==== Proof.Frames.lean ====
/- The frames of the three programs and the storage ledger of the idealization.
   Each frame is the generated run of its program read at the certificate's instance. The ledger's distinct statements
   (every re-typed word buffer once, every pair of row shape and word shape once) are closed by the rule's own proofs. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import Idealize.ShloMosaic.Adequacy
public import Idealize.ShloMosaic.Init
public import Idealize.ShloMosaic.Lib.Bf16PairInverse

@[expose] public section

namespace Cert.Proof

open Idealize.ShloMosaic Idealize.SL.Sem

theorem kernelFrame : Cert.quiescent_Kernel := fun m ρ _ => Cert.Kernel.Gen.frame m ρ

theorem idealFrame : Cert.quiescent_KernelIdeal := fun m ρ _ => Cert.KernelIdeal.Gen.frame m ρ

/-- The reference is host code: its run, the result forgotten; it declares no semaphore. -/
theorem referenceFrame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem ledger : Cert.preserves_Kernel_KernelIdeal :=
  open Cert.KernelIdeal IdealRules.bf16_pair in
  ⟨bufferStatement S512x2x7168 S512x1x7168, bufferStatement S512x2x256 S512x1x256, bufferStatement S512x2x1024 S512x1x1024,
    bufferStatement S256x2x1024 S256x1x1024, bufferStatement S64x2x7168 S64x1x7168, bufferStatement S64x2x256 S64x1x256,
    bufferStatement S64x2x1024 S64x1x1024, bufferStatement S32x2x1024 S32x1x1024,
    statement S128x7168 S64x7168, statement S64x2x7168 S64x1x7168, statement S128x256 S64x256, statement S64x2x256 S64x1x256,
    statement S128x1024 S64x1024, statement S64x2x1024 S64x1x1024, statement S64x1024 S32x1024, statement S32x2x1024 S32x1x1024,
    statement S512x2x1024 S512x1x1024, statement S1024x1024 S512x1024, statement S512x2x512 S512x1x512,
    statement S1024x512 S512x512, statement S128x2x256 S128x1x256, statement S256x256 S128x256,
    statement S256x2x1024 S256x1x1024, statement S512x1024 S256x1024⟩

end Cert.Proof

end
-- ==== Proof.Layer.lean ====
/- The layer's mathematics over extended reals, as functions of coordinates: what both programs compute.
   `Layer` holds the arguments; a definition per stage follows. The sigmoid, the window mean and the attention's quotient, which the
   two programs spell differently, are parameters of `Layer.out`; each program's spelling is a definition of its own. -/
module

public import Idealize.ShloMosaic.PureOps.Ideal

@[expose] public section

noncomputable section

namespace Cert.Enc

open Idealize.ShloMosaic

/-- The value of an f32 literal's bits. -/
def lit (b : BitVec 32) : EReal := Ideal.ofBits .f32 b

/-- A row of 1024 numbers over its root mean square (1024 and the epsilon are the literals), times a gain. -/
def rms (x g : Fin 1024 → EReal) (c : Fin 1024) : EReal :=
  x c * Ideal.rsqrt (Ideal.div (∑ k, x k * x k) (lit 1149239296#32) + lit 897988541#32) * g c

/-- The arguments over `N` tokens, as functions of their coordinates. -/
structure Layer (N : ℕ) where
  x : Fin N → Fin 1024 → EReal
  f : Fin N → Fin 512 → EReal
  mem : Fin 256 → Fin 1024 → EReal
  gi : Fin 1024 → EReal
  gm : Fin 1024 → EReal
  w : Fin 1024 → Fin 7168 → EReal
  wp : Fin 4 → Fin 256 → Fin 256 → EReal
  sc : Fin 1024 → EReal
  wkv : Fin 1024 → Fin 1024 → EReal
  wpo : Fin 1024 → Fin 1024 → EReal
  wfo : Fin 512 → Fin 1024 → EReal
  wao : Fin 512 → Fin 1024 → EReal
  bg : Fin 3072 → EReal
  wo : Fin 1024 → Fin 1024 → EReal
  gf : Fin 1024 → EReal

namespace Layer

variable {N : ℕ} (L : Layer N)

/-- The normalised input at a token. -/
def xn (t : Fin N) (k : Fin 1024) : EReal := rms (L.x t) L.gi k

/-- The input projection. -/
def proj (t : Fin N) (j : Fin 7168) : EReal := ∑ k, L.xn t k * L.w k j

/-- The memory's keys (columns below 512) and values (above). -/
def kv (m : Fin 256) (j : Fin 1024) : EReal := ∑ k, rms (L.mem m) L.gm k * L.wkv k j

/-- The pooled channel `c` of a token. -/
def pv (t : Fin N) (c : Fin 1024) : EReal := L.proj t ⟨c, by omega⟩

/-- The scaled score of a token's query with a memory row, head `h`. -/
def score (t : Fin N) (h : Fin 4) (m : Fin 256) : EReal :=
  (∑ d : Fin 128, L.proj t ⟨3072 + (128 * h + d), by omega⟩ * L.kv m ⟨128 * h + d, by omega⟩) * lit 1035273459#32

/-- The greatest score of a head. -/
def top (t : Fin N) (h : Fin 4) : EReal := Finset.univ.fold max (lit 4286578688#32) fun m => L.score t h m

/-- The exponential of a score less the greatest. -/
def ex (t : Fin N) (h : Fin 4) (m : Fin 256) : EReal := Ideal.exp (L.score t h m - L.top t h)

/-- The attention with the quotient taken last. -/
def attLast (t : Fin N) (j : Fin 512) : EReal :=
  Ideal.div (∑ m, L.ex t ⟨j / 128, by omega⟩ m * L.kv m ⟨512 + j, by omega⟩) (∑ m, L.ex t ⟨j / 128, by omega⟩ m)

/-- The attention with the weights divided first. -/
def attFirst (t : Fin N) (j : Fin 512) : EReal :=
  ∑ m, Ideal.div (L.ex t ⟨j / 128, by omega⟩ m) (∑ m, L.ex t ⟨j / 128, by omega⟩ m) * L.kv m ⟨512 + j, by omega⟩

/-- The pooled channels with eight rows of zeros before the first token and after the last: row `n` is token `n - 8`. -/
def pad (n : ℕ) (c : Fin 1024) : EReal := if h : 8 ≤ n ∧ n < N + 8 then L.pv ⟨n - 8, by omega⟩ c else 0

/-- How many tokens a window of half width `half` holds at a token. -/
def cnt (half : ℕ) (t : Fin N) : EReal := (((min (t + half) N - (t - half) : ℕ) : ℝ) : EReal)

/-- The half width of a channel's window: 1, 2, 4, 8 in the four groups of 256 channels. -/
def half (c : Fin 1024) : ℕ := 2 ^ (c.val / 256)

/-- The window mean less the channel, the window summed row by row over the zero margins. -/
def poolSum (t : Fin N) (c : Fin 1024) : EReal :=
  (∑ d ∈ Finset.range (2 * half c), L.pad (t + (8 - half c + d)) c) * Ideal.div 1 (cnt (half c) t) - L.pv t c

/-- The running sum of a channel over the first `n` tokens. -/
def run (n : ℕ) (c : Fin 1024) : EReal := ∑ s ∈ Finset.range n, L.pad (s + 8) c

/-- The window mean less the channel, the window a difference of running sums. -/
def poolDiff (t : Fin N) (c : Fin 1024) : EReal :=
  Ideal.div (L.run (min (t + half c) N) c - L.run (t - half c) c) (cnt (half c) t) - L.pv t c

variable (sig : EReal → EReal) (pool : Fin N → Fin 1024 → EReal) (att : Fin N → Fin 512 → EReal)

/-- The pool branch before its output weights: the grouped product, scaled, gated. -/
def yin (t : Fin N) (j : Fin 1024) : EReal :=
  (∑ k : Fin 256, pool t ⟨256 * (j / 256) + k, by omega⟩ * L.wp ⟨j / 256, by omega⟩ k ⟨j % 256, by omega⟩) * L.sc j
    * (L.proj t ⟨1024 + j, by omega⟩ * sig (L.proj t ⟨1024 + j, by omega⟩))

/-- The Fourier branch before its output weights. -/
def fin (t : Fin N) (j : Fin 512) : EReal :=
  L.f t j * (L.proj t ⟨2560 + j, by omega⟩ * sig (L.proj t ⟨2560 + j, by omega⟩))

/-- The attention branch before its output weights. -/
def ain (t : Fin N) (j : Fin 512) : EReal :=
  att t j * (L.proj t ⟨3584 + j, by omega⟩ * sig (L.proj t ⟨3584 + j, by omega⟩))

/-- A branch's gate, the branch given by its column offset. -/
def gate (o : ℕ) (ho : o ≤ 2048) (t : Fin N) (j : Fin 1024) : EReal :=
  sig (L.proj t ⟨4096 + (o + j), by omega⟩ + L.bg ⟨o + j, by omega⟩)

/-- The gated pool branch. -/
def brA (t : Fin N) (j : Fin 1024) : EReal :=
  L.gate sig 0 (by omega) t j * ∑ k, L.yin sig pool t k * L.wpo k j

/-- The gated Fourier branch. -/
def brB (t : Fin N) (j : Fin 1024) : EReal :=
  L.gate sig 1024 (by omega) t j * ∑ k, L.fin sig t k * L.wfo k j

/-- The gated attention branch. -/
def brC (t : Fin N) (j : Fin 1024) : EReal :=
  L.gate sig 2048 (by omega) t j * ∑ k, L.ain sig att t k * L.wao k j

/-- The branches' sum. -/
def merged (t : Fin N) (j : Fin 1024) : EReal :=
  L.brA sig pool t j + L.brB sig t j + L.brC sig att t j

/-- The residual stream after the layer. -/
def res (t : Fin N) (j : Fin 1024) : EReal := L.x t j + ∑ k, L.merged sig pool att t k * L.wo k j

/-- The layer's result. -/
def out (t : Fin N) (j : Fin 1024) : EReal := rms (fun k => L.res sig pool att t k) L.gf j

end Layer

/-- The sigmoid as a hyperbolic tangent. -/
def sigTanh (z : EReal) : EReal := lit 1056964608#32 * Ideal.tanh (lit 1056964608#32 * z) + lit 1056964608#32

end Cert.Enc
-- ==== Proof.Rows.lean ====
/- What the body of `encoder_main` computes of one block of 512 tokens, one payload at a time: the normalised rows, the products with
   the packed weights. A packed weight array holds row `2k + p` of the weights at (k, p); a product over it is the plain product. -/
module

public import proofs.«01_k».proof.Proof.Gen.KernelIdeal.Skeleton
public import proofs.«01_k».proof.Proof.Layer
public import Idealize.ShloMosaic.Lib.Pointwise

@[expose] public section

set_option maxRecDepth 16384

noncomputable section

namespace Cert.Enc

open Idealize.ShloMosaic Idealize.SL.Sem Cert.KernelIdeal Cert.KernelIdeal.Gen

/-- Row pairs: `raw k p c` is `W` at row `2k + p`, column `o + c`. -/
def Pairs {n C N M : ℕ} (raw : Fin n → Fin 2 → Fin C → EReal) (W : Fin N → Fin M → EReal) (o : ℕ) : Prop :=
  ∀ (k : Fin n) (p : Fin 2) (c : Fin C) (h1 : 2 * k.val + p.val < N) (h2 : o + c.val < M), raw k p c = W ⟨2 * k + p, h1⟩ ⟨o + c, h2⟩

theorem Pairs.at {n C N M : ℕ} {raw : Fin n → Fin 2 → Fin C → EReal} {W : Fin N → Fin M → EReal} {o : ℕ} (h : Pairs raw W o)
    (x : Fin N) (hx : x.val / 2 < n) (c : Fin C) (hc : o + c.val < M) :
    (if x.val % 2 = 0 then raw ⟨x / 2, hx⟩ 0 c else raw ⟨x / 2, hx⟩ 1 c) = W x ⟨o + c, hc⟩ := by
  have hx' := x.isLt
  split
  · rw [h _ _ _ (by simp; omega) hc]; congr 2; simp; omega
  · rw [h _ _ _ (by simp; omega) hc]; congr 2; simp; omega

/-- A product over row pairs is the product over the rows. -/
theorem Pairs.sum {n C N M : ℕ} {raw : Fin n → Fin 2 → Fin C → EReal} {W : Fin N → Fin M → EReal} {o : ℕ} (h : Pairs raw W o)
    (hn : ∀ x : Fin N, x.val / 2 < n) (c : Fin C) (hc : o + c.val < M) (A X : Fin N → EReal) (hA : ∀ k, A k = X k) :
    ∑ x : Fin N, A x * (if x.val % 2 = 0 then raw ⟨x / 2, hn x⟩ 0 c else raw ⟨x / 2, hn x⟩ 1 c) = ∑ x, X x * W x ⟨o + c, hc⟩ :=
  Finset.sum_congr rfl fun x _ => by rw [h.at x (hn x) c hc, hA]

variable {N : ℕ} (L : Layer N) (T : Fin 512 → Fin N)

/-- A row of a block, normalised. -/
theorem pay3_eq {v0 : Vec Ideal S1x1024 .f32} {v1 : Vec Ideal S1x512x1024 .f32}
    (h0 : ∀ c, v0 (ix2 0 c) = L.gi c) (h1 : ∀ r c, v1 (ix3 0 r c) = L.x (T r) c) (r : Fin 512) (c : Fin 1024) :
    k2_pay3 v0 v1 (ix2 r c) = L.xn (T r) c := by
  pointwise [k2_pay3, k2_pay2]
  simp only [h0, h1]; rfl

theorem pay2_eq {v1 : Vec Ideal S1x512x1024 .f32} (h1 : ∀ r c, v1 (ix3 0 r c) = L.x (T r) c) (r : Fin 512) (c : Fin 1024) :
    k2_pay2 v1 (ix2 r c) = L.x (T r) c := by
  pointwise [k2_pay2]
  exact h1 r c

/-- The last payload: a block's rows of `y` normalised by the last gain. -/
theorem pay1_eq {v626 : FVec Ideal S512x1024 .f32} {v627 : Vec Ideal S1x1024 .f32} {y : Fin 512 → Fin 1024 → EReal}
    (hy : ∀ r c, v626 (ix2 r c) = y r c) (hg : ∀ c, v627 (ix2 0 c) = L.gf c) (r : Fin 512) (c : Fin 1024) :
    k2_pay1 v626 v627 (ix3 0 r c) = rms (y r) L.gf c := by
  pointwise [k2_pay1]
  simp only [hy, hg]; rfl

/-- The queries. -/
theorem pay36_eq {v15 : FVec Ideal S512x1024 .bf16} {raw : Vec Ideal S512x2x512 .bf16} (h15 : ∀ r c, v15 (ix2 r c) = L.xn (T r) c)
    (hw : Pairs (fun k p c => raw (ix3 k p c)) L.w 3072) (r c : Fin 512) :
    k2_pay36 v15 raw (ix2 r c) = L.proj (T r) ⟨3072 + c, by omega⟩ := by
  pointwise [k2_pay36]
  exact hw.sum (fun x => by omega) c (by omega) _ _ (h15 r)

/-- The Fourier branch before its output weights. -/
theorem pay49_eq {v15 : FVec Ideal S512x1024 .bf16} {f : Vec Ideal S1x512x512 .bf16} {raw : Vec Ideal S512x2x512 .bf16}
    (h15 : ∀ r c, v15 (ix2 r c) = L.xn (T r) c) (hf : ∀ r c, f (ix3 0 r c) = L.f (T r) c)
    (hw : Pairs (fun k p c => raw (ix3 k p c)) L.w 2560) (r c : Fin 512) :
    k2_pay49 v15 f raw (ix2 r c) = L.fin sigTanh (T r) c := by
  pointwise [k2_pay49]
  have e := hw.sum (fun x => by omega) c (by omega) _ _ (h15 r)
  simp only [e, hf]; rfl

/-- The pool branch's gate. -/
theorem pay50_eq {v15 : FVec Ideal S512x1024 .bf16} {raw : Vec Ideal S512x2x1024 .bf16}
    (h15 : ∀ r c, v15 (ix2 r c) = L.xn (T r) c) (hw : Pairs (fun k p c => raw (ix3 k p c)) L.w 1024) (r : Fin 512) (c : Fin 1024) :
    k2_pay50 v15 raw (ix2 r c) = L.proj (T r) ⟨1024 + c, by omega⟩ * sigTanh (L.proj (T r) ⟨1024 + c, by omega⟩) := by
  pointwise [k2_pay50]
  have e := hw.sum (fun x => by omega) c (by omega) _ _ (h15 r)
  simp only [e]; rfl

/-- The gated pool branch. -/
theorem pay75_eq {v15 : FVec Ideal S512x1024 .bf16} {y : FVec Ideal S512x1024 .bf16} {raw : Vec Ideal S512x2x1024 .bf16}
    {b : Vec Ideal S1x1024 .f32} {raw2 : Vec Ideal S512x2x1024 .bf16} {pool : Fin N → Fin 1024 → EReal}
    (h15 : ∀ r c, v15 (ix2 r c) = L.xn (T r) c) (hy : ∀ r c, y (ix2 r c) = L.yin sigTanh pool (T r) c)
    (hw : Pairs (fun k p c => raw (ix3 k p c)) L.w 4096) (hb : ∀ c, b (ix2 0 c) = L.bg ⟨0 + c, by omega⟩)
    (hw2 : Pairs (fun k p c => raw2 (ix3 k p c)) L.wpo 0) (r : Fin 512) (c : Fin 1024) :
    k2_pay75 v15 y raw b raw2 (ix2 r c) = L.brA sigTanh pool (T r) c := by
  pointwise [k2_pay75]
  have e := hw.sum (fun x => by omega) c (by omega) _ _ (h15 r)
  have e2 := hw2.sum (fun x => by omega) c (by omega) _ _ (hy r)
  simp only [e, e2, hb]
  simp only [Layer.brA, Layer.gate, Nat.zero_add]; rfl

/-- The Fourier branch's gate. -/
theorem pay76_eq {v15 : FVec Ideal S512x1024 .bf16} {raw : Vec Ideal S512x2x1024 .bf16}
    {b : Vec Ideal S1x1024 .f32}
    (h15 : ∀ r c, v15 (ix2 r c) = L.xn (T r) c)
    (hw : Pairs (fun k p c => raw (ix3 k p c)) L.w 5120) (hb : ∀ c, b (ix2 0 c) = L.bg ⟨1024 + c, by omega⟩) (r : Fin 512) (c : Fin 1024) :
    k2_pay76 v15 raw b (ix2 r c) = L.gate sigTanh 1024 (by omega) (T r) c := by
  pointwise [k2_pay76]
  have e := hw.sum (fun x => by omega) c (by omega) _ _ (h15 r)
  simp only [e, hb, Layer.gate, ← Nat.add_assoc]; rfl

/-- The residual stream after the layer. -/
theorem pay77_eq {x : FVec Ideal S512x1024 .f32} {v15 : FVec Ideal S512x1024 .bf16} {fin ain : FVec Ideal S512x512 .bf16}
    {a gb : FVec Ideal S512x1024 .f32} {rawf : Vec Ideal S256x2x1024 .bf16} {raw : Vec Ideal S512x2x1024 .bf16}
    {b : Vec Ideal S1x1024 .f32} {rawa : Vec Ideal S256x2x1024 .bf16} {rawo : Vec Ideal S512x2x1024 .bf16}
    {pool : Fin N → Fin 1024 → EReal} {att : Fin N → Fin 512 → EReal}
    (hx : ∀ r c, x (ix2 r c) = L.x (T r) c) (h15 : ∀ r c, v15 (ix2 r c) = L.xn (T r) c)
    (hf : ∀ r c, fin (ix2 r c) = L.fin sigTanh (T r) c) (ha : ∀ r c, ain (ix2 r c) = L.ain sigTanh att (T r) c)
    (hA : ∀ r c, a (ix2 r c) = L.brA sigTanh pool (T r) c) (hg : ∀ r c, gb (ix2 r c) = L.gate sigTanh 1024 (by omega) (T r) c)
    (hwf : Pairs (fun k p c => rawf (ix3 k p c)) L.wfo 0)
    (hw : Pairs (fun k p c => raw (ix3 k p c)) L.w 6144) (hb : ∀ c, b (ix2 0 c) = L.bg ⟨2048 + c, by omega⟩)
    (hwa : Pairs (fun k p c => rawa (ix3 k p c)) L.wao 0) (hwo : Pairs (fun k p c => rawo (ix3 k p c)) L.wo 0)
    (r : Fin 512) (c : Fin 1024) :
    k2_pay77 x v15 fin ain a gb rawf raw b rawa rawo (ix2 r c) = L.res sigTanh pool att (T r) c := by
  pointwise [k2_pay77]
  rw [hx]
  unfold Layer.res
  congr 1
  refine (hwo.sum (fun x => by omega) c (by omega) _ (fun k => L.merged sigTanh pool att (T r) k) fun k => ?_).trans ?_
  · have e := hw.sum (fun x => by omega) k (by omega) _ _ (h15 r)
    have ef := hwf.sum (fun x => by omega) k (by omega) _ _ (hf r)
    have ea := hwa.sum (fun x => by omega) k (by omega) _ _ (ha r)
    simp only [e, ef, ea, hA, hg, hb]
    simp only [Layer.merged, Layer.brB, Layer.brC, Layer.gate, Nat.zero_add, ← Nat.add_assoc]; rfl
  · simp only [Nat.zero_add]

end Cert.Enc
-- ==== Proof.Attend.lean ====
/- What the body of `encoder_main` computes of the attention: per head the exponentials of the scores less the greatest, their sums, and
   the quotient of the weighted values by the sum, gated. -/
module

public import proofs.«01_k».proof.Proof.Rows

@[expose] public section

set_option maxRecDepth 16384

noncomputable section

namespace Cert.Enc

open Idealize.ShloMosaic Idealize.SL.Sem Cert.KernelIdeal Cert.KernelIdeal.Gen

variable {N : ℕ} (L : Layer N) (T : Fin 512 → Fin N)

/-- The exponential of a head's score less the greatest, of a query row and the keys. -/
theorem ex_of (h : Fin 4) (r : Fin 512) (q : Fin 128 → EReal) (k : Fin 256 → Fin 128 → EReal)
    (hq : ∀ d, q d = L.proj (T r) ⟨3072 + (128 * h + d), by omega⟩) (hk : ∀ m d, k m d = L.kv m ⟨128 * h + d, by omega⟩) (m : Fin 256) :
    Ideal.exp ((∑ d, q d * k m d) * Ideal.ofBits .f32 1035273459#32
      - Finset.fold max (Ideal.ofBits .f32 4286578688#32) (fun m => (∑ d, q d * k m d) * Ideal.ofBits .f32 1035273459#32) Finset.univ)
      = L.ex (T r) h m := by
  simp only [hq, hk]; rfl

section

variable {v15 : FVec Ideal S512x1024 .bf16} {raw : Vec Ideal S512x2x512 .bf16} {k : Vec Ideal S1x256x128 .bf16}

theorem pay39_eq (h15 : ∀ r c, v15 (ix2 r c) = L.xn (T r) c) (hw : Pairs (fun k p c => raw (ix3 k p c)) L.w 3072)
    (hk : ∀ m (d : Fin 128) (hd : 128 * (0 : Fin 4).val + d.val < 1024), k (ix3 0 m d) = L.kv m ⟨_, hd⟩) (r : Fin 512) (m : Fin 256) :
    k2_pay39 v15 raw k (ix2 r m) = L.ex (T r) 0 m := by
  pointwise [k2_pay39, k2_pay37]
  refine ex_of L T 0 r _ (fun m d => k (ix3 0 m d)) (fun d => ?_) (fun m d => hk m d _) m
  refine (pay36_eq L T h15 hw r ⟨d.val, by omega⟩).trans ?_
  simp

theorem pay38_eq (h15 : ∀ r c, v15 (ix2 r c) = L.xn (T r) c) (hw : Pairs (fun k p c => raw (ix3 k p c)) L.w 3072)
    (hk : ∀ m (d : Fin 128) (hd : 128 * (0 : Fin 4).val + d.val < 1024), k (ix3 0 m d) = L.kv m ⟨_, hd⟩) (r : Fin 512) :
    k2_pay38 v15 raw k (ix2 r 0) = ∑ m, L.ex (T r) 0 m := by
  pointwise [k2_pay38, k2_pay37]
  refine Finset.sum_congr rfl fun m _ => ?_
  refine ex_of L T 0 r _ (fun m d => k (ix3 0 m d)) (fun d => ?_) (fun m d => hk m d _) m
  refine (pay36_eq L T h15 hw r ⟨d.val, by omega⟩).trans ?_
  simp

end

section

variable {q : FVec Ideal S512x512 .f32} {k : Vec Ideal S1x256x128 .bf16}
  (hq : ∀ (r c : Fin 512) (hc : 3072 + c.val < 7168), q (ix2 r c) = L.proj (T r) ⟨_, hc⟩)

include hq

theorem pay42_eq (hk : ∀ m (d : Fin 128) (hd : 128 * (1 : Fin 4).val + d.val < 1024), k (ix3 0 m d) = L.kv m ⟨_, hd⟩) (r : Fin 512) (m : Fin 256) :
    k2_pay42 q k (ix2 r m) = L.ex (T r) 1 m := by
  pointwise [k2_pay42, k2_pay40]
  exact ex_of L T 1 r _ (fun m d => k (ix3 0 m d)) (fun d => hq r ⟨128 + d, by omega⟩ _) (fun m d => hk m d _) m

theorem pay41_eq (hk : ∀ m (d : Fin 128) (hd : 128 * (1 : Fin 4).val + d.val < 1024), k (ix3 0 m d) = L.kv m ⟨_, hd⟩) (r : Fin 512) :
    k2_pay41 q k (ix2 r 0) = ∑ m, L.ex (T r) 1 m := by
  pointwise [k2_pay41, k2_pay40]
  exact Finset.sum_congr rfl fun m _ => ex_of L T 1 r _ (fun m d => k (ix3 0 m d)) (fun d => hq r ⟨128 + d, by omega⟩ _) (fun m d => hk m d _) m

theorem pay45_eq (hk : ∀ m (d : Fin 128) (hd : 128 * (2 : Fin 4).val + d.val < 1024), k (ix3 0 m d) = L.kv m ⟨_, hd⟩) (r : Fin 512) (m : Fin 256) :
    k2_pay45 q k (ix2 r m) = L.ex (T r) 2 m := by
  pointwise [k2_pay45, k2_pay43]
  exact ex_of L T 2 r _ (fun m d => k (ix3 0 m d)) (fun d => hq r ⟨256 + d, by omega⟩ _) (fun m d => hk m d _) m

theorem pay44_eq (hk : ∀ m (d : Fin 128) (hd : 128 * (2 : Fin 4).val + d.val < 1024), k (ix3 0 m d) = L.kv m ⟨_, hd⟩) (r : Fin 512) :
    k2_pay44 q k (ix2 r 0) = ∑ m, L.ex (T r) 2 m := by
  pointwise [k2_pay44, k2_pay43]
  exact Finset.sum_congr rfl fun m _ => ex_of L T 2 r _ (fun m d => k (ix3 0 m d)) (fun d => hq r ⟨256 + d, by omega⟩ _) (fun m d => hk m d _) m

theorem pay46_eq (hk : ∀ m (d : Fin 128) (hd : 128 * (3 : Fin 4).val + d.val < 1024), k (ix3 0 m d) = L.kv m ⟨_, hd⟩) (r : Fin 512) (m : Fin 256) :
    k2_pay46 q k (ix2 r m) = L.ex (T r) 3 m := by
  pointwise [k2_pay46]
  exact ex_of L T 3 r _ (fun m d => k (ix3 0 m d)) (fun d => hq r ⟨384 + d, by omega⟩ _) (fun m d => hk m d _) m

end

theorem pay47_eq {e : FVec Ideal S512x256 .f32} (he : ∀ r m, e (ix2 r m) = L.ex (T r) 3 m) (r : Fin 512) :
    k2_pay47 e (ix2 r 0) = ∑ m, L.ex (T r) 3 m := by
  pointwise [k2_pay47]
  simp only [he]

theorem pay48_eq {e : FVec Ideal S512x256 .f32} (he : ∀ r m, e (ix2 r m) = L.ex (T r) 3 m) (r : Fin 512) (m : Fin 256) :
    k2_pay48 e (ix2 r m) = L.ex (T r) 3 m := by
  pointwise [k2_pay48]
  exact he r m

/-- A head's columns of the attention. -/
theorem attLast_of (t : Fin N) (h : Fin 4) (c : Fin 512) (hc : c.val / 128 = h.val) (e : Fin 256 → EReal) (l : EReal)
    (v : Fin 256 → EReal) (he : ∀ m, e m = L.ex t h m) (hl : l = ∑ m, L.ex t h m) (hv : ∀ m, v m = L.kv m ⟨512 + c, by omega⟩) :
    Ideal.div (∑ m, e m * v m) l = L.attLast t c := by
  have hh : (⟨c.val / 128, by omega⟩ : Fin 4) = h := Fin.ext hc
  unfold Layer.attLast
  rw [hh]
  simp only [he, hl, hv]

theorem pay74_eq {v15 : FVec Ideal S512x1024 .bf16} {l0 l1 l2 l3 : FVec Ideal S512x1 .f32} {e0 e1 e2 e3 : FVec Ideal S512x256 .bf16}
    {raw : Vec Ideal S512x2x512 .bf16} {v0 v1 v2 v3 : Vec Ideal S1x256x128 .bf16}
    (h15 : ∀ r c, v15 (ix2 r c) = L.xn (T r) c)
    (hl0 : ∀ r, l0 (ix2 r 0) = ∑ m, L.ex (T r) 0 m) (he0 : ∀ r m, e0 (ix2 r m) = L.ex (T r) 0 m)
    (hl1 : ∀ r, l1 (ix2 r 0) = ∑ m, L.ex (T r) 1 m) (he1 : ∀ r m, e1 (ix2 r m) = L.ex (T r) 1 m)
    (hl2 : ∀ r, l2 (ix2 r 0) = ∑ m, L.ex (T r) 2 m) (he2 : ∀ r m, e2 (ix2 r m) = L.ex (T r) 2 m)
    (hl3 : ∀ r, l3 (ix2 r 0) = ∑ m, L.ex (T r) 3 m) (he3 : ∀ r m, e3 (ix2 r m) = L.ex (T r) 3 m)
    (hw : Pairs (fun k p c => raw (ix3 k p c)) L.w 3584)
    (hv0 : ∀ m (d : Fin 128), v0 (ix3 0 m d) = L.kv m ⟨512 + d, by omega⟩)
    (hv1 : ∀ m (d : Fin 128), v1 (ix3 0 m d) = L.kv m ⟨640 + d, by omega⟩)
    (hv2 : ∀ m (d : Fin 128), v2 (ix3 0 m d) = L.kv m ⟨768 + d, by omega⟩)
    (hv3 : ∀ m (d : Fin 128), v3 (ix3 0 m d) = L.kv m ⟨896 + d, by omega⟩) (r c : Fin 512) :
    k2_pay74 v15 l0 e0 l1 e1 l2 e2 l3 e3 raw v0 v1 v2 v3 (ix2 r c) = L.ain sigTanh L.attLast (T r) c := by
  pointwise [k2_pay74]
  have ew := hw.sum (fun x => by omega) c (by omega) _ _ (h15 r)
  simp only [ew]
  unfold Layer.ain
  refine congrArg₂ (· * ·) ?_ rfl
  split
  · exact attLast_of L (T r) 0 c (by simp; omega) _ _ _ (he0 r) (hl0 r) fun m => (hv0 m _).trans (by congr 2)
  · split
    · exact attLast_of L (T r) 1 c (by simp; omega) _ _ _ (he1 r) (hl1 r) fun m => (hv1 m _).trans (by congr 2; simp; omega)
    · split
      · exact attLast_of L (T r) 2 c (by simp; omega) _ _ _ (he2 r) (hl2 r) fun m => (hv2 m _).trans (by congr 2; simp; omega)
      · exact attLast_of L (T r) 3 c (by simp; omega) _ _ _ (he3 r) (hl3 r) fun m => (hv3 m _).trans (by congr 2; simp; omega)

end Cert.Enc
-- ==== Proof.Slab.lean ====
/- The scratch of `encoder_main`: per slab of 128 channels, the pooled channels of the block's 512 tokens with eight tokens before and eight
   after, zeros where no token is. Every store is a block of one function of (slab, row, lane), so every load reads that function. -/
module

public import proofs.«01_k».proof.Proof.Rows
public import Idealize.ShloMosaic.Lib.Pipeline.ValueKit
public import Idealize.ShloMosaic.Lib.Pipeline.ReadBack
public import Idealize.ShloMosaic.Lib.Ring
public import Idealize.ShloMosaic.Lib.Tactic

@[expose] public section

set_option maxRecDepth 16384

noncomputable section

namespace Cert.Enc

open Idealize.ShloMosaic Idealize.SL.Sem Cert.KernelIdeal Cert.KernelIdeal.Gen

/-- `Layer.pad` with the channel a number. -/
def padc (L : Layer 16384) (n c : ℕ) : EReal := if h : c < 1024 then L.pad n ⟨c, h⟩ else 0

/-- The scratch's contents at block `i`. -/
def slabAt (L : Layer 16384) (i : ℕ) (y : S8x528x128.Idx) : EReal := padc L (512 * i + (y 1).val) (128 * (y 0).val + (y 2).val)

/-- An index with a unit leading axis. -/
theorem unit_ix3 {n1 n2 : ℕ} (x : (⟨3, ![1, n1, n2]⟩ : Shape).Idx) : x = ix3 (n0 := 1) (n1 := n1) (n2 := n2) 0 (x 1) (x 2) := by
  refine (Idealize.ShloMosaic.eq_ix3 x).trans ?_
  congr 1; exact Fin.ext (Nat.lt_one_iff.mp (x 0).isLt)

/-- Token `r` of block `i`. -/
def tok (i : Fin 32) (r : Fin 512) : Fin 16384 := ⟨512 * i + r, by omega⟩

theorem pos_word : ∀ i : Fin 32, Scalar.cmpi .sgt (BitVec.ofNat 32 i) 0#32 = if 0 < i.val then 1#1 else 0#1 := by decide +kernel
theorem last_word : ∀ i : Fin 32, Scalar.cmpi .slt (BitVec.ofNat 32 i) 31#32 = if i.val < 31 then 1#1 else 0#1 := by decide +kernel

section

variable (L : Layer 16384) (i : Fin 32)

theorem padc_lo (hi : ¬ 0 < i.val) (r c : ℕ) (hr : r < 8) : padc L (512 * i + r) c = 0 := by
  unfold padc Layer.pad
  split
  · rw [dif_neg]; omega
  · rfl

theorem padc_hi (hi : ¬ i.val < 31) (r c : ℕ) (hr : 520 ≤ r) : padc L (512 * i + r) c = 0 := by
  unfold padc Layer.pad
  split
  · rw [dif_neg]; omega
  · rfl

/-- The product's rows: the block's tokens, and the neighbours where there are any. -/
structure Ext (P : FVec Ideal S528x1024 .f32) : Prop where
  mid : ∀ (r c : ℕ) (hr : r < 512) (hc : c < 1024), P (ix2 ⟨r, by omega⟩ ⟨c, hc⟩) = padc L (512 * i + (8 + r)) c
  prev : 0 < i.val → ∀ (r c : ℕ) (hr : r < 8) (hc : c < 1024), P (ix2 ⟨512 + r, by omega⟩ ⟨c, hc⟩) = padc L (512 * i + r) c
  next : i.val < 31 → ∀ (r c : ℕ) (hr : r < 8) (hc : c < 1024), P (ix2 ⟨520 + r, by omega⟩ ⟨c, hc⟩) = padc L (512 * i + (520 + r)) c

variable {L i} in
theorem Ext.sel_prev {P : FVec Ideal S528x1024 .f32} (h : Ext L i P) (r c : ℕ) (hr : r < 8) (hc : c < 1024) :
    Scalar.select (Scalar.cmpi .sgt (BitVec.ofNat 32 i) 0#32) (P (ix2 ⟨512 + r, by omega⟩ ⟨c, hc⟩)) 0 = padc L (512 * i + r) c := by
  rw [pos_word]
  split
  · next hi => exact h.prev hi r c hr hc
  · next hi => exact (padc_lo L i hi r c hr).symm

variable {L i} in
theorem Ext.sel_next {P : FVec Ideal S528x1024 .f32} (h : Ext L i P) (r c : ℕ) (hr : r < 8) (hc : c < 1024) :
    Scalar.select (Scalar.cmpi .slt (BitVec.ofNat 32 i) 31#32) (P (ix2 ⟨520 + r, by omega⟩ ⟨c, hc⟩)) 0 = padc L (512 * i + (520 + r)) c := by
  rw [last_word]
  split
  · next hi => exact h.next hi r c hr hc
  · next hi => exact (padc_hi L i hi (520 + r) c (by omega)).symm

end

/-- What the body stores in the scratch, last store first: for each slab of 128 channels the eight rows after the block, the block's rows,
    the eight rows before it. -/
def slabs (a : BitVec 32) (v15 : FVec Ideal S528x1024 .bf16) (lo hi : FVec Ideal S512x1024 .bf16) : List (View.Piece (Elt Ideal) S8x528x128 .f32) :=
    [⟨Rect.unit ![7, 520, 0] S1x8x128.size inb_S8x528x128_S1x8x128_7_520_0, k2_pay35 (k2_pay9 a v15 lo hi)⟩,
      ⟨Rect.unit ![7, 8, 0] S1x512x128.size inb_S8x528x128_S1x512x128_7_8_0, k2_pay34 (k2_pay7 v15 lo hi)⟩,
      ⟨Rect.unit ![7, 0, 0] S1x8x128.size inb_S8x528x128_S1x8x128_7_0_0, k2_pay33 (k2_pay8 a v15 lo hi)⟩,
      ⟨Rect.unit ![6, 520, 0] S1x8x128.size inb_S8x528x128_S1x8x128_6_520_0, k2_pay32 (k2_pay31 (k2_pay9 a v15 lo hi))⟩,
      ⟨Rect.unit ![6, 8, 0] S1x512x128.size inb_S8x528x128_S1x512x128_6_8_0, k2_pay30 (k2_pay7 v15 lo hi)⟩,
      ⟨Rect.unit ![6, 0, 0] S1x8x128.size inb_S8x528x128_S1x8x128_6_0_0, k2_pay29 (k2_pay8 a v15 lo hi)⟩,
      ⟨Rect.unit ![5, 520, 0] S1x8x128.size inb_S8x528x128_S1x8x128_5_520_0, k2_pay28 (k2_pay9 a v15 lo hi)⟩,
      ⟨Rect.unit ![5, 8, 0] S1x512x128.size inb_S8x528x128_S1x512x128_5_8_0, k2_pay27 (k2_pay7 v15 lo hi)⟩,
      ⟨Rect.unit ![5, 0, 0] S1x8x128.size inb_S8x528x128_S1x8x128_5_0_0, k2_pay26 (k2_pay8 a v15 lo hi)⟩,
      ⟨Rect.unit ![4, 520, 0] S1x8x128.size inb_S8x528x128_S1x8x128_4_520_0, k2_pay25 (k2_pay9 a v15 lo hi)⟩,
      ⟨Rect.unit ![4, 8, 0] S1x512x128.size inb_S8x528x128_S1x512x128_4_8_0, k2_pay24 (k2_pay7 v15 lo hi)⟩,
      ⟨Rect.unit ![4, 0, 0] S1x8x128.size inb_S8x528x128_S1x8x128_4_0_0, k2_pay23 (k2_pay8 a v15 lo hi)⟩,
      ⟨Rect.unit ![3, 520, 0] S1x8x128.size inb_S8x528x128_S1x8x128_3_520_0, k2_pay22 (k2_pay9 a v15 lo hi)⟩,
      ⟨Rect.unit ![3, 8, 0] S1x512x128.size inb_S8x528x128_S1x512x128_3_8_0, k2_pay21 (k2_pay7 v15 lo hi)⟩,
      ⟨Rect.unit ![3, 0, 0] S1x8x128.size inb_S8x528x128_S1x8x128_3_0_0, k2_pay20 (k2_pay8 a v15 lo hi)⟩,
      ⟨Rect.unit ![2, 520, 0] S1x8x128.size inb_S8x528x128_S1x8x128_2_520_0, k2_pay19 (k2_pay9 a v15 lo hi)⟩,
      ⟨Rect.unit ![2, 8, 0] S1x512x128.size inb_S8x528x128_S1x512x128_2_8_0, k2_pay18 (k2_pay7 v15 lo hi)⟩,
      ⟨Rect.unit ![2, 0, 0] S1x8x128.size inb_S8x528x128_S1x8x128_2_0_0, k2_pay17 (k2_pay8 a v15 lo hi)⟩,
      ⟨Rect.unit ![1, 520, 0] S1x8x128.size inb_S8x528x128_S1x8x128_1_520_0, k2_pay16 (k2_pay15 a v15 lo hi)⟩,
      ⟨Rect.unit ![1, 8, 0] S1x512x128.size inb_S8x528x128_S1x512x128_1_8_0, k2_pay14 v15 lo hi⟩,
      ⟨Rect.unit ![1, 0, 0] S1x8x128.size inb_S8x528x128_S1x8x128_1_0_0, k2_pay13 a v15 lo hi⟩,
      ⟨Rect.unit ![0, 520, 0] S1x8x128.size inb_S8x528x128_S1x8x128_0_520_0, k2_pay12 a v15 lo hi⟩,
      ⟨Rect.unit ![0, 8, 0] S1x512x128.size inb_S8x528x128_S1x512x128_0_8_0, k2_pay11 v15 lo hi⟩,
      ⟨Rect.unit ![0, 0, 0] S1x8x128.size inb_S8x528x128_S1x8x128_0_0_0, k2_pay10 a v15 lo hi⟩]

variable (L : Layer 16384) (i : Fin 32)

theorem store_7_next {v15 : FVec Ideal S528x1024 .bf16} {lo hi : FVec Ideal S512x1024 .bf16} (h : Ext L i (k2_pay7 v15 lo hi)) (r : Fin 8) (c : Fin 128) :
    (k2_pay35 (k2_pay9 (BitVec.ofNat 32 i) v15 lo hi) : FVec Ideal S1x8x128 .f32) (ix3 0 r c) = padc L (512 * i + (520 + r)) (896 + c) := by
  pointwise [k2_pay35, k2_pay9]
  exact h.sel_next r (896 + c) r.isLt (by omega)

theorem store_7_mid {v15 : FVec Ideal S528x1024 .bf16} {lo hi : FVec Ideal S512x1024 .bf16} (h : Ext L i (k2_pay7 v15 lo hi)) (r : Fin 512) (c : Fin 128) :
    (k2_pay34 (k2_pay7 v15 lo hi) : FVec Ideal S1x512x128 .f32) (ix3 0 r c) = padc L (512 * i + (8 + r)) (896 + c) := by
  pointwise [k2_pay34]
  exact h.mid r (896 + c) r.isLt (by omega)

theorem store_7_prev {v15 : FVec Ideal S528x1024 .bf16} {lo hi : FVec Ideal S512x1024 .bf16} (h : Ext L i (k2_pay7 v15 lo hi)) (r : Fin 8) (c : Fin 128) :
    (k2_pay33 (k2_pay8 (BitVec.ofNat 32 i) v15 lo hi) : FVec Ideal S1x8x128 .f32) (ix3 0 r c) = padc L (512 * i + (r)) (896 + c) := by
  pointwise [k2_pay33, k2_pay8]
  exact h.sel_prev r (896 + c) r.isLt (by omega)

theorem store_6_next {v15 : FVec Ideal S528x1024 .bf16} {lo hi : FVec Ideal S512x1024 .bf16} (h : Ext L i (k2_pay7 v15 lo hi)) (r : Fin 8) (c : Fin 128) :
    (k2_pay32 (k2_pay31 (k2_pay9 (BitVec.ofNat 32 i) v15 lo hi)) : FVec Ideal S1x8x128 .f32) (ix3 0 r c) = padc L (512 * i + (520 + r)) (768 + c) := by
  pointwise [k2_pay32, k2_pay31, k2_pay9]
  exact h.sel_next r (768 + c) r.isLt (by omega)

theorem store_6_mid {v15 : FVec Ideal S528x1024 .bf16} {lo hi : FVec Ideal S512x1024 .bf16} (h : Ext L i (k2_pay7 v15 lo hi)) (r : Fin 512) (c : Fin 128) :
    (k2_pay30 (k2_pay7 v15 lo hi) : FVec Ideal S1x512x128 .f32) (ix3 0 r c) = padc L (512 * i + (8 + r)) (768 + c) := by
  pointwise [k2_pay30]
  exact h.mid r (768 + c) r.isLt (by omega)

theorem store_6_prev {v15 : FVec Ideal S528x1024 .bf16} {lo hi : FVec Ideal S512x1024 .bf16} (h : Ext L i (k2_pay7 v15 lo hi)) (r : Fin 8) (c : Fin 128) :
    (k2_pay29 (k2_pay8 (BitVec.ofNat 32 i) v15 lo hi) : FVec Ideal S1x8x128 .f32) (ix3 0 r c) = padc L (512 * i + (r)) (768 + c) := by
  pointwise [k2_pay29, k2_pay8]
  exact h.sel_prev r (768 + c) r.isLt (by omega)

theorem store_5_next {v15 : FVec Ideal S528x1024 .bf16} {lo hi : FVec Ideal S512x1024 .bf16} (h : Ext L i (k2_pay7 v15 lo hi)) (r : Fin 8) (c : Fin 128) :
    (k2_pay28 (k2_pay9 (BitVec.ofNat 32 i) v15 lo hi) : FVec Ideal S1x8x128 .f32) (ix3 0 r c) = padc L (512 * i + (520 + r)) (640 + c) := by
  pointwise [k2_pay28, k2_pay9]
  exact h.sel_next r (640 + c) r.isLt (by omega)

theorem store_5_mid {v15 : FVec Ideal S528x1024 .bf16} {lo hi : FVec Ideal S512x1024 .bf16} (h : Ext L i (k2_pay7 v15 lo hi)) (r : Fin 512) (c : Fin 128) :
    (k2_pay27 (k2_pay7 v15 lo hi) : FVec Ideal S1x512x128 .f32) (ix3 0 r c) = padc L (512 * i + (8 + r)) (640 + c) := by
  pointwise [k2_pay27]
  exact h.mid r (640 + c) r.isLt (by omega)

theorem store_5_prev {v15 : FVec Ideal S528x1024 .bf16} {lo hi : FVec Ideal S512x1024 .bf16} (h : Ext L i (k2_pay7 v15 lo hi)) (r : Fin 8) (c : Fin 128) :
    (k2_pay26 (k2_pay8 (BitVec.ofNat 32 i) v15 lo hi) : FVec Ideal S1x8x128 .f32) (ix3 0 r c) = padc L (512 * i + (r)) (640 + c) := by
  pointwise [k2_pay26, k2_pay8]
  exact h.sel_prev r (640 + c) r.isLt (by omega)

theorem store_4_next {v15 : FVec Ideal S528x1024 .bf16} {lo hi : FVec Ideal S512x1024 .bf16} (h : Ext L i (k2_pay7 v15 lo hi)) (r : Fin 8) (c : Fin 128) :
    (k2_pay25 (k2_pay9 (BitVec.ofNat 32 i) v15 lo hi) : FVec Ideal S1x8x128 .f32) (ix3 0 r c) = padc L (512 * i + (520 + r)) (512 + c) := by
  pointwise [k2_pay25, k2_pay9]
  exact h.sel_next r (512 + c) r.isLt (by omega)

theorem store_4_mid {v15 : FVec Ideal S528x1024 .bf16} {lo hi : FVec Ideal S512x1024 .bf16} (h : Ext L i (k2_pay7 v15 lo hi)) (r : Fin 512) (c : Fin 128) :
    (k2_pay24 (k2_pay7 v15 lo hi) : FVec Ideal S1x512x128 .f32) (ix3 0 r c) = padc L (512 * i + (8 + r)) (512 + c) := by
  pointwise [k2_pay24]
  exact h.mid r (512 + c) r.isLt (by omega)

theorem store_4_prev {v15 : FVec Ideal S528x1024 .bf16} {lo hi : FVec Ideal S512x1024 .bf16} (h : Ext L i (k2_pay7 v15 lo hi)) (r : Fin 8) (c : Fin 128) :
    (k2_pay23 (k2_pay8 (BitVec.ofNat 32 i) v15 lo hi) : FVec Ideal S1x8x128 .f32) (ix3 0 r c) = padc L (512 * i + (r)) (512 + c) := by
  pointwise [k2_pay23, k2_pay8]
  exact h.sel_prev r (512 + c) r.isLt (by omega)

theorem store_3_next {v15 : FVec Ideal S528x1024 .bf16} {lo hi : FVec Ideal S512x1024 .bf16} (h : Ext L i (k2_pay7 v15 lo hi)) (r : Fin 8) (c : Fin 128) :
    (k2_pay22 (k2_pay9 (BitVec.ofNat 32 i) v15 lo hi) : FVec Ideal S1x8x128 .f32) (ix3 0 r c) = padc L (512 * i + (520 + r)) (384 + c) := by
  pointwise [k2_pay22, k2_pay9]
  exact h.sel_next r (384 + c) r.isLt (by omega)

theorem store_3_mid {v15 : FVec Ideal S528x1024 .bf16} {lo hi : FVec Ideal S512x1024 .bf16} (h : Ext L i (k2_pay7 v15 lo hi)) (r : Fin 512) (c : Fin 128) :
    (k2_pay21 (k2_pay7 v15 lo hi) : FVec Ideal S1x512x128 .f32) (ix3 0 r c) = padc L (512 * i + (8 + r)) (384 + c) := by
  pointwise [k2_pay21]
  exact h.mid r (384 + c) r.isLt (by omega)

theorem store_3_prev {v15 : FVec Ideal S528x1024 .bf16} {lo hi : FVec Ideal S512x1024 .bf16} (h : Ext L i (k2_pay7 v15 lo hi)) (r : Fin 8) (c : Fin 128) :
    (k2_pay20 (k2_pay8 (BitVec.ofNat 32 i) v15 lo hi) : FVec Ideal S1x8x128 .f32) (ix3 0 r c) = padc L (512 * i + (r)) (384 + c) := by
  pointwise [k2_pay20, k2_pay8]
  exact h.sel_prev r (384 + c) r.isLt (by omega)

theorem store_2_next {v15 : FVec Ideal S528x1024 .bf16} {lo hi : FVec Ideal S512x1024 .bf16} (h : Ext L i (k2_pay7 v15 lo hi)) (r : Fin 8) (c : Fin 128) :
    (k2_pay19 (k2_pay9 (BitVec.ofNat 32 i) v15 lo hi) : FVec Ideal S1x8x128 .f32) (ix3 0 r c) = padc L (512 * i + (520 + r)) (256 + c) := by
  pointwise [k2_pay19, k2_pay9]
  exact h.sel_next r (256 + c) r.isLt (by omega)

theorem store_2_mid {v15 : FVec Ideal S528x1024 .bf16} {lo hi : FVec Ideal S512x1024 .bf16} (h : Ext L i (k2_pay7 v15 lo hi)) (r : Fin 512) (c : Fin 128) :
    (k2_pay18 (k2_pay7 v15 lo hi) : FVec Ideal S1x512x128 .f32) (ix3 0 r c) = padc L (512 * i + (8 + r)) (256 + c) := by
  pointwise [k2_pay18]
  exact h.mid r (256 + c) r.isLt (by omega)

theorem store_2_prev {v15 : FVec Ideal S528x1024 .bf16} {lo hi : FVec Ideal S512x1024 .bf16} (h : Ext L i (k2_pay7 v15 lo hi)) (r : Fin 8) (c : Fin 128) :
    (k2_pay17 (k2_pay8 (BitVec.ofNat 32 i) v15 lo hi) : FVec Ideal S1x8x128 .f32) (ix3 0 r c) = padc L (512 * i + (r)) (256 + c) := by
  pointwise [k2_pay17, k2_pay8]
  exact h.sel_prev r (256 + c) r.isLt (by omega)

theorem store_1_next {v15 : FVec Ideal S528x1024 .bf16} {lo hi : FVec Ideal S512x1024 .bf16} (h : Ext L i (k2_pay7 v15 lo hi)) (r : Fin 8) (c : Fin 128) :
    (k2_pay16 (k2_pay15 (BitVec.ofNat 32 i) v15 lo hi) : FVec Ideal S1x8x128 .f32) (ix3 0 r c) = padc L (512 * i + (520 + r)) (128 + c) := by
  pointwise [k2_pay16, k2_pay15, k2_pay8, k2_pay9]
  exact h.sel_next r (128 + c) r.isLt (by omega)

theorem store_1_mid {v15 : FVec Ideal S528x1024 .bf16} {lo hi : FVec Ideal S512x1024 .bf16} (h : Ext L i (k2_pay7 v15 lo hi)) (r : Fin 512) (c : Fin 128) :
    (k2_pay14 v15 lo hi : FVec Ideal S1x512x128 .f32) (ix3 0 r c) = padc L (512 * i + (8 + r)) (128 + c) := by
  pointwise [k2_pay14]
  exact h.mid r (128 + c) r.isLt (by omega)

theorem store_1_prev {v15 : FVec Ideal S528x1024 .bf16} {lo hi : FVec Ideal S512x1024 .bf16} (h : Ext L i (k2_pay7 v15 lo hi)) (r : Fin 8) (c : Fin 128) :
    (k2_pay13 (BitVec.ofNat 32 i) v15 lo hi : FVec Ideal S1x8x128 .f32) (ix3 0 r c) = padc L (512 * i + (r)) (128 + c) := by
  pointwise [k2_pay13, k2_pay8, k2_pay9]
  exact h.sel_prev r (128 + c) r.isLt (by omega)

theorem store_0_next {v15 : FVec Ideal S528x1024 .bf16} {lo hi : FVec Ideal S512x1024 .bf16} (h : Ext L i (k2_pay7 v15 lo hi)) (r : Fin 8) (c : Fin 128) :
    (k2_pay12 (BitVec.ofNat 32 i) v15 lo hi : FVec Ideal S1x8x128 .f32) (ix3 0 r c) = padc L (512 * i + (520 + r)) c := by
  pointwise [k2_pay12, k2_pay8, k2_pay9]
  exact h.sel_next r c r.isLt (by omega)

theorem store_0_mid {v15 : FVec Ideal S528x1024 .bf16} {lo hi : FVec Ideal S512x1024 .bf16} (h : Ext L i (k2_pay7 v15 lo hi)) (r : Fin 512) (c : Fin 128) :
    (k2_pay11 v15 lo hi : FVec Ideal S1x512x128 .f32) (ix3 0 r c) = padc L (512 * i + (8 + r)) c := by
  pointwise [k2_pay11]
  exact h.mid r c r.isLt (by omega)

theorem store_0_prev {v15 : FVec Ideal S528x1024 .bf16} {lo hi : FVec Ideal S512x1024 .bf16} (h : Ext L i (k2_pay7 v15 lo hi)) (r : Fin 8) (c : Fin 128) :
    (k2_pay10 (BitVec.ofNat 32 i) v15 lo hi : FVec Ideal S1x8x128 .f32) (ix3 0 r c) = padc L (512 * i + (r)) c := by
  pointwise [k2_pay10, k2_pay8, k2_pay9]
  exact h.sel_prev r c r.isLt (by omega)

/-- Every store is a block of the scratch's contents. -/
theorem slabs_pieces {v15 : FVec Ideal S528x1024 .bf16} {lo hi : FVec Ideal S512x1024 .bf16} (h : Ext L i (k2_pay7 v15 lo hi)) :
    View.PiecesOf (slabAt L i) (slabs (BitVec.ofNat 32 i) v15 lo hi) := by
  refine ⟨?_, ?_, ?_, ?_, ?_, ?_, ?_, ?_, ?_, ?_, ?_, ?_, ?_, ?_, ?_, ?_, ?_, ?_, ?_, ?_, ?_, ?_, ?_, ?_, trivial⟩
  · intro x
    have e : x = ix3 0 (x 1) (x 2) := unit_ix3 (n1 := 8) (n2 := 128) x
    rw [e]
    refine (store_7_next L i h (x 1) (x 2)).trans ?_
    unfold slabAt
    congr 1 <;> simp <;> omega
  · intro x
    have e : x = ix3 0 (x 1) (x 2) := unit_ix3 (n1 := 512) (n2 := 128) x
    rw [e]
    refine (store_7_mid L i h (x 1) (x 2)).trans ?_
    unfold slabAt
    congr 1 <;> simp <;> omega
  · intro x
    have e : x = ix3 0 (x 1) (x 2) := unit_ix3 (n1 := 8) (n2 := 128) x
    rw [e]
    refine (store_7_prev L i h (x 1) (x 2)).trans ?_
    unfold slabAt
    congr 1 <;> simp <;> omega
  · intro x
    have e : x = ix3 0 (x 1) (x 2) := unit_ix3 (n1 := 8) (n2 := 128) x
    rw [e]
    refine (store_6_next L i h (x 1) (x 2)).trans ?_
    unfold slabAt
    congr 1 <;> simp <;> omega
  · intro x
    have e : x = ix3 0 (x 1) (x 2) := unit_ix3 (n1 := 512) (n2 := 128) x
    rw [e]
    refine (store_6_mid L i h (x 1) (x 2)).trans ?_
    unfold slabAt
    congr 1 <;> simp <;> omega
  · intro x
    have e : x = ix3 0 (x 1) (x 2) := unit_ix3 (n1 := 8) (n2 := 128) x
    rw [e]
    refine (store_6_prev L i h (x 1) (x 2)).trans ?_
    unfold slabAt
    congr 1 <;> simp <;> omega
  · intro x
    have e : x = ix3 0 (x 1) (x 2) := unit_ix3 (n1 := 8) (n2 := 128) x
    rw [e]
    refine (store_5_next L i h (x 1) (x 2)).trans ?_
    unfold slabAt
    congr 1 <;> simp <;> omega
  · intro x
    have e : x = ix3 0 (x 1) (x 2) := unit_ix3 (n1 := 512) (n2 := 128) x
    rw [e]
    refine (store_5_mid L i h (x 1) (x 2)).trans ?_
    unfold slabAt
    congr 1 <;> simp <;> omega
  · intro x
    have e : x = ix3 0 (x 1) (x 2) := unit_ix3 (n1 := 8) (n2 := 128) x
    rw [e]
    refine (store_5_prev L i h (x 1) (x 2)).trans ?_
    unfold slabAt
    congr 1 <;> simp <;> omega
  · intro x
    have e : x = ix3 0 (x 1) (x 2) := unit_ix3 (n1 := 8) (n2 := 128) x
    rw [e]
    refine (store_4_next L i h (x 1) (x 2)).trans ?_
    unfold slabAt
    congr 1 <;> simp <;> omega
  · intro x
    have e : x = ix3 0 (x 1) (x 2) := unit_ix3 (n1 := 512) (n2 := 128) x
    rw [e]
    refine (store_4_mid L i h (x 1) (x 2)).trans ?_
    unfold slabAt
    congr 1 <;> simp <;> omega
  · intro x
    have e : x = ix3 0 (x 1) (x 2) := unit_ix3 (n1 := 8) (n2 := 128) x
    rw [e]
    refine (store_4_prev L i h (x 1) (x 2)).trans ?_
    unfold slabAt
    congr 1 <;> simp <;> omega
  · intro x
    have e : x = ix3 0 (x 1) (x 2) := unit_ix3 (n1 := 8) (n2 := 128) x
    rw [e]
    refine (store_3_next L i h (x 1) (x 2)).trans ?_
    unfold slabAt
    congr 1 <;> simp <;> omega
  · intro x
    have e : x = ix3 0 (x 1) (x 2) := unit_ix3 (n1 := 512) (n2 := 128) x
    rw [e]
    refine (store_3_mid L i h (x 1) (x 2)).trans ?_
    unfold slabAt
    congr 1 <;> simp <;> omega
  · intro x
    have e : x = ix3 0 (x 1) (x 2) := unit_ix3 (n1 := 8) (n2 := 128) x
    rw [e]
    refine (store_3_prev L i h (x 1) (x 2)).trans ?_
    unfold slabAt
    congr 1 <;> simp <;> omega
  · intro x
    have e : x = ix3 0 (x 1) (x 2) := unit_ix3 (n1 := 8) (n2 := 128) x
    rw [e]
    refine (store_2_next L i h (x 1) (x 2)).trans ?_
    unfold slabAt
    congr 1 <;> simp <;> omega
  · intro x
    have e : x = ix3 0 (x 1) (x 2) := unit_ix3 (n1 := 512) (n2 := 128) x
    rw [e]
    refine (store_2_mid L i h (x 1) (x 2)).trans ?_
    unfold slabAt
    congr 1 <;> simp <;> omega
  · intro x
    have e : x = ix3 0 (x 1) (x 2) := unit_ix3 (n1 := 8) (n2 := 128) x
    rw [e]
    refine (store_2_prev L i h (x 1) (x 2)).trans ?_
    unfold slabAt
    congr 1 <;> simp <;> omega
  · intro x
    have e : x = ix3 0 (x 1) (x 2) := unit_ix3 (n1 := 8) (n2 := 128) x
    rw [e]
    refine (store_1_next L i h (x 1) (x 2)).trans ?_
    unfold slabAt
    congr 1 <;> simp <;> omega
  · intro x
    have e : x = ix3 0 (x 1) (x 2) := unit_ix3 (n1 := 512) (n2 := 128) x
    rw [e]
    refine (store_1_mid L i h (x 1) (x 2)).trans ?_
    unfold slabAt
    congr 1 <;> simp <;> omega
  · intro x
    have e : x = ix3 0 (x 1) (x 2) := unit_ix3 (n1 := 8) (n2 := 128) x
    rw [e]
    refine (store_1_prev L i h (x 1) (x 2)).trans ?_
    unfold slabAt
    congr 1 <;> simp <;> omega
  · intro x
    have e : x = ix3 0 (x 1) (x 2) := unit_ix3 (n1 := 8) (n2 := 128) x
    rw [e]
    refine (store_0_next L i h (x 1) (x 2)).trans ?_
    unfold slabAt
    congr 1 <;> simp <;> omega
  · intro x
    have e : x = ix3 0 (x 1) (x 2) := unit_ix3 (n1 := 512) (n2 := 128) x
    rw [e]
    refine (store_0_mid L i h (x 1) (x 2)).trans ?_
    unfold slabAt
    congr 1 <;> simp <;> omega
  · intro x
    have e : x = ix3 0 (x 1) (x 2) := unit_ix3 (n1 := 8) (n2 := 128) x
    rw [e]
    refine (store_0_prev L i h (x 1) (x 2)).trans ?_
    unfold slabAt
    congr 1 <;> simp <;> omega

/-- A load after the stores reads the scratch's contents. -/
theorem slabs_read {v15 : FVec Ideal S528x1024 .bf16} {lo hi : FVec Ideal S512x1024 .bf16} (h : Ext L i (k2_pay7 v15 lo hi))
    (v : View Cert.KernelIdeal.sig .tc .vmem S8x528x128 .f32) (B : LoadRect S8x528x128) (j : B.shape.Idx) :
    v.readCov (slabs (BitVec.ofNat 32 i) v15 lo hi) B j = slabAt L i (B.idx j) := by
  rw [View.readCov_eq_canon']
  have e := View.canon_append_of_piecesOf (slabAt L i) [] _ (slabs_pieces L i h) (B.idx j)
    (View.cover_of_tiledBy (slabs (BitVec.ofNat 32 i) v15 lo hi) ![1, 8, 128] (by sl_kernel_rfl) _)
  rwa [List.append_nil] at e

/-- The product's rows, of the block's rows of the input and its neighbours'. -/
theorem ext_of_rows {g : Vec Ideal S1x1024 .f32} {x0 : Vec Ideal S1x512x1024 .f32} {xp xq : Vec Ideal S1x8x1024 .f32} {raw : Vec Ideal S512x2x1024 .bf16}
    (hg : ∀ c, g (ix2 0 c) = L.gi c) (hx : ∀ r c, x0 (ix3 0 r c) = L.x (tok i r) c)
    (hp : 0 < i.val → ∀ (r : Fin 8) c, xp (ix3 0 r c) = L.x ⟨512 * i + r - 8, by omega⟩ c)
    (hq : ∀ hi : i.val < 31, ∀ (r : Fin 8) c, xq (ix3 0 r c) = L.x ⟨512 * i + 512 + r, by omega⟩ c)
    (hw : Pairs (fun k p c => raw (ix3 k p c)) L.w 0) :
    Ext L i (k2_pay7 (k2_pay4 g x0 xp xq) (k2_pay5 raw) (k2_pay6 raw)) := by
  have key : ∀ (ρ : Fin 528) (t : Fin 16384) (_ : ∀ k, k2_pay4 g x0 xp xq (ix2 ρ k) = L.xn t k) (c : ℕ) (hc : c < 1024),
      k2_pay7 (k2_pay4 g x0 xp xq) (k2_pay5 raw) (k2_pay6 raw) (ix2 ρ ⟨c, hc⟩) = L.pv t ⟨c, hc⟩ := by
    intro ρ t ht c hc
    pointwise [k2_pay7, k2_pay5, k2_pay6]
    have e := hw.sum (fun x => by omega) ⟨c, hc⟩ (by simp; omega) _ _ ht
    rw [e]
    unfold Layer.pv Layer.proj
    simp only [Nat.zero_add]
  have pd : ∀ (t : Fin 16384) (c : ℕ) (hc : c < 1024) (n : ℕ) (_ : n = t + 8), L.pv t ⟨c, hc⟩ = padc L n c := by
    intro t c hc n hn
    subst hn
    unfold padc Layer.pad
    rw [dif_pos hc, dif_pos (by omega)]
    congr 1
  refine ⟨fun r c hr hc => ?_, fun hi r c hr hc => ?_, fun hi r c hr hc => ?_⟩
  · refine (key _ (tok i ⟨r, hr⟩) (fun k => ?_) c hc).trans (pd _ c hc _ (by simp [tok]; omega))
    have e : ∀ ρ : Fin 512, k2_pay4 g x0 xp xq (ix2 ⟨ρ.val, by omega⟩ k) = L.xn (tok i ρ) k := by
      intro ρ
      pointwise [k2_pay4, k2_pay3, k2_pay2]
      simp only [hx, hg]; rfl
    exact e ⟨r, hr⟩
  · refine (key _ ⟨512 * i + r - 8, by omega⟩ (fun k => ?_) c hc).trans (pd _ c hc _ (by simp; omega))
    have e : ∀ ρ : Fin 8, k2_pay4 g x0 xp xq (ix2 ⟨512 + ρ.val, by omega⟩ k) = L.xn ⟨512 * i + ρ.val - 8, by omega⟩ k := by
      intro ρ
      pointwise [k2_pay4, k2_pay3, k2_pay2]
      simp only [hp hi, hg]; rfl
    exact e ⟨r, hr⟩
  · refine (key _ ⟨512 * i + 512 + r, by omega⟩ (fun k => ?_) c hc).trans (pd _ c hc _ (by simp; omega))
    have e : ∀ ρ : Fin 8, k2_pay4 g x0 xp xq (ix2 ⟨520 + ρ.val, by omega⟩ k) = L.xn ⟨512 * i + 512 + ρ.val, by omega⟩ k := by
      intro ρ
      pointwise [k2_pay4, k2_pay3, k2_pay2]
      have a : ¬ 520 + ρ.val < 512 := by omega
      have b : ¬ 520 + ρ.val - 512 < 8 := by omega
      have d : 520 + ρ.val - 512 - 8 = ρ.val := by omega
      simp only [a, b, dite_false, hq hi, hg, d]; rfl
    exact e ⟨r, hr⟩

end Cert.Enc
-- ==== Proof.Pool.lean ====
/- What the body of `encoder_main` computes of the pool branch: the window sums read from the scratch slabs, over the count of tokens
   in the window, less the token's own row; per group of 256 channels the product with the group's weights; scaled and gated. -/
module

public import proofs.«01_k».proof.Proof.Slab
public import Idealize.ShloMosaic.Lib.SortNet.Extract

@[expose] public section

set_option maxRecDepth 16384

noncomputable section

namespace Cert.Enc

open Idealize.ShloMosaic Idealize.SL.Sem Cert.KernelIdeal Cert.KernelIdeal.Gen

/-- A product over row pairs whose left factor is given in two halves of 128. -/
theorem Pairs.sum_two {C M : ℕ} {raw : Fin 128 → Fin 2 → Fin C → EReal} {W : Fin 256 → Fin M → EReal} {o : ℕ} (h : Pairs raw W o)
    (c : Fin C) (hc : o + c.val < M) (A B : Fin 128 → EReal) (X : Fin 256 → EReal)
    (hA : ∀ k : Fin 128, A k = X ⟨k, by omega⟩) (hB : ∀ k : Fin 128, B k = X ⟨128 + k, by omega⟩) :
    ∑ x : Fin 128, A x * (if x.val % 2 = 0 then raw ⟨x / 2, by omega⟩ 0 c else raw ⟨x / 2, by omega⟩ 1 c)
      + ∑ x : Fin 128, B x * (if (128 + x.val) % 2 = 0 then raw ⟨(128 + x) / 2, by omega⟩ 0 c else raw ⟨(128 + x) / 2, by omega⟩ 1 c)
      = ∑ k, X k * W k ⟨o + c, hc⟩ := by
  refine .trans ?_ (Fin.sum_univ_add (a := 128) (b := 128) fun k : Fin 256 => X k * W k ⟨o + c, hc⟩).symm
  congr 1 <;> refine Finset.sum_congr rfl fun x _ => ?_
  · rw [hA]; congr 1; exact h.at ⟨x, by omega⟩ (by simp; omega) c hc
  · rw [hB]; congr 1; exact h.at ⟨128 + x, by omega⟩ (by simp; omega) c hc

/-- A difference of words whose numbers are small. -/
theorem toInt_sub_small (x y : BitVec 32) (hx : -100000 < x.toInt ∧ x.toInt < 100000) (hy : -100000 < y.toInt ∧ y.toInt < 100000) :
    (x - y).toInt = x.toInt - y.toInt := by
  rw [BitVec.toInt_sub]; simp only [Int.bmod]; split <;> omega

theorem toInt_add_small (x y : BitVec 32) (hx : -100000 < x.toInt ∧ x.toInt < 100000) (hy : -100000 < y.toInt ∧ y.toInt < 100000) :
    (x + y).toInt = x.toInt + y.toInt := by
  rw [BitVec.toInt_add]; simp only [Int.bmod]; split <;> omega

theorem toInt_ofNat_small (n : ℕ) (h : n < 100000) : (BitVec.ofNat 32 n).toInt = n := by
  rw [BitVec.toInt_eq_toNat_bmod, BitVec.toNat_ofNat]; simp only [Int.bmod]; split <;> omega

/-- The count of a window's tokens, as the kernel's words say it. -/
theorem cnt_word (n h : ℕ) (hn : n < 16384) (hh : h ≤ 8) :
    (IntOp.subi (IntOp.minsi (IntOp.addi (BitVec.ofNat 32 n) (BitVec.ofNat 32 h)) 16384#32)
      (IntOp.maxsi (IntOp.subi (BitVec.ofNat 32 n) (BitVec.ofNat 32 h)) 0#32)).toInt = ((min (n + h) 16384 - (n - h) : ℕ) : ℤ) := by
  have e1 := toInt_ofNat_small n (by omega)
  have e2 := toInt_ofNat_small h (by omega)
  have e3 : (16384#32).toInt = 16384 := by decide
  have e4 : (0#32).toInt = 0 := by decide
  have a := toInt_add_small (BitVec.ofNat 32 n) (BitVec.ofNat 32 h) (by omega) (by omega)
  have s := toInt_sub_small (BitVec.ofNat 32 n) (BitVec.ofNat 32 h) (by omega) (by omega)
  have mn := SortNet.toInt_minsi (BitVec.ofNat 32 n + BitVec.ofNat 32 h) 16384#32
  have mx := SortNet.toInt_maxsi (BitVec.ofNat 32 n - BitVec.ofNat 32 h) 0#32
  rw [e3] at mn; rw [e4] at mx
  simp only [IntOp.addi, IntOp.subi] at *
  rw [toInt_sub_small _ _ (by omega) (by omega)]
  omega

section

variable (L : Layer 16384) (i : Fin 32)

/-- The first rows of a window: `n` of them from row `o`. -/
def part (s o n : ℕ) (r : Fin 512) (l : Fin 128) : EReal := ∑ d ∈ Finset.range n, padc L (512 * i + (o + d + r)) (128 * s + l)

theorem padc_mid (r : Fin 512) (k : ℕ) (hk : k < 1024) : padc L (512 * i + (8 + r)) k = L.pv (tok i r) ⟨k, hk⟩ := by
  unfold padc Layer.pad
  rw [dif_pos hk, dif_pos (by omega)]
  congr 1; exact Fin.ext (by simp [tok]; omega)

/-- The window sum over its count, less the token's row. -/
theorem win_eq (half s : ℕ) (r : Fin 512) (l : Fin 128) (k : Fin 1024) (hk : k.val = 128 * s + l) (hh : half = 2 ^ (k.val / 256)) :
    part L i s (8 - half) (2 * half) r l * Ideal.div 1 (Layer.cnt half (tok i r)) - padc L (512 * i + (8 + r)) (128 * s + l)
      = L.poolSum (tok i r) k := by
  have hb : half ≤ 8 := by
    have : k.val / 256 ≤ 3 := by omega
    rw [hh]; exact (Nat.pow_le_pow_right (by decide) this).trans (by decide)
  unfold Layer.poolSum Layer.half
  rw [← hh, ← hk, padc_mid L i r k k.isLt]
  congr 2
  refine Finset.sum_congr rfl fun d _ => ?_
  unfold padc
  rw [← hk, dif_pos k.isLt]
  congr 1
  simp only [tok]; omega

/-- A group's product, as the layer has it at a channel. -/
def grp (g : Fin 4) (t : Fin 16384) (c : Fin 256) : EReal := ∑ k : Fin 256, L.poolSum t ⟨256 * g + k, by omega⟩ * L.wp g k c

theorem grp_eq (g : Fin 4) (t : Fin 16384) (c : Fin 256) (j : Fin 1024) (hj : j.val = 256 * g + c) :
    grp L g t c = ∑ k : Fin 256, L.poolSum t ⟨256 * (j / 256) + k, by omega⟩ * L.wp ⟨j / 256, by omega⟩ k ⟨j % 256, by omega⟩ := by
  have e1 : (⟨j / 256, by omega⟩ : Fin 4) = g := Fin.ext (by simp; omega)
  have e2 : (⟨j % 256, by omega⟩ : Fin 256) = c := Fin.ext (by simp; omega)
  refine Finset.sum_congr rfl fun k _ => ?_
  rw [e1, e2]; congr 2; exact Fin.ext (by simp; omega)

/-- The token's position. -/
theorem pay51_eq (r : Fin 512) : k2_pay51 (BitVec.ofNat 32 i) (ix2 r 0) = BitVec.ofNat 32 (tok i r) := by
  pointwise [k2_pay51]
  apply BitVec.eq_of_toNat_eq
  have := i.isLt
  simp only [IntOp.addi, Scalar.muli, IntOp.muli, tok, BitVec.toNat_add, BitVec.toNat_mul, BitVec.toNat_ofNat]
  omega

variable {p : IVec S512x1 32} (hp : ∀ r : Fin 512, p (ix2 r 0) = BitVec.ofNat 32 (tok i r))

include hp

theorem cnt_at (h : ℕ) (hh : h ≤ 8) (r : Fin 512) :
    FloatOps.sitofp (F := Ideal) FTy.f32 (IntOp.subi (IntOp.minsi (IntOp.addi (p (ix2 r 0)) (BitVec.ofNat 32 h)) 16384#32)
      (IntOp.maxsi (IntOp.subi (p (ix2 r 0)) (BitVec.ofNat 32 h)) 0#32)) = Layer.cnt h (tok i r) := by
  rw [hp r]
  refine (congrArg (fun z : ℤ => ((z : ℝ) : EReal)) (cnt_word _ h (tok i r).isLt hh)).trans ?_
  simp only [Layer.cnt, Int.cast_natCast]

theorem pay57_eq (r : Fin 512) : k2_pay57 (F := Ideal) p (ix2 r 0) = Ideal.div 1 (Layer.cnt 2 (tok i r)) := by
  pointwise [k2_pay57]
  exact congrArg (Ideal.div 1) (cnt_at i hp 2 (by decide) r)

theorem pay61_eq (r : Fin 512) : k2_pay61 (F := Ideal) p (ix2 r 0) = Ideal.div 1 (Layer.cnt 4 (tok i r)) := by
  pointwise [k2_pay61]
  exact congrArg (Ideal.div 1) (cnt_at i hp 4 (by decide) r)

theorem pay68_eq (r : Fin 512) : k2_pay68 (F := Ideal) p (k2_pay66 p) k2_pay67 (ix2 r 0) = Ideal.div 1 (Layer.cnt 8 (tok i r)) := by
  pointwise [k2_pay68, k2_pay66, k2_pay67]
  exact congrArg (Ideal.div 1) (cnt_at i hp 8 (by decide) r)

/-- The first group's windows. -/
theorem pay53_eq {a b c d e f : Vec Ideal S1x512x128 .f32}
    (ha : ∀ r l, a (ix3 0 r l) = padc L (512 * i + (7 + r.val)) (128 * 0 + l.val))
    (hb : ∀ r l, b (ix3 0 r l) = padc L (512 * i + (8 + r.val)) (128 * 0 + l.val))
    (hc : ∀ r l, c (ix3 0 r l) = padc L (512 * i + (8 + r.val)) (128 * 0 + l.val))
    (hd : ∀ r l, d (ix3 0 r l) = padc L (512 * i + (7 + r.val)) (128 * 1 + l.val))
    (he : ∀ r l, e (ix3 0 r l) = padc L (512 * i + (8 + r.val)) (128 * 1 + l.val))
    (hf : ∀ r l, f (ix3 0 r l) = padc L (512 * i + (8 + r.val)) (128 * 1 + l.val))
    (r : Fin 512) (k : Fin 256) :
    k2_pay53 p k2_pay52 a b c d e f (ix2 r k) = L.poolSum (tok i r) ⟨k, by omega⟩ := by
  pointwise [k2_pay53, k2_pay52]
  have hn := cnt_at i hp 1 (by decide) r
  simp only [ha, hb, hc, hd, he, hf, hn]
  split
  · refine .trans ?_ (win_eq L i 1 0 r ⟨k, by omega⟩ ⟨k, by omega⟩ (by simp) (by simp; rw [Nat.div_eq_of_lt k.isLt]; rfl))
    simp only [part, Finset.sum_range_succ, Finset.sum_range_zero, zero_add, Nat.add_zero, Nat.reduceAdd, Nat.reduceSub, Nat.reduceMul]
  · refine .trans ?_ (win_eq L i 1 1 r ⟨k - 128, by omega⟩ ⟨k, by omega⟩ (by simp; omega) (by simp; rw [Nat.div_eq_of_lt k.isLt]; rfl))
    simp only [part, Finset.sum_range_succ, Finset.sum_range_zero, zero_add, Nat.add_zero, Nat.reduceAdd, Nat.reduceSub, Nat.reduceMul]

/-- The second group's first half. -/
theorem pay58_eq {a b c d e : Vec Ideal S1x512x128 .f32}
    (ha : ∀ r l, a (ix3 0 r l) = padc L (512 * i + (6 + r.val)) (128 * 2 + l.val))
    (hb : ∀ r l, b (ix3 0 r l) = padc L (512 * i + (7 + r.val)) (128 * 2 + l.val))
    (hc : ∀ r l, c (ix3 0 r l) = padc L (512 * i + (8 + r.val)) (128 * 2 + l.val))
    (hd : ∀ r l, d (ix3 0 r l) = padc L (512 * i + (9 + r.val)) (128 * 2 + l.val))
    (he : ∀ r l, e (ix3 0 r l) = padc L (512 * i + (8 + r.val)) (128 * 2 + l.val))
    (r : Fin 512) (l : Fin 128) : k2_pay58 p a b c d e (ix2 r l) = L.poolSum (tok i r) ⟨256 * 1 + (l), by omega⟩ := by
  pointwise [k2_pay58, k2_pay57]
  have hn := cnt_at i hp 2 (by decide) r
  simp only [ha, hb, hc, hd, he, hn]
  refine .trans ?_ (win_eq L i 2 2 r l ⟨256 * 1 + (l), by omega⟩ (by simp; try omega) (by rw [show (256 * 1 + (l.val)) / 256 = 1 by omega]; rfl))
  simp only [part, Finset.sum_range_succ, Finset.sum_range_zero, zero_add, Nat.add_zero, Nat.reduceAdd, Nat.reduceSub, Nat.reduceMul]

end

section

variable (L : Layer 16384) (i : Fin 32)

theorem pay56_eq {a : FVec Ideal S512x256 .bf16} {w : Vec Ideal S128x2x256 .bf16}
    (ha : ∀ (r : Fin 512) (k : Fin 256), a (ix2 r k) = L.poolSum (tok i r) ⟨k, by omega⟩)
    (hw : Pairs (fun k p c => w (ix3 k p c)) (L.wp 0) 0) (r : Fin 512) (c : Fin 256) :
    k2_pay56 a (k2_pay54 w) (k2_pay55 w) (ix2 r c) = grp L 0 (tok i r) c := by
  pointwise [k2_pay56, k2_pay54, k2_pay55]
  refine (hw.sum (fun x => by omega) c (by omega) _ _ (ha r)).trans ?_
  refine Finset.sum_congr rfl fun k _ => ?_
  congr 2 <;> exact Fin.ext (by simp)

theorem pay59_eq {v0 : Vec Ideal S1x512x128 .f32}
    (hv0 : ∀ r l, v0 (ix3 0 r l) = padc L (512 * i + (6 + r.val)) (128 * 3 + l.val))
    (r : Fin 512) (l : Fin 128) : k2_pay59 v0 (ix2 r l) = part L i 3 6 1 r l := by
  pointwise [k2_pay59]
  simp only [hv0, part, Finset.sum_range_succ, Finset.sum_range_zero, zero_add, Nat.add_zero, Nat.reduceAdd, Nat.reduceSub, Nat.reduceMul]

/-- The second group's product. -/
theorem pay60_eq {n : FVec Ideal S512x1 .f32} {a m : FVec Ideal S512x128 .f32} {v0 v1 v2 v3 : Vec Ideal S1x512x128 .f32} {w : Vec Ideal S128x2x256 .bf16}
    (hn : ∀ r, n (ix2 r 0) = Ideal.div 1 (Layer.cnt 2 (tok i r)))
    (ha : ∀ r (l : Fin 128), a (ix2 r l) = L.poolSum (tok i r) ⟨256 * 1 + (l), by omega⟩)
    (hm : ∀ r l, m (ix2 r l) = part L i 3 6 1 r l)
    (hv0 : ∀ r l, v0 (ix3 0 r l) = padc L (512 * i + (7 + r.val)) (128 * 3 + l.val))
    (hv1 : ∀ r l, v1 (ix3 0 r l) = padc L (512 * i + (8 + r.val)) (128 * 3 + l.val))
    (hv2 : ∀ r l, v2 (ix3 0 r l) = padc L (512 * i + (9 + r.val)) (128 * 3 + l.val))
    (hv3 : ∀ r l, v3 (ix3 0 r l) = padc L (512 * i + (8 + r.val)) (128 * 3 + l.val))
    (hw : Pairs (fun k p c => w (ix3 k p c)) (L.wp 1) 0)
    (r : Fin 512) (c : Fin 256) : k2_pay60 n a m v0 v1 v2 v3 w (ix2 r c) = grp L 1 (tok i r) c := by
  pointwise [k2_pay60]
  simp only [hn, hm, hv0, hv1, hv2, hv3]
  refine (hw.sum_two c (by omega) _ _ (fun k => L.poolSum (tok i r) ⟨256 * 1 + k, by omega⟩) (ha r) fun l => ?_).trans ?_
  · refine .trans ?_ (win_eq L i 2 3 r l ⟨256 * 1 + (128 + l), by omega⟩ (by simp; try omega) (by rw [show (256 * 1 + (128 + l.val)) / 256 = 1 by omega]; rfl))
    simp only [part, Finset.sum_range_succ, Finset.sum_range_zero, zero_add, Nat.add_zero, Nat.reduceAdd, Nat.reduceSub, Nat.reduceMul]
  · refine Finset.sum_congr rfl fun k _ => ?_
    congr 2; exact Fin.ext (by simp)

theorem pay62_eq {v0 : Vec Ideal S1x512x128 .f32}
    (hv0 : ∀ r l, v0 (ix3 0 r l) = padc L (512 * i + (4 + r.val)) (128 * 4 + l.val))
    (r : Fin 512) (l : Fin 128) : k2_pay62 v0 (ix2 r l) = part L i 4 4 1 r l := by
  pointwise [k2_pay62]
  simp only [hv0, part, Finset.sum_range_succ, Finset.sum_range_zero, zero_add, Nat.add_zero, Nat.reduceAdd, Nat.reduceSub, Nat.reduceMul]

/-- The third group's first half. -/
theorem pay63_eq {n : FVec Ideal S512x1 .f32} {m : FVec Ideal S512x128 .f32} {v0 v1 v2 v3 v4 v5 v6 v7 : Vec Ideal S1x512x128 .f32}
    (hn : ∀ r, n (ix2 r 0) = Ideal.div 1 (Layer.cnt 4 (tok i r)))
    (hm : ∀ r l, m (ix2 r l) = part L i 4 4 1 r l)
    (hv0 : ∀ r l, v0 (ix3 0 r l) = padc L (512 * i + (5 + r.val)) (128 * 4 + l.val))
    (hv1 : ∀ r l, v1 (ix3 0 r l) = padc L (512 * i + (6 + r.val)) (128 * 4 + l.val))
    (hv2 : ∀ r l, v2 (ix3 0 r l) = padc L (512 * i + (7 + r.val)) (128 * 4 + l.val))
    (hv3 : ∀ r l, v3 (ix3 0 r l) = padc L (512 * i + (8 + r.val)) (128 * 4 + l.val))
    (hv4 : ∀ r l, v4 (ix3 0 r l) = padc L (512 * i + (9 + r.val)) (128 * 4 + l.val))
    (hv5 : ∀ r l, v5 (ix3 0 r l) = padc L (512 * i + (10 + r.val)) (128 * 4 + l.val))
    (hv6 : ∀ r l, v6 (ix3 0 r l) = padc L (512 * i + (11 + r.val)) (128 * 4 + l.val))
    (hv7 : ∀ r l, v7 (ix3 0 r l) = padc L (512 * i + (8 + r.val)) (128 * 4 + l.val))
    (r : Fin 512) (l : Fin 128) : k2_pay63 n m v0 v1 v2 v3 v4 v5 v6 v7 (ix2 r l) = L.poolSum (tok i r) ⟨256 * 2 + (l), by omega⟩ := by
  pointwise [k2_pay63]
  simp only [hn, hm, hv0, hv1, hv2, hv3, hv4, hv5, hv6, hv7]
  refine .trans ?_ (win_eq L i 4 4 r l ⟨256 * 2 + (l), by omega⟩ (by simp; try omega) (by rw [show (256 * 2 + (l.val)) / 256 = 2 by omega]; rfl))
  simp only [part, Finset.sum_range_succ, Finset.sum_range_zero, zero_add, Nat.add_zero, Nat.reduceAdd, Nat.reduceSub, Nat.reduceMul]

theorem pay64_eq {v0 v1 : Vec Ideal S1x512x128 .f32}
    (hv0 : ∀ r l, v0 (ix3 0 r l) = padc L (512 * i + (4 + r.val)) (128 * 5 + l.val))
    (hv1 : ∀ r l, v1 (ix3 0 r l) = padc L (512 * i + (5 + r.val)) (128 * 5 + l.val))
    (r : Fin 512) (l : Fin 128) : k2_pay64 v0 v1 (ix2 r l) = part L i 5 4 2 r l := by
  pointwise [k2_pay64]
  simp only [hv0, hv1, part, Finset.sum_range_succ, Finset.sum_range_zero, zero_add, Nat.add_zero, Nat.reduceAdd, Nat.reduceSub, Nat.reduceMul]

/-- The third group's product. -/
theorem pay65_eq {n : FVec Ideal S512x1 .f32} {a m : FVec Ideal S512x128 .f32} {v0 v1 v2 v3 v4 v5 v6 : Vec Ideal S1x512x128 .f32} {w : Vec Ideal S128x2x256 .bf16}
    (hn : ∀ r, n (ix2 r 0) = Ideal.div 1 (Layer.cnt 4 (tok i r)))
    (ha : ∀ r (l : Fin 128), a (ix2 r l) = L.poolSum (tok i r) ⟨256 * 2 + (l), by omega⟩)
    (hm : ∀ r l, m (ix2 r l) = part L i 5 4 2 r l)
    (hv0 : ∀ r l, v0 (ix3 0 r l) = padc L (512 * i + (6 + r.val)) (128 * 5 + l.val))
    (hv1 : ∀ r l, v1 (ix3 0 r l) = padc L (512 * i + (7 + r.val)) (128 * 5 + l.val))
    (hv2 : ∀ r l, v2 (ix3 0 r l) = padc L (512 * i + (8 + r.val)) (128 * 5 + l.val))
    (hv3 : ∀ r l, v3 (ix3 0 r l) = padc L (512 * i + (9 + r.val)) (128 * 5 + l.val))
    (hv4 : ∀ r l, v4 (ix3 0 r l) = padc L (512 * i + (10 + r.val)) (128 * 5 + l.val))
    (hv5 : ∀ r l, v5 (ix3 0 r l) = padc L (512 * i + (11 + r.val)) (128 * 5 + l.val))
    (hv6 : ∀ r l, v6 (ix3 0 r l) = padc L (512 * i + (8 + r.val)) (128 * 5 + l.val))
    (hw : Pairs (fun k p c => w (ix3 k p c)) (L.wp 2) 0)
    (r : Fin 512) (c : Fin 256) : k2_pay65 n a m v0 v1 v2 v3 v4 v5 v6 w (ix2 r c) = grp L 2 (tok i r) c := by
  pointwise [k2_pay65]
  simp only [hn, hm, hv0, hv1, hv2, hv3, hv4, hv5, hv6]
  refine (hw.sum_two c (by omega) _ _ (fun k => L.poolSum (tok i r) ⟨256 * 2 + k, by omega⟩) (ha r) fun l => ?_).trans ?_
  · refine .trans ?_ (win_eq L i 4 5 r l ⟨256 * 2 + (128 + l), by omega⟩ (by simp; try omega) (by rw [show (256 * 2 + (128 + l.val)) / 256 = 2 by omega]; rfl))
    simp only [part, Finset.sum_range_succ, Finset.sum_range_zero, zero_add, Nat.add_zero, Nat.reduceAdd, Nat.reduceSub, Nat.reduceMul]
  · refine Finset.sum_congr rfl fun k _ => ?_
    congr 2; exact Fin.ext (by simp)

theorem pay69_eq {v0 v1 v2 v3 v4 v5 v6 v7 : Vec Ideal S1x512x128 .f32}
    (hv0 : ∀ r l, v0 (ix3 0 r l) = padc L (512 * i + (0 + r.val)) (128 * 6 + l.val))
    (hv1 : ∀ r l, v1 (ix3 0 r l) = padc L (512 * i + (1 + r.val)) (128 * 6 + l.val))
    (hv2 : ∀ r l, v2 (ix3 0 r l) = padc L (512 * i + (2 + r.val)) (128 * 6 + l.val))
    (hv3 : ∀ r l, v3 (ix3 0 r l) = padc L (512 * i + (3 + r.val)) (128 * 6 + l.val))
    (hv4 : ∀ r l, v4 (ix3 0 r l) = padc L (512 * i + (4 + r.val)) (128 * 6 + l.val))
    (hv5 : ∀ r l, v5 (ix3 0 r l) = padc L (512 * i + (5 + r.val)) (128 * 6 + l.val))
    (hv6 : ∀ r l, v6 (ix3 0 r l) = padc L (512 * i + (6 + r.val)) (128 * 6 + l.val))
    (hv7 : ∀ r l, v7 (ix3 0 r l) = padc L (512 * i + (7 + r.val)) (128 * 6 + l.val))
    (r : Fin 512) (l : Fin 128) : k2_pay69 v0 v1 v2 v3 v4 v5 v6 v7 (ix2 r l) = part L i 6 0 8 r l := by
  pointwise [k2_pay69]
  simp only [hv0, hv1, hv2, hv3, hv4, hv5, hv6, hv7, part, Finset.sum_range_succ, Finset.sum_range_zero, zero_add, Nat.add_zero, Nat.reduceAdd, Nat.reduceSub, Nat.reduceMul]

/-- The fourth group's first half. -/
theorem pay70_eq {n : FVec Ideal S512x1 .f32} {m : FVec Ideal S512x128 .f32} {v0 v1 v2 v3 v4 v5 v6 v7 v8 : Vec Ideal S1x512x128 .f32}
    (hn : ∀ r, n (ix2 r 0) = Ideal.div 1 (Layer.cnt 8 (tok i r)))
    (hm : ∀ r l, m (ix2 r l) = part L i 6 0 8 r l)
    (hv0 : ∀ r l, v0 (ix3 0 r l) = padc L (512 * i + (8 + r.val)) (128 * 6 + l.val))
    (hv1 : ∀ r l, v1 (ix3 0 r l) = padc L (512 * i + (9 + r.val)) (128 * 6 + l.val))
    (hv2 : ∀ r l, v2 (ix3 0 r l) = padc L (512 * i + (10 + r.val)) (128 * 6 + l.val))
    (hv3 : ∀ r l, v3 (ix3 0 r l) = padc L (512 * i + (11 + r.val)) (128 * 6 + l.val))
    (hv4 : ∀ r l, v4 (ix3 0 r l) = padc L (512 * i + (12 + r.val)) (128 * 6 + l.val))
    (hv5 : ∀ r l, v5 (ix3 0 r l) = padc L (512 * i + (13 + r.val)) (128 * 6 + l.val))
    (hv6 : ∀ r l, v6 (ix3 0 r l) = padc L (512 * i + (14 + r.val)) (128 * 6 + l.val))
    (hv7 : ∀ r l, v7 (ix3 0 r l) = padc L (512 * i + (15 + r.val)) (128 * 6 + l.val))
    (hv8 : ∀ r l, v8 (ix3 0 r l) = padc L (512 * i + (8 + r.val)) (128 * 6 + l.val))
    (r : Fin 512) (l : Fin 128) : k2_pay70 n m v0 v1 v2 v3 v4 v5 v6 v7 v8 (ix2 r l) = L.poolSum (tok i r) ⟨256 * 3 + (l), by omega⟩ := by
  pointwise [k2_pay70]
  simp only [hn, hm, hv0, hv1, hv2, hv3, hv4, hv5, hv6, hv7, hv8]
  refine .trans ?_ (win_eq L i 8 6 r l ⟨256 * 3 + (l), by omega⟩ (by simp; try omega) (by rw [show (256 * 3 + (l.val)) / 256 = 3 by omega]; rfl))
  simp only [part, Finset.sum_range_succ, Finset.sum_range_zero, zero_add, Nat.add_zero, Nat.reduceAdd, Nat.reduceSub, Nat.reduceMul]

theorem pay71_eq {v0 : Vec Ideal S1x512x128 .f32}
    (hv0 : ∀ r l, v0 (ix3 0 r l) = padc L (512 * i + (0 + r.val)) (128 * 7 + l.val))
    (r : Fin 512) (l : Fin 128) : k2_pay71 v0 (ix2 r l) = part L i 7 0 1 r l := by
  pointwise [k2_pay71]
  simp only [hv0, part, Finset.sum_range_succ, Finset.sum_range_zero, zero_add, Nat.add_zero, Nat.reduceAdd, Nat.reduceSub, Nat.reduceMul]

theorem pay72_eq {m : FVec Ideal S512x128 .f32} {v0 v1 v2 v3 v4 v5 v6 v7 v8 v9 : Vec Ideal S1x512x128 .f32}
    (hm : ∀ r l, m (ix2 r l) = part L i 7 0 1 r l)
    (hv0 : ∀ r l, v0 (ix3 0 r l) = padc L (512 * i + (1 + r.val)) (128 * 7 + l.val))
    (hv1 : ∀ r l, v1 (ix3 0 r l) = padc L (512 * i + (2 + r.val)) (128 * 7 + l.val))
    (hv2 : ∀ r l, v2 (ix3 0 r l) = padc L (512 * i + (3 + r.val)) (128 * 7 + l.val))
    (hv3 : ∀ r l, v3 (ix3 0 r l) = padc L (512 * i + (4 + r.val)) (128 * 7 + l.val))
    (hv4 : ∀ r l, v4 (ix3 0 r l) = padc L (512 * i + (5 + r.val)) (128 * 7 + l.val))
    (hv5 : ∀ r l, v5 (ix3 0 r l) = padc L (512 * i + (6 + r.val)) (128 * 7 + l.val))
    (hv6 : ∀ r l, v6 (ix3 0 r l) = padc L (512 * i + (7 + r.val)) (128 * 7 + l.val))
    (hv7 : ∀ r l, v7 (ix3 0 r l) = padc L (512 * i + (8 + r.val)) (128 * 7 + l.val))
    (hv8 : ∀ r l, v8 (ix3 0 r l) = padc L (512 * i + (9 + r.val)) (128 * 7 + l.val))
    (hv9 : ∀ r l, v9 (ix3 0 r l) = padc L (512 * i + (10 + r.val)) (128 * 7 + l.val))
    (r : Fin 512) (l : Fin 128) : k2_pay72 m v0 v1 v2 v3 v4 v5 v6 v7 v8 v9 (ix2 r l) = part L i 7 0 11 r l := by
  pointwise [k2_pay72]
  simp only [hm, hv0, hv1, hv2, hv3, hv4, hv5, hv6, hv7, hv8, hv9, part, Finset.sum_range_succ, Finset.sum_range_zero, zero_add, Nat.add_zero, Nat.reduceAdd, Nat.reduceSub, Nat.reduceMul]

/-- The pool branch before its output weights. -/
theorem pay73_eq {z : FVec Ideal S512x1024 .f32} {g0 g1 g2 : FVec Ideal S512x256 .f32} {n : FVec Ideal S512x1 .f32} {a m : FVec Ideal S512x128 .f32}
    {v0 v1 v2 v3 v4 v5 : Vec Ideal S1x512x128 .f32} {w : Vec Ideal S128x2x256 .bf16} {s : Vec Ideal S1x1024 .f32}
    (hz : ∀ r (c : Fin 1024), z (ix2 r c) = L.proj (tok i r) ⟨1024 + c, by omega⟩ * sigTanh (L.proj (tok i r) ⟨1024 + c, by omega⟩))
    (hg0 : ∀ r c, g0 (ix2 r c) = grp L 0 (tok i r) c)
    (hg1 : ∀ r c, g1 (ix2 r c) = grp L 1 (tok i r) c)
    (hg2 : ∀ r c, g2 (ix2 r c) = grp L 2 (tok i r) c)
    (hn : ∀ r, n (ix2 r 0) = Ideal.div 1 (Layer.cnt 8 (tok i r)))
    (ha : ∀ r (l : Fin 128), a (ix2 r l) = L.poolSum (tok i r) ⟨256 * 3 + (l), by omega⟩)
    (hm : ∀ r l, m (ix2 r l) = part L i 7 0 11 r l)
    (hv0 : ∀ r l, v0 (ix3 0 r l) = padc L (512 * i + (11 + r.val)) (128 * 7 + l.val))
    (hv1 : ∀ r l, v1 (ix3 0 r l) = padc L (512 * i + (12 + r.val)) (128 * 7 + l.val))
    (hv2 : ∀ r l, v2 (ix3 0 r l) = padc L (512 * i + (13 + r.val)) (128 * 7 + l.val))
    (hv3 : ∀ r l, v3 (ix3 0 r l) = padc L (512 * i + (14 + r.val)) (128 * 7 + l.val))
    (hv4 : ∀ r l, v4 (ix3 0 r l) = padc L (512 * i + (15 + r.val)) (128 * 7 + l.val))
    (hv5 : ∀ r l, v5 (ix3 0 r l) = padc L (512 * i + (8 + r.val)) (128 * 7 + l.val))
    (hw : Pairs (fun k p c => w (ix3 k p c)) (L.wp 3) 0)
    (hs : ∀ c, s (ix2 0 c) = L.sc c)
    (r : Fin 512) (c : Fin 1024) : k2_pay73 z g0 g1 g2 n a m v0 v1 v2 v3 v4 v5 w s (ix2 r c) = L.yin sigTanh L.poolSum (tok i r) c := by
  pointwise [k2_pay73]
  simp only [hn, hm, hv0, hv1, hv2, hv3, hv4, hv5, hz, hs, hg0, hg1, hg2]
  unfold Layer.yin
  congr 2
  split
  · exact grp_eq L 0 _ _ c (by simp)
  split
  · exact grp_eq L 1 _ _ c (by simp; omega)
  split
  · exact grp_eq L 2 _ _ c (by simp; omega)
  refine .trans ?_ (grp_eq L 3 (tok i r) ⟨c - 256 - 256 - 256, by omega⟩ c (by simp; omega))
  refine (hw.sum_two ⟨c - 256 - 256 - 256, by omega⟩ (by simp; omega) _ _ (fun k => L.poolSum (tok i r) ⟨256 * 3 + k, by omega⟩) (ha r) fun l => ?_).trans ?_
  · refine .trans ?_ (win_eq L i 8 7 r l ⟨256 * 3 + (128 + l), by omega⟩ (by simp; try omega) (by rw [show (256 * 3 + (128 + l.val)) / 256 = 3 by omega]; rfl))
    simp only [part, Finset.sum_range_succ, Finset.sum_range_zero, zero_add, Nat.add_zero, Nat.reduceAdd, Nat.reduceSub, Nat.reduceMul]
  · refine Finset.sum_congr rfl fun k _ => ?_
    congr 2; exact Fin.ext (by simp)

end

end Cert.Enc
-- ==== Proof.Block.lean ====
/- What the body of `encoder_main` leaves in the output's staging buffer: each of its stages is a payload of the loads and of the stages
   before it, so the lemmas of `Rows`, `Slab`, `Attend` and `Pool` compose to the layer's output at the block's tokens. -/
module

public import proofs.«01_k».proof.Proof.Gen.KernelIdeal.Frame
public import proofs.«01_k».proof.Proof.Attend
public import proofs.«01_k».proof.Proof.Pool

@[expose] public section

set_option maxRecDepth 16384

noncomputable section

namespace Cert.Enc

open Idealize.ShloMosaic Idealize.SL.Sem Cert.KernelIdeal Cert.KernelIdeal.Gen

/-- A load of a whole buffer's contents. -/
theorem load_at {S : Shape} {e : EltTy} {m : Memref sig .tc .vmem S e} (h : m.IsWhole) (x : Vec Ideal S e) (B : Rect S) :
    View.readAt (Elt Ideal) m.view B.toLoadRect (h.unread x) = View.ld x B := by
  rw [View.readAt_eq_ld, Memref.IsWhole.read_unread]

/-- The scratch's contents at a load of 512 rows of one slab. -/
theorem slabAt_unit (L : Layer 16384) (i : Fin 32) (s o : ℕ) (inb) (r : Fin 512) (l : Fin 128) :
    slabAt L i ((Rect.unit (s := S8x528x128) ![s, o, 0] S1x512x128.size inb).toLoadRect.idx (ix3 0 r l))
      = padc L (512 * i + (o + r.val)) (128 * s + l.val) := by
  unfold slabAt
  congr 1 <;> simp

/-- The staged blocks at block `i`, as functions of the layer's arguments. -/
structure Staged (L : Layer 16384) (i : Fin 32) (x0 : Vec Ideal S1x512x1024 .f32) (x1 x2 : Vec Ideal S1x8x1024 .f32) (x3 : Vec Ideal S1x512x512 .bf16)
    (x4 : Vec Ideal S1x256x1024 .bf16) (x5 : Vec Ideal S1x1024 .f32) (x6 : Vec Ideal S512x2x7168 .bf16) (x7 : Vec Ideal S512x2x256 .bf16)
    (x8 : Vec Ideal S1x1024 .f32) (x9 : Vec Ideal S512x2x1024 .bf16) (x10 x11 : Vec Ideal S256x2x1024 .bf16) (x12 : Vec Ideal S1x3072 .f32)
    (x13 : Vec Ideal S512x2x1024 .bf16) (x14 : Vec Ideal S1x1024 .f32) : Prop where
  x : ∀ r c, x0 (ix3 0 r c) = L.x (tok i r) c
  prev : 0 < i.val → ∀ (r : Fin 8) c, x1 (ix3 0 r c) = L.x ⟨512 * i + r - 8, by omega⟩ c
  next : ∀ hi : i.val < 31, ∀ (r : Fin 8) c, x2 (ix3 0 r c) = L.x ⟨512 * i + 512 + r, by omega⟩ c
  f : ∀ r c, x3 (ix3 0 r c) = L.f (tok i r) c
  kv : ∀ m j, x4 (ix3 0 m j) = L.kv m j
  gi : ∀ c, x5 (ix2 0 c) = L.gi c
  w : Pairs (fun k p c => x6 (ix3 k p c)) L.w 0
  wp : ∀ (g : Fin 4) (k : Fin 128) (p : Fin 2) (c : Fin 256), x7 (ix3 ⟨128 * g + k, by omega⟩ p c) = L.wp g ⟨2 * k + p, by omega⟩ c
  sc : ∀ c, x8 (ix2 0 c) = L.sc c
  wpo : Pairs (fun k p c => x9 (ix3 k p c)) L.wpo 0
  wfo : Pairs (fun k p c => x10 (ix3 k p c)) L.wfo 0
  wao : Pairs (fun k p c => x11 (ix3 k p c)) L.wao 0
  bg : ∀ c, x12 (ix2 0 c) = L.bg c
  wo : Pairs (fun k p c => x13 (ix3 k p c)) L.wo 0
  gf : ∀ c, x14 (ix2 0 c) = L.gf c

/-- Columns of packed weights from `o` on. -/
theorem Pairs.cols {n C C' N M : ℕ} {raw : Fin n → Fin 2 → Fin C → EReal} {W : Fin N → Fin M → EReal} (h : Pairs raw W 0) (o : ℕ)
    (raw' : Fin n → Fin 2 → Fin C' → EReal) (hC : ∀ c : Fin C', o + c.val < C) (hr : ∀ k p c, raw' k p c = raw k p ⟨o + c, hC c⟩) :
    Pairs raw' W o := by
  intro k p c h1 h2
  rw [hr, h k p ⟨o + c, hC c⟩ h1 (by simpa using h2)]
  congr 1; exact Fin.ext (by simp)

section

variable {L : Layer 16384} {i : Fin 32} (c : Dev nD) (g : grid2.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x512x512 .bf16) (harg5 : arg5.IsWhole)
  (arg6 : Memref sig .tc .vmem S1x256x1024 .bf16) (harg6 : arg6.IsWhole)
  (arg7 : Memref sig .tc .vmem S1x1024 .f32) (harg7 : arg7.IsWhole)
  (arg8 : Memref sig .tc .vmem S512x2x7168 .bf16) (harg8 : arg8.IsWhole)
  (arg9 : Memref sig .tc .vmem S512x2x256 .bf16) (harg9 : arg9.IsWhole)
  (arg10 : Memref sig .tc .vmem S1x1024 .f32) (harg10 : arg10.IsWhole)
  (arg11 : Memref sig .tc .vmem S512x2x1024 .bf16) (harg11 : arg11.IsWhole)
  (arg12 : Memref sig .tc .vmem S256x2x1024 .bf16) (harg12 : arg12.IsWhole)
  (arg13 : Memref sig .tc .vmem S256x2x1024 .bf16) (harg13 : arg13.IsWhole)
  (arg14 : Memref sig .tc .vmem S1x3072 .f32) (harg14 : arg14.IsWhole)
  (arg15 : Memref sig .tc .vmem S512x2x1024 .bf16) (harg15 : arg15.IsWhole)
  (arg16 : Memref sig .tc .vmem S1x1024 .f32) (harg16 : arg16.IsWhole)
  (arg18 : Memref sig .tc .vmem S8x528x128 .f32)
  {x0 : Vec Ideal S1x512x1024 .f32}  {x1 : Vec Ideal S1x8x1024 .f32}  {x2 : Vec Ideal S1x8x1024 .f32}  {x3 : Vec Ideal S1x512x512 .bf16}
  {x4 : Vec Ideal S1x256x1024 .bf16}  {x5 : Vec Ideal S1x1024 .f32}  {x6 : Vec Ideal S512x2x7168 .bf16}  {x7 : Vec Ideal S512x2x256 .bf16}
  {x8 : Vec Ideal S1x1024 .f32}  {x9 : Vec Ideal S512x2x1024 .bf16}  {x10 : Vec Ideal S256x2x1024 .bf16}  {x11 : Vec Ideal S256x2x1024 .bf16}
  {x12 : Vec Ideal S1x3072 .f32}  {x13 : Vec Ideal S512x2x1024 .bf16}  {x14 : Vec Ideal S1x1024 .f32}
  (S : Staged L i x0 x1 x2 x3 x4 x5 x6 x7 x8 x9 x10 x11 x12 x13 x14)

include S in
theorem stage_r (r : Fin 512) (d : Fin 1024) :
    kernelRun2_A.sl.r c arg2 harg2 x0 (ix2 r d) = L.x (tok i r) d := by
  unfold kernelRun2_A.sl.r
  exact pay2_eq L (tok i) (fun r c => by rw [load_at]; pointwise; exact S.x _ _) r d

include S in
/-- The normalised rows. -/
theorem stage_r_1 (r : Fin 512) (d : Fin 1024) :
    kernelRun2_A.sl.r_1 c arg2 harg2 arg7 harg7 x0 x5 (ix2 r d) = L.xn (tok i r) d := by
  unfold kernelRun2_A.sl.r_1
  exact pay3_eq L (tok i) (fun c => by rw [load_at]; pointwise; exact S.gi _) (fun r c => by rw [load_at]; pointwise; exact S.x _ _) r d

include S in
/-- The queries. -/
theorem stage_r_10 (r d : Fin 512) :
    kernelRun2_A.sl.r_10 c arg2 harg2 arg7 harg7 arg8 harg8 x0 x5 x6 (ix2 r d) = L.proj (tok i r) ⟨3072 + d, by omega⟩ := by
  unfold kernelRun2_A.sl.r_10
  exact pay36_eq L (tok i) (stage_r_1 c arg2 harg2 arg7 harg7 S) (S.w.cols 3072 _ (fun c => by omega) fun k p c => by rw [load_at]; pointwise) r d

include S in
theorem stage_r_11 (r : Fin 512) :
    kernelRun2_A.sl.r_11 c arg2 harg2 arg6 harg6 arg7 harg7 arg8 harg8 x0 x4 x5 x6 (ix2 r 0) = ∑ m, L.ex (tok i r) 0 m := by
  unfold kernelRun2_A.sl.r_11
  exact pay38_eq L (tok i) (stage_r_1 c arg2 harg2 arg7 harg7 S) (S.w.cols 3072 _ (fun c => by omega) fun k p c => by rw [load_at]; pointwise) (fun m d _ => by rw [load_at]; pointwise; exact (S.kv _ _).trans (by congr 1 <;> exact Fin.ext (by simp))) r

include S in
theorem stage_r_12 (r : Fin 512) (m : Fin 256) :
    kernelRun2_A.sl.r_12 c arg2 harg2 arg6 harg6 arg7 harg7 arg8 harg8 x0 x4 x5 x6 (ix2 r m) = L.ex (tok i r) 0 m := by
  unfold kernelRun2_A.sl.r_12
  exact pay39_eq L (tok i) (stage_r_1 c arg2 harg2 arg7 harg7 S) (S.w.cols 3072 _ (fun c => by omega) fun k p c => by rw [load_at]; pointwise) (fun m d _ => by rw [load_at]; pointwise; exact (S.kv _ _).trans (by congr 1 <;> exact Fin.ext (by simp))) r m

include S in
theorem stage_r_13 (r : Fin 512) :
    kernelRun2_A.sl.r_13 c arg2 harg2 arg6 harg6 arg7 harg7 arg8 harg8 x0 x4 x5 x6 (ix2 r 0) = ∑ m, L.ex (tok i r) 1 m := by
  unfold kernelRun2_A.sl.r_13
  exact pay41_eq L (tok i) (fun r d _ => stage_r_10 c arg2 harg2 arg7 harg7 arg8 harg8 S r d) (fun m d _ => by rw [load_at]; pointwise; exact (S.kv _ _).trans (by congr 1 <;> exact Fin.ext (by simp))) r

include S in
theorem stage_r_14 (r : Fin 512) (m : Fin 256) :
    kernelRun2_A.sl.r_14 c arg2 harg2 arg6 harg6 arg7 harg7 arg8 harg8 x0 x4 x5 x6 (ix2 r m) = L.ex (tok i r) 1 m := by
  unfold kernelRun2_A.sl.r_14
  exact pay42_eq L (tok i) (fun r d _ => stage_r_10 c arg2 harg2 arg7 harg7 arg8 harg8 S r d) (fun m d _ => by rw [load_at]; pointwise; exact (S.kv _ _).trans (by congr 1 <;> exact Fin.ext (by simp))) r m

include S in
theorem stage_r_15 (r : Fin 512) :
    kernelRun2_A.sl.r_15 c arg2 harg2 arg6 harg6 arg7 harg7 arg8 harg8 x0 x4 x5 x6 (ix2 r 0) = ∑ m, L.ex (tok i r) 2 m := by
  unfold kernelRun2_A.sl.r_15
  exact pay44_eq L (tok i) (fun r d _ => stage_r_10 c arg2 harg2 arg7 harg7 arg8 harg8 S r d) (fun m d _ => by rw [load_at]; pointwise; exact (S.kv _ _).trans (by congr 1 <;> exact Fin.ext (by simp))) r

include S in
theorem stage_r_16 (r : Fin 512) (m : Fin 256) :
    kernelRun2_A.sl.r_16 c arg2 harg2 arg6 harg6 arg7 harg7 arg8 harg8 x0 x4 x5 x6 (ix2 r m) = L.ex (tok i r) 2 m := by
  unfold kernelRun2_A.sl.r_16
  exact pay45_eq L (tok i) (fun r d _ => stage_r_10 c arg2 harg2 arg7 harg7 arg8 harg8 S r d) (fun m d _ => by rw [load_at]; pointwise; exact (S.kv _ _).trans (by congr 1 <;> exact Fin.ext (by simp))) r m

include S in
theorem stage_r_17 (r : Fin 512) (m : Fin 256) :
    kernelRun2_A.sl.r_17 c arg2 harg2 arg6 harg6 arg7 harg7 arg8 harg8 x0 x4 x5 x6 (ix2 r m) = L.ex (tok i r) 3 m := by
  unfold kernelRun2_A.sl.r_17
  exact pay46_eq L (tok i) (fun r d _ => stage_r_10 c arg2 harg2 arg7 harg7 arg8 harg8 S r d) (fun m d _ => by rw [load_at]; pointwise; exact (S.kv _ _).trans (by congr 1 <;> exact Fin.ext (by simp))) r m

include S in
theorem stage_r_18 (r : Fin 512) :
    kernelRun2_A.sl.r_18 c arg2 harg2 arg6 harg6 arg7 harg7 arg8 harg8 x0 x4 x5 x6 (ix2 r 0) = ∑ m, L.ex (tok i r) 3 m := by
  unfold kernelRun2_A.sl.r_18
  exact pay47_eq L (tok i) (stage_r_17 c arg2 harg2 arg6 harg6 arg7 harg7 arg8 harg8 S) r

include S in
theorem stage_r_19 (r : Fin 512) (m : Fin 256) :
    kernelRun2_A.sl.r_19 c arg2 harg2 arg6 harg6 arg7 harg7 arg8 harg8 x0 x4 x5 x6 (ix2 r m) = L.ex (tok i r) 3 m := by
  unfold kernelRun2_A.sl.r_19
  exact pay48_eq L (tok i) (stage_r_17 c arg2 harg2 arg6 harg6 arg7 harg7 arg8 harg8 S) r m

include S in
/-- The Fourier branch. -/
theorem stage_r_20 (r d : Fin 512) :
    kernelRun2_A.sl.r_20 c arg2 harg2 arg5 harg5 arg7 harg7 arg8 harg8 x0 x3 x5 x6 (ix2 r d) = L.fin sigTanh (tok i r) d := by
  unfold kernelRun2_A.sl.r_20
  exact pay49_eq L (tok i) (stage_r_1 c arg2 harg2 arg7 harg7 S) (fun r c => by rw [load_at]; pointwise; exact S.f _ _) (S.w.cols 2560 _ (fun c => by omega) fun k p c => by rw [load_at]; pointwise) r d

include S in
/-- The attention branch. -/
theorem stage_r_43 (r d : Fin 512) :
    kernelRun2_A.sl.r_43 c arg2 harg2 arg6 harg6 arg7 harg7 arg8 harg8 x0 x4 x5 x6 (ix2 r d) = L.ain sigTanh L.attLast (tok i r) d := by
  unfold kernelRun2_A.sl.r_43
  exact pay74_eq L (tok i) (stage_r_1 c arg2 harg2 arg7 harg7 S) (stage_r_11 c arg2 harg2 arg6 harg6 arg7 harg7 arg8 harg8 S) (stage_r_12 c arg2 harg2 arg6 harg6 arg7 harg7 arg8 harg8 S) (stage_r_13 c arg2 harg2 arg6 harg6 arg7 harg7 arg8 harg8 S)
    (stage_r_14 c arg2 harg2 arg6 harg6 arg7 harg7 arg8 harg8 S) (stage_r_15 c arg2 harg2 arg6 harg6 arg7 harg7 arg8 harg8 S) (stage_r_16 c arg2 harg2 arg6 harg6 arg7 harg7 arg8 harg8 S)
    (stage_r_18 c arg2 harg2 arg6 harg6 arg7 harg7 arg8 harg8 S) (stage_r_19 c arg2 harg2 arg6 harg6 arg7 harg7 arg8 harg8 S)
    (S.w.cols 3584 _ (fun c => by omega) fun k p c => by rw [load_at]; pointwise)
    (fun m d => by rw [load_at]; pointwise; exact S.kv _ _) (fun m d => by rw [load_at]; pointwise; exact S.kv _ _) (fun m d => by rw [load_at]; pointwise; exact S.kv _ _) (fun m d => by rw [load_at]; pointwise; exact S.kv _ _) r d

include S in
theorem stage_r_21 (r : Fin 512) (d : Fin 1024) :
    kernelRun2_A.sl.r_21 c arg2 harg2 arg7 harg7 arg8 harg8 x0 x5 x6 (ix2 r d) = L.proj (tok i r) ⟨1024 + d, by omega⟩ * sigTanh (L.proj (tok i r) ⟨1024 + d, by omega⟩) := by
  unfold kernelRun2_A.sl.r_21
  exact pay50_eq L (tok i) (stage_r_1 c arg2 harg2 arg7 harg7 S) (S.w.cols 1024 _ (fun c => by omega) fun k p c => by rw [load_at]; pointwise) r d

include S in
theorem stage_r_45 (r : Fin 512) (d : Fin 1024) :
    kernelRun2_A.sl.r_45 c arg2 harg2 arg7 harg7 arg8 harg8 arg14 harg14 x0 x5 x6 x12 (ix2 r d) = L.gate sigTanh 1024 (by omega) (tok i r) d := by
  unfold kernelRun2_A.sl.r_45
  exact pay76_eq L (tok i) (stage_r_1 c arg2 harg2 arg7 harg7 S) (S.w.cols 5120 _ (fun c => by omega) fun k p c => by rw [load_at]; pointwise) (fun c => by rw [load_at]; pointwise; exact S.bg _) r d

include S in
theorem stage_ext : Ext L i (k2_pay7 (kernelRun2_A.sl.r_2 c arg2 harg2 arg3 harg3 arg4 harg4 arg7 harg7 x0 x1 x2 x5) (kernelRun2_A.sl.r_3 c arg8 harg8 x6) (kernelRun2_A.sl.r_4 c arg8 harg8 x6)) := by
  unfold kernelRun2_A.sl.r_2 kernelRun2_A.sl.r_3 kernelRun2_A.sl.r_4
  exact ext_of_rows L i (fun c => by rw [load_at]; pointwise; exact S.gi _) (fun r c => by rw [load_at]; pointwise; exact S.x _ _)
    (fun hi r c => by rw [load_at]; pointwise; exact S.prev hi _ _) (fun hi r c => by rw [load_at]; pointwise; exact S.next hi _ _)
    (S.w.cols 0 _ (fun c => by omega) fun k p c => by rw [load_at]; pointwise)

theorem stage_slabs (hg : (g 1).val = i.val) : kernelRun2_A.sl.HS0_24 c g arg2 harg2 arg3 harg3 arg4 harg4 arg7 harg7 arg8 harg8 x0 x1 x2 x5 x6 = slabs (BitVec.ofNat 32 i) (kernelRun2_A.sl.r_2 c arg2 harg2 arg3 harg3 arg4 harg4 arg7 harg7 x0 x1 x2 x5) (kernelRun2_A.sl.r_3 c arg8 harg8 x6) (kernelRun2_A.sl.r_4 c arg8 harg8 x6) := by
  rw [← hg]; rfl

include S in
theorem stage_v249 (hg : (g 1).val = i.val) (r : Fin 512) (l : Fin 128) :
    kernelRun2_A.sl.v249 c g arg2 harg2 arg3 harg3 arg4 harg4 arg7 harg7 arg8 harg8 arg18 x0 x1 x2 x5 x6 (ix3 0 r l) = padc L (512 * i + (7 + r.val)) (128 * 0 + l.val) := by
  unfold kernelRun2_A.sl.v249
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 0 7 _ r l

include S in
theorem stage_v251 (hg : (g 1).val = i.val) (r : Fin 512) (l : Fin 128) :
    kernelRun2_A.sl.v251 c g arg2 harg2 arg3 harg3 arg4 harg4 arg7 harg7 arg8 harg8 arg18 x0 x1 x2 x5 x6 (ix3 0 r l) = padc L (512 * i + (8 + r.val)) (128 * 0 + l.val) := by
  unfold kernelRun2_A.sl.v251
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 0 8 _ r l

include S in
theorem stage_v259 (hg : (g 1).val = i.val) (r : Fin 512) (l : Fin 128) :
    kernelRun2_A.sl.v259 c g arg2 harg2 arg3 harg3 arg4 harg4 arg7 harg7 arg8 harg8 arg18 x0 x1 x2 x5 x6 (ix3 0 r l) = padc L (512 * i + (7 + r.val)) (128 * 1 + l.val) := by
  unfold kernelRun2_A.sl.v259
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 1 7 _ r l

include S in
theorem stage_v261 (hg : (g 1).val = i.val) (r : Fin 512) (l : Fin 128) :
    kernelRun2_A.sl.v261 c g arg2 harg2 arg3 harg3 arg4 harg4 arg7 harg7 arg8 harg8 arg18 x0 x1 x2 x5 x6 (ix3 0 r l) = padc L (512 * i + (8 + r.val)) (128 * 1 + l.val) := by
  unfold kernelRun2_A.sl.v261
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 1 8 _ r l

include S in
theorem stage_v287 (hg : (g 1).val = i.val) (r : Fin 512) (l : Fin 128) :
    kernelRun2_A.sl.v287 c g arg2 harg2 arg3 harg3 arg4 harg4 arg7 harg7 arg8 harg8 arg18 x0 x1 x2 x5 x6 (ix3 0 r l) = padc L (512 * i + (6 + r.val)) (128 * 2 + l.val) := by
  unfold kernelRun2_A.sl.v287
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 6 _ r l

include S in
theorem stage_v289 (hg : (g 1).val = i.val) (r : Fin 512) (l : Fin 128) :
    kernelRun2_A.sl.v289 c g arg2 harg2 arg3 harg3 arg4 harg4 arg7 harg7 arg8 harg8 arg18 x0 x1 x2 x5 x6 (ix3 0 r l) = padc L (512 * i + (7 + r.val)) (128 * 2 + l.val) := by
  unfold kernelRun2_A.sl.v289
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 7 _ r l

include S in
theorem stage_v292 (hg : (g 1).val = i.val) (r : Fin 512) (l : Fin 128) :
    kernelRun2_A.sl.v292 c g arg2 harg2 arg3 harg3 arg4 harg4 arg7 harg7 arg8 harg8 arg18 x0 x1 x2 x5 x6 (ix3 0 r l) = padc L (512 * i + (8 + r.val)) (128 * 2 + l.val) := by
  unfold kernelRun2_A.sl.v292
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 8 _ r l

include S in
theorem stage_v295 (hg : (g 1).val = i.val) (r : Fin 512) (l : Fin 128) :
    kernelRun2_A.sl.v295 c g arg2 harg2 arg3 harg3 arg4 harg4 arg7 harg7 arg8 harg8 arg18 x0 x1 x2 x5 x6 (ix3 0 r l) = padc L (512 * i + (9 + r.val)) (128 * 2 + l.val) := by
  unfold kernelRun2_A.sl.v295
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 9 _ r l

include S in
theorem stage_v303 (hg : (g 1).val = i.val) (r : Fin 512) (l : Fin 128) :
    kernelRun2_A.sl.v303 c g arg2 harg2 arg3 harg3 arg4 harg4 arg7 harg7 arg8 harg8 arg18 x0 x1 x2 x5 x6 (ix3 0 r l) = padc L (512 * i + (6 + r.val)) (128 * 3 + l.val) := by
  unfold kernelRun2_A.sl.v303
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 6 _ r l

include S in
theorem stage_v305 (hg : (g 1).val = i.val) (r : Fin 512) (l : Fin 128) :
    kernelRun2_A.sl.v305 c g arg2 harg2 arg3 harg3 arg4 harg4 arg7 harg7 arg8 harg8 arg18 x0 x1 x2 x5 x6 (ix3 0 r l) = padc L (512 * i + (7 + r.val)) (128 * 3 + l.val) := by
  unfold kernelRun2_A.sl.v305
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 7 _ r l

include S in
theorem stage_v308 (hg : (g 1).val = i.val) (r : Fin 512) (l : Fin 128) :
    kernelRun2_A.sl.v308 c g arg2 harg2 arg3 harg3 arg4 harg4 arg7 harg7 arg8 harg8 arg18 x0 x1 x2 x5 x6 (ix3 0 r l) = padc L (512 * i + (8 + r.val)) (128 * 3 + l.val) := by
  unfold kernelRun2_A.sl.v308
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 8 _ r l

include S in
theorem stage_v311 (hg : (g 1).val = i.val) (r : Fin 512) (l : Fin 128) :
    kernelRun2_A.sl.v311 c g arg2 harg2 arg3 harg3 arg4 harg4 arg7 harg7 arg8 harg8 arg18 x0 x1 x2 x5 x6 (ix3 0 r l) = padc L (512 * i + (9 + r.val)) (128 * 3 + l.val) := by
  unfold kernelRun2_A.sl.v311
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 9 _ r l

include S in
theorem stage_v337 (hg : (g 1).val = i.val) (r : Fin 512) (l : Fin 128) :
    kernelRun2_A.sl.v337 c g arg2 harg2 arg3 harg3 arg4 harg4 arg7 harg7 arg8 harg8 arg18 x0 x1 x2 x5 x6 (ix3 0 r l) = padc L (512 * i + (4 + r.val)) (128 * 4 + l.val) := by
  unfold kernelRun2_A.sl.v337
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 4 _ r l

include S in
theorem stage_v339 (hg : (g 1).val = i.val) (r : Fin 512) (l : Fin 128) :
    kernelRun2_A.sl.v339 c g arg2 harg2 arg3 harg3 arg4 harg4 arg7 harg7 arg8 harg8 arg18 x0 x1 x2 x5 x6 (ix3 0 r l) = padc L (512 * i + (5 + r.val)) (128 * 4 + l.val) := by
  unfold kernelRun2_A.sl.v339
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 5 _ r l

include S in
theorem stage_v342 (hg : (g 1).val = i.val) (r : Fin 512) (l : Fin 128) :
    kernelRun2_A.sl.v342 c g arg2 harg2 arg3 harg3 arg4 harg4 arg7 harg7 arg8 harg8 arg18 x0 x1 x2 x5 x6 (ix3 0 r l) = padc L (512 * i + (6 + r.val)) (128 * 4 + l.val) := by
  unfold kernelRun2_A.sl.v342
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 6 _ r l

include S in
theorem stage_v345 (hg : (g 1).val = i.val) (r : Fin 512) (l : Fin 128) :
    kernelRun2_A.sl.v345 c g arg2 harg2 arg3 harg3 arg4 harg4 arg7 harg7 arg8 harg8 arg18 x0 x1 x2 x5 x6 (ix3 0 r l) = padc L (512 * i + (7 + r.val)) (128 * 4 + l.val) := by
  unfold kernelRun2_A.sl.v345
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 7 _ r l

include S in
theorem stage_v348 (hg : (g 1).val = i.val) (r : Fin 512) (l : Fin 128) :
    kernelRun2_A.sl.v348 c g arg2 harg2 arg3 harg3 arg4 harg4 arg7 harg7 arg8 harg8 arg18 x0 x1 x2 x5 x6 (ix3 0 r l) = padc L (512 * i + (8 + r.val)) (128 * 4 + l.val) := by
  unfold kernelRun2_A.sl.v348
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 8 _ r l

include S in
theorem stage_v351 (hg : (g 1).val = i.val) (r : Fin 512) (l : Fin 128) :
    kernelRun2_A.sl.v351 c g arg2 harg2 arg3 harg3 arg4 harg4 arg7 harg7 arg8 harg8 arg18 x0 x1 x2 x5 x6 (ix3 0 r l) = padc L (512 * i + (9 + r.val)) (128 * 4 + l.val) := by
  unfold kernelRun2_A.sl.v351
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 9 _ r l

include S in
theorem stage_v354 (hg : (g 1).val = i.val) (r : Fin 512) (l : Fin 128) :
    kernelRun2_A.sl.v354 c g arg2 harg2 arg3 harg3 arg4 harg4 arg7 harg7 arg8 harg8 arg18 x0 x1 x2 x5 x6 (ix3 0 r l) = padc L (512 * i + (10 + r.val)) (128 * 4 + l.val) := by
  unfold kernelRun2_A.sl.v354
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 10 _ r l

include S in
theorem stage_v357 (hg : (g 1).val = i.val) (r : Fin 512) (l : Fin 128) :
    kernelRun2_A.sl.v357 c g arg2 harg2 arg3 harg3 arg4 harg4 arg7 harg7 arg8 harg8 arg18 x0 x1 x2 x5 x6 (ix3 0 r l) = padc L (512 * i + (11 + r.val)) (128 * 4 + l.val) := by
  unfold kernelRun2_A.sl.v357
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 11 _ r l

include S in
theorem stage_v365 (hg : (g 1).val = i.val) (r : Fin 512) (l : Fin 128) :
    kernelRun2_A.sl.v365 c g arg2 harg2 arg3 harg3 arg4 harg4 arg7 harg7 arg8 harg8 arg18 x0 x1 x2 x5 x6 (ix3 0 r l) = padc L (512 * i + (4 + r.val)) (128 * 5 + l.val) := by
  unfold kernelRun2_A.sl.v365
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 4 _ r l

include S in
theorem stage_v367 (hg : (g 1).val = i.val) (r : Fin 512) (l : Fin 128) :
    kernelRun2_A.sl.v367 c g arg2 harg2 arg3 harg3 arg4 harg4 arg7 harg7 arg8 harg8 arg18 x0 x1 x2 x5 x6 (ix3 0 r l) = padc L (512 * i + (5 + r.val)) (128 * 5 + l.val) := by
  unfold kernelRun2_A.sl.v367
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 5 _ r l

include S in
theorem stage_v370 (hg : (g 1).val = i.val) (r : Fin 512) (l : Fin 128) :
    kernelRun2_A.sl.v370 c g arg2 harg2 arg3 harg3 arg4 harg4 arg7 harg7 arg8 harg8 arg18 x0 x1 x2 x5 x6 (ix3 0 r l) = padc L (512 * i + (6 + r.val)) (128 * 5 + l.val) := by
  unfold kernelRun2_A.sl.v370
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 6 _ r l

include S in
theorem stage_v373 (hg : (g 1).val = i.val) (r : Fin 512) (l : Fin 128) :
    kernelRun2_A.sl.v373 c g arg2 harg2 arg3 harg3 arg4 harg4 arg7 harg7 arg8 harg8 arg18 x0 x1 x2 x5 x6 (ix3 0 r l) = padc L (512 * i + (7 + r.val)) (128 * 5 + l.val) := by
  unfold kernelRun2_A.sl.v373
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 7 _ r l

include S in
theorem stage_v376 (hg : (g 1).val = i.val) (r : Fin 512) (l : Fin 128) :
    kernelRun2_A.sl.v376 c g arg2 harg2 arg3 harg3 arg4 harg4 arg7 harg7 arg8 harg8 arg18 x0 x1 x2 x5 x6 (ix3 0 r l) = padc L (512 * i + (8 + r.val)) (128 * 5 + l.val) := by
  unfold kernelRun2_A.sl.v376
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 8 _ r l

include S in
theorem stage_v379 (hg : (g 1).val = i.val) (r : Fin 512) (l : Fin 128) :
    kernelRun2_A.sl.v379 c g arg2 harg2 arg3 harg3 arg4 harg4 arg7 harg7 arg8 harg8 arg18 x0 x1 x2 x5 x6 (ix3 0 r l) = padc L (512 * i + (9 + r.val)) (128 * 5 + l.val) := by
  unfold kernelRun2_A.sl.v379
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 9 _ r l

include S in
theorem stage_v382 (hg : (g 1).val = i.val) (r : Fin 512) (l : Fin 128) :
    kernelRun2_A.sl.v382 c g arg2 harg2 arg3 harg3 arg4 harg4 arg7 harg7 arg8 harg8 arg18 x0 x1 x2 x5 x6 (ix3 0 r l) = padc L (512 * i + (10 + r.val)) (128 * 5 + l.val) := by
  unfold kernelRun2_A.sl.v382
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 10 _ r l

include S in
theorem stage_v385 (hg : (g 1).val = i.val) (r : Fin 512) (l : Fin 128) :
    kernelRun2_A.sl.v385 c g arg2 harg2 arg3 harg3 arg4 harg4 arg7 harg7 arg8 harg8 arg18 x0 x1 x2 x5 x6 (ix3 0 r l) = padc L (512 * i + (11 + r.val)) (128 * 5 + l.val) := by
  unfold kernelRun2_A.sl.v385
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 11 _ r l

include S in
theorem stage_v411 (hg : (g 1).val = i.val) (r : Fin 512) (l : Fin 128) :
    kernelRun2_A.sl.v411 c g arg2 harg2 arg3 harg3 arg4 harg4 arg7 harg7 arg8 harg8 arg18 x0 x1 x2 x5 x6 (ix3 0 r l) = padc L (512 * i + (0 + r.val)) (128 * 6 + l.val) := by
  unfold kernelRun2_A.sl.v411
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 0 _ r l

include S in
theorem stage_v413 (hg : (g 1).val = i.val) (r : Fin 512) (l : Fin 128) :
    kernelRun2_A.sl.v413 c g arg2 harg2 arg3 harg3 arg4 harg4 arg7 harg7 arg8 harg8 arg18 x0 x1 x2 x5 x6 (ix3 0 r l) = padc L (512 * i + (1 + r.val)) (128 * 6 + l.val) := by
  unfold kernelRun2_A.sl.v413
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 1 _ r l

include S in
theorem stage_v416 (hg : (g 1).val = i.val) (r : Fin 512) (l : Fin 128) :
    kernelRun2_A.sl.v416 c g arg2 harg2 arg3 harg3 arg4 harg4 arg7 harg7 arg8 harg8 arg18 x0 x1 x2 x5 x6 (ix3 0 r l) = padc L (512 * i + (2 + r.val)) (128 * 6 + l.val) := by
  unfold kernelRun2_A.sl.v416
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 2 _ r l

include S in
theorem stage_v419 (hg : (g 1).val = i.val) (r : Fin 512) (l : Fin 128) :
    kernelRun2_A.sl.v419 c g arg2 harg2 arg3 harg3 arg4 harg4 arg7 harg7 arg8 harg8 arg18 x0 x1 x2 x5 x6 (ix3 0 r l) = padc L (512 * i + (3 + r.val)) (128 * 6 + l.val) := by
  unfold kernelRun2_A.sl.v419
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 3 _ r l

include S in
theorem stage_v422 (hg : (g 1).val = i.val) (r : Fin 512) (l : Fin 128) :
    kernelRun2_A.sl.v422 c g arg2 harg2 arg3 harg3 arg4 harg4 arg7 harg7 arg8 harg8 arg18 x0 x1 x2 x5 x6 (ix3 0 r l) = padc L (512 * i + (4 + r.val)) (128 * 6 + l.val) := by
  unfold kernelRun2_A.sl.v422
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 4 _ r l

include S in
theorem stage_v425 (hg : (g 1).val = i.val) (r : Fin 512) (l : Fin 128) :
    kernelRun2_A.sl.v425 c g arg2 harg2 arg3 harg3 arg4 harg4 arg7 harg7 arg8 harg8 arg18 x0 x1 x2 x5 x6 (ix3 0 r l) = padc L (512 * i + (5 + r.val)) (128 * 6 + l.val) := by
  unfold kernelRun2_A.sl.v425
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 5 _ r l

include S in
theorem stage_v428 (hg : (g 1).val = i.val) (r : Fin 512) (l : Fin 128) :
    kernelRun2_A.sl.v428 c g arg2 harg2 arg3 harg3 arg4 harg4 arg7 harg7 arg8 harg8 arg18 x0 x1 x2 x5 x6 (ix3 0 r l) = padc L (512 * i + (6 + r.val)) (128 * 6 + l.val) := by
  unfold kernelRun2_A.sl.v428
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 6 _ r l

include S in
theorem stage_v431 (hg : (g 1).val = i.val) (r : Fin 512) (l : Fin 128) :
    kernelRun2_A.sl.v431 c g arg2 harg2 arg3 harg3 arg4 harg4 arg7 harg7 arg8 harg8 arg18 x0 x1 x2 x5 x6 (ix3 0 r l) = padc L (512 * i + (7 + r.val)) (128 * 6 + l.val) := by
  unfold kernelRun2_A.sl.v431
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 7 _ r l

include S in
theorem stage_v434 (hg : (g 1).val = i.val) (r : Fin 512) (l : Fin 128) :
    kernelRun2_A.sl.v434 c g arg2 harg2 arg3 harg3 arg4 harg4 arg7 harg7 arg8 harg8 arg18 x0 x1 x2 x5 x6 (ix3 0 r l) = padc L (512 * i + (8 + r.val)) (128 * 6 + l.val) := by
  unfold kernelRun2_A.sl.v434
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 8 _ r l

include S in
theorem stage_v437 (hg : (g 1).val = i.val) (r : Fin 512) (l : Fin 128) :
    kernelRun2_A.sl.v437 c g arg2 harg2 arg3 harg3 arg4 harg4 arg7 harg7 arg8 harg8 arg18 x0 x1 x2 x5 x6 (ix3 0 r l) = padc L (512 * i + (9 + r.val)) (128 * 6 + l.val) := by
  unfold kernelRun2_A.sl.v437
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 9 _ r l

include S in
theorem stage_v440 (hg : (g 1).val = i.val) (r : Fin 512) (l : Fin 128) :
    kernelRun2_A.sl.v440 c g arg2 harg2 arg3 harg3 arg4 harg4 arg7 harg7 arg8 harg8 arg18 x0 x1 x2 x5 x6 (ix3 0 r l) = padc L (512 * i + (10 + r.val)) (128 * 6 + l.val) := by
  unfold kernelRun2_A.sl.v440
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 10 _ r l

include S in
theorem stage_v443 (hg : (g 1).val = i.val) (r : Fin 512) (l : Fin 128) :
    kernelRun2_A.sl.v443 c g arg2 harg2 arg3 harg3 arg4 harg4 arg7 harg7 arg8 harg8 arg18 x0 x1 x2 x5 x6 (ix3 0 r l) = padc L (512 * i + (11 + r.val)) (128 * 6 + l.val) := by
  unfold kernelRun2_A.sl.v443
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 11 _ r l

include S in
theorem stage_v446 (hg : (g 1).val = i.val) (r : Fin 512) (l : Fin 128) :
    kernelRun2_A.sl.v446 c g arg2 harg2 arg3 harg3 arg4 harg4 arg7 harg7 arg8 harg8 arg18 x0 x1 x2 x5 x6 (ix3 0 r l) = padc L (512 * i + (12 + r.val)) (128 * 6 + l.val) := by
  unfold kernelRun2_A.sl.v446
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 12 _ r l

include S in
theorem stage_v449 (hg : (g 1).val = i.val) (r : Fin 512) (l : Fin 128) :
    kernelRun2_A.sl.v449 c g arg2 harg2 arg3 harg3 arg4 harg4 arg7 harg7 arg8 harg8 arg18 x0 x1 x2 x5 x6 (ix3 0 r l) = padc L (512 * i + (13 + r.val)) (128 * 6 + l.val) := by
  unfold kernelRun2_A.sl.v449
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 13 _ r l

include S in
theorem stage_v452 (hg : (g 1).val = i.val) (r : Fin 512) (l : Fin 128) :
    kernelRun2_A.sl.v452 c g arg2 harg2 arg3 harg3 arg4 harg4 arg7 harg7 arg8 harg8 arg18 x0 x1 x2 x5 x6 (ix3 0 r l) = padc L (512 * i + (14 + r.val)) (128 * 6 + l.val) := by
  unfold kernelRun2_A.sl.v452
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 14 _ r l

include S in
theorem stage_v455 (hg : (g 1).val = i.val) (r : Fin 512) (l : Fin 128) :
    kernelRun2_A.sl.v455 c g arg2 harg2 arg3 harg3 arg4 harg4 arg7 harg7 arg8 harg8 arg18 x0 x1 x2 x5 x6 (ix3 0 r l) = padc L (512 * i + (15 + r.val)) (128 * 6 + l.val) := by
  unfold kernelRun2_A.sl.v455
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 15 _ r l

include S in
theorem stage_v463 (hg : (g 1).val = i.val) (r : Fin 512) (l : Fin 128) :
    kernelRun2_A.sl.v463 c g arg2 harg2 arg3 harg3 arg4 harg4 arg7 harg7 arg8 harg8 arg18 x0 x1 x2 x5 x6 (ix3 0 r l) = padc L (512 * i + (0 + r.val)) (128 * 7 + l.val) := by
  unfold kernelRun2_A.sl.v463
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 0 _ r l

include S in
theorem stage_v465 (hg : (g 1).val = i.val) (r : Fin 512) (l : Fin 128) :
    kernelRun2_A.sl.v465 c g arg2 harg2 arg3 harg3 arg4 harg4 arg7 harg7 arg8 harg8 arg18 x0 x1 x2 x5 x6 (ix3 0 r l) = padc L (512 * i + (1 + r.val)) (128 * 7 + l.val) := by
  unfold kernelRun2_A.sl.v465
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 1 _ r l

include S in
theorem stage_v468 (hg : (g 1).val = i.val) (r : Fin 512) (l : Fin 128) :
    kernelRun2_A.sl.v468 c g arg2 harg2 arg3 harg3 arg4 harg4 arg7 harg7 arg8 harg8 arg18 x0 x1 x2 x5 x6 (ix3 0 r l) = padc L (512 * i + (2 + r.val)) (128 * 7 + l.val) := by
  unfold kernelRun2_A.sl.v468
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 2 _ r l

include S in
theorem stage_v471 (hg : (g 1).val = i.val) (r : Fin 512) (l : Fin 128) :
    kernelRun2_A.sl.v471 c g arg2 harg2 arg3 harg3 arg4 harg4 arg7 harg7 arg8 harg8 arg18 x0 x1 x2 x5 x6 (ix3 0 r l) = padc L (512 * i + (3 + r.val)) (128 * 7 + l.val) := by
  unfold kernelRun2_A.sl.v471
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 3 _ r l

include S in
theorem stage_v474 (hg : (g 1).val = i.val) (r : Fin 512) (l : Fin 128) :
    kernelRun2_A.sl.v474 c g arg2 harg2 arg3 harg3 arg4 harg4 arg7 harg7 arg8 harg8 arg18 x0 x1 x2 x5 x6 (ix3 0 r l) = padc L (512 * i + (4 + r.val)) (128 * 7 + l.val) := by
  unfold kernelRun2_A.sl.v474
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 4 _ r l

include S in
theorem stage_v477 (hg : (g 1).val = i.val) (r : Fin 512) (l : Fin 128) :
    kernelRun2_A.sl.v477 c g arg2 harg2 arg3 harg3 arg4 harg4 arg7 harg7 arg8 harg8 arg18 x0 x1 x2 x5 x6 (ix3 0 r l) = padc L (512 * i + (5 + r.val)) (128 * 7 + l.val) := by
  unfold kernelRun2_A.sl.v477
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 5 _ r l

include S in
theorem stage_v480 (hg : (g 1).val = i.val) (r : Fin 512) (l : Fin 128) :
    kernelRun2_A.sl.v480 c g arg2 harg2 arg3 harg3 arg4 harg4 arg7 harg7 arg8 harg8 arg18 x0 x1 x2 x5 x6 (ix3 0 r l) = padc L (512 * i + (6 + r.val)) (128 * 7 + l.val) := by
  unfold kernelRun2_A.sl.v480
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 6 _ r l

include S in
theorem stage_v483 (hg : (g 1).val = i.val) (r : Fin 512) (l : Fin 128) :
    kernelRun2_A.sl.v483 c g arg2 harg2 arg3 harg3 arg4 harg4 arg7 harg7 arg8 harg8 arg18 x0 x1 x2 x5 x6 (ix3 0 r l) = padc L (512 * i + (7 + r.val)) (128 * 7 + l.val) := by
  unfold kernelRun2_A.sl.v483
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 7 _ r l

include S in
theorem stage_v486 (hg : (g 1).val = i.val) (r : Fin 512) (l : Fin 128) :
    kernelRun2_A.sl.v486 c g arg2 harg2 arg3 harg3 arg4 harg4 arg7 harg7 arg8 harg8 arg18 x0 x1 x2 x5 x6 (ix3 0 r l) = padc L (512 * i + (8 + r.val)) (128 * 7 + l.val) := by
  unfold kernelRun2_A.sl.v486
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 8 _ r l

include S in
theorem stage_v489 (hg : (g 1).val = i.val) (r : Fin 512) (l : Fin 128) :
    kernelRun2_A.sl.v489 c g arg2 harg2 arg3 harg3 arg4 harg4 arg7 harg7 arg8 harg8 arg18 x0 x1 x2 x5 x6 (ix3 0 r l) = padc L (512 * i + (9 + r.val)) (128 * 7 + l.val) := by
  unfold kernelRun2_A.sl.v489
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 9 _ r l

include S in
theorem stage_v492 (hg : (g 1).val = i.val) (r : Fin 512) (l : Fin 128) :
    kernelRun2_A.sl.v492 c g arg2 harg2 arg3 harg3 arg4 harg4 arg7 harg7 arg8 harg8 arg18 x0 x1 x2 x5 x6 (ix3 0 r l) = padc L (512 * i + (10 + r.val)) (128 * 7 + l.val) := by
  unfold kernelRun2_A.sl.v492
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 10 _ r l

include S in
theorem stage_v495 (hg : (g 1).val = i.val) (r : Fin 512) (l : Fin 128) :
    kernelRun2_A.sl.v495 c g arg2 harg2 arg3 harg3 arg4 harg4 arg7 harg7 arg8 harg8 arg18 x0 x1 x2 x5 x6 (ix3 0 r l) = padc L (512 * i + (11 + r.val)) (128 * 7 + l.val) := by
  unfold kernelRun2_A.sl.v495
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 11 _ r l

include S in
theorem stage_v498 (hg : (g 1).val = i.val) (r : Fin 512) (l : Fin 128) :
    kernelRun2_A.sl.v498 c g arg2 harg2 arg3 harg3 arg4 harg4 arg7 harg7 arg8 harg8 arg18 x0 x1 x2 x5 x6 (ix3 0 r l) = padc L (512 * i + (12 + r.val)) (128 * 7 + l.val) := by
  unfold kernelRun2_A.sl.v498
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 12 _ r l

include S in
theorem stage_v501 (hg : (g 1).val = i.val) (r : Fin 512) (l : Fin 128) :
    kernelRun2_A.sl.v501 c g arg2 harg2 arg3 harg3 arg4 harg4 arg7 harg7 arg8 harg8 arg18 x0 x1 x2 x5 x6 (ix3 0 r l) = padc L (512 * i + (13 + r.val)) (128 * 7 + l.val) := by
  unfold kernelRun2_A.sl.v501
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 13 _ r l

include S in
theorem stage_v504 (hg : (g 1).val = i.val) (r : Fin 512) (l : Fin 128) :
    kernelRun2_A.sl.v504 c g arg2 harg2 arg3 harg3 arg4 harg4 arg7 harg7 arg8 harg8 arg18 x0 x1 x2 x5 x6 (ix3 0 r l) = padc L (512 * i + (14 + r.val)) (128 * 7 + l.val) := by
  unfold kernelRun2_A.sl.v504
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 14 _ r l

include S in
theorem stage_v507 (hg : (g 1).val = i.val) (r : Fin 512) (l : Fin 128) :
    kernelRun2_A.sl.v507 c g arg2 harg2 arg3 harg3 arg4 harg4 arg7 harg7 arg8 harg8 arg18 x0 x1 x2 x5 x6 (ix3 0 r l) = padc L (512 * i + (15 + r.val)) (128 * 7 + l.val) := by
  unfold kernelRun2_A.sl.v507
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 15 _ r l

/-- A token's position. -/
theorem stage_r_22 (hg : (g 1).val = i.val) (r : Fin 512) :
    kernelRun2_A.sl.r_22 g (ix2 r 0) = BitVec.ofNat 32 (tok i r) := by
  unfold kernelRun2_A.sl.r_22
  exact (by rw [hg]; exact pay51_eq i r)

include S in
theorem stage_r_23 (hg : (g 1).val = i.val) (r : Fin 512) (k : Fin 256) :
    kernelRun2_A.sl.r_23 c g arg2 harg2 arg3 harg3 arg4 harg4 arg7 harg7 arg8 harg8 arg18 x0 x1 x2 x5 x6 (ix2 r k) = L.poolSum (tok i r) ⟨k, by omega⟩ := by
  unfold kernelRun2_A.sl.r_23
  exact pay53_eq L i (stage_r_22 g hg)
      (stage_v249 c g arg2 harg2 arg3 harg3 arg4 harg4 arg7 harg7 arg8 harg8 arg18 S hg)
      (stage_v251 c g arg2 harg2 arg3 harg3 arg4 harg4 arg7 harg7 arg8 harg8 arg18 S hg)
      (stage_v251 c g arg2 harg2 arg3 harg3 arg4 harg4 arg7 harg7 arg8 harg8 arg18 S hg)
      (stage_v259 c g arg2 harg2 arg3 harg3 arg4 harg4 arg7 harg7 arg8 harg8 arg18 S hg)
      (stage_v261 c g arg2 harg2 arg3 harg3 arg4 harg4 arg7 harg7 arg8 harg8 arg18 S hg)
      (stage_v261 c g arg2 harg2 arg3 harg3 arg4 harg4 arg7 harg7 arg8 harg8 arg18 S hg) r k

include S in
theorem stage_r_26 (hg : (g 1).val = i.val) (r : Fin 512) (d : Fin 256) :
    kernelRun2_A.sl.r_26 c g arg2 harg2 arg3 harg3 arg4 harg4 arg7 harg7 arg8 harg8 arg9 harg9 arg18 x0 x1 x2 x5 x6 x7 (ix2 r d) = grp L 0 (tok i r) d := by
  unfold kernelRun2_A.sl.r_26 kernelRun2_A.sl.r_24 kernelRun2_A.sl.r_25
  exact pay56_eq L i (stage_r_23 c g arg2 harg2 arg3 harg3 arg4 harg4 arg7 harg7 arg8 harg8 arg18 S hg) (fun k p c h1 h2 => by rw [load_at]; pointwise; exact (congrArg (fun z => x7 (ix3 z p c)) (Fin.ext (by simp))).trans ((S.wp 0 k p c).trans (by congr 1 <;> exact Fin.ext (by simp)))) r d

theorem stage_r_27 (hg : (g 1).val = i.val) (r : Fin 512) :
    kernelRun2_A.sl.r_27 (F := Ideal) g (ix2 r 0) = Ideal.div 1 (Layer.cnt 2 (tok i r)) := by
  unfold kernelRun2_A.sl.r_27
  exact pay57_eq i (stage_r_22 g hg) r

include S in
theorem stage_r_28 (hg : (g 1).val = i.val) (r : Fin 512) (l : Fin 128) :
    kernelRun2_A.sl.r_28 c g arg2 harg2 arg3 harg3 arg4 harg4 arg7 harg7 arg8 harg8 arg18 x0 x1 x2 x5 x6 (ix2 r l) = L.poolSum (tok i r) ⟨256 * 1 + l, by omega⟩ := by
  unfold kernelRun2_A.sl.r_28
  exact pay58_eq L i (stage_r_22 g hg)
      (stage_v287 c g arg2 harg2 arg3 harg3 arg4 harg4 arg7 harg7 arg8 harg8 arg18 S hg)
      (stage_v289 c g arg2 harg2 arg3 harg3 arg4 harg4 arg7 harg7 arg8 harg8 arg18 S hg)
      (stage_v292 c g arg2 harg2 arg3 harg3 arg4 harg4 arg7 harg7 arg8 harg8 arg18 S hg)
      (stage_v295 c g arg2 harg2 arg3 harg3 arg4 harg4 arg7 harg7 arg8 harg8 arg18 S hg)
      (stage_v292 c g arg2 harg2 arg3 harg3 arg4 harg4 arg7 harg7 arg8 harg8 arg18 S hg) r l

include S in
theorem stage_r_29 (hg : (g 1).val = i.val) (r : Fin 512) (l : Fin 128) :
    kernelRun2_A.sl.r_29 c g arg2 harg2 arg3 harg3 arg4 harg4 arg7 harg7 arg8 harg8 arg18 x0 x1 x2 x5 x6 (ix2 r l) = part L i 3 6 1 r l := by
  unfold kernelRun2_A.sl.r_29
  exact pay59_eq L i
      (stage_v303 c g arg2 harg2 arg3 harg3 arg4 harg4 arg7 harg7 arg8 harg8 arg18 S hg) r l

include S in
theorem stage_r_30 (hg : (g 1).val = i.val) (r : Fin 512) (d : Fin 256) :
    kernelRun2_A.sl.r_30 c g arg2 harg2 arg3 harg3 arg4 harg4 arg7 harg7 arg8 harg8 arg9 harg9 arg18 x0 x1 x2 x5 x6 x7 (ix2 r d) = grp L 1 (tok i r) d := by
  unfold kernelRun2_A.sl.r_30
  exact pay60_eq L i (stage_r_27 g hg) (stage_r_28 c g arg2 harg2 arg3 harg3 arg4 harg4 arg7 harg7 arg8 harg8 arg18 S hg) (stage_r_29 c g arg2 harg2 arg3 harg3 arg4 harg4 arg7 harg7 arg8 harg8 arg18 S hg)
      (stage_v305 c g arg2 harg2 arg3 harg3 arg4 harg4 arg7 harg7 arg8 harg8 arg18 S hg)
      (stage_v308 c g arg2 harg2 arg3 harg3 arg4 harg4 arg7 harg7 arg8 harg8 arg18 S hg)
      (stage_v311 c g arg2 harg2 arg3 harg3 arg4 harg4 arg7 harg7 arg8 harg8 arg18 S hg)
      (stage_v308 c g arg2 harg2 arg3 harg3 arg4 harg4 arg7 harg7 arg8 harg8 arg18 S hg)
      (fun k p c h1 h2 => by rw [load_at]; pointwise; exact (S.wp 1 _ _ _).trans (by congr 1 <;> exact Fin.ext (by simp))) r d

theorem stage_r_31 (hg : (g 1).val = i.val) (r : Fin 512) :
    kernelRun2_A.sl.r_31 (F := Ideal) g (ix2 r 0) = Ideal.div 1 (Layer.cnt 4 (tok i r)) := by
  unfold kernelRun2_A.sl.r_31
  exact pay61_eq i (stage_r_22 g hg) r

include S in
theorem stage_r_32 (hg : (g 1).val = i.val) (r : Fin 512) (l : Fin 128) :
    kernelRun2_A.sl.r_32 c g arg2 harg2 arg3 harg3 arg4 harg4 arg7 harg7 arg8 harg8 arg18 x0 x1 x2 x5 x6 (ix2 r l) = part L i 4 4 1 r l := by
  unfold kernelRun2_A.sl.r_32
  exact pay62_eq L i
      (stage_v337 c g arg2 harg2 arg3 harg3 arg4 harg4 arg7 harg7 arg8 harg8 arg18 S hg) r l

include S in
theorem stage_r_33 (hg : (g 1).val = i.val) (r : Fin 512) (l : Fin 128) :
    kernelRun2_A.sl.r_33 c g arg2 harg2 arg3 harg3 arg4 harg4 arg7 harg7 arg8 harg8 arg18 x0 x1 x2 x5 x6 (ix2 r l) = L.poolSum (tok i r) ⟨256 * 2 + l, by omega⟩ := by
  unfold kernelRun2_A.sl.r_33
  exact pay63_eq L i (stage_r_31 g hg) (stage_r_32 c g arg2 harg2 arg3 harg3 arg4 harg4 arg7 harg7 arg8 harg8 arg18 S hg)
      (stage_v339 c g arg2 harg2 arg3 harg3 arg4 harg4 arg7 harg7 arg8 harg8 arg18 S hg)
      (stage_v342 c g arg2 harg2 arg3 harg3 arg4 harg4 arg7 harg7 arg8 harg8 arg18 S hg)
      (stage_v345 c g arg2 harg2 arg3 harg3 arg4 harg4 arg7 harg7 arg8 harg8 arg18 S hg)
      (stage_v348 c g arg2 harg2 arg3 harg3 arg4 harg4 arg7 harg7 arg8 harg8 arg18 S hg)
      (stage_v351 c g arg2 harg2 arg3 harg3 arg4 harg4 arg7 harg7 arg8 harg8 arg18 S hg)
      (stage_v354 c g arg2 harg2 arg3 harg3 arg4 harg4 arg7 harg7 arg8 harg8 arg18 S hg)
      (stage_v357 c g arg2 harg2 arg3 harg3 arg4 harg4 arg7 harg7 arg8 harg8 arg18 S hg)
      (stage_v348 c g arg2 harg2 arg3 harg3 arg4 harg4 arg7 harg7 arg8 harg8 arg18 S hg) r l

include S in
theorem stage_r_34 (hg : (g 1).val = i.val) (r : Fin 512) (l : Fin 128) :
    kernelRun2_A.sl.r_34 c g arg2 harg2 arg3 harg3 arg4 harg4 arg7 harg7 arg8 harg8 arg18 x0 x1 x2 x5 x6 (ix2 r l) = part L i 5 4 2 r l := by
  unfold kernelRun2_A.sl.r_34
  exact pay64_eq L i
      (stage_v365 c g arg2 harg2 arg3 harg3 arg4 harg4 arg7 harg7 arg8 harg8 arg18 S hg)
      (stage_v367 c g arg2 harg2 arg3 harg3 arg4 harg4 arg7 harg7 arg8 harg8 arg18 S hg) r l

include S in
theorem stage_r_35 (hg : (g 1).val = i.val) (r : Fin 512) (d : Fin 256) :
    kernelRun2_A.sl.r_35 c g arg2 harg2 arg3 harg3 arg4 harg4 arg7 harg7 arg8 harg8 arg9 harg9 arg18 x0 x1 x2 x5 x6 x7 (ix2 r d) = grp L 2 (tok i r) d := by
  unfold kernelRun2_A.sl.r_35
  exact pay65_eq L i (stage_r_31 g hg) (stage_r_33 c g arg2 harg2 arg3 harg3 arg4 harg4 arg7 harg7 arg8 harg8 arg18 S hg) (stage_r_34 c g arg2 harg2 arg3 harg3 arg4 harg4 arg7 harg7 arg8 harg8 arg18 S hg)
      (stage_v370 c g arg2 harg2 arg3 harg3 arg4 harg4 arg7 harg7 arg8 harg8 arg18 S hg)
      (stage_v373 c g arg2 harg2 arg3 harg3 arg4 harg4 arg7 harg7 arg8 harg8 arg18 S hg)
      (stage_v376 c g arg2 harg2 arg3 harg3 arg4 harg4 arg7 harg7 arg8 harg8 arg18 S hg)
      (stage_v379 c g arg2 harg2 arg3 harg3 arg4 harg4 arg7 harg7 arg8 harg8 arg18 S hg)
      (stage_v382 c g arg2 harg2 arg3 harg3 arg4 harg4 arg7 harg7 arg8 harg8 arg18 S hg)
      (stage_v385 c g arg2 harg2 arg3 harg3 arg4 harg4 arg7 harg7 arg8 harg8 arg18 S hg)
      (stage_v376 c g arg2 harg2 arg3 harg3 arg4 harg4 arg7 harg7 arg8 harg8 arg18 S hg)
      (fun k p c h1 h2 => by rw [load_at]; pointwise; exact (S.wp 2 _ _ _).trans (by congr 1 <;> exact Fin.ext (by simp))) r d

theorem stage_r_37 (hg : (g 1).val = i.val) (r : Fin 512) : kernelRun2_A.sl.r_37 (F := Ideal) g (ix2 r 0) = Ideal.div 1 (Layer.cnt 8 (tok i r)) := by
  unfold kernelRun2_A.sl.r_37 kernelRun2_A.sl.r_36
  exact pay68_eq i (stage_r_22 g hg) r

include S in
theorem stage_r_38 (hg : (g 1).val = i.val) (r : Fin 512) (l : Fin 128) :
    kernelRun2_A.sl.r_38 c g arg2 harg2 arg3 harg3 arg4 harg4 arg7 harg7 arg8 harg8 arg18 x0 x1 x2 x5 x6 (ix2 r l) = part L i 6 0 8 r l := by
  unfold kernelRun2_A.sl.r_38
  exact pay69_eq L i
      (stage_v411 c g arg2 harg2 arg3 harg3 arg4 harg4 arg7 harg7 arg8 harg8 arg18 S hg)
      (stage_v413 c g arg2 harg2 arg3 harg3 arg4 harg4 arg7 harg7 arg8 harg8 arg18 S hg)
      (stage_v416 c g arg2 harg2 arg3 harg3 arg4 harg4 arg7 harg7 arg8 harg8 arg18 S hg)
      (stage_v419 c g arg2 harg2 arg3 harg3 arg4 harg4 arg7 harg7 arg8 harg8 arg18 S hg)
      (stage_v422 c g arg2 harg2 arg3 harg3 arg4 harg4 arg7 harg7 arg8 harg8 arg18 S hg)
      (stage_v425 c g arg2 harg2 arg3 harg3 arg4 harg4 arg7 harg7 arg8 harg8 arg18 S hg)
      (stage_v428 c g arg2 harg2 arg3 harg3 arg4 harg4 arg7 harg7 arg8 harg8 arg18 S hg)
      (stage_v431 c g arg2 harg2 arg3 harg3 arg4 harg4 arg7 harg7 arg8 harg8 arg18 S hg) r l

include S in
theorem stage_r_39 (hg : (g 1).val = i.val) (r : Fin 512) (l : Fin 128) :
    kernelRun2_A.sl.r_39 c g arg2 harg2 arg3 harg3 arg4 harg4 arg7 harg7 arg8 harg8 arg18 x0 x1 x2 x5 x6 (ix2 r l) = L.poolSum (tok i r) ⟨256 * 3 + l, by omega⟩ := by
  unfold kernelRun2_A.sl.r_39
  exact pay70_eq L i (stage_r_37 g hg) (stage_r_38 c g arg2 harg2 arg3 harg3 arg4 harg4 arg7 harg7 arg8 harg8 arg18 S hg)
      (stage_v434 c g arg2 harg2 arg3 harg3 arg4 harg4 arg7 harg7 arg8 harg8 arg18 S hg)
      (stage_v437 c g arg2 harg2 arg3 harg3 arg4 harg4 arg7 harg7 arg8 harg8 arg18 S hg)
      (stage_v440 c g arg2 harg2 arg3 harg3 arg4 harg4 arg7 harg7 arg8 harg8 arg18 S hg)
      (stage_v443 c g arg2 harg2 arg3 harg3 arg4 harg4 arg7 harg7 arg8 harg8 arg18 S hg)
      (stage_v446 c g arg2 harg2 arg3 harg3 arg4 harg4 arg7 harg7 arg8 harg8 arg18 S hg)
      (stage_v449 c g arg2 harg2 arg3 harg3 arg4 harg4 arg7 harg7 arg8 harg8 arg18 S hg)
      (stage_v452 c g arg2 harg2 arg3 harg3 arg4 harg4 arg7 harg7 arg8 harg8 arg18 S hg)
      (stage_v455 c g arg2 harg2 arg3 harg3 arg4 harg4 arg7 harg7 arg8 harg8 arg18 S hg)
      (stage_v434 c g arg2 harg2 arg3 harg3 arg4 harg4 arg7 harg7 arg8 harg8 arg18 S hg) r l

include S in
theorem stage_r_40 (hg : (g 1).val = i.val) (r : Fin 512) (l : Fin 128) :
    kernelRun2_A.sl.r_40 c g arg2 harg2 arg3 harg3 arg4 harg4 arg7 harg7 arg8 harg8 arg18 x0 x1 x2 x5 x6 (ix2 r l) = part L i 7 0 1 r l := by
  unfold kernelRun2_A.sl.r_40
  exact pay71_eq L i
      (stage_v463 c g arg2 harg2 arg3 harg3 arg4 harg4 arg7 harg7 arg8 harg8 arg18 S hg) r l

include S in
theorem stage_r_41 (hg : (g 1).val = i.val) (r : Fin 512) (l : Fin 128) :
    kernelRun2_A.sl.r_41 c g arg2 harg2 arg3 harg3 arg4 harg4 arg7 harg7 arg8 harg8 arg18 x0 x1 x2 x5 x6 (ix2 r l) = part L i 7 0 11 r l := by
  unfold kernelRun2_A.sl.r_41
  exact pay72_eq L i (stage_r_40 c g arg2 harg2 arg3 harg3 arg4 harg4 arg7 harg7 arg8 harg8 arg18 S hg)
      (stage_v465 c g arg2 harg2 arg3 harg3 arg4 harg4 arg7 harg7 arg8 harg8 arg18 S hg)
      (stage_v468 c g arg2 harg2 arg3 harg3 arg4 harg4 arg7 harg7 arg8 harg8 arg18 S hg)
      (stage_v471 c g arg2 harg2 arg3 harg3 arg4 harg4 arg7 harg7 arg8 harg8 arg18 S hg)
      (stage_v474 c g arg2 harg2 arg3 harg3 arg4 harg4 arg7 harg7 arg8 harg8 arg18 S hg)
      (stage_v477 c g arg2 harg2 arg3 harg3 arg4 harg4 arg7 harg7 arg8 harg8 arg18 S hg)
      (stage_v480 c g arg2 harg2 arg3 harg3 arg4 harg4 arg7 harg7 arg8 harg8 arg18 S hg)
      (stage_v483 c g arg2 harg2 arg3 harg3 arg4 harg4 arg7 harg7 arg8 harg8 arg18 S hg)
      (stage_v486 c g arg2 harg2 arg3 harg3 arg4 harg4 arg7 harg7 arg8 harg8 arg18 S hg)
      (stage_v489 c g arg2 harg2 arg3 harg3 arg4 harg4 arg7 harg7 arg8 harg8 arg18 S hg)
      (stage_v492 c g arg2 harg2 arg3 harg3 arg4 harg4 arg7 harg7 arg8 harg8 arg18 S hg) r l

include S in
/-- The pool branch before its output weights. -/
theorem stage_r_42 (hg : (g 1).val = i.val) (r : Fin 512) (d : Fin 1024) :
    kernelRun2_A.sl.r_42 c g arg2 harg2 arg3 harg3 arg4 harg4 arg7 harg7 arg8 harg8 arg9 harg9 arg10 harg10 arg18 x0 x1 x2 x5 x6 x7 x8 (ix2 r d) = L.yin sigTanh L.poolSum (tok i r) d := by
  unfold kernelRun2_A.sl.r_42
  exact pay73_eq L i (stage_r_21 c arg2 harg2 arg7 harg7 arg8 harg8 S) (stage_r_26 c g arg2 harg2 arg3 harg3 arg4 harg4 arg7 harg7 arg8 harg8 arg9 harg9 arg18 S hg) (stage_r_30 c g arg2 harg2 arg3 harg3 arg4 harg4 arg7 harg7 arg8 harg8 arg9 harg9 arg18 S hg) (stage_r_35 c g arg2 harg2 arg3 harg3 arg4 harg4 arg7 harg7 arg8 harg8 arg9 harg9 arg18 S hg) (stage_r_37 g hg) (stage_r_39 c g arg2 harg2 arg3 harg3 arg4 harg4 arg7 harg7 arg8 harg8 arg18 S hg) (stage_r_41 c g arg2 harg2 arg3 harg3 arg4 harg4 arg7 harg7 arg8 harg8 arg18 S hg)
      (stage_v495 c g arg2 harg2 arg3 harg3 arg4 harg4 arg7 harg7 arg8 harg8 arg18 S hg)
      (stage_v498 c g arg2 harg2 arg3 harg3 arg4 harg4 arg7 harg7 arg8 harg8 arg18 S hg)
      (stage_v501 c g arg2 harg2 arg3 harg3 arg4 harg4 arg7 harg7 arg8 harg8 arg18 S hg)
      (stage_v504 c g arg2 harg2 arg3 harg3 arg4 harg4 arg7 harg7 arg8 harg8 arg18 S hg)
      (stage_v507 c g arg2 harg2 arg3 harg3 arg4 harg4 arg7 harg7 arg8 harg8 arg18 S hg)
      (stage_v486 c g arg2 harg2 arg3 harg3 arg4 harg4 arg7 harg7 arg8 harg8 arg18 S hg)
      (fun k p c h1 h2 => by rw [load_at]; pointwise; exact (S.wp 3 _ _ _).trans (by congr 1 <;> exact Fin.ext (by simp))) (fun c => by rw [load_at]; pointwise; exact S.sc _) r d

include S in
theorem stage_r_44 (hg : (g 1).val = i.val) (r : Fin 512) (d : Fin 1024) :
    kernelRun2_A.sl.r_44 c g arg2 harg2 arg3 harg3 arg4 harg4 arg7 harg7 arg8 harg8 arg9 harg9 arg10 harg10 arg11 harg11 arg14 harg14 arg18 x0 x1 x2 x5 x6 x7 x8 x9 x12 (ix2 r d) = L.brA sigTanh L.poolSum (tok i r) d := by
  unfold kernelRun2_A.sl.r_44
  exact pay75_eq L (tok i) (stage_r_1 c arg2 harg2 arg7 harg7 S) (stage_r_42 c g arg2 harg2 arg3 harg3 arg4 harg4 arg7 harg7 arg8 harg8 arg9 harg9 arg10 harg10 arg18 S hg) (S.w.cols 4096 _ (fun c => by omega) fun k p c => by rw [load_at]; pointwise) (fun c => by rw [load_at]; pointwise; exact S.bg _)
      (S.wpo.cols 0 _ (fun c => by omega) fun k p c => by rw [load_at]; pointwise) r d

include S in
/-- The residual stream after the layer. -/
theorem stage_r_46 (hg : (g 1).val = i.val) (r : Fin 512) (d : Fin 1024) :
    kernelRun2_A.sl.r_46 c g arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 (ix2 r d) = L.res sigTanh L.poolSum L.attLast (tok i r) d := by
  unfold kernelRun2_A.sl.r_46
  exact pay77_eq L (tok i) (stage_r c arg2 harg2 S) (stage_r_1 c arg2 harg2 arg7 harg7 S) (stage_r_20 c arg2 harg2 arg5 harg5 arg7 harg7 arg8 harg8 S) (stage_r_43 c arg2 harg2 arg6 harg6 arg7 harg7 arg8 harg8 S) (stage_r_44 c g arg2 harg2 arg3 harg3 arg4 harg4 arg7 harg7 arg8 harg8 arg9 harg9 arg10 harg10 arg11 harg11 arg14 harg14 arg18 S hg) (stage_r_45 c arg2 harg2 arg7 harg7 arg8 harg8 arg14 harg14 S)
      (S.wfo.cols 0 _ (fun c => by omega) fun k p c => by rw [load_at]; pointwise) (S.w.cols 6144 _ (fun c => by omega) fun k p c => by rw [load_at]; pointwise) (fun c => by rw [load_at]; pointwise; exact S.bg _)
      (S.wao.cols 0 _ (fun c => by omega) fun k p c => by rw [load_at]; pointwise) (S.wo.cols 0 _ (fun c => by omega) fun k p c => by rw [load_at]; pointwise) r d

end

end Cert.Enc
-- ==== Proof.Out.lean ====
/- What the body of `encoder_main` leaves in the output's staging buffer at a point of its grid, over that point's blocks. -/
module

public import proofs.«01_k».proof.Proof.Block

@[expose] public section

set_option maxRecDepth 16384

noncomputable section

namespace Cert.Enc

open Idealize.ShloMosaic Idealize.SL.Sem Cert.KernelIdeal Cert.KernelIdeal.Gen

variable {L : Layer 16384} {i : Fin 32} (V : (c : Dev nD) → (b : Ref sig .tc) → Buf (Elt Ideal) ((c.tc : Thread nD τ).loc b))

/-- The output block is the layer's output at the block's tokens. -/
theorem outs_eq (c : Dev nD) (t : Fin cfg2.N) (hg : (grid2.coords t 1).val = i.val)
    (S : Staged L i (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (iblk2 V c 11 t) (iblk2 V c 12 t) (iblk2 V c 13 t) (iblk2 V c 14 t))
    (r : Fin 512) (d : Fin 1024) :
    (outsAt2 V c t : Vec Ideal S1x512x1024 .f32) (ix3 0 r d) = L.out sigTanh L.poolSum L.attLast (tok i r) d := by
  have hz : (![0, 0, 0] : Fin 3 → Nat) = fun _ => 0 := by funext a; fin_cases a <;> rfl
  unfold outsAt2 out2_A_15
  rw [View.read_writes_eq_canon _ _ _ (cover2_A_15 _ _ _ _ _ _ _ _ _ _ _ _ _ _ _ _ _ _ _ _ _ _ _ _ _ _ _ _ _ _ _ _ _ _ _ _ _ _ _ _ _ _ _ _ _ _ _ _ _ _ _)]
  unfold kernelRun2_A
  dsimp only
  rw [View.canon_unit_zero hz]
  exact pay1_eq L (y := fun r d => L.res sigTanh L.poolSum L.attLast (tok i r) d)
    (fun r d => stage_r_46 c (grid2.coords t) _ _ _ _ _ _ _ _ _ _ _ _ _ _ _ _ _ _ _ _ _ _ _ _ _ _ _ _ _ S hg r d)
    (fun c => by rw [load_at]; pointwise; exact S.gf _) r d

end Cert.Enc
-- ==== Proof.Pack.lean ====
/- What `pack_weights` leaves in its output arrays: row `2k + p` of a weight matrix at (k, p). -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Enc

open Idealize.ShloMosaic Idealize.SL.Sem Cert.KernelIdeal Cert.KernelIdeal.Gen

variable (V : (c : Dev nD) → (b : Ref sig .tc) → Buf (Elt Ideal) ((c.tc : Thread nD τ).loc b))

/-- Every window of `pack_weights` takes block `t` of rows at point `t`. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0] :=
  (by decide +kernel : ∀ t : Fin grid0.N, _)

theorem pack3 (v : Vec Ideal S128x7168 .f32) (y : S64x2x7168.Idx) :
    k0_pay3 v y = v (ix2 (n0 := 128) (n1 := 7168) ⟨(2 * (y 0).val + (y 1).val) % 128, Nat.mod_lt _ (by decide)⟩ (y 2)) := by
  obtain ⟨k, p, c, rfl⟩ : ∃ k p c, y = ix3 (n0 := 64) (n1 := 2) (n2 := 7168) k p c := ⟨y 0, y 1, y 2, eq_ix3 y⟩
  pointwise [k0_pay3]
  have hp := p.isLt
  split
  · exact congrArg v (congrArg (ix2 · c) (Fin.ext (by simp; omega)))
  · exact congrArg v (congrArg (ix2 · c) (Fin.ext (by simp; omega)))

/-- Output 0. -/
theorem packed7 (c : Dev nD) : (dat0 V c).arrAt 7 cfg0.N
    = fun y => V c main_v0 (ix2 (n0 := 1024) (n1 := 7168) ⟨(2 * (y 0).val + (y 1).val) % 1024, Nat.mod_lt _ (by decide)⟩ (y 2)) := by
  refine (dat0 V c).arrAt_eq_of_covers 7 _ (by decide +kernel) fun t hf y => ?_
  obtain ⟨e0, e1, e2, e3, e4, e5, e6, e7, e8, e9, e10, e11, e12, e13⟩ := idx0 t
  blk_simp
  rw [after0_7]
  frame_out
  refine (pack3 _ y).trans ?_
  blk_ext [iblk0, e0, e7]

theorem pack4 (v : Vec Ideal S128x256 .f32) (y : S64x2x256.Idx) :
    k0_pay4 v y = v (ix2 (n0 := 128) (n1 := 256) ⟨(2 * (y 0).val + (y 1).val) % 128, Nat.mod_lt _ (by decide)⟩ (y 2)) := by
  obtain ⟨k, p, c, rfl⟩ : ∃ k p c, y = ix3 (n0 := 64) (n1 := 2) (n2 := 256) k p c := ⟨y 0, y 1, y 2, eq_ix3 y⟩
  pointwise [k0_pay4]
  have hp := p.isLt
  split
  · exact congrArg v (congrArg (ix2 · c) (Fin.ext (by simp; omega)))
  · exact congrArg v (congrArg (ix2 · c) (Fin.ext (by simp; omega)))

/-- Output 1. -/
theorem packed8 (c : Dev nD) : (dat0 V c).arrAt 8 cfg0.N
    = fun y => V c main_v7 (ix2 (n0 := 1024) (n1 := 256) ⟨(2 * (y 0).val + (y 1).val) % 1024, Nat.mod_lt _ (by decide)⟩ (y 2)) := by
  refine (dat0 V c).arrAt_eq_of_covers 8 _ (by decide +kernel) fun t hf y => ?_
  obtain ⟨e0, e1, e2, e3, e4, e5, e6, e7, e8, e9, e10, e11, e12, e13⟩ := idx0 t
  blk_simp
  rw [after0_8]
  frame_out
  refine (pack4 _ y).trans ?_
  blk_ext [iblk0, e1, e8]

theorem pack5 (v : Vec Ideal S128x1024 .f32) (y : S64x2x1024.Idx) :
    k0_pay5 v y = v (ix2 (n0 := 128) (n1 := 1024) ⟨(2 * (y 0).val + (y 1).val) % 128, Nat.mod_lt _ (by decide)⟩ (y 2)) := by
  obtain ⟨k, p, c, rfl⟩ : ∃ k p c, y = ix3 (n0 := 64) (n1 := 2) (n2 := 1024) k p c := ⟨y 0, y 1, y 2, eq_ix3 y⟩
  pointwise [k0_pay5]
  have hp := p.isLt
  split
  · exact congrArg v (congrArg (ix2 · c) (Fin.ext (by simp; omega)))
  · exact congrArg v (congrArg (ix2 · c) (Fin.ext (by simp; omega)))

/-- Output 2. -/
theorem packed9 (c : Dev nD) : (dat0 V c).arrAt 9 cfg0.N
    = fun y => V c main_v2 (ix2 (n0 := 1024) (n1 := 1024) ⟨(2 * (y 0).val + (y 1).val) % 1024, Nat.mod_lt _ (by decide)⟩ (y 2)) := by
  refine (dat0 V c).arrAt_eq_of_covers 9 _ (by decide +kernel) fun t hf y => ?_
  obtain ⟨e0, e1, e2, e3, e4, e5, e6, e7, e8, e9, e10, e11, e12, e13⟩ := idx0 t
  blk_simp
  rw [after0_9]
  frame_out
  refine (pack5 _ y).trans ?_
  blk_ext [iblk0, e2, e9]

theorem pack6 (v : Vec Ideal S128x1024 .f32) (y : S64x2x1024.Idx) :
    k0_pay6 v y = v (ix2 (n0 := 128) (n1 := 1024) ⟨(2 * (y 0).val + (y 1).val) % 128, Nat.mod_lt _ (by decide)⟩ (y 2)) := by
  obtain ⟨k, p, c, rfl⟩ : ∃ k p c, y = ix3 (n0 := 64) (n1 := 2) (n2 := 1024) k p c := ⟨y 0, y 1, y 2, eq_ix3 y⟩
  pointwise [k0_pay6]
  have hp := p.isLt
  split
  · exact congrArg v (congrArg (ix2 · c) (Fin.ext (by simp; omega)))
  · exact congrArg v (congrArg (ix2 · c) (Fin.ext (by simp; omega)))

/-- Output 3. -/
theorem packed10 (c : Dev nD) : (dat0 V c).arrAt 10 cfg0.N
    = fun y => V c main_v3 (ix2 (n0 := 1024) (n1 := 1024) ⟨(2 * (y 0).val + (y 1).val) % 1024, Nat.mod_lt _ (by decide)⟩ (y 2)) := by
  refine (dat0 V c).arrAt_eq_of_covers 10 _ (by decide +kernel) fun t hf y => ?_
  obtain ⟨e0, e1, e2, e3, e4, e5, e6, e7, e8, e9, e10, e11, e12, e13⟩ := idx0 t
  blk_simp
  rw [after0_10]
  frame_out
  refine (pack6 _ y).trans ?_
  blk_ext [iblk0, e3, e10]

theorem pack7 (v : Vec Ideal S64x1024 .f32) (y : S32x2x1024.Idx) :
    k0_pay7 v y = v (ix2 (n0 := 64) (n1 := 1024) ⟨(2 * (y 0).val + (y 1).val) % 64, Nat.mod_lt _ (by decide)⟩ (y 2)) := by
  obtain ⟨k, p, c, rfl⟩ : ∃ k p c, y = ix3 (n0 := 32) (n1 := 2) (n2 := 1024) k p c := ⟨y 0, y 1, y 2, eq_ix3 y⟩
  pointwise [k0_pay7]
  have hp := p.isLt
  split
  · exact congrArg v (congrArg (ix2 · c) (Fin.ext (by simp; omega)))
  · exact congrArg v (congrArg (ix2 · c) (Fin.ext (by simp; omega)))

/-- Output 4. -/
theorem packed11 (c : Dev nD) : (dat0 V c).arrAt 11 cfg0.N
    = fun y => V c main_v4 (ix2 (n0 := 512) (n1 := 1024) ⟨(2 * (y 0).val + (y 1).val) % 512, Nat.mod_lt _ (by decide)⟩ (y 2)) := by
  refine (dat0 V c).arrAt_eq_of_covers 11 _ (by decide +kernel) fun t hf y => ?_
  obtain ⟨e0, e1, e2, e3, e4, e5, e6, e7, e8, e9, e10, e11, e12, e13⟩ := idx0 t
  blk_simp
  rw [after0_11]
  frame_out
  refine (pack7 _ y).trans ?_
  blk_ext [iblk0, e4, e11]

theorem pack1 (v : Vec Ideal S64x1024 .f32) (y : S32x2x1024.Idx) :
    k0_pay1 v y = v (ix2 (n0 := 64) (n1 := 1024) ⟨(2 * (y 0).val + (y 1).val) % 64, Nat.mod_lt _ (by decide)⟩ (y 2)) := by
  obtain ⟨k, p, c, rfl⟩ : ∃ k p c, y = ix3 (n0 := 32) (n1 := 2) (n2 := 1024) k p c := ⟨y 0, y 1, y 2, eq_ix3 y⟩
  pointwise [k0_pay1]
  have hp := p.isLt
  split
  · exact congrArg v (congrArg (ix2 · c) (Fin.ext (by simp; omega)))
  · exact congrArg v (congrArg (ix2 · c) (Fin.ext (by simp; omega)))

/-- Output 5. -/
theorem packed12 (c : Dev nD) : (dat0 V c).arrAt 12 cfg0.N
    = fun y => V c main_v5 (ix2 (n0 := 512) (n1 := 1024) ⟨(2 * (y 0).val + (y 1).val) % 512, Nat.mod_lt _ (by decide)⟩ (y 2)) := by
  refine (dat0 V c).arrAt_eq_of_covers 12 _ (by decide +kernel) fun t hf y => ?_
  obtain ⟨e0, e1, e2, e3, e4, e5, e6, e7, e8, e9, e10, e11, e12, e13⟩ := idx0 t
  blk_simp
  rw [after0_12]
  frame_out
  refine (pack1 _ y).trans ?_
  blk_ext [iblk0, e5, e12]

theorem pack2 (v : Vec Ideal S128x1024 .f32) (y : S64x2x1024.Idx) :
    k0_pay2 v y = v (ix2 (n0 := 128) (n1 := 1024) ⟨(2 * (y 0).val + (y 1).val) % 128, Nat.mod_lt _ (by decide)⟩ (y 2)) := by
  obtain ⟨k, p, c, rfl⟩ : ∃ k p c, y = ix3 (n0 := 64) (n1 := 2) (n2 := 1024) k p c := ⟨y 0, y 1, y 2, eq_ix3 y⟩
  pointwise [k0_pay2]
  have hp := p.isLt
  split
  · exact congrArg v (congrArg (ix2 · c) (Fin.ext (by simp; omega)))
  · exact congrArg v (congrArg (ix2 · c) (Fin.ext (by simp; omega)))

/-- Output 6. -/
theorem packed13 (c : Dev nD) : (dat0 V c).arrAt 13 cfg0.N
    = fun y => V c main_v6 (ix2 (n0 := 1024) (n1 := 1024) ⟨(2 * (y 0).val + (y 1).val) % 1024, Nat.mod_lt _ (by decide)⟩ (y 2)) := by
  refine (dat0 V c).arrAt_eq_of_covers 13 _ (by decide +kernel) fun t hf y => ?_
  obtain ⟨e0, e1, e2, e3, e4, e5, e6, e7, e8, e9, e10, e11, e12, e13⟩ := idx0 t
  blk_simp
  rw [after0_13]
  frame_out
  refine (pack2 _ y).trans ?_
  blk_ext [iblk0, e6, e13]

end Cert.Enc
-- ==== Proof.Kv.lean ====
/- What `kv_proj` leaves in its output array: the memory's keys and values. -/
module

public import proofs.«01_k».proof.Proof.Gen.KernelIdeal.Frame
public import proofs.«01_k».proof.Proof.Rows
public import Idealize.ShloMosaic.Lib.Pipeline.ValueKit

@[expose] public section

set_option maxRecDepth 16384

noncomputable section

namespace Cert.Enc

open Idealize.ShloMosaic Idealize.SL.Sem Cert.KernelIdeal Cert.KernelIdeal.Gen

variable (V : (c : Dev nD) → (b : Ref sig .tc) → Buf (Elt Ideal) ((c.tc : Thread nD τ).loc b)) (L : Layer 16384)

/-- The one payload: the normalised memory times the packed weights. -/
theorem kvpay_eq {x : Vec Ideal S1x256x1024 .f32} {g : Vec Ideal S1x1024 .f32} {raw : Vec Ideal S512x2x1024 .bf16}
    (hx : ∀ r c, x (ix3 0 r c) = L.mem r c) (hg : ∀ c, g (ix2 0 c) = L.gm c) (hw : Pairs (fun k p c => raw (ix3 k p c)) L.wkv 0)
    (r : Fin 256) (j : Fin 1024) : k1_pay1 x g raw (ix3 0 r j) = L.kv r j := by
  pointwise [k1_pay1]
  simp only [hx, hg]
  exact (hw.sum (fun x => by omega) j (by omega) _ (fun k => rms (L.mem r) L.gm k) (fun k => rfl)).trans
    (Finset.sum_congr rfl fun k _ => by congr 2; exact Fin.ext (by simp))

/-- Its windows are whole arrays. -/
theorem idx1 : ∀ t : Fin cfg1.N, win1_0.index t = ![0, 0, 0] ∧ win1_1.index t = ![0, 0] ∧ win1_2.index t = ![0, 0, 0]
    ∧ win1_3.index t = ![0, 0, 0] := (by decide +kernel : ∀ t : Fin grid1.N, _)

theorem kv_arr (c : Dev nD) (hx : ∀ r k, (V c main_arg2 : Vec Ideal S1x256x1024 .f32) (ix3 0 r k) = L.mem r k)
    (hg : ∀ k, (V c main_arg4 : Vec Ideal S1x1024 .f32) (ix2 0 k) = L.gm k)
    (hw : Pairs (fun k p j => (V c main_v8_2 : Vec Ideal S512x2x1024 .bf16) (ix3 k p j)) L.wkv 0) :
    (dat1 V c).arrAt 3 cfg1.N = fun y => L.kv (y 1) (y 2) := by
  refine (dat1 V c).arrAt_eq_of_covers 3 _ (by decide +kernel) fun t hf y => ?_
  obtain ⟨e0, e1, e2, e3⟩ := idx1 t
  have h0 : iblk1 V c 0 t = V c main_arg2 := by blk_ext! [iblk1, e0]
  have h1 : iblk1 V c 1 t = V c main_arg4 := by blk_ext! [iblk1, e1]
  have h2 : iblk1 V c 2 t = V c main_v8_2 := by blk_ext! [iblk1, e2]
  blk_simp
  rw [after1_3]
  frame_out
  rw [h0, h1, h2]
  obtain ⟨b, r, j, rfl⟩ : ∃ b r j, y = ix3 (n0 := 1) (n1 := 256) (n2 := 1024) b r j := ⟨y 0, y 1, y 2, eq_ix3 y⟩
  obtain rfl : b = 0 := Subsingleton.elim _ _
  refine (kvpay_eq L hx hg hw r j).trans ?_
  congr 1 <;> exact Fin.ext (by blk_simp [e3])

end Cert.Enc
-- ==== Proof.Args.lean ====
/- The layer whose arguments are the fifteen argument arrays. -/
module

public import proofs.«01_k».proof.Proof.Layer
public import proofs.«01_k».proof.KernelIdeal
public import Idealize.ShloMosaic.Lib.Pointwise

@[expose] public section

noncomputable section

namespace Cert.Enc

open Idealize.ShloMosaic Cert.KernelIdeal

/-- The layer over its argument arrays. -/
def ofArgs (a0 : Vec Ideal S1x16384x1024 .f32) (a1 : Vec Ideal S1x16384x512 .bf16) (a2 : Vec Ideal S1x256x1024 .f32)
    (a3 a4 : Vec Ideal S1x1024 .f32) (a5 : Vec Ideal S1x1024x7168 .f32) (a6 : Vec Ideal S1x4x256x256 .f32) (a7 : Vec Ideal S1x1024 .f32)
    (a8 a9 : Vec Ideal S1x1024x1024 .f32) (a10 a11 : Vec Ideal S1x512x1024 .f32) (a12 : Vec Ideal S1x3072 .f32)
    (a13 : Vec Ideal S1x1024x1024 .f32) (a14 : Vec Ideal S1024 .f32) : Layer 16384 where
  x t k := a0 (ix3 0 t k)
  f t k := a1 (ix3 0 t k)
  mem m k := a2 (ix3 0 m k)
  gi k := a3 (ix2 0 k)
  gm k := a4 (ix2 0 k)
  w k j := a5 (ix3 0 k j)
  wp g k j := a6 (ix4 0 g k j)
  sc j := a7 (ix2 0 j)
  wkv k j := a8 (ix3 0 k j)
  wpo k j := a9 (ix3 0 k j)
  wfo k j := a10 (ix3 0 k j)
  wao k j := a11 (ix3 0 k j)
  bg j := a12 (ix2 0 j)
  wo k j := a13 (ix3 0 k j)
  gf j := a14 (ix1 j)

end Cert.Enc
-- ==== Proof.Main.lean ====
/- The kernel's result array: the layer's output. The regions in order, each over the contents the one before it leaves. -/
module

public import proofs.«01_k».proof.Proof.Out
public import proofs.«01_k».proof.Proof.Pack
public import proofs.«01_k».proof.Proof.Kv
public import proofs.«01_k».proof.Proof.Args

@[expose] public section

set_option maxRecDepth 16384

noncomputable section

namespace Cert.Enc

open Idealize.ShloMosaic Idealize.SL.Sem Cert.KernelIdeal Cert.KernelIdeal.Gen

section

variable (V : (c : Dev nD) → (b : Ref sig .tc) → Buf (Elt Ideal) ((c.tc : Thread nD τ).loc b)) (L : Layer 16384)

/-- The block of 512 tokens a point of the grid works on. -/
abbrev blkNo (t : Fin cfg2.N) : Fin 32 := ⟨(grid2.coords t 1).val, (grid2.coords t 1).isLt⟩

theorem idx2a : ∀ t : Fin cfg2.N, win2_0.index t = ![0, (grid2.coords t 1).val, 0]
    ∧ win2_1.index t = ![0, 64 * (grid2.coords t 1).val - 1, 0] ∧ win2_2.index t = ![0, min (64 * (grid2.coords t 1).val + 64) 2047, 0]
    ∧ win2_3.index t = ![0, (grid2.coords t 1).val, 0] ∧ win2_15.index t = ![0, (grid2.coords t 1).val, 0] :=
  (by decide +kernel : ∀ t : Fin grid2.N, _)

theorem idx2b : ∀ t : Fin cfg2.N, win2_4.index t = ![0, 0, 0] ∧ win2_5.index t = ![0, 0] ∧ win2_6.index t = ![0, 0, 0]
    ∧ win2_7.index t = ![0, 0, 0] ∧ win2_8.index t = ![0, 0] ∧ win2_9.index t = ![0, 0, 0] ∧ win2_10.index t = ![0, 0, 0]
    ∧ win2_11.index t = ![0, 0, 0] ∧ win2_12.index t = ![0, 0] ∧ win2_13.index t = ![0, 0, 0] ∧ win2_14.index t = ![0, 0] :=
  (by decide +kernel : ∀ t : Fin grid2.N, _)

/-- The arrays `encoder_main` reads, as functions of the layer's arguments. -/
structure Arrays (c : Dev nD) : Prop where
  x : ∀ r k, (V c main_arg0 : Vec Ideal S1x16384x1024 .f32) (ix3 0 r k) = L.x r k
  f : ∀ r k, (V c main_arg1 : Vec Ideal S1x16384x512 .bf16) (ix3 0 r k) = L.f r k
  kv : ∀ m j, (V c main_v9 : Vec Ideal S1x256x1024 .bf16) (ix3 0 m j) = L.kv m j
  gi : ∀ k, (V c main_arg3 : Vec Ideal S1x1024 .f32) (ix2 0 k) = L.gi k
  w : Pairs (fun k p j => (V c main_v8_0 : Vec Ideal S512x2x7168 .bf16) (ix3 k p j)) L.w 0
  wp : ∀ (g : Fin 4) (k : Fin 128) (p : Fin 2) (j : Fin 256) (h1 : 128 * g.val + k.val < 512) (h2 : 2 * k.val + p.val < 256),
    (V c main_v8_1 : Vec Ideal S512x2x256 .bf16) (ix3 ⟨128 * g + k, h1⟩ p j) = L.wp g ⟨2 * k + p, h2⟩ j
  sc : ∀ k, (V c main_arg7 : Vec Ideal S1x1024 .f32) (ix2 0 k) = L.sc k
  wpo : Pairs (fun k p j => (V c main_v8_3 : Vec Ideal S512x2x1024 .bf16) (ix3 k p j)) L.wpo 0
  wfo : Pairs (fun k p j => (V c main_v8_4 : Vec Ideal S256x2x1024 .bf16) (ix3 k p j)) L.wfo 0
  wao : Pairs (fun k p j => (V c main_v8_5 : Vec Ideal S256x2x1024 .bf16) (ix3 k p j)) L.wao 0
  bg : ∀ k, (V c main_arg12 : Vec Ideal S1x3072 .f32) (ix2 0 k) = L.bg k
  wo : Pairs (fun k p j => (V c main_v8_6 : Vec Ideal S512x2x1024 .bf16) (ix3 k p j)) L.wo 0
  gf : ∀ k, (V c main_v10 : Vec Ideal S1x1024 .f32) (ix2 0 k) = L.gf k

variable {V L}

theorem staged {c : Dev nD} (A : Arrays V L c) (t : Fin cfg2.N) :
    Staged L (blkNo t) (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (iblk2 V c 11 t) (iblk2 V c 12 t) (iblk2 V c 13 t) (iblk2 V c 14 t) := by
  obtain ⟨e0, e1, e2, e3, e15⟩ := idx2a t
  obtain ⟨e4, e5, e6, e7, e8, e9, e10, e11, e12, e13, e14⟩ := idx2b t
  have h4 : iblk2 V c 4 t = V c main_v9 := by blk_ext! [iblk2, e4]
  have h5 : iblk2 V c 5 t = V c main_arg3 := by blk_ext! [iblk2, e5]
  have h6 : iblk2 V c 6 t = V c main_v8_0 := by blk_ext! [iblk2, e6]
  have h7 : iblk2 V c 7 t = V c main_v8_1 := by blk_ext! [iblk2, e7]
  have h8 : iblk2 V c 8 t = V c main_arg7 := by blk_ext! [iblk2, e8]
  have h9 : iblk2 V c 9 t = V c main_v8_3 := by blk_ext! [iblk2, e9]
  have h10 : iblk2 V c 10 t = V c main_v8_4 := by blk_ext! [iblk2, e10]
  have h11 : iblk2 V c 11 t = V c main_v8_5 := by blk_ext! [iblk2, e11]
  have h12 : iblk2 V c 12 t = V c main_arg12 := by blk_ext! [iblk2, e12]
  have h13 : iblk2 V c 13 t = V c main_v8_6 := by blk_ext! [iblk2, e13]
  have h14 : iblk2 V c 14 t = V c main_v10 := by blk_ext! [iblk2, e14]
  have hb : (blkNo t).val = (grid2.coords t 1).val := rfl
  have hlt := (grid2.coords t 1).isLt
  rw [h4, h5, h6, h7, h8, h9, h10, h11, h12, h13, h14]
  refine ⟨fun r k => ?_, fun hi r k => ?_, fun hi r k => ?_, fun r k => ?_, A.kv, A.gi, A.w, fun g k p j => A.wp g k p j _ _, A.sc, A.wpo,
    A.wfo, A.wao, A.bg, A.wo, A.gf⟩
  · refine Eq.trans ?_ (A.x _ k)
    blk_ext [iblk2, e0, tok]
  · refine Eq.trans ?_ (A.x _ k)
    blk_ext [iblk2, e1]
  · refine Eq.trans ?_ (A.x _ k)
    blk_ext [iblk2, e2]
  · refine Eq.trans ?_ (A.f _ k)
    blk_ext [iblk2, e3, tok]

/-- The array `encoder_main` leaves. -/
theorem main_arr {c : Dev nD} (A : Arrays V L c) :
    (dat2 V c).arrAt 15 cfg2.N = fun y => L.out sigTanh L.poolSum L.attLast (y 1) (y 2) := by
  refine (dat2 V c).arrAt_eq_of_covers 15 _ (by decide +kernel) fun t hf y => ?_
  obtain ⟨-, -, -, -, e15⟩ := idx2a t
  blk_simp
  rw [after2_15]
  obtain ⟨b, r, j, rfl⟩ : ∃ b r j, y = ix3 (n0 := 1) (n1 := 512) (n2 := 1024) b r j := ⟨y 0, y 1, y 2, eq_ix3 y⟩
  obtain rfl : b = 0 := Subsingleton.elim _ _
  refine (outs_eq V c t (i := blkNo t) rfl (staged A t) r j).trans ?_
  congr 1 <;> exact Fin.ext (by blk_simp [e15]; try (simp [tok]; try omega))

end

end Cert.Enc
-- ==== Proof.Result.lean ====
/- The kernel's run from a launch memory: its result array holds the layer's output over the argument arrays. -/
module

public import proofs.«01_k».proof.Proof.Main
public import Idealize.ShloMosaic.Lib.StableHlo.ReadAt
public import Idealize.ShloMosaic.Adequacy

@[expose] public section

set_option maxRecDepth 16384

noncomputable section

namespace Cert.Enc

open Idealize.ShloMosaic Idealize.SL.Sem Cert.KernelIdeal Cert.KernelIdeal.Gen

variable (m : (ℓ : Loc nD τ sig) → Buf (Elt Ideal) ℓ) (ρ : Dev nD → PrngReg)

/-- The layer over a launch memory's argument arrays. -/
def layerK (c : Dev nD) : Layer 16384 :=
  ofArgs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))

/-- An array whose row `k`, parity `p` is row `2k + p` of `a` holds row pairs of `a`. -/
theorem pairs_of {n N C : ℕ} {raw : Fin n → Fin 2 → Fin C → EReal} {a : Fin N → Fin C → EReal} (W : Fin N → Fin C → EReal) (hN : 0 < N)
    (h : ∀ k p c, raw k p c = a ⟨(2 * k.val + p.val) % N, Nat.mod_lt _ hN⟩ c) (ha : ∀ k c, a k c = W k c) : Pairs raw W 0 := by
  intro k p c h1 h2
  rw [h, ha]
  congr 1 <;> exact Fin.ext (by simp [Nat.mod_eq_of_lt h1])

theorem v0_at (c : Dev nD) (k : Fin 1024) (j : Fin 7168) : (V1 m ρ c main_v0 : Vec Ideal S1024x7168 .f32) (ix2 k j) = (layerK m c).w k j := by
  show StableHlo.after hostOps0 (W0 m ρ c) (Proc.devRef .tc main_v0) (ix2 k j) = _
  after_reads_at
  rfl

theorem v2_at (c : Dev nD) (k : Fin 1024) (j : Fin 1024) : (V1 m ρ c main_v2 : Vec Ideal S1024x1024 .f32) (ix2 k j) = (layerK m c).wkv k j := by
  show StableHlo.after hostOps0 (W0 m ρ c) (Proc.devRef .tc main_v2) (ix2 k j) = _
  after_reads_at
  rfl

theorem v3_at (c : Dev nD) (k : Fin 1024) (j : Fin 1024) : (V1 m ρ c main_v3 : Vec Ideal S1024x1024 .f32) (ix2 k j) = (layerK m c).wpo k j := by
  show StableHlo.after hostOps0 (W0 m ρ c) (Proc.devRef .tc main_v3) (ix2 k j) = _
  after_reads_at
  rfl

theorem v4_at (c : Dev nD) (k : Fin 512) (j : Fin 1024) : (V1 m ρ c main_v4 : Vec Ideal S512x1024 .f32) (ix2 k j) = (layerK m c).wfo k j := by
  show StableHlo.after hostOps0 (W0 m ρ c) (Proc.devRef .tc main_v4) (ix2 k j) = _
  after_reads_at
  rfl

theorem v5_at (c : Dev nD) (k : Fin 512) (j : Fin 1024) : (V1 m ρ c main_v5 : Vec Ideal S512x1024 .f32) (ix2 k j) = (layerK m c).wao k j := by
  show StableHlo.after hostOps0 (W0 m ρ c) (Proc.devRef .tc main_v5) (ix2 k j) = _
  after_reads_at
  rfl

theorem v6_at (c : Dev nD) (k : Fin 1024) (j : Fin 1024) : (V1 m ρ c main_v6 : Vec Ideal S1024x1024 .f32) (ix2 k j) = (layerK m c).wo k j := by
  show StableHlo.after hostOps0 (W0 m ρ c) (Proc.devRef .tc main_v6) (ix2 k j) = _
  after_reads_at
  rfl

theorem v7_at (c : Dev nD) (k : Fin 1024) (j : Fin 256) :
    (V1 m ρ c main_v7 : Vec Ideal S1024x256 .f32) (ix2 k j) = (layerK m c).wp ⟨k / 256, by omega⟩ ⟨k % 256, Nat.mod_lt _ (by decide)⟩ j := by
  show StableHlo.after hostOps0 (W0 m ρ c) (Proc.devRef .tc main_v7) (ix2 k j) = _
  after_reads_at
  rfl

theorem v10_at (c : Dev nD) (j : Fin 1024) : (V4 m ρ c main_v10 : Vec Ideal S1x1024 .f32) (ix2 0 j) = (layerK m c).gf j := by
  show StableHlo.after hostOps2 (W3 m ρ c) (Proc.devRef .tc main_v10) (ix2 0 j) = _
  after_reads_at
  rw [W3_args m ρ c main_arg14 (by decide)]
  rfl

/-- A packed array is still there when `encoder_main` is launched. -/
theorem V4_of_V2 (c : Dev nD) (r : Ref sig .tc) (h4 : r ∉ hostOps2_W) (h3 : ∀ w : Fin cfg1.W, Pipeline.arrRef spec1 w = r → (cfg1.win w).isOut = false) :
    V4 m ρ c r = V2 m ρ c r := (W4_of m ρ c r h4).trans (W3_of m ρ c r h3)

theorem v8_0_pairs (c : Dev nD) :
    Pairs (fun k p j => (V4 m ρ c main_v8_0 : Vec Ideal S512x2x7168 .bf16) (ix3 k p j)) (layerK m c).w 0 := by
  have e : (V4 m ρ c main_v8_0 : Vec Ideal S512x2x7168 .bf16) = _ :=
    (V4_of_V2 m ρ c main_v8_0 (by decide) (by decide)).trans ((W2_arr m ρ c 7).trans (packed7 (V1 m ρ) c))
  rw [e]
  exact pairs_of _ (by decide) (a := fun k j => (V1 m ρ c main_v0 : Vec Ideal S1024x7168 .f32) (ix2 k j)) (fun k p j => rfl) (v0_at m ρ c)

theorem v8_3_pairs (c : Dev nD) :
    Pairs (fun k p j => (V4 m ρ c main_v8_3 : Vec Ideal S512x2x1024 .bf16) (ix3 k p j)) (layerK m c).wpo 0 := by
  have e : (V4 m ρ c main_v8_3 : Vec Ideal S512x2x1024 .bf16) = _ :=
    (V4_of_V2 m ρ c main_v8_3 (by decide) (by decide)).trans ((W2_arr m ρ c 10).trans (packed10 (V1 m ρ) c))
  rw [e]
  exact pairs_of _ (by decide) (a := fun k j => (V1 m ρ c main_v3 : Vec Ideal S1024x1024 .f32) (ix2 k j)) (fun k p j => rfl) (v3_at m ρ c)

theorem v8_4_pairs (c : Dev nD) :
    Pairs (fun k p j => (V4 m ρ c main_v8_4 : Vec Ideal S256x2x1024 .bf16) (ix3 k p j)) (layerK m c).wfo 0 := by
  have e : (V4 m ρ c main_v8_4 : Vec Ideal S256x2x1024 .bf16) = _ :=
    (V4_of_V2 m ρ c main_v8_4 (by decide) (by decide)).trans ((W2_arr m ρ c 11).trans (packed11 (V1 m ρ) c))
  rw [e]
  exact pairs_of _ (by decide) (a := fun k j => (V1 m ρ c main_v4 : Vec Ideal S512x1024 .f32) (ix2 k j)) (fun k p j => rfl) (v4_at m ρ c)

theorem v8_5_pairs (c : Dev nD) :
    Pairs (fun k p j => (V4 m ρ c main_v8_5 : Vec Ideal S256x2x1024 .bf16) (ix3 k p j)) (layerK m c).wao 0 := by
  have e : (V4 m ρ c main_v8_5 : Vec Ideal S256x2x1024 .bf16) = _ :=
    (V4_of_V2 m ρ c main_v8_5 (by decide) (by decide)).trans ((W2_arr m ρ c 12).trans (packed12 (V1 m ρ) c))
  rw [e]
  exact pairs_of _ (by decide) (a := fun k j => (V1 m ρ c main_v5 : Vec Ideal S512x1024 .f32) (ix2 k j)) (fun k p j => rfl) (v5_at m ρ c)

theorem v8_6_pairs (c : Dev nD) :
    Pairs (fun k p j => (V4 m ρ c main_v8_6 : Vec Ideal S512x2x1024 .bf16) (ix3 k p j)) (layerK m c).wo 0 := by
  have e : (V4 m ρ c main_v8_6 : Vec Ideal S512x2x1024 .bf16) = _ :=
    (V4_of_V2 m ρ c main_v8_6 (by decide) (by decide)).trans ((W2_arr m ρ c 13).trans (packed13 (V1 m ρ) c))
  rw [e]
  exact pairs_of _ (by decide) (a := fun k j => (V1 m ρ c main_v6 : Vec Ideal S1024x1024 .f32) (ix2 k j)) (fun k p j => rfl) (v6_at m ρ c)

theorem v8_2_pairs (c : Dev nD) :
    Pairs (fun k p j => (V2 m ρ c main_v8_2 : Vec Ideal S512x2x1024 .bf16) (ix3 k p j)) (layerK m c).wkv 0 := by
  have e : (V2 m ρ c main_v8_2 : Vec Ideal S512x2x1024 .bf16) = _ := (W2_arr m ρ c 9).trans (packed9 (V1 m ρ) c)
  rw [e]
  exact pairs_of _ (by decide) (a := fun k j => (V1 m ρ c main_v2 : Vec Ideal S1024x1024 .f32) (ix2 k j)) (fun k p j => rfl) (v2_at m ρ c)

theorem v8_1_at (c : Dev nD) (g : Fin 4) (k : Fin 128) (p : Fin 2) (j : Fin 256) (h1 : 128 * g.val + k.val < 512) (h2 : 2 * k.val + p.val < 256) :
    (V4 m ρ c main_v8_1 : Vec Ideal S512x2x256 .bf16) (ix3 ⟨128 * g + k, h1⟩ p j) = (layerK m c).wp g ⟨2 * k + p, h2⟩ j := by
  have e : (V4 m ρ c main_v8_1 : Vec Ideal S512x2x256 .bf16) = _ :=
    (V4_of_V2 m ρ c main_v8_1 (by decide) (by decide)).trans ((W2_arr m ρ c 8).trans (packed8 (V1 m ρ) c))
  rw [e]
  refine (v7_at m ρ c _ j).trans ?_
  have hp := p.isLt
  congr 1 <;> exact Fin.ext (by simp; omega)

theorem v9_at (c : Dev nD) (r : Fin 256) (j : Fin 1024) : (V4 m ρ c main_v9 : Vec Ideal S1x256x1024 .bf16) (ix3 0 r j) = (layerK m c).kv r j := by
  have e : (V4 m ρ c main_v9 : Vec Ideal S1x256x1024 .bf16) = _ :=
    (W4_of m ρ c main_v9 (by decide)).trans ((W3_arr m ρ c 3).trans (kv_arr (V2 m ρ) (layerK m c) c
      (fun r k => congrFun (W2_args m ρ c main_arg2 (by decide)) (ix3 0 r k)) (fun k => congrFun (W2_args m ρ c main_arg4 (by decide)) (ix2 0 k))
      (v8_2_pairs m ρ c)))
  rw [e]
  rfl

/-- The arrays `encoder_main` reads. -/
theorem arrays (c : Dev nD) : Arrays (V4 m ρ) (layerK m c) c where
  x r k := congrFun (W4_args m ρ c main_arg0 (by decide)) (ix3 0 r k)
  f r k := congrFun (W4_args m ρ c main_arg1 (by decide)) (ix3 0 r k)
  kv := v9_at m ρ c
  gi k := congrFun (W4_args m ρ c main_arg3 (by decide)) (ix2 0 k)
  w := v8_0_pairs m ρ c
  wp := v8_1_at m ρ c
  sc k := congrFun (W4_args m ρ c main_arg7 (by decide)) (ix2 0 k)
  wpo := v8_3_pairs m ρ c
  wfo := v8_4_pairs m ρ c
  wao := v8_5_pairs m ρ c
  bg k := congrFun (W4_args m ρ c main_arg12 (by decide)) (ix2 0 k)
  wo := v8_6_pairs m ρ c
  gf := v10_at m ρ c

/-- The result array at the end of the run. -/
theorem result (c : Dev nD) : (W5 m ρ c (Proc.devRef .tc main_v11) : Vec Ideal S1x16384x1024 .f32)
    = fun y => (layerK m c).out sigTanh (layerK m c).poolSum (layerK m c).attLast (y 1) (y 2) :=
  (W5_arr m ρ c 15).trans (main_arr (arrays m ρ c))

end Cert.Enc
-- ==== Proof.KernelRun.lean ====
/- The kernel's run, its result array read off the contents the last region leaves. The launch is the generated frame's. -/
module

public import proofs.«01_k».proof.Proof.Result

@[expose] public section

set_option maxRecDepth 16384

noncomputable section

namespace Cert.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

set_option maxHeartbeats 4000000 in
/-- Every fair execution of the kernel ends with the layer's output in the result array and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v11) : Vec Ideal S1x16384x1024 .f32)
        = (fun y => (layerK m c).out sigTanh (layerK m c).poolSum (layerK m c).attLast (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨(h c _ (mem_uc main_v11 (by decide))).trans (result m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c)⟩)

end Cert.Enc
-- ==== Proof.RefRows.lean ====
/- The reference read at an index: the normalised rows, the projections and the gates, as the layer's functions. -/
module

public import proofs.«01_k».proof.Proof.Gen.ReferenceIdeal.Read
public import proofs.«01_k».proof.Proof.Args

@[expose] public section

set_option maxRecDepth 16384

noncomputable section

namespace Cert.Enc

open Idealize.ShloMosaic Cert.ReferenceIdeal Cert.ReferenceIdeal.Read

section

variable {L : Layer 16384} {a0 : Vec Ideal S1x16384x1024 .f32} {a1 : Vec Ideal S1x16384x512 .bf16} {a2 : Vec Ideal S1x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} (hL : L = ofArgs a0 a1 a2 a3 a4 a5 a6 a7 a8 a9 a10 a11 a12 a13 a14)

include hL

theorem r13 (t : Fin 16384) (k : Fin 1024) : val_main_v13 (F := Ideal) a0 a3 (ix3 0 t k) = L.xn t k := by
  subst hL
  pointwise [val_main_v13, val_main_v10, val_main_v12, val_main_v11, val_main_v0, val_main_v9, val_main_v8, val_main_v7, val_main_v6, val_main_v5,
    val_main_v4, val_main_v3, val_main_v2, val_main_v1, val_main_cst, val_main_cst_0, val_main_cst_1]
  rfl

theorem r27 (t : Fin 256) (k : Fin 1024) : val_main_v27 (F := Ideal) a2 a4 (ix3 0 t k) = rms (L.mem t) L.gm k := by
  subst hL
  pointwise [val_main_v27, val_main_v24, val_main_v26, val_main_v25, val_main_v14, val_main_v23, val_main_v22, val_main_v21, val_main_v20, val_main_v19,
    val_main_v18, val_main_v17, val_main_v16, val_main_v15, val_main_cst_2, val_main_cst_3, val_main_cst_4]
  rfl

theorem r29 (t : Fin 16384) (j : Fin 7168) : val_main_v29 (F := Ideal) a0 a3 a5 (ix3 0 t j) = L.proj t j := by
  pointwise [val_main_v29, val_main_v28]
  simp only [r13 hL]
  subst hL
  rfl

theorem r154 (t : Fin 256) (j : Fin 1024) : val_main_v154 (F := Ideal) a2 a4 a8 (ix3 0 t j) = L.kv t j := by
  pointwise [val_main_v154, val_main_v153]
  simp only [r27 hL]
  subst hL
  rfl

theorem r46 (t : Fin 16384) (j : Fin 3072) :
    val_main_v46 (F := Ideal) a0 a3 a5 a12 (ix3 0 t j) = Ideal.logistic (L.proj t ⟨4096 + j, by omega⟩ + L.bg j) := by
  pointwise [val_main_v46, val_main_v45, val_main_v44, val_main_v43, val_main_v42, val_main_v41, val_main_v40, val_main_v39, val_main_v38, val_main_v37,
    val_main_v36, val_main_cst_5, val_main_cst_6]
  simp only [r29 hL]
  subst hL
  rfl

end

end Cert.Enc
-- ==== Proof.RefAttend.lean ====
/- The reference's attention read at an index. -/
module

public import proofs.«01_k».proof.Proof.RefRows
public import Idealize.ShloMosaic.Lib.ReduceAll

@[expose] public section

set_option maxRecDepth 16384

noncomputable section

namespace Cert.Enc

open Idealize.ShloMosaic Cert.ReferenceIdeal Cert.ReferenceIdeal.Read

section

variable {L : Layer 16384} {a0 : Vec Ideal S1x16384x1024 .f32} {a1 : Vec Ideal S1x16384x512 .bf16} {a2 : Vec Ideal S1x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} (hL : L = ofArgs a0 a1 a2 a3 a4 a5 a6 a7 a8 a9 a10 a11 a12 a13 a14)

include hL

theorem r162 (t : Fin 16384) (h : Fin 4) (m : Fin 256) : val_main_v162 (F := Ideal) a0 a2 a3 a4 a5 a8 (ix4 0 h t m) = L.score t h m := by
  pointwise [val_main_v162, val_main_v161, val_main_v160, val_main_v157, val_main_v158, val_main_v155, val_main_v34, val_main_cst_31]
  simp only [r29 hL, r154 hL]
  unfold Layer.score
  simp only [Nat.mul_comm h.val 128]
  rfl

theorem r163 (t : Fin 16384) (h : Fin 4) : val_main_v163 (F := Ideal) a0 a2 a3 a4 a5 a8 (ix3 0 h t) = L.top t h := by
  pointwise [val_main_v163, val_main_cst_32]
  simp only [r162 hL]
  rfl

/-- The greatest score is no less than the fold's start. -/
theorem r165 (t : Fin 16384) (h : Fin 4) : val_main_v165 (F := Ideal) a0 a2 a3 a4 a5 a8 (ix3 0 h t) = L.top t h := by
  rw [val_main_v165_apply, r163 hL]
  exact max_eq_right ((Finset.le_fold_max _).2 (Or.inl le_rfl))

omit hL in
theorem idx167 (t : Fin 16384) (h : Fin 4) (m : Fin 256) : idx_main_v166 (idx_main_v167 (ix4 0 h t m)) = ix3 0 h t := by
  funext a
  fin_cases a <;> rfl

theorem r167 (t : Fin 16384) (h : Fin 4) (m : Fin 256) : val_main_v167 (F := Ideal) a0 a2 a3 a4 a5 a8 (ix4 0 h t m) = L.top t h :=
  (val_main_v167_apply a0 a2 a3 a4 a5 a8 _).trans ((val_main_v166_apply a0 a2 a3 a4 a5 a8 _).trans (by rw [idx167]; exact r165 hL t h))

theorem r169 (t : Fin 16384) (h : Fin 4) (m : Fin 256) : val_main_v169 (F := Ideal) a0 a2 a3 a4 a5 a8 (ix4 0 h t m) = L.ex t h m :=
  (congrArg Ideal.exp ((val_main_v168_apply a0 a2 a3 a4 a5 a8 _).trans (congrArg₂ (fun x y : EReal => x - y) (r162 hL t h m) (r167 hL t h m))))

theorem r173 (t : Fin 16384) (h : Fin 4) (m : Fin 256) :
    val_main_v173 (F := Ideal) a0 a2 a3 a4 a5 a8 (ix4 0 h t m) = Ideal.div (L.ex t h m) (∑ m, L.ex t h m) := by
  pointwise [val_main_v173, val_main_v172, val_main_v171, val_main_v170, val_main_cst_34]
  simp only [r169 hL]

theorem r176 (t : Fin 16384) (j : Fin 512) : val_main_v176 (F := Ideal) a0 a2 a3 a4 a5 a8 (ix3 0 t j) = L.attFirst t j := by
  pointwise [val_main_v176, val_main_v175, val_main_v174, val_main_v159, val_main_v156]
  simp only [r173 hL, r154 hL]
  exact Finset.sum_congr rfl fun m _ => mul_comm _ _

end

end Cert.Enc
-- ==== Proof.RefOut.lean ====
/- The reference's branches, their merge and its result, read at an index. -/
module

public import proofs.«01_k».proof.Proof.RefAttend
public import Idealize.ShloMosaic.Lib.ReduceAll

@[expose] public section

set_option maxRecDepth 16384

noncomputable section

namespace Cert.Enc

open Idealize.ShloMosaic Cert.ReferenceIdeal Cert.ReferenceIdeal.Read

section

variable {L : Layer 16384} {a0 : Vec Ideal S1x16384x1024 .f32} {a1 : Vec Ideal S1x16384x512 .bf16} {a2 : Vec Ideal S1x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} (hL : L = ofArgs a0 a1 a2 a3 a4 a5 a6 a7 a8 a9 a10 a11 a12 a13 a14)

include hL

/-- What the pool branch's stacked groups hold. -/
def Pooled (L : Layer 16384) (a0 : Vec Ideal S1x16384x1024 .f32) (a3 : Vec Ideal S1x1024 .f32) (a5 : Vec Ideal S1x1024x7168 .f32) : Prop :=
  ∀ (t : Fin 16384) (g : Fin 4) (k : Fin 256) (h : 256 * g.val + k.val < 1024),
    val_main_v137 (F := Ideal) a0 a3 a5 (ix4 0 t g k) = L.poolDiff t ⟨256 * g + k, h⟩

theorem r145 (hP : Pooled L a0 a3 a5) (t : Fin 16384) (j : Fin 1024) :
    val_main_v145 (F := Ideal) a0 a3 a5 a6 a7 (ix3 0 t j) = L.yin Ideal.logistic L.poolDiff t j := by
  pointwise [val_main_v145, val_main_v144, val_main_v143, val_main_v142, val_main_v141, val_main_v140, val_main_v139, val_main_v138, val_main_v51,
    val_main_v50, val_main_v31, val_main_call17_v5, val_main_call17_v4, val_main_call17_v3, val_main_call17_v2, val_main_call17_v1,
    val_main_call17_v0, val_main_call17_cst, val_main_call17_cst_0]
  have e : ∀ x : Fin 256, val_main_v137 (F := Ideal) a0 a3 a5 (ix4 0 t ⟨j.val / 256, by omega⟩ x) = L.poolDiff t ⟨256 * (j.val / 256) + x, by omega⟩ :=
    fun x => hP t _ x _
  simp only [r29 hL, e]
  clear e hP
  subst hL
  exact congrArg₂ (fun x y : EReal => x * y) (congrArg (fun x : EReal => x * _) (Finset.sum_congr rfl fun x _ => mul_comm _ _)) rfl

theorem r150 (t : Fin 16384) (j : Fin 512) :
    val_main_v150 (F := Ideal) a0 a1 a3 a5 (ix3 0 t j) = L.fin Ideal.logistic t j := by
  pointwise [val_main_v150, val_main_v149, val_main_v148, val_main_v33, val_main_call18_v5, val_main_call18_v4, val_main_call18_v3,
    val_main_call18_v2, val_main_call18_v1, val_main_call18_v0, val_main_call18_cst, val_main_call18_cst_0]
  simp only [r29 hL]
  subst hL
  rfl

theorem r178 (t : Fin 16384) (j : Fin 512) :
    val_main_v178 (F := Ideal) a0 a2 a3 a4 a5 a8 (ix3 0 t j) = L.ain Ideal.logistic L.attFirst t j := by
  pointwise [val_main_v178, val_main_v177, val_main_v35, val_main_call19_v5, val_main_call19_v4, val_main_call19_v3,
    val_main_call19_v2, val_main_call19_v1, val_main_call19_v0, val_main_call19_cst, val_main_call19_cst_0]
  simp only [r29 hL, r176 hL]
  rfl

theorem r181 (hP : Pooled L a0 a3 a5) (t : Fin 16384) (j : Fin 1024) :
    val_main_v181 (F := Ideal) a0 a3 a5 a6 a7 a9 a12 (ix3 0 t j) = L.brA Ideal.logistic L.poolDiff t j := by
  pointwise [val_main_v181, val_main_v147, val_main_v146, val_main_v47]
  simp only [r145 hL hP, r46 hL]
  clear hP
  subst hL
  unfold Layer.brA Layer.gate
  simp only [Nat.zero_add]
  rfl

theorem r182 (t : Fin 16384) (j : Fin 1024) :
    val_main_v182 (F := Ideal) a0 a1 a3 a5 a10 a12 (ix3 0 t j) = L.brB Ideal.logistic t j := by
  pointwise [val_main_v182, val_main_v152, val_main_v151, val_main_v48]
  simp only [r150 hL, r46 hL]
  subst hL
  rfl

theorem r184 (t : Fin 16384) (j : Fin 1024) :
    val_main_v184 (F := Ideal) a0 a2 a3 a4 a5 a8 a11 a12 (ix3 0 t j) = L.brC Ideal.logistic L.attFirst t j := by
  pointwise [val_main_v184, val_main_v180, val_main_v179, val_main_v49]
  simp only [r178 hL, r46 hL]
  subst hL
  rfl

theorem r185 (hP : Pooled L a0 a3 a5) (t : Fin 16384) (j : Fin 1024) :
    val_main_v185 (F := Ideal) a0 a1 a2 a3 a4 a5 a6 a7 a8 a9 a10 a11 a12 (ix3 0 t j) = L.merged Ideal.logistic L.poolDiff L.attFirst t j :=
  congrArg₂ (fun x y : EReal => x + y) (congrArg₂ (fun x y : EReal => x + y) (r181 hL hP t j) (r182 hL t j)) (r184 hL t j)

theorem r188 (hP : Pooled L a0 a3 a5) (t : Fin 16384) (j : Fin 1024) :
    val_main_v188 (F := Ideal) a0 a1 a2 a3 a4 a5 a6 a7 a8 a9 a10 a11 a12 a13 (ix3 0 t j) = L.res Ideal.logistic L.poolDiff L.attFirst t j := by
  pointwise [val_main_v188, val_main_v187, val_main_v186]
  simp only [r185 hL hP]
  clear hP
  subst hL
  rfl

/-- The reference's result. -/
theorem r201 (hP : Pooled L a0 a3 a5) (t : Fin 16384) (j : Fin 1024) :
    val_main_v201 (F := Ideal) a0 a1 a2 a3 a4 a5 a6 a7 a8 a9 a10 a11 a12 a13 a14 (ix3 0 t j) = L.out Ideal.logistic L.poolDiff L.attFirst t j := by
  pointwise [val_main_v201, val_main_v200, val_main_v199, val_main_v198, val_main_v197, val_main_v196, val_main_v195, val_main_v194, val_main_v193,
    val_main_v192, val_main_v191, val_main_v190, val_main_v189, val_main_cst_35, val_main_cst_36, val_main_cst_37]
  simp only [r188 hL hP]
  clear hP
  subst hL
  rfl

end

end Cert.Enc
-- ==== Proof.RefCum.lean ====
/- The reference's running sum over the tokens, read at an index. -/
module

public import proofs.«01_k».proof.Proof.RefRows

@[expose] public section

set_option maxRecDepth 16384

noncomputable section

namespace Cert.Enc

open Idealize.ShloMosaic Cert.ReferenceIdeal Cert.ReferenceIdeal.Read

/-- A left fold of additions is the sum. -/
theorem foldl_add {ι : Type} (f : EReal → ι → EReal) (g : ι → EReal) (h : ∀ r n, f r n = r + g n) (l : List ι) :
    ∀ v : EReal, l.foldl f v = v + (l.map g).sum := by
  induction l with
  | nil => exact fun v => (add_zero v).symm
  | cons a l ih =>
    exact fun v => (ih (f v a)).trans ((congrArg (· + _) (h v a)).trans ((add_assoc v (g a) _).trans (congrArg (v + ·) List.sum_cons.symm)))

/-- A window as long as the column, padded below, holds at place `t` the entries up to `t`. -/
theorem window_sum (f : ℕ → EReal) (N t : ℕ) (ht : t < N) :
    (∑ n ∈ Finset.range N, if N - 1 ≤ t + n then f (t + n - (N - 1)) else 0) = ∑ s ∈ Finset.range (t + 1), f s := by
  have e : N = (N - 1 - t) + (t + 1) := by omega
  calc _ = ∑ n ∈ Finset.range ((N - 1 - t) + (t + 1)), (if N - 1 ≤ t + n then f (t + n - (N - 1)) else 0) := by rw [← e]
    _ = _ := by
      rw [Finset.sum_range_add]
      rw [Finset.sum_eq_zero fun n hn => if_neg (by have := Finset.mem_range.1 hn; omega), zero_add]
      refine Finset.sum_congr rfl fun s hs => ?_
      rw [if_pos (by omega)]
      exact congrArg f (by omega)

/-- A window sum at an index, for any window: the initial value, and a number `g n` for each place `n` of the window, the entry met or the initial value. -/
theorem window_at {s t u : Shape} (window strides lo hi : Fin s.rank → ℕ) (x : s.Idx → EReal) (init : u.Idx → EReal)
    (h : s.ReduceWindows window strides lo hi t) (hu : 0 < u.numel) (j : t.Idx) (g : Fin (⟨s.rank, window⟩ : Shape).numel → EReal)
    (hin : ∀ (n : Fin (⟨s.rank, window⟩ : Shape).numel) (q : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a), x (fun a => ⟨_, (q a).2⟩) = g n)
    (hout : ∀ n : Fin (⟨s.rank, window⟩ : Shape).numel, (¬ ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a) → init (Shape.Idx.first hu) = g n) :
    Host.reduceWindowAdd (F := Ideal) (φ := .f32) window strides lo hi x init h hu j
      = init (Shape.Idx.first hu) + ((List.finRange (⟨s.rank, window⟩ : Shape).numel).map g).sum := by
  show Ideal.hostReduceWindowAdd window strides lo hi h x (init (Shape.Idx.first hu)) j = _
  unfold Ideal.hostReduceWindowAdd Host.reduceWindow
  refine foldl_add _ g (fun r n => congrArg (r + ·) ?_) _ _
  dsimp only
  split
  · next q => exact hin n q
  · next q => exact hout n q

/-- The window's shape: one axis of 16384. -/
abbrev winShape : Shape := ⟨4, ![1, 16384, 1, 1]⟩

theorem winShape_numel : winShape.numel = 16384 := by
  simp [winShape, Shape.numel, Fin.prod_univ_four]

theorem winShape_symm (n : Fin winShape.numel) (h : n.val < 16384) : winShape.rowMajor.symm n = ix4 (0 : Fin 1) (⟨n.val, h⟩ : Fin 16384) (0 : Fin 1) (0 : Fin 1) := by
  refine (winShape.rowMajor.symm_apply_eq).2 (Fin.ext ?_)
  rw [Shape.rowMajor_val_four]
  show n.val = _
  simp

/-- The running sum at a token. -/
theorem cum_at (x : Vec Ideal S1x16384x4x256 .f32) (init : Vec Ideal S_ .f32) (h0 : ∀ i, init i = (0 : EReal))
    (hw : S1x16384x4x256.ReduceWindows ![1, 16384, 1, 1] ![1, 1, 1, 1] ![0, 16383, 0, 0] ![0, 0, 0, 0] S1x16384x4x256) (hu : 0 < S_.numel)
    (t : Fin 16384) (g : Fin 4) (k : Fin 256) (f : ℕ → EReal) (hf : ∀ s (h : s < 16384), f s = x (ix4 0 ⟨s, h⟩ g k)) :
    (Host.reduceWindowAdd (F := Ideal) (φ := .f32) (s := S1x16384x4x256) (t := S1x16384x4x256) (u := S_) ![1, 16384, 1, 1] ![1, 1, 1, 1] ![0, 16383, 0, 0] ![0, 0, 0, 0] x init hw hu) (ix4 0 t g k)
      = ∑ s ∈ Finset.range (t.val + 1), f s := by
  refine (window_at _ _ _ _ _ _ _ _ _ (fun n : Fin winShape.numel => if 16384 - 1 ≤ t.val + n.val then f (t.val + n.val - (16384 - 1)) else 0) ?_ ?_).trans ?_
  · intro n q
    have w0 : (winShape.rowMajor.symm n 0).val = 0 := Nat.lt_one_iff.1 (Fin.isLt _)
    have w1 : (winShape.rowMajor.symm n 1).val = n.val := by
      rw [winShape_symm n (lt_of_lt_of_eq n.isLt winShape_numel)]
      rfl
    have w2 : (winShape.rowMajor.symm n 2).val = 0 := Nat.lt_one_iff.1 (Fin.isLt _)
    have w3 : (winShape.rowMajor.symm n 3).val = 0 := Nat.lt_one_iff.1 (Fin.isLt _)
    have q1 := q 1
    change 16383 ≤ t.val * 1 + (winShape.rowMajor.symm n 1).val ∧ t.val * 1 + (winShape.rowMajor.symm n 1).val - 16383 < 16384 at q1
    rw [w1] at q1
    rw [if_pos (by omega), hf _ (by omega)]
    refine congrArg x (funext fun a => Fin.ext ?_)
    match a with
    | ⟨0, _⟩ =>
      show 0 * 1 + (winShape.rowMajor.symm n 0).val - 0 = 0
      rw [w0]
    | ⟨1, _⟩ =>
      show t.val * 1 + (winShape.rowMajor.symm n 1).val - 16383 = t.val + n.val - (16384 - 1)
      rw [w1]
      omega
    | ⟨2, _⟩ =>
      show g.val * 1 + (winShape.rowMajor.symm n 2).val - 0 = g.val
      rw [w2]
      omega
    | ⟨3, _⟩ =>
      show k.val * 1 + (winShape.rowMajor.symm n 3).val - 0 = k.val
      rw [w3]
      omega
  · intro n q
    have w0 : (winShape.rowMajor.symm n 0).val = 0 := Nat.lt_one_iff.1 (Fin.isLt _)
    have w1 : (winShape.rowMajor.symm n 1).val = n.val := by
      rw [winShape_symm n (lt_of_lt_of_eq n.isLt winShape_numel)]
      rfl
    have w2 : (winShape.rowMajor.symm n 2).val = 0 := Nat.lt_one_iff.1 (Fin.isLt _)
    have w3 : (winShape.rowMajor.symm n 3).val = 0 := Nat.lt_one_iff.1 (Fin.isLt _)
    have hn : n.val < 16384 := lt_of_lt_of_eq n.isLt winShape_numel
    have ht := t.isLt
    rw [h0, if_neg]
    intro hc
    refine q fun a => ?_
    match a with
    | ⟨0, _⟩ =>
      show 0 ≤ 0 * 1 + (winShape.rowMajor.symm n 0).val ∧ 0 * 1 + (winShape.rowMajor.symm n 0).val - 0 < 1
      rw [w0]
      omega
    | ⟨1, _⟩ =>
      show 16383 ≤ t.val * 1 + (winShape.rowMajor.symm n 1).val ∧ t.val * 1 + (winShape.rowMajor.symm n 1).val - 16383 < 16384
      rw [w1]
      omega
    | ⟨2, _⟩ =>
      show 0 ≤ g.val * 1 + (winShape.rowMajor.symm n 2).val ∧ g.val * 1 + (winShape.rowMajor.symm n 2).val - 0 < 4
      rw [w2]
      omega
    | ⟨3, _⟩ =>
      show 0 ≤ k.val * 1 + (winShape.rowMajor.symm n 3).val ∧ k.val * 1 + (winShape.rowMajor.symm n 3).val - 0 < 256
      rw [w3]
      omega
  rw [h0, zero_add, ← Fin.sum_univ_def, Fin.sum_univ_eq_sum_range (fun n => if 16384 - 1 ≤ t.val + n then f (t.val + n - (16384 - 1)) else 0) winShape.numel, winShape_numel]
  exact window_sum f 16384 t.val t.isLt

section

variable {L : Layer 16384} {a0 : Vec Ideal S1x16384x1024 .f32} {a1 : Vec Ideal S1x16384x512 .bf16} {a2 : Vec Ideal S1x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} (hL : L = ofArgs a0 a1 a2 a3 a4 a5 a6 a7 a8 a9 a10 a11 a12 a13 a14)

include hL

theorem r52 (t : Fin 16384) (g : Fin 4) (k : Fin 256) (h : 256 * g.val + k.val < 1024) :
    val_main_v52 (F := Ideal) a0 a3 a5 (ix4 0 t g k) = L.pv t ⟨256 * g + k, h⟩ := by
  pointwise [val_main_v52, val_main_v30]
  simp only [r29 hL]
  exact congrArg (L.proj t) (Fin.ext (by show g.val * 256 + k.val = 256 * g.val + k.val; omega))

theorem r54 (t : Fin 16384) (g : Fin 4) (k : Fin 256) (h : 256 * g.val + k.val < 1024) :
    val_main_v54 (F := Ideal) a0 a3 a5 (ix4 0 t g k) = L.run (t.val + 1) ⟨256 * g + k, h⟩ :=
  cum_at (val_main_v52 (F := Ideal) a0 a3 a5) (val_main_call0_call0_v0 (F := Ideal)) (fun _ => Ideal.ofBits_zero .f32) _ _ t g k
    (fun s => L.pad (s + 8) ⟨256 * g + k, h⟩) fun s hs => by
      rw [r52 hL ⟨s, hs⟩ g k h]
      unfold Layer.pad
      rw [dif_pos (by omega)]
      rfl

/-- The running sum with the zero row before it: row `n` is the sum of the first `n` tokens. -/
theorem r55 (n : Fin 16385) (g : Fin 4) (k : Fin 256) (h : 256 * g.val + k.val < 1024) :
    val_main_v55 (F := Ideal) a0 a3 a5 (ix4 0 n g k) = L.run n.val ⟨256 * g + k, h⟩ := by
  pointwise [val_main_v55]
  split
  · next c =>
    have e : n.val = 0 := by omega
    have e1 : L.run n.val ⟨256 * g + k, h⟩ = 0 := (congrArg (fun q => L.run q ⟨256 * g + k, h⟩) e).trans (Finset.sum_range_zero _)
    exact (Ideal.ofBits_zero .f32).trans e1.symm
  · next c =>
    rw [r54 hL _ g k h]
    exact congrArg (fun q => L.run q ⟨256 * g + k, h⟩) (by show n.val - 1 + 1 = n.val; omega)

end

end Cert.Enc
-- ==== Proof.RefTake.lean ====
/- The reference's window ends: words, and a row taken by a word. -/
module

public import proofs.«01_k».proof.Proof.RefRows
public import Idealize.ShloMosaic.Lib.ReduceAll
public import Idealize.ShloMosaic.Lib.Routing.OpsSearch
public import Idealize.ShloMosaic.Lib.Routing.OpsPair
public import Idealize.ShloMosaic.Lib.Tactic.WordOmega

@[expose] public section

set_option maxRecDepth 16384

noncomputable section

namespace Cert.Enc

open Idealize.ShloMosaic Cert.ReferenceIdeal Cert.ReferenceIdeal.Gen Cert.ReferenceIdeal.Read

/-- A row taken by its word. -/
theorem take_row (x : Vec Ideal S1x16385x256 .f32) (idx : IVec S16384x1 32) (t : Fin 16384) (k : Fin 256) (n : ℕ) (hn : n < 16385)
    (h : idx (ix2 t (0 : Fin 1)) = BitVec.ofNat 32 n) :
    (Host.gather gather_S1x16385x256_S16384x1_S1x16384x256_02_1_n_n_1_1_11256 x idx : Vec Ideal S1x16384x256 .f32) (ix3 0 t k) = x (ix3 0 ⟨n, hn⟩ k) := by
  unfold Host.gather
  refine congrArg x (funext fun a => Fin.ext ?_)
  have hi : (idx (ix2 t (0 : Fin 1))).toInt.toNat = n := by
    rw [h, StableHlo.Predicate.toInt_ofNat_small n (by omega)]
    exact Int.toNat_natCast n
  match a with
  | ⟨0, _⟩ => exact (Nat.lt_one_iff.1 (Fin.isLt _)).trans rfl
  | ⟨1, _⟩ =>
    have e : (gather_S1x16385x256_S16384x1_S1x16384x256_02_1_n_n_1_1_11256.siIdx (ix3 0 t k) ⟨0, Nat.zero_lt_one⟩) = ix2 t (0 : Fin 1) := by
      funext b
      match b with
      | ⟨0, _⟩ => rfl
      | ⟨1, _⟩ => exact Fin.ext (Nat.lt_one_iff.1 (Fin.isLt _))
    show min (idx (gather_S1x16385x256_S16384x1_S1x16384x256_02_1_n_n_1_1_11256.siIdx (ix3 0 t k) ⟨0, Nat.zero_lt_one⟩)).toInt.toNat (16385 - 1) + 0 + 0 = n
    rw [e, hi]
    omega
  | ⟨2, _⟩ =>
    have e : ∀ X : Fin 3, X = 2 → (ix3 (0 : Fin 1) t k X).val = k.val := fun X h => by subst h; rfl
    show GatherDims.start gather_S1x16385x256_S16384x1_S1x16384x256_02_1_n_n_1_1_11256 (ix3 0 t k) idx 2
      + GatherDims.batchCoord gather_S1x16385x256_S16384x1_S1x16384x256_02_1_n_n_1_1_11256 (ix3 0 t k) 2
      + GatherDims.offCoord gather_S1x16385x256_S16384x1_S1x16384x256_02_1_n_n_1_1_11256 (ix3 0 t k) 2 = k.val
    rw [GatherDims.batchCoord_eq_zero _ _ _ List.not_mem_nil, Nat.add_zero]
    unfold GatherDims.start GatherDims.offCoord
    rw [dif_neg (show (2 : Fin 3) ∉ gather_S1x16385x256_S16384x1_S1x16384x256_02_1_n_n_1_1_11256.startIndexMap by decide), dif_pos (show (2 : Fin 3) ∈ gather_S1x16385x256_S16384x1_S1x16384x256_02_1_n_n_1_1_11256.sKept by decide), Nat.zero_add]
    exact e _ rfl

/-- The low end of a window: the difference, at least zero and at most 16384. -/
theorem lo_word (t h : ℕ) (ht : t < 16384) (hh : h ≤ 8) :
    IntOp.minsi 16384#32 (IntOp.maxsi 0#32 (BitVec.ofNat 32 t - BitVec.ofNat 32 h)) = BitVec.ofNat 32 (t - h) := by
  by_cases c : h ≤ t
  · have e : BitVec.ofNat 32 t - BitVec.ofNat 32 h = BitVec.ofNat 32 (t - h) := by
      apply BitVec.eq_of_toNat_eq
      rw [BitVec.toNat_sub, BitVec.toNat_ofNat, BitVec.toNat_ofNat, BitVec.toNat_ofNat]
      omega
    rw [e]
    exact (Routing.clip_word (x := t - h) (lo := 0) (hi := 16384) (by omega) (by omega) (by omega)).trans (by rw [Nat.max_eq_left (Nat.zero_le _), Nat.min_eq_left (by omega)])
  · have e : (BitVec.ofNat 32 t - BitVec.ofNat 32 h).slt 0#32 = true := by
      rw [BitVec.slt_zero_eq_msb, BitVec.msb_eq_decide, BitVec.toNat_sub, BitVec.toNat_ofNat, BitVec.toNat_ofNat]
      exact decide_eq_true (by omega)
    have m : IntOp.maxsi 0#32 (BitVec.ofNat 32 t - BitVec.ofNat 32 h) = 0#32 := by
      unfold IntOp.maxsi
      rw [if_pos e]
    rw [m, Nat.sub_eq_zero_of_le (by omega)]
    rfl

/-- The high end of a window. -/
theorem hi_word (t h : ℕ) (ht : t < 16384) (hh : h ≤ 8) :
    IntOp.minsi 16384#32 (IntOp.maxsi 0#32 (BitVec.ofNat 32 t + BitVec.ofNat 32 h)) = BitVec.ofNat 32 (min (t + h) 16384) := by
  rw [← BitVec.ofNat_add]
  exact (Routing.clip_word (x := t + h) (lo := 0) (hi := 16384) (by omega) (by omega) (by omega)).trans (by rw [Nat.max_eq_left (Nat.zero_le _)])

/-- A word of a place is in the table: the test that guards the taken row holds. -/
theorem in_table (n : ℕ) (hn : n < 16385) :
    IntOp.andi (IntOp.cmpi .sge (BitVec.ofNat 32 n) 0#32) (IntOp.cmpi .sle (BitVec.ofNat 32 n) 16384#32) = 1#1 := by
  word_omega

/-- A place's word is not negative, so it is kept. -/
theorem keep_word (n : ℕ) (hn : n < 16385) (a : BitVec 32) : Scalar.select (IntOp.cmpi .slt (BitVec.ofNat 32 n) 0#32) a (BitVec.ofNat 32 n) = BitVec.ofNat 32 n :=
  Idealize.ShloMosaic.Routing.wrap_of_lt _ _ (by rw [BitVec.toNat_ofNat]; omega)

/-- The places' words with the negative ones wrapped. -/
def wrapped (w : IVec S16384 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 16385#32))) w)

/-- Where the wrapped words are in the table. -/
def inside (w : IVec S16384 32) : IVec S16384x1 1 :=
  andi (cmpi .sge (wrapped w) (broadcastInDim S16384x1 ![] bcast_S_S16384x1 (constantI S_ 32 0#32)))
    (cmpi .sle (wrapped w) (broadcastInDim S16384x1 ![0, 1] bcast_S1x1_S16384x1_0_1 (broadcastInDim S1x1 ![1] bcast_S1_S1x1_1 (constantI S1 32 16384#32))))

/-- The rows that the words name. -/
def taken (x : Vec Ideal S1x16385x256 .f32) (w : IVec S16384 32) : Vec Ideal S1x16384x256 .f32 :=
  select (broadcastInDim S1x16384x256 ![1] bcast_S16384_S1x16384x256_1 (Host.reduce IntOp.andi (inside w) (constantI S_ 1 1#1) reducesTo_S16384x1_S16384_d1 h_S_))
    (Host.gather gather_S1x16385x256_S16384x1_S1x16384x256_02_1_n_n_1_1_11256 x (wrapped w))
    (broadcastInDim S1x16384x256 ![] bcast_S_S1x16384x256 (constant (F := Ideal) S_ .f32 0x7FC00000#32))

theorem wrapped_at (w : IVec S16384 32) (t : Fin 16384) (n : ℕ) (hn : n < 16385) (h : w (ix1 t) = BitVec.ofNat 32 n) :
    wrapped w (ix2 t (0 : Fin 1)) = BitVec.ofNat 32 n := by
  pointwise [wrapped]
  rw [h]
  exact keep_word n hn _

theorem inside_at (w : IVec S16384 32) (n : Fin 16384 → ℕ) (hn : ∀ t, n t < 16385) (h : ∀ t, w (ix1 t) = BitVec.ofNat 32 (n t)) (i : S16384x1.Idx) :
    inside w i = 1#1 := by
  have e : i = ix2 (n0 := 16384) (n1 := 1) (i 0) 0 := (eq_ix2 i).trans (congrArg (ix2 (n0 := 16384) (n1 := 1) (i 0)) (Fin.ext (Nat.lt_one_iff.1 (Fin.isLt _))))
  generalize i 0 = t at e
  subst e
  pointwise [inside]
  rw [wrapped_at w t (n t) (hn t) (h t)]
  exact in_table (n t) (hn t)

theorem taken_at (x : Vec Ideal S1x16385x256 .f32) (w : IVec S16384 32) (n : Fin 16384 → ℕ) (hn : ∀ t, n t < 16385)
    (h : ∀ t, w (ix1 t) = BitVec.ofNat 32 (n t)) (t : Fin 16384) (k : Fin 256) :
    taken x w (ix3 0 t k) = x (ix3 0 ⟨n t, hn t⟩ k) := by
  have m : (Host.reduce IntOp.andi (inside w) (constantI S_ 1 1#1) reducesTo_S16384x1_S16384_d1 h_S_) (ix1 t) = 1#1 :=
    Host.reduce_andi_one _ _ _ _ _ rfl (inside_at w n hn h)
  refine Eq.trans ?_ (take_row x (wrapped w) t k (n t) (hn t) (wrapped_at w t (n t) (hn t) (h t)))
  unfold taken
  generalize (Host.reduce IntOp.andi (inside w) (constantI S_ 1 1#1) reducesTo_S16384x1_S16384_d1 h_S_) = b at m
  pointwise []
  rw [m]
  rfl

end Cert.Enc
-- ==== Proof.RefPool.lean ====
/- The reference's window means, one group of channels at a time, and the stacked groups. -/
module

public import proofs.«01_k».proof.Proof.RefOut
public import proofs.«01_k».proof.Proof.RefCum
public import proofs.«01_k».proof.Proof.RefTake

@[expose] public section

set_option maxRecDepth 16384

noncomputable section

namespace Cert.Enc

open Idealize.ShloMosaic Cert.ReferenceIdeal Cert.ReferenceIdeal.Gen Cert.ReferenceIdeal.Read

/-- The count of a window, from the words of its ends. -/
theorem count_word (t : Fin 16384) (h : ℕ) :
    (((BitVec.ofNat 32 (min (t.val + h) 16384) - BitVec.ofNat 32 (t.val - h)).toInt : ℝ) : EReal) = Layer.cnt h t := by
  have e : BitVec.ofNat 32 (min (t.val + h) 16384) - BitVec.ofNat 32 (t.val - h) = BitVec.ofNat 32 (min (t.val + h) 16384 - (t.val - h)) := by
    apply BitVec.eq_of_toNat_eq
    rw [BitVec.toNat_sub, BitVec.toNat_ofNat, BitVec.toNat_ofNat, BitVec.toNat_ofNat]
    omega
  rw [e, StableHlo.Predicate.toInt_ofNat_small _ (by omega), Int.cast_natCast]
  rfl

section

variable {L : Layer 16384} {a0 : Vec Ideal S1x16384x1024 .f32} {a1 : Vec Ideal S1x16384x512 .bf16} {a2 : Vec Ideal S1x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} (hL : L = ofArgs a0 a1 a2 a3 a4 a5 a6 a7 a8 a9 a10 a11 a12 a13 a14)

/-- One group's window mean less its channels, from the table of running sums, the window's ends and the channels. -/
theorem mean_at (h : ℕ) (t : Fin 16384) (c : Fin 1024) (hc : Layer.half c = h) (A B N P : EReal)
    (hA : A = L.run (min (t + h) 16384) c) (hB : B = L.run (t - h) c) (hN : N = Layer.cnt h t) (hP : P = L.pv t c) :
    Ideal.div (A - B) N - P = L.poolDiff t c := by
  subst hA hB hN hP hc
  rfl

theorem w59 (t : Fin 16384) : val_main_v59 (F := Ideal) (ix1 t) = BitVec.ofNat 32 (t - 1) := by
  pointwise [val_main_v59, val_main_call1_v4, val_main_call1_v3, val_main_call1_v2, val_main_call1_v1, val_main_call1_v0, val_main_v58, val_main_v57, val_main_v56,
    val_main_c, val_main_c_8, val_main_c_9]
  exact lo_word t 1 t.isLt (by omega)

theorem w62 (t : Fin 16384) : val_main_v62 (F := Ideal) (ix1 t) = BitVec.ofNat 32 (min (t + 1) 16384) := by
  pointwise [val_main_v62, val_main_call2_v4, val_main_call2_v3, val_main_call2_v2, val_main_call2_v1, val_main_call2_v0, val_main_v61, val_main_v60, val_main_v56,
    val_main_c_10, val_main_c_11, val_main_c_12]
  exact hi_word t 1 t.isLt (by omega)

theorem n64 (t : Fin 16384) : val_main_v64 (F := Ideal) (ix1 t) = Layer.cnt 1 t := by
  refine Eq.trans ?_ (count_word t 1)
  rw [← w62 t, ← w59 t]
  rfl

include hL

theorem r67 (n : Fin 16385) (k : Fin 256) (c : Fin 1024) (hc : c.val = 0 + k.val) :
    val_main_v67 (F := Ideal) a0 a3 a5 (ix3 0 n k) = L.run n.val c := by
  pointwise [val_main_v67, val_main_v66]
  exact (r55 hL n 0 k (by show 256 * 0 + k.val < 1024; omega)).trans (congrArg (L.run n.val) (Fin.ext hc.symm))

theorem r68 (t : Fin 16384) (k : Fin 256) (c : Fin 1024) (hc : c.val = 0 + k.val) :
    val_main_v68 (F := Ideal) a0 a3 a5 (ix3 0 t k) = L.run (min (t + 1) 16384) c :=
  (taken_at (val_main_v67 (F := Ideal) a0 a3 a5) (val_main_v62 (F := Ideal)) (fun t => min (t + 1) 16384) (fun t => by omega) w62 t k).trans
    (r67 hL _ k c hc)

theorem r69 (t : Fin 16384) (k : Fin 256) (c : Fin 1024) (hc : c.val = 0 + k.val) :
    val_main_v69 (F := Ideal) a0 a3 a5 (ix3 0 t k) = L.run (t - 1) c :=
  (taken_at (val_main_v67 (F := Ideal) a0 a3 a5) (val_main_v59 (F := Ideal)) (fun t => t - 1) (fun t => by omega) w59 t k).trans
    (r67 hL _ k c hc)

theorem r75 (t : Fin 16384) (k : Fin 256) (c : Fin 1024) (hc : c.val = 0 + k.val) :
    val_main_v75 (F := Ideal) a0 a3 a5 (ix3 0 t k) = L.poolDiff t c := by
  pointwise [val_main_v75, val_main_v74, val_main_v73, val_main_v72, val_main_v71, val_main_v70, val_main_v65]
  exact mean_at 1 t c (by
    have e : c.val / 256 = 0 := by omega
    exact congrArg (2 ^ ·) e) _ _ _ _ (r68 hL t k c hc) (r69 hL t k c hc) (n64 t) ((r52 hL t 0 k (by show 256 * 0 + k.val < 1024; omega)).trans (congrArg (L.pv t) (Fin.ext hc.symm)))

omit hL

theorem w78 (t : Fin 16384) : val_main_v78 (F := Ideal) (ix1 t) = BitVec.ofNat 32 (t - 2) := by
  pointwise [val_main_v78, val_main_call5_v4, val_main_call5_v3, val_main_call5_v2, val_main_call5_v1, val_main_call5_v0, val_main_v77, val_main_v76, val_main_v56,
    val_main_c_13, val_main_c_14, val_main_c_15]
  exact lo_word t 2 t.isLt (by omega)

theorem w81 (t : Fin 16384) : val_main_v81 (F := Ideal) (ix1 t) = BitVec.ofNat 32 (min (t + 2) 16384) := by
  pointwise [val_main_v81, val_main_call6_v4, val_main_call6_v3, val_main_call6_v2, val_main_call6_v1, val_main_call6_v0, val_main_v80, val_main_v79, val_main_v56,
    val_main_c_16, val_main_c_17, val_main_c_18]
  exact hi_word t 2 t.isLt (by omega)

theorem n83 (t : Fin 16384) : val_main_v83 (F := Ideal) (ix1 t) = Layer.cnt 2 t := by
  refine Eq.trans ?_ (count_word t 2)
  rw [← w81 t, ← w78 t]
  rfl

include hL

theorem r86 (n : Fin 16385) (k : Fin 256) (c : Fin 1024) (hc : c.val = 256 + k.val) :
    val_main_v86 (F := Ideal) a0 a3 a5 (ix3 0 n k) = L.run n.val c := by
  pointwise [val_main_v86, val_main_v85]
  exact (r55 hL n 1 k (by show 256 * 1 + k.val < 1024; omega)).trans (congrArg (L.run n.val) (Fin.ext hc.symm))

theorem r87 (t : Fin 16384) (k : Fin 256) (c : Fin 1024) (hc : c.val = 256 + k.val) :
    val_main_v87 (F := Ideal) a0 a3 a5 (ix3 0 t k) = L.run (min (t + 2) 16384) c :=
  (taken_at (val_main_v86 (F := Ideal) a0 a3 a5) (val_main_v81 (F := Ideal)) (fun t => min (t + 2) 16384) (fun t => by omega) w81 t k).trans
    (r86 hL _ k c hc)

theorem r88 (t : Fin 16384) (k : Fin 256) (c : Fin 1024) (hc : c.val = 256 + k.val) :
    val_main_v88 (F := Ideal) a0 a3 a5 (ix3 0 t k) = L.run (t - 2) c :=
  (taken_at (val_main_v86 (F := Ideal) a0 a3 a5) (val_main_v78 (F := Ideal)) (fun t => t - 2) (fun t => by omega) w78 t k).trans
    (r86 hL _ k c hc)

theorem r94 (t : Fin 16384) (k : Fin 256) (c : Fin 1024) (hc : c.val = 256 + k.val) :
    val_main_v94 (F := Ideal) a0 a3 a5 (ix3 0 t k) = L.poolDiff t c := by
  pointwise [val_main_v94, val_main_v93, val_main_v92, val_main_v91, val_main_v90, val_main_v89, val_main_v84]
  exact mean_at 2 t c (by
    have e : c.val / 256 = 1 := by omega
    exact congrArg (2 ^ ·) e) _ _ _ _ (r87 hL t k c hc) (r88 hL t k c hc) (n83 t) ((r52 hL t 1 k (by show 256 * 1 + k.val < 1024; omega)).trans (congrArg (L.pv t) (Fin.ext hc.symm)))

omit hL

theorem w97 (t : Fin 16384) : val_main_v97 (F := Ideal) (ix1 t) = BitVec.ofNat 32 (t - 4) := by
  pointwise [val_main_v97, val_main_call9_v4, val_main_call9_v3, val_main_call9_v2, val_main_call9_v1, val_main_call9_v0, val_main_v96, val_main_v95, val_main_v56,
    val_main_c_19, val_main_c_20, val_main_c_21]
  exact lo_word t 4 t.isLt (by omega)

theorem w100 (t : Fin 16384) : val_main_v100 (F := Ideal) (ix1 t) = BitVec.ofNat 32 (min (t + 4) 16384) := by
  pointwise [val_main_v100, val_main_call10_v4, val_main_call10_v3, val_main_call10_v2, val_main_call10_v1, val_main_call10_v0, val_main_v99, val_main_v98, val_main_v56,
    val_main_c_22, val_main_c_23, val_main_c_24]
  exact hi_word t 4 t.isLt (by omega)

theorem n102 (t : Fin 16384) : val_main_v102 (F := Ideal) (ix1 t) = Layer.cnt 4 t := by
  refine Eq.trans ?_ (count_word t 4)
  rw [← w100 t, ← w97 t]
  rfl

include hL

theorem r105 (n : Fin 16385) (k : Fin 256) (c : Fin 1024) (hc : c.val = 512 + k.val) :
    val_main_v105 (F := Ideal) a0 a3 a5 (ix3 0 n k) = L.run n.val c := by
  pointwise [val_main_v105, val_main_v104]
  exact (r55 hL n 2 k (by show 256 * 2 + k.val < 1024; omega)).trans (congrArg (L.run n.val) (Fin.ext hc.symm))

theorem r106 (t : Fin 16384) (k : Fin 256) (c : Fin 1024) (hc : c.val = 512 + k.val) :
    val_main_v106 (F := Ideal) a0 a3 a5 (ix3 0 t k) = L.run (min (t + 4) 16384) c :=
  (taken_at (val_main_v105 (F := Ideal) a0 a3 a5) (val_main_v100 (F := Ideal)) (fun t => min (t + 4) 16384) (fun t => by omega) w100 t k).trans
    (r105 hL _ k c hc)

theorem r107 (t : Fin 16384) (k : Fin 256) (c : Fin 1024) (hc : c.val = 512 + k.val) :
    val_main_v107 (F := Ideal) a0 a3 a5 (ix3 0 t k) = L.run (t - 4) c :=
  (taken_at (val_main_v105 (F := Ideal) a0 a3 a5) (val_main_v97 (F := Ideal)) (fun t => t - 4) (fun t => by omega) w97 t k).trans
    (r105 hL _ k c hc)

theorem r113 (t : Fin 16384) (k : Fin 256) (c : Fin 1024) (hc : c.val = 512 + k.val) :
    val_main_v113 (F := Ideal) a0 a3 a5 (ix3 0 t k) = L.poolDiff t c := by
  pointwise [val_main_v113, val_main_v112, val_main_v111, val_main_v110, val_main_v109, val_main_v108, val_main_v103]
  exact mean_at 4 t c (by
    have e : c.val / 256 = 2 := by omega
    exact congrArg (2 ^ ·) e) _ _ _ _ (r106 hL t k c hc) (r107 hL t k c hc) (n102 t) ((r52 hL t 2 k (by show 256 * 2 + k.val < 1024; omega)).trans (congrArg (L.pv t) (Fin.ext hc.symm)))

omit hL

theorem w116 (t : Fin 16384) : val_main_v116 (F := Ideal) (ix1 t) = BitVec.ofNat 32 (t - 8) := by
  pointwise [val_main_v116, val_main_call13_v4, val_main_call13_v3, val_main_call13_v2, val_main_call13_v1, val_main_call13_v0, val_main_v115, val_main_v114, val_main_v56,
    val_main_c_25, val_main_c_26, val_main_c_27]
  exact lo_word t 8 t.isLt (by omega)

theorem w119 (t : Fin 16384) : val_main_v119 (F := Ideal) (ix1 t) = BitVec.ofNat 32 (min (t + 8) 16384) := by
  pointwise [val_main_v119, val_main_call14_v4, val_main_call14_v3, val_main_call14_v2, val_main_call14_v1, val_main_call14_v0, val_main_v118, val_main_v117, val_main_v56,
    val_main_c_28, val_main_c_29, val_main_c_30]
  exact hi_word t 8 t.isLt (by omega)

theorem n121 (t : Fin 16384) : val_main_v121 (F := Ideal) (ix1 t) = Layer.cnt 8 t := by
  refine Eq.trans ?_ (count_word t 8)
  rw [← w119 t, ← w116 t]
  rfl

include hL

theorem r124 (n : Fin 16385) (k : Fin 256) (c : Fin 1024) (hc : c.val = 768 + k.val) :
    val_main_v124 (F := Ideal) a0 a3 a5 (ix3 0 n k) = L.run n.val c := by
  pointwise [val_main_v124, val_main_v123]
  exact (r55 hL n 3 k (by show 256 * 3 + k.val < 1024; omega)).trans (congrArg (L.run n.val) (Fin.ext hc.symm))

theorem r125 (t : Fin 16384) (k : Fin 256) (c : Fin 1024) (hc : c.val = 768 + k.val) :
    val_main_v125 (F := Ideal) a0 a3 a5 (ix3 0 t k) = L.run (min (t + 8) 16384) c :=
  (taken_at (val_main_v124 (F := Ideal) a0 a3 a5) (val_main_v119 (F := Ideal)) (fun t => min (t + 8) 16384) (fun t => by omega) w119 t k).trans
    (r124 hL _ k c hc)

theorem r126 (t : Fin 16384) (k : Fin 256) (c : Fin 1024) (hc : c.val = 768 + k.val) :
    val_main_v126 (F := Ideal) a0 a3 a5 (ix3 0 t k) = L.run (t - 8) c :=
  (taken_at (val_main_v124 (F := Ideal) a0 a3 a5) (val_main_v116 (F := Ideal)) (fun t => t - 8) (fun t => by omega) w116 t k).trans
    (r124 hL _ k c hc)

theorem r132 (t : Fin 16384) (k : Fin 256) (c : Fin 1024) (hc : c.val = 768 + k.val) :
    val_main_v132 (F := Ideal) a0 a3 a5 (ix3 0 t k) = L.poolDiff t c := by
  pointwise [val_main_v132, val_main_v131, val_main_v130, val_main_v129, val_main_v128, val_main_v127, val_main_v122]
  exact mean_at 8 t c (by
    have e : c.val / 256 = 3 := by omega
    exact congrArg (2 ^ ·) e) _ _ _ _ (r125 hL t k c hc) (r126 hL t k c hc) (n121 t) ((r52 hL t 3 k (by show 256 * 3 + k.val < 1024; omega)).trans (congrArg (L.pv t) (Fin.ext hc.symm)))

/-- The stacked groups. -/
theorem pooled : Pooled L a0 a3 a5 := by
  intro t g k h
  pointwise [val_main_v137, val_main_v133, val_main_v134, val_main_v135, val_main_v136]
  split
  · exact r75 hL t k _ (by show 256 * g.val + k.val = 0 + k.val; omega)
  · split
    · exact r94 hL t k _ (by show 256 * g.val + k.val = 256 + k.val; omega)
    · split
      · exact r113 hL t k _ (by show 256 * g.val + k.val = 512 + k.val; omega)
      · exact r132 hL t k _ (by show 256 * g.val + k.val = 768 + k.val; omega)

end

end Cert.Enc
-- ==== Proof.Reals.lean ====
/- Extended reals that are real numbers: sums, products and quotients of them, and the sigmoid in two forms. -/
module

public import proofs.«01_k».proof.Proof.Layer

@[expose] public section

noncomputable section

namespace Cert.Enc

open Idealize.ShloMosaic

/-- A real number. -/
def Rl (x : EReal) : Prop := ∃ r : ℝ, x = (r : EReal)

theorem Rl.of_ne {x : EReal} (h : x ≠ ⊤) (h' : x ≠ ⊥) : Rl x := ⟨x.toReal, (EReal.coe_toReal h h').symm⟩

theorem Rl.ne_top {x : EReal} (h : Rl x) : x ≠ ⊤ := by
  obtain ⟨r, rfl⟩ := h
  exact EReal.coe_ne_top r

theorem Rl.ne_bot {x : EReal} (h : Rl x) : x ≠ ⊥ := by
  obtain ⟨r, rfl⟩ := h
  exact EReal.coe_ne_bot r

theorem Rl.zero : Rl 0 := ⟨0, EReal.coe_zero.symm⟩

theorem Rl.add {x y : EReal} (hx : Rl x) (hy : Rl y) : Rl (x + y) := by
  obtain ⟨r, rfl⟩ := hx
  obtain ⟨q, rfl⟩ := hy
  exact ⟨r + q, (EReal.coe_add r q).symm⟩

theorem Rl.sub {x y : EReal} (hx : Rl x) (hy : Rl y) : Rl (x - y) := by
  obtain ⟨r, rfl⟩ := hx
  obtain ⟨q, rfl⟩ := hy
  exact ⟨r - q, (EReal.coe_sub r q).symm⟩

theorem Rl.mul {x y : EReal} (hx : Rl x) (hy : Rl y) : Rl (x * y) := by
  obtain ⟨r, rfl⟩ := hx
  obtain ⟨q, rfl⟩ := hy
  exact ⟨r * q, (EReal.coe_mul r q).symm⟩

/-- A sum of reals is the real sum. -/
theorem coe_sum {ι : Type} (s : Finset ι) (f : ι → ℝ) : (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem Rl.sum {ι : Type} (s : Finset ι) (f : ι → EReal) (h : ∀ i ∈ s, Rl (f i)) : Rl (∑ i ∈ s, f i) := by
  classical
  induction s using Finset.induction_on with
  | empty => rw [Finset.sum_empty]; exact Rl.zero
  | insert a s ha ih =>
    rw [Finset.sum_insert ha]
    exact (h a (Finset.mem_insert_self a s)).add (ih fun i hi => h i (Finset.mem_insert_of_mem hi))

theorem lit_half : lit 1056964608#32 = ((1 / 2 : ℝ) : EReal) := by
  unfold lit
  simp [Ideal.ofBits, Ideal.ieee, -EReal.coe_mul]
  norm_num

theorem lit_1024 : lit 1149239296#32 = ((1024 : ℝ) : EReal) := by
  unfold lit
  simp [Ideal.ofBits, Ideal.ieee, -EReal.coe_mul]
  norm_num

theorem lit_bot : lit 4286578688#32 = ⊥ := by
  unfold lit
  simp [Ideal.ofBits, Ideal.ieee]

/-- The epsilon under the root is a positive real. -/
theorem lit_eps : ∃ r : ℝ, 0 < r ∧ lit 897988541#32 = (r : EReal) := by
  refine ⟨8796093 / 2 ^ 43, by norm_num, ?_⟩
  unfold lit
  simp [Ideal.ofBits, Ideal.ieee, -EReal.coe_mul]
  norm_num

/-- The scores' scale is a real. -/
theorem lit_scale : Rl (lit 1035273459#32) := by
  refine ⟨11863283 / 2 ^ 27, ?_⟩
  unfold lit
  simp [Ideal.ofBits, Ideal.ieee, -EReal.coe_mul]
  norm_num

/-- The two forms of the sigmoid at a real. -/
theorem sigmoid_real (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]
    exact congrArg Real.exp (by ring)
  have m : Real.exp (1 / 2 * r) * Real.exp (-(1 / 2 * r)) = 1 := by
    rw [← Real.exp_add, add_neg_cancel, Real.exp_zero]
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have h1 : a + b ≠ 0 := by positivity
  have h2 : 1 + b * b ≠ 0 := by positivity
  field_simp
  nlinarith [m, mul_comm a b]

/-- The two forms of the sigmoid, the infinities included. -/
theorem sigTanh_eq : sigTanh = Ideal.logistic := by
  funext z
  unfold sigTanh
  rw [lit_half]
  induction z with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top]
    rw [show (1 : EReal) = ((1 : ℝ) : EReal) by norm_num, ← EReal.coe_mul, ← EReal.coe_add]
    norm_num
  | coe r =>
    rw [← EReal.coe_mul, Ideal.tanh_coe, ← EReal.coe_mul, ← EReal.coe_add, Ideal.logistic_coe, sigmoid_real]

/-- A row of reals over its root mean square is real. -/
theorem Rl.rms {x g : Fin 1024 → EReal} (hx : ∀ k, Rl (x k)) (hg : ∀ k, Rl (g k)) (c : Fin 1024) : Rl (rms x g c) := by
  choose r hr using hx
  obtain rfl : x = fun k => (r k : EReal) := funext hr
  refine (Rl.mul ⟨r c, rfl⟩ ?_).mul (hg c)
  obtain ⟨q, hq, e⟩ := lit_eps
  have s : (∑ k, (r k : EReal) * (r k : EReal)) = ((∑ k, r k * r k : ℝ) : EReal) :=
    (Finset.sum_congr rfl fun k _ => (EReal.coe_mul _ _).symm).trans (coe_sum _ _)
  have p : 0 < (∑ k, r k * r k) * (1 / 1024) + q :=
    add_pos_of_nonneg_of_pos (mul_nonneg (Finset.sum_nonneg fun k _ => mul_self_nonneg _) (by norm_num)) hq
  rw [s, lit_1024, e, Ideal.div_coe (by norm_num), ← EReal.coe_mul, ← EReal.coe_add, Ideal.rsqrt_coe, if_neg (not_lt.2 p.le), if_neg p.ne']
  exact ⟨_, rfl⟩

end Cert.Enc
-- ==== Proof.Windows.lean ====
/- A window of a padded column as a difference of running sums. -/
module

public import proofs.«01_k».proof.Proof.Layer

@[expose] public section

namespace Cert.Enc

/-- A sum over an interval as a difference. -/
theorem sum_between (P : ℕ → ℝ) (a n : ℕ) : ∑ d ∈ Finset.range n, P (a + d) = ∑ s ∈ Finset.range (a + n), P s - ∑ s ∈ Finset.range a, P s := by
  rw [Finset.sum_range_add]
  ring

/-- The window of half width `h` at `t`, of a column with zeros below row 8 and from row `N + 8` on. -/
theorem window_diff (P : ℕ → ℝ) (N t h : ℕ) (ht : t < N) (hh : h ≤ 8) (lo : ∀ n, n < 8 → P n = 0) (hi : ∀ n, N + 8 ≤ n → P n = 0) :
    ∑ d ∈ Finset.range (2 * h), P (t + (8 - h + d))
      = ∑ s ∈ Finset.range (min (t + h) N), P (s + 8) - ∑ s ∈ Finset.range (t - h), P (s + 8) := by
  have z : ∀ n, n ≤ 8 → ∑ s ∈ Finset.range n, P s = 0 := fun n hn =>
    Finset.sum_eq_zero fun s hs => lo s (by have := Finset.mem_range.1 hs; omega)
  have up : ∀ n, ∑ s ∈ Finset.range n, P (s + 8) = ∑ s ∈ Finset.range (8 + n), P s := fun n => by
    have e := sum_between P 8 n
    rw [z 8 le_rfl, sub_zero] at e
    rw [← e]
    exact Finset.sum_congr rfl fun s _ => congrArg P (Nat.add_comm s 8)
  have l : ∑ d ∈ Finset.range (2 * h), P (t + (8 - h + d)) = ∑ s ∈ Finset.range (t + 8 + h), P s - ∑ s ∈ Finset.range (t + 8 - h), P s := by
    have e := sum_between P (t + 8 - h) (2 * h)
    rw [show t + 8 - h + 2 * h = t + 8 + h by omega] at e
    rw [← e]
    exact Finset.sum_congr rfl fun d _ => congrArg P (by omega)
  have top : ∑ s ∈ Finset.range (t + 8 + h), P s = ∑ s ∈ Finset.range (8 + min (t + h) N), P s := by
    by_cases c : t + h ≤ N
    · rw [Nat.min_eq_left c]
      exact congrArg (fun n => ∑ s ∈ Finset.range n, P s) (by omega)
    · rw [Nat.min_eq_right (by omega)]
      have e := sum_between P (8 + N) (t + h - N)
      rw [show 8 + N + (t + h - N) = t + 8 + h by omega, Finset.sum_eq_zero fun d _ => hi (8 + N + d) (by omega)] at e
      linarith
  have bot : ∑ s ∈ Finset.range (t + 8 - h), P s = ∑ s ∈ Finset.range (8 + (t - h)), P s := by
    by_cases c : h ≤ t
    · exact congrArg (fun n => ∑ s ∈ Finset.range n, P s) (by omega)
    · rw [z _ (by omega), Nat.sub_eq_zero_of_le (by omega), z _ (by omega)]
  rw [l, top, bot, up, up]

end Cert.Enc
-- ==== Proof.Equal.lean ====
/- The two programs' forms of the layer agree where the rows, the memory and their projections are real. -/
module

public import proofs.«01_k».proof.Proof.Reals
public import proofs.«01_k».proof.Proof.Windows

@[expose] public section

noncomputable section

namespace Cert.Enc

open Idealize.ShloMosaic

/-- The arguments whose finiteness the two forms' agreement needs. -/
structure Layer.Real {N : ℕ} (L : Layer N) : Prop where
  x : ∀ t k, Rl (L.x t k)
  mem : ∀ t k, Rl (L.mem t k)
  gi : ∀ k, Rl (L.gi k)
  gm : ∀ k, Rl (L.gm k)
  w : ∀ k j, Rl (L.w k j)
  wkv : ∀ k j, Rl (L.wkv k j)

namespace Layer

variable {N : ℕ} {L : Layer N} (h : L.Real)

include h

theorem Real.proj (t : Fin N) (j : Fin 7168) : Rl (L.proj t j) :=
  Rl.sum _ _ fun k _ => (Rl.rms (h.x t) h.gi k).mul (h.w k j)

theorem Real.kv (m : Fin 256) (j : Fin 1024) : Rl (L.kv m j) :=
  Rl.sum _ _ fun k _ => (Rl.rms (h.mem m) h.gm k).mul (h.wkv k j)

theorem Real.score (t : Fin N) (i : Fin 4) (m : Fin 256) : Rl (L.score t i m) :=
  (Rl.sum _ _ fun d _ => (h.proj t _).mul (h.kv m _)).mul lit_scale

theorem Real.top (t : Fin N) (i : Fin 4) : Rl (L.top t i) := by
  have b : L.top t i < ⊤ := by
    unfold Layer.top
    rw [Finset.fold_max_lt, lit_bot]
    exact ⟨bot_lt_top, fun m _ => lt_top_iff_ne_top.2 (h.score t i m).ne_top⟩
  have a : L.score t i 0 ≤ L.top t i := by
    unfold Layer.top
    exact (Finset.le_fold_max _).2 (Or.inr ⟨0, Finset.mem_univ 0, le_rfl⟩)
  exact Rl.of_ne b.ne (ne_bot_of_le_ne_bot (h.score t i 0).ne_bot a)

/-- The exponentials are positive reals. -/
theorem Real.ex (t : Fin N) (i : Fin 4) (m : Fin 256) : ∃ r : ℝ, 0 < r ∧ L.ex t i m = (r : EReal) := by
  obtain ⟨q, e⟩ := (h.score t i m).sub (h.top t i)
  exact ⟨Real.exp q, Real.exp_pos q, (congrArg Ideal.exp e).trans (Ideal.exp_coe q)⟩

/-- Dividing the weights first or the weighted sum last. -/
theorem Real.att : L.attLast = L.attFirst := by
  funext t j
  choose e he1 he using h.ex t ⟨j / 128, by omega⟩
  choose v hv using fun m => h.kv m ⟨512 + j, by omega⟩
  unfold Layer.attLast Layer.attFirst
  simp only [he, hv]
  have p : (∑ m, e m) ≠ 0 := (Finset.sum_pos (fun m _ => he1 m) Finset.univ_nonempty).ne'
  rw [coe_sum]
  simp only [Ideal.div_coe p, ← EReal.coe_mul]
  rw [coe_sum, coe_sum, ← EReal.coe_mul, Finset.sum_mul]
  exact congrArg _ (Finset.sum_congr rfl fun m _ => by ring)

theorem Real.pad (n : ℕ) (c : Fin 1024) : Rl (L.pad n c) := by
  unfold Layer.pad
  split
  · exact h.proj _ _
  · exact Rl.zero

/-- Adding a window's rows or taking the difference of running sums. -/
theorem Real.pool : L.poolSum = L.poolDiff := by
  funext t c
  choose P hP using fun n => h.pad n c
  have b : half c ≤ 8 := Nat.pow_le_pow_right (Nat.succ_pos 1) (show c.val / 256 ≤ 3 by omega)
  have b0 : 0 < half c := Nat.two_pow_pos _
  have z : ∀ n, ¬ (8 ≤ n ∧ n < N + 8) → P n = 0 := fun n hn => by
    have e := hP n
    unfold Layer.pad at e
    rw [dif_neg hn] at e
    exact EReal.coe_eq_zero.1 e.symm
  have w := window_diff P N t (half c) t.isLt b (fun n hn => z n (by omega)) (fun n hn => z n (by omega))
  have n0 : ((min (t + half c) N - (t - half c) : ℕ) : ℝ) ≠ 0 := Nat.cast_ne_zero.2 (by omega)
  unfold Layer.poolSum Layer.poolDiff Layer.run Layer.cnt
  simp only [hP]
  rw [coe_sum, coe_sum, coe_sum, w, Ideal.div_coe n0, Ideal.div_coe n0, one_mul, ← EReal.coe_sub]

/-- The two forms of the layer's result. -/
theorem Real.out : L.out sigTanh L.poolSum L.attLast = L.out Ideal.logistic L.poolDiff L.attFirst := by
  rw [sigTanh_eq, h.pool, h.att]

end Layer

end Cert.Enc
-- ==== Proof.PreFacts.lean ====
/- What the finiteness precondition gives: the six arguments it reads are real numbers. -/
module

public import proofs.«01_k».proof.Defs
public import proofs.«01_k».proof.Proof.Equal
public import proofs.«01_k».proof.Proof.Result

@[expose] public section

namespace Cert.Enc

open Idealize.ShloMosaic

/-- The shape relations the precondition's broadcasts need. -/
theorem preFacts : Cert.Pre_finite.Facts where
  bcast_S_S1x16384x1024 := by decide
  bcast_S_S1x256x1024 := by decide
  bcast_S_S1x1024 := by decide
  bcast_S_S1x1024x7168 := by decide
  bcast_S_S1x1024x1024 := by decide

/-- A number whose absolute value is below infinity is real. -/
theorem Rl.of_abs {x : EReal}
    (h : FloatOps.cmpf (F := Ideal) (φ := .f32) .olt (max x (-x)) (FloatOps.ofBits (F := Ideal) .f32 0x7F800000#32) = 1#1) : Rl x := by
  have ht : (FloatOps.ofBits (F := Ideal) .f32 0x7F800000#32 : EReal) = ⊤ := by
    simp [Ideal.ofBits, Ideal.ieee]
  rw [ht] at h
  have hl : max x (-x) < ⊤ := by
    by_contra hn
    have h' : Ideal.cmp .olt (max x (-x)) ⊤ = 1#1 := h
    simp only [Ideal.cmp, hn] at h'
    revert h'
    decide
  refine Rl.of_ne (fun e => ?_) (fun e => ?_)
  · subst e; simp at hl
  · subst e; simp at hl

/-- Under the finiteness precondition the kernel's layer is made of real numbers. -/
theorem layer_real [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : (layerK m c).Real := by
  obtain ⟨h0, h2, h3, h4, h5, h8⟩ := h c
  exact {
    x := fun t k => Rl.of_abs (congrFun h0 (ix3 0 t k))
    mem := fun t k => Rl.of_abs (congrFun h2 (ix3 0 t k))
    gi := fun k => Rl.of_abs (congrFun h3 (ix2 0 k))
    gm := fun k => Rl.of_abs (congrFun h4 (ix2 0 k))
    w := fun k j => Rl.of_abs (congrFun h5 (ix3 0 k j))
    wkv := fun k j => Rl.of_abs (congrFun h8 (ix3 0 k j)) }

end Cert.Enc
-- ==== Proof.Algebraic.lean ====
/- The kernel's result is the reference's: the two runs, each at its own form of the layer, and the two forms of a real layer. -/
module

public import proofs.«01_k».proof.Proof.KernelRun
public import proofs.«01_k».proof.Proof.RefPool
public import proofs.«01_k».proof.Proof.PreFacts
public import proofs.«01_k».proof.Proof.Gen.ReferenceIdeal.Run

@[expose] public section

set_option maxRecDepth 16384

namespace Cert.Enc

open Idealize.ShloMosaic Idealize.ShloMosaic.TcCoe Idealize.SL.Sem

section

open Cert.ReferenceIdeal Cert.ReferenceIdeal.Read

/-- The reference's result over a real layer, in the kernel's form. -/
theorem reference_out (a0 : Vec Ideal S1x16384x1024 .f32) (a1 : Vec Ideal S1x16384x512 .bf16) (a2 : Vec Ideal S1x256x1024 .f32)
    (a3 a4 : Vec Ideal S1x1024 .f32) (a5 : Vec Ideal S1x1024x7168 .f32) (a6 : Vec Ideal S1x4x256x256 .f32) (a7 : Vec Ideal S1x1024 .f32)
    (a8 a9 : Vec Ideal S1x1024x1024 .f32) (a10 a11 : Vec Ideal S1x512x1024 .f32) (a12 : Vec Ideal S1x3072 .f32)
    (a13 : Vec Ideal S1x1024x1024 .f32) (a14 : Vec Ideal S1024 .f32) (hr : (ofArgs a0 a1 a2 a3 a4 a5 a6 a7 a8 a9 a10 a11 a12 a13 a14).Real) :
    val_main_v201 (F := Ideal) a0 a1 a2 a3 a4 a5 a6 a7 a8 a9 a10 a11 a12 a13 a14
      = (fun y => (ofArgs a0 a1 a2 a3 a4 a5 a6 a7 a8 a9 a10 a11 a12 a13 a14).out sigTanh (ofArgs a0 a1 a2 a3 a4 a5 a6 a7 a8 a9 a10 a11 a12 a13 a14).poolSum (ofArgs a0 a1 a2 a3 a4 a5 a6 a7 a8 a9 a10 a11 a12 a13 a14).attLast (y 1) (y 2)) := by
  funext y
  have hy : y = ix3 0 (y 1) (y 2) := by
    refine (eq_ix3 y).trans ?_
    exact congrArg (fun b => ix3 b (y 1) (y 2)) (Subsingleton.elim _ _)
  rw [hr.out]
  exact (congrArg (val_main_v201 (F := Ideal) a0 a1 a2 a3 a4 a5 a6 a7 a8 a9 a10 a11 a12 a13 a14) hy).trans (r201 rfl (pooled rfl) (y 1) (y 2))

/-- The same at arguments equal to a real layer's. -/
theorem reference_out_at {a0 b0 : Vec Ideal S1x16384x1024 .f32} {a1 b1 : Vec Ideal S1x16384x512 .bf16} {a2 b2 : Vec Ideal S1x256x1024 .f32}
    {a3 a4 b3 b4 : Vec Ideal S1x1024 .f32} {a5 b5 : Vec Ideal S1x1024x7168 .f32} {a6 b6 : Vec Ideal S1x4x256x256 .f32}
    {a7 b7 : Vec Ideal S1x1024 .f32} {a8 a9 b8 b9 : Vec Ideal S1x1024x1024 .f32} {a10 a11 b10 b11 : Vec Ideal S1x512x1024 .f32}
    {a12 b12 : Vec Ideal S1x3072 .f32} {a13 b13 : Vec Ideal S1x1024x1024 .f32} {a14 b14 : Vec Ideal S1024 .f32}
    (hr : (ofArgs a0 a1 a2 a3 a4 a5 a6 a7 a8 a9 a10 a11 a12 a13 a14).Real)
    (h0 : b0 = a0) (h1 : b1 = a1) (h2 : b2 = a2) (h3 : b3 = a3) (h4 : b4 = a4)
    (h5 : b5 = a5) (h6 : b6 = a6) (h7 : b7 = a7) (h8 : b8 = a8) (h9 : b9 = a9)
    (h10 : b10 = a10) (h11 : b11 = a11) (h12 : b12 = a12) (h13 : b13 = a13) (h14 : b14 = a14) :
    val_main_v201 (F := Ideal) b0 b1 b2 b3 b4 b5 b6 b7 b8 b9 b10 b11 b12 b13 b14
      = (fun y => (ofArgs a0 a1 a2 a3 a4 a5 a6 a7 a8 a9 a10 a11 a12 a13 a14).out sigTanh (ofArgs a0 a1 a2 a3 a4 a5 a6 a7 a8 a9 a10 a11 a12 a13 a14).poolSum (ofArgs a0 a1 a2 a3 a4 a5 a6 a7 a8 a9 a10 a11 a12 a13 a14).attLast (y 1) (y 2)) := by
  subst h0 h1 h2 h3 h4 h5 h6 h7 h8 h9 h10 h11 h12 h13 h14
  exact reference_out _ _ _ _ _ _ _ _ _ _ _ _ _ _ _ hr

end

set_option maxHeartbeats 4000000 in
/-- Over finite arguments the kernel and the reference end with the same array. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hp ha
  refine ⟨_, kernel_run m g, (θ_run Cert.ReferenceIdeal.defs _ _).mono (fun r h c => ⟨?_, (h c).2⟩) (Cert.ReferenceIdeal.Value.run m' g')⟩
  refine ((h c).1.trans (Cert.ReferenceIdeal.Read.val_main_v201_eq (StableHlo.launchContents m' c))).trans ?_
  obtain ⟨e0, e1, e2, e3, e4, e5, e6, e7, e8, e9, e10, e11, e12, e13, e14⟩ := ha c
  exact reference_out_at (@layer_real preFacts m hp c)
    ((StableHlo.launchContents_devRef m' c Cert.ReferenceIdeal.main_arg0).trans e0)
    ((StableHlo.launchContents_devRef m' c Cert.ReferenceIdeal.main_arg1).trans e1)
    ((StableHlo.launchContents_devRef m' c Cert.ReferenceIdeal.main_arg2).trans e2)
    ((StableHlo.launchContents_devRef m' c Cert.ReferenceIdeal.main_arg3).trans e3)
    ((StableHlo.launchContents_devRef m' c Cert.ReferenceIdeal.main_arg4).trans e4)
    ((StableHlo.launchContents_devRef m' c Cert.ReferenceIdeal.main_arg5).trans e5)
    ((StableHlo.launchContents_devRef m' c Cert.ReferenceIdeal.main_arg6).trans e6)
    ((StableHlo.launchContents_devRef m' c Cert.ReferenceIdeal.main_arg7).trans e7)
    ((StableHlo.launchContents_devRef m' c Cert.ReferenceIdeal.main_arg8).trans e8)
    ((StableHlo.launchContents_devRef m' c Cert.ReferenceIdeal.main_arg9).trans e9)
    ((StableHlo.launchContents_devRef m' c Cert.ReferenceIdeal.main_arg10).trans e10)
    ((StableHlo.launchContents_devRef m' c Cert.ReferenceIdeal.main_arg11).trans e11)
    ((StableHlo.launchContents_devRef m' c Cert.ReferenceIdeal.main_arg12).trans e12)
    ((StableHlo.launchContents_devRef m' c Cert.ReferenceIdeal.main_arg13).trans e13)
    ((StableHlo.launchContents_devRef m' c Cert.ReferenceIdeal.main_arg14).trans e14)

end Cert.Enc
-- ==== Proof.PromptFrames.lean ====
/- For the prompt: the frames of the three programs and the storage ledger of the idealization. The prompt's ledger states the same
   shapes as the sample's. -/
module

public import proofs.«01_k».proof.Proof.Frames
public import proofs.«01_k».proof.Proof.Gen.Prompt
public import proofs.«01_k».proof.Proof.Gen.Prompt.Frame
public import proofs.«01_k».proof.Proof.Gen.PromptIdeal
public import proofs.«01_k».proof.Proof.Gen.PromptIdeal.Frame
public import proofs.«01_k».proof.Proof.Gen.PromptReferenceIdeal.Run

@[expose] public section

namespace Cert.Proof.Prompt

open Idealize.ShloMosaic Idealize.SL.Sem

theorem kernelFrame : Cert.quiescent_Prompt := fun m ρ _ => Cert.Prompt.Gen.frame m ρ

theorem idealFrame : Cert.quiescent_PromptIdeal := fun m ρ _ => Cert.PromptIdeal.Gen.frame m ρ

/-- The reference is host code: its run, the result forgotten; it declares no semaphore. -/
theorem referenceFrame : Cert.quiescent_PromptReferenceIdeal := fun m ρ _ =>
  (θ_run Cert.PromptReferenceIdeal.defs _ _).mono (fun r h => ⟨fun c => (h c).2, sem_eq_zero_of_no_sems (by decide) r.2⟩)
    (Cert.PromptReferenceIdeal.Value.run m ρ)

theorem ledger : Cert.preserves_Prompt_PromptIdeal := Cert.Proof.ledger

end Cert.Proof.Prompt

end
-- ==== Proof.PromptRows.lean ====
/- For the prompt: what the body of `encoder_main` computes of one block of 512 tokens, one payload at a time: the normalised rows, the products with
   the packed weights. A packed weight array holds row `2k + p` of the weights at (k, p); a product over it is the plain product. -/
module

public import proofs.«01_k».proof.Proof.Rows
public import proofs.«01_k».proof.Proof.Gen.PromptIdeal.Skeleton
public import proofs.«01_k».proof.Proof.Layer
public import Idealize.ShloMosaic.Lib.Pointwise

@[expose] public section

set_option maxRecDepth 16384

noncomputable section

namespace Cert.Enc.Prompt

open Idealize.ShloMosaic Idealize.SL.Sem Cert.PromptIdeal Cert.PromptIdeal.Gen

variable {N : ℕ} (L : Layer N) (T : Fin 512 → Fin N)

/-- A row of a block, normalised. -/
theorem pay3_eq {v0 : Vec Ideal S1x1024 .f32} {v1 : Vec Ideal S1x512x1024 .f32}
    (h0 : ∀ c, v0 (ix2 0 c) = L.gi c) (h1 : ∀ r c, v1 (ix3 0 r c) = L.x (T r) c) (r : Fin 512) (c : Fin 1024) :
    k2_pay3 v0 v1 (ix2 r c) = L.xn (T r) c := by
  pointwise [k2_pay3, k2_pay2]
  simp only [h0, h1]; rfl

theorem pay2_eq {v1 : Vec Ideal S1x512x1024 .f32} (h1 : ∀ r c, v1 (ix3 0 r c) = L.x (T r) c) (r : Fin 512) (c : Fin 1024) :
    k2_pay2 v1 (ix2 r c) = L.x (T r) c := by
  pointwise [k2_pay2]
  exact h1 r c

/-- The last payload: a block's rows of `y` normalised by the last gain. -/
theorem pay1_eq {v626 : FVec Ideal S512x1024 .f32} {v627 : Vec Ideal S1x1024 .f32} {y : Fin 512 → Fin 1024 → EReal}
    (hy : ∀ r c, v626 (ix2 r c) = y r c) (hg : ∀ c, v627 (ix2 0 c) = L.gf c) (r : Fin 512) (c : Fin 1024) :
    k2_pay1 v626 v627 (ix3 0 r c) = rms (y r) L.gf c := by
  pointwise [k2_pay1]
  simp only [hy, hg]; rfl

/-- The queries. -/
theorem pay36_eq {v15 : FVec Ideal S512x1024 .bf16} {raw : Vec Ideal S512x2x512 .bf16} (h15 : ∀ r c, v15 (ix2 r c) = L.xn (T r) c)
    (hw : Pairs (fun k p c => raw (ix3 k p c)) L.w 3072) (r c : Fin 512) :
    k2_pay36 v15 raw (ix2 r c) = L.proj (T r) ⟨3072 + c, by omega⟩ := by
  pointwise [k2_pay36]
  exact hw.sum (fun x => by omega) c (by omega) _ _ (h15 r)

/-- The Fourier branch before its output weights. -/
theorem pay49_eq {v15 : FVec Ideal S512x1024 .bf16} {f : Vec Ideal S1x512x512 .bf16} {raw : Vec Ideal S512x2x512 .bf16}
    (h15 : ∀ r c, v15 (ix2 r c) = L.xn (T r) c) (hf : ∀ r c, f (ix3 0 r c) = L.f (T r) c)
    (hw : Pairs (fun k p c => raw (ix3 k p c)) L.w 2560) (r c : Fin 512) :
    k2_pay49 v15 f raw (ix2 r c) = L.fin sigTanh (T r) c := by
  pointwise [k2_pay49]
  have e := hw.sum (fun x => by omega) c (by omega) _ _ (h15 r)
  simp only [e, hf]; rfl

/-- The pool branch's gate. -/
theorem pay50_eq {v15 : FVec Ideal S512x1024 .bf16} {raw : Vec Ideal S512x2x1024 .bf16}
    (h15 : ∀ r c, v15 (ix2 r c) = L.xn (T r) c) (hw : Pairs (fun k p c => raw (ix3 k p c)) L.w 1024) (r : Fin 512) (c : Fin 1024) :
    k2_pay50 v15 raw (ix2 r c) = L.proj (T r) ⟨1024 + c, by omega⟩ * sigTanh (L.proj (T r) ⟨1024 + c, by omega⟩) := by
  pointwise [k2_pay50]
  have e := hw.sum (fun x => by omega) c (by omega) _ _ (h15 r)
  simp only [e]; rfl

/-- The gated pool branch. -/
theorem pay75_eq {v15 : FVec Ideal S512x1024 .bf16} {y : FVec Ideal S512x1024 .bf16} {raw : Vec Ideal S512x2x1024 .bf16}
    {b : Vec Ideal S1x1024 .f32} {raw2 : Vec Ideal S512x2x1024 .bf16} {pool : Fin N → Fin 1024 → EReal}
    (h15 : ∀ r c, v15 (ix2 r c) = L.xn (T r) c) (hy : ∀ r c, y (ix2 r c) = L.yin sigTanh pool (T r) c)
    (hw : Pairs (fun k p c => raw (ix3 k p c)) L.w 4096) (hb : ∀ c, b (ix2 0 c) = L.bg ⟨0 + c, by omega⟩)
    (hw2 : Pairs (fun k p c => raw2 (ix3 k p c)) L.wpo 0) (r : Fin 512) (c : Fin 1024) :
    k2_pay75 v15 y raw b raw2 (ix2 r c) = L.brA sigTanh pool (T r) c := by
  pointwise [k2_pay75]
  have e := hw.sum (fun x => by omega) c (by omega) _ _ (h15 r)
  have e2 := hw2.sum (fun x => by omega) c (by omega) _ _ (hy r)
  simp only [e, e2, hb]
  simp only [Layer.brA, Layer.gate, Nat.zero_add]; rfl

/-- The Fourier branch's gate. -/
theorem pay76_eq {v15 : FVec Ideal S512x1024 .bf16} {raw : Vec Ideal S512x2x1024 .bf16}
    {b : Vec Ideal S1x1024 .f32}
    (h15 : ∀ r c, v15 (ix2 r c) = L.xn (T r) c)
    (hw : Pairs (fun k p c => raw (ix3 k p c)) L.w 5120) (hb : ∀ c, b (ix2 0 c) = L.bg ⟨1024 + c, by omega⟩) (r : Fin 512) (c : Fin 1024) :
    k2_pay76 v15 raw b (ix2 r c) = L.gate sigTanh 1024 (by omega) (T r) c := by
  pointwise [k2_pay76]
  have e := hw.sum (fun x => by omega) c (by omega) _ _ (h15 r)
  simp only [e, hb, Layer.gate, ← Nat.add_assoc]; rfl

/-- The residual stream after the layer. -/
theorem pay77_eq {x : FVec Ideal S512x1024 .f32} {v15 : FVec Ideal S512x1024 .bf16} {fin ain : FVec Ideal S512x512 .bf16}
    {a gb : FVec Ideal S512x1024 .f32} {rawf : Vec Ideal S256x2x1024 .bf16} {raw : Vec Ideal S512x2x1024 .bf16}
    {b : Vec Ideal S1x1024 .f32} {rawa : Vec Ideal S256x2x1024 .bf16} {rawo : Vec Ideal S512x2x1024 .bf16}
    {pool : Fin N → Fin 1024 → EReal} {att : Fin N → Fin 512 → EReal}
    (hx : ∀ r c, x (ix2 r c) = L.x (T r) c) (h15 : ∀ r c, v15 (ix2 r c) = L.xn (T r) c)
    (hf : ∀ r c, fin (ix2 r c) = L.fin sigTanh (T r) c) (ha : ∀ r c, ain (ix2 r c) = L.ain sigTanh att (T r) c)
    (hA : ∀ r c, a (ix2 r c) = L.brA sigTanh pool (T r) c) (hg : ∀ r c, gb (ix2 r c) = L.gate sigTanh 1024 (by omega) (T r) c)
    (hwf : Pairs (fun k p c => rawf (ix3 k p c)) L.wfo 0)
    (hw : Pairs (fun k p c => raw (ix3 k p c)) L.w 6144) (hb : ∀ c, b (ix2 0 c) = L.bg ⟨2048 + c, by omega⟩)
    (hwa : Pairs (fun k p c => rawa (ix3 k p c)) L.wao 0) (hwo : Pairs (fun k p c => rawo (ix3 k p c)) L.wo 0)
    (r : Fin 512) (c : Fin 1024) :
    k2_pay77 x v15 fin ain a gb rawf raw b rawa rawo (ix2 r c) = L.res sigTanh pool att (T r) c := by
  pointwise [k2_pay77]
  rw [hx]
  unfold Layer.res
  congr 1
  refine (hwo.sum (fun x => by omega) c (by omega) _ (fun k => L.merged sigTanh pool att (T r) k) fun k => ?_).trans ?_
  · have e := hw.sum (fun x => by omega) k (by omega) _ _ (h15 r)
    have ef := hwf.sum (fun x => by omega) k (by omega) _ _ (hf r)
    have ea := hwa.sum (fun x => by omega) k (by omega) _ _ (ha r)
    simp only [e, ef, ea, hA, hg, hb]
    simp only [Layer.merged, Layer.brB, Layer.brC, Layer.gate, Nat.zero_add, ← Nat.add_assoc]; rfl
  · simp only [Nat.zero_add]

end Cert.Enc.Prompt
-- ==== Proof.PromptAttend.lean ====
/- For the prompt: what the body of `encoder_main` computes of the attention: per head the exponentials of the scores less the greatest, their sums, and
   the quotient of the weighted values by the sum, gated. -/
module

public import proofs.«01_k».proof.Proof.Attend
public import proofs.«01_k».proof.Proof.PromptRows

@[expose] public section

set_option maxRecDepth 16384

noncomputable section

namespace Cert.Enc.Prompt

open Idealize.ShloMosaic Idealize.SL.Sem Cert.PromptIdeal Cert.PromptIdeal.Gen

variable {N : ℕ} (L : Layer N) (T : Fin 512 → Fin N)

/-- The exponential of a head's score less the greatest, of a query row and the keys. -/
theorem ex_of (h : Fin 4) (r : Fin 512) (q : Fin 128 → EReal) (k : Fin 256 → Fin 128 → EReal)
    (hq : ∀ d, q d = L.proj (T r) ⟨3072 + (128 * h + d), by omega⟩) (hk : ∀ m d, k m d = L.kv m ⟨128 * h + d, by omega⟩) (m : Fin 256) :
    Ideal.exp ((∑ d, q d * k m d) * Ideal.ofBits .f32 1035273459#32
      - Finset.fold max (Ideal.ofBits .f32 4286578688#32) (fun m => (∑ d, q d * k m d) * Ideal.ofBits .f32 1035273459#32) Finset.univ)
      = L.ex (T r) h m := by
  simp only [hq, hk]; rfl

section

variable {v15 : FVec Ideal S512x1024 .bf16} {raw : Vec Ideal S512x2x512 .bf16} {k : Vec Ideal S1x256x128 .bf16}

theorem pay39_eq (h15 : ∀ r c, v15 (ix2 r c) = L.xn (T r) c) (hw : Pairs (fun k p c => raw (ix3 k p c)) L.w 3072)
    (hk : ∀ m (d : Fin 128) (hd : 128 * (0 : Fin 4).val + d.val < 1024), k (ix3 0 m d) = L.kv m ⟨_, hd⟩) (r : Fin 512) (m : Fin 256) :
    k2_pay39 v15 raw k (ix2 r m) = L.ex (T r) 0 m := by
  pointwise [k2_pay39, k2_pay37]
  refine ex_of L T 0 r _ (fun m d => k (ix3 0 m d)) (fun d => ?_) (fun m d => hk m d _) m
  refine (pay36_eq L T h15 hw r ⟨d.val, by omega⟩).trans ?_
  simp

theorem pay38_eq (h15 : ∀ r c, v15 (ix2 r c) = L.xn (T r) c) (hw : Pairs (fun k p c => raw (ix3 k p c)) L.w 3072)
    (hk : ∀ m (d : Fin 128) (hd : 128 * (0 : Fin 4).val + d.val < 1024), k (ix3 0 m d) = L.kv m ⟨_, hd⟩) (r : Fin 512) :
    k2_pay38 v15 raw k (ix2 r 0) = ∑ m, L.ex (T r) 0 m := by
  pointwise [k2_pay38, k2_pay37]
  refine Finset.sum_congr rfl fun m _ => ?_
  refine ex_of L T 0 r _ (fun m d => k (ix3 0 m d)) (fun d => ?_) (fun m d => hk m d _) m
  refine (pay36_eq L T h15 hw r ⟨d.val, by omega⟩).trans ?_
  simp

end

section

variable {q : FVec Ideal S512x512 .f32} {k : Vec Ideal S1x256x128 .bf16}
  (hq : ∀ (r c : Fin 512) (hc : 3072 + c.val < 7168), q (ix2 r c) = L.proj (T r) ⟨_, hc⟩)

include hq

theorem pay42_eq (hk : ∀ m (d : Fin 128) (hd : 128 * (1 : Fin 4).val + d.val < 1024), k (ix3 0 m d) = L.kv m ⟨_, hd⟩) (r : Fin 512) (m : Fin 256) :
    k2_pay42 q k (ix2 r m) = L.ex (T r) 1 m := by
  pointwise [k2_pay42, k2_pay40]
  exact ex_of L T 1 r _ (fun m d => k (ix3 0 m d)) (fun d => hq r ⟨128 + d, by omega⟩ _) (fun m d => hk m d _) m

theorem pay41_eq (hk : ∀ m (d : Fin 128) (hd : 128 * (1 : Fin 4).val + d.val < 1024), k (ix3 0 m d) = L.kv m ⟨_, hd⟩) (r : Fin 512) :
    k2_pay41 q k (ix2 r 0) = ∑ m, L.ex (T r) 1 m := by
  pointwise [k2_pay41, k2_pay40]
  exact Finset.sum_congr rfl fun m _ => ex_of L T 1 r _ (fun m d => k (ix3 0 m d)) (fun d => hq r ⟨128 + d, by omega⟩ _) (fun m d => hk m d _) m

theorem pay45_eq (hk : ∀ m (d : Fin 128) (hd : 128 * (2 : Fin 4).val + d.val < 1024), k (ix3 0 m d) = L.kv m ⟨_, hd⟩) (r : Fin 512) (m : Fin 256) :
    k2_pay45 q k (ix2 r m) = L.ex (T r) 2 m := by
  pointwise [k2_pay45, k2_pay43]
  exact ex_of L T 2 r _ (fun m d => k (ix3 0 m d)) (fun d => hq r ⟨256 + d, by omega⟩ _) (fun m d => hk m d _) m

theorem pay44_eq (hk : ∀ m (d : Fin 128) (hd : 128 * (2 : Fin 4).val + d.val < 1024), k (ix3 0 m d) = L.kv m ⟨_, hd⟩) (r : Fin 512) :
    k2_pay44 q k (ix2 r 0) = ∑ m, L.ex (T r) 2 m := by
  pointwise [k2_pay44, k2_pay43]
  exact Finset.sum_congr rfl fun m _ => ex_of L T 2 r _ (fun m d => k (ix3 0 m d)) (fun d => hq r ⟨256 + d, by omega⟩ _) (fun m d => hk m d _) m

theorem pay46_eq (hk : ∀ m (d : Fin 128) (hd : 128 * (3 : Fin 4).val + d.val < 1024), k (ix3 0 m d) = L.kv m ⟨_, hd⟩) (r : Fin 512) (m : Fin 256) :
    k2_pay46 q k (ix2 r m) = L.ex (T r) 3 m := by
  pointwise [k2_pay46]
  exact ex_of L T 3 r _ (fun m d => k (ix3 0 m d)) (fun d => hq r ⟨384 + d, by omega⟩ _) (fun m d => hk m d _) m

end

theorem pay47_eq {e : FVec Ideal S512x256 .f32} (he : ∀ r m, e (ix2 r m) = L.ex (T r) 3 m) (r : Fin 512) :
    k2_pay47 e (ix2 r 0) = ∑ m, L.ex (T r) 3 m := by
  pointwise [k2_pay47]
  simp only [he]

theorem pay48_eq {e : FVec Ideal S512x256 .f32} (he : ∀ r m, e (ix2 r m) = L.ex (T r) 3 m) (r : Fin 512) (m : Fin 256) :
    k2_pay48 e (ix2 r m) = L.ex (T r) 3 m := by
  pointwise [k2_pay48]
  exact he r m

/-- A head's columns of the attention. -/
theorem attLast_of (t : Fin N) (h : Fin 4) (c : Fin 512) (hc : c.val / 128 = h.val) (e : Fin 256 → EReal) (l : EReal)
    (v : Fin 256 → EReal) (he : ∀ m, e m = L.ex t h m) (hl : l = ∑ m, L.ex t h m) (hv : ∀ m, v m = L.kv m ⟨512 + c, by omega⟩) :
    Ideal.div (∑ m, e m * v m) l = L.attLast t c := by
  have hh : (⟨c.val / 128, by omega⟩ : Fin 4) = h := Fin.ext hc
  unfold Layer.attLast
  rw [hh]
  simp only [he, hl, hv]

theorem pay74_eq {v15 : FVec Ideal S512x1024 .bf16} {l0 l1 l2 l3 : FVec Ideal S512x1 .f32} {e0 e1 e2 e3 : FVec Ideal S512x256 .bf16}
    {raw : Vec Ideal S512x2x512 .bf16} {v0 v1 v2 v3 : Vec Ideal S1x256x128 .bf16}
    (h15 : ∀ r c, v15 (ix2 r c) = L.xn (T r) c)
    (hl0 : ∀ r, l0 (ix2 r 0) = ∑ m, L.ex (T r) 0 m) (he0 : ∀ r m, e0 (ix2 r m) = L.ex (T r) 0 m)
    (hl1 : ∀ r, l1 (ix2 r 0) = ∑ m, L.ex (T r) 1 m) (he1 : ∀ r m, e1 (ix2 r m) = L.ex (T r) 1 m)
    (hl2 : ∀ r, l2 (ix2 r 0) = ∑ m, L.ex (T r) 2 m) (he2 : ∀ r m, e2 (ix2 r m) = L.ex (T r) 2 m)
    (hl3 : ∀ r, l3 (ix2 r 0) = ∑ m, L.ex (T r) 3 m) (he3 : ∀ r m, e3 (ix2 r m) = L.ex (T r) 3 m)
    (hw : Pairs (fun k p c => raw (ix3 k p c)) L.w 3584)
    (hv0 : ∀ m (d : Fin 128), v0 (ix3 0 m d) = L.kv m ⟨512 + d, by omega⟩)
    (hv1 : ∀ m (d : Fin 128), v1 (ix3 0 m d) = L.kv m ⟨640 + d, by omega⟩)
    (hv2 : ∀ m (d : Fin 128), v2 (ix3 0 m d) = L.kv m ⟨768 + d, by omega⟩)
    (hv3 : ∀ m (d : Fin 128), v3 (ix3 0 m d) = L.kv m ⟨896 + d, by omega⟩) (r c : Fin 512) :
    k2_pay74 v15 l0 e0 l1 e1 l2 e2 l3 e3 raw v0 v1 v2 v3 (ix2 r c) = L.ain sigTanh L.attLast (T r) c := by
  pointwise [k2_pay74]
  have ew := hw.sum (fun x => by omega) c (by omega) _ _ (h15 r)
  simp only [ew]
  unfold Layer.ain
  refine congrArg₂ (· * ·) ?_ rfl
  split
  · exact attLast_of L (T r) 0 c (by simp; omega) _ _ _ (he0 r) (hl0 r) fun m => (hv0 m _).trans (by congr 2)
  · split
    · exact attLast_of L (T r) 1 c (by simp; omega) _ _ _ (he1 r) (hl1 r) fun m => (hv1 m _).trans (by congr 2; simp; omega)
    · split
      · exact attLast_of L (T r) 2 c (by simp; omega) _ _ _ (he2 r) (hl2 r) fun m => (hv2 m _).trans (by congr 2; simp; omega)
      · exact attLast_of L (T r) 3 c (by simp; omega) _ _ _ (he3 r) (hl3 r) fun m => (hv3 m _).trans (by congr 2; simp; omega)

end Cert.Enc.Prompt
-- ==== Proof.PromptSlab.lean ====
/- For the prompt: the scratch of `encoder_main`: per slab of 128 channels, the pooled channels of the block's 512 tokens with eight tokens before and eight
   after, zeros where no token is. Every store is a block of one function of (slab, row, lane), so every load reads that function. -/
module

public import proofs.«01_k».proof.Proof.Slab
public import proofs.«01_k».proof.Proof.PromptRows
public import Idealize.ShloMosaic.Lib.Pipeline.ValueKit
public import Idealize.ShloMosaic.Lib.Pipeline.ReadBack
public import Idealize.ShloMosaic.Lib.Ring
public import Idealize.ShloMosaic.Lib.Tactic

@[expose] public section

set_option maxRecDepth 16384

noncomputable section

namespace Cert.Enc.Prompt

open Idealize.ShloMosaic Idealize.SL.Sem Cert.PromptIdeal Cert.PromptIdeal.Gen

/-- `Layer.pad` with the channel a number. -/
def padc (L : Layer 2048) (n c : ℕ) : EReal := if h : c < 1024 then L.pad n ⟨c, h⟩ else 0

/-- The scratch's contents at block `i`. -/
def slabAt (L : Layer 2048) (i : ℕ) (y : S8x528x128.Idx) : EReal := padc L (512 * i + (y 1).val) (128 * (y 0).val + (y 2).val)

/-- Token `r` of block `i`. -/
def tok (i : Fin 4) (r : Fin 512) : Fin 2048 := ⟨512 * i + r, by omega⟩

theorem pos_word : ∀ i : Fin 4, Scalar.cmpi .sgt (BitVec.ofNat 32 i) 0#32 = if 0 < i.val then 1#1 else 0#1 := by decide +kernel
theorem last_word : ∀ i : Fin 4, Scalar.cmpi .slt (BitVec.ofNat 32 i) 3#32 = if i.val < 3 then 1#1 else 0#1 := by decide +kernel

section

variable (L : Layer 2048) (i : Fin 4)

theorem padc_lo (hi : ¬ 0 < i.val) (r c : ℕ) (hr : r < 8) : padc L (512 * i + r) c = 0 := by
  unfold padc Layer.pad
  split
  · rw [dif_neg]; omega
  · rfl

theorem padc_hi (hi : ¬ i.val < 3) (r c : ℕ) (hr : 520 ≤ r) : padc L (512 * i + r) c = 0 := by
  unfold padc Layer.pad
  split
  · rw [dif_neg]; omega
  · rfl

/-- The product's rows: the block's tokens, and the neighbours where there are any. -/
structure Ext (P : FVec Ideal S528x1024 .f32) : Prop where
  mid : ∀ (r c : ℕ) (hr : r < 512) (hc : c < 1024), P (ix2 ⟨r, by omega⟩ ⟨c, hc⟩) = padc L (512 * i + (8 + r)) c
  prev : 0 < i.val → ∀ (r c : ℕ) (hr : r < 8) (hc : c < 1024), P (ix2 ⟨512 + r, by omega⟩ ⟨c, hc⟩) = padc L (512 * i + r) c
  next : i.val < 3 → ∀ (r c : ℕ) (hr : r < 8) (hc : c < 1024), P (ix2 ⟨520 + r, by omega⟩ ⟨c, hc⟩) = padc L (512 * i + (520 + r)) c

variable {L i} in
theorem Ext.sel_prev {P : FVec Ideal S528x1024 .f32} (h : Ext L i P) (r c : ℕ) (hr : r < 8) (hc : c < 1024) :
    Scalar.select (Scalar.cmpi .sgt (BitVec.ofNat 32 i) 0#32) (P (ix2 ⟨512 + r, by omega⟩ ⟨c, hc⟩)) 0 = padc L (512 * i + r) c := by
  rw [pos_word]
  split
  · next hi => exact h.prev hi r c hr hc
  · next hi => exact (padc_lo L i hi r c hr).symm

variable {L i} in
theorem Ext.sel_next {P : FVec Ideal S528x1024 .f32} (h : Ext L i P) (r c : ℕ) (hr : r < 8) (hc : c < 1024) :
    Scalar.select (Scalar.cmpi .slt (BitVec.ofNat 32 i) 3#32) (P (ix2 ⟨520 + r, by omega⟩ ⟨c, hc⟩)) 0 = padc L (512 * i + (520 + r)) c := by
  rw [last_word]
  split
  · next hi => exact h.next hi r c hr hc
  · next hi => exact (padc_hi L i hi (520 + r) c (by omega)).symm

end

/-- What the body stores in the scratch, last store first: for each slab of 128 channels the eight rows after the block, the block's rows,
    the eight rows before it. -/
def slabs (a : BitVec 32) (v15 : FVec Ideal S528x1024 .bf16) (lo hi : FVec Ideal S512x1024 .bf16) : List (View.Piece (Elt Ideal) S8x528x128 .f32) :=
    [⟨Rect.unit ![7, 520, 0] S1x8x128.size inb_S8x528x128_S1x8x128_7_520_0, k2_pay35 (k2_pay9 a v15 lo hi)⟩,
      ⟨Rect.unit ![7, 8, 0] S1x512x128.size inb_S8x528x128_S1x512x128_7_8_0, k2_pay34 (k2_pay7 v15 lo hi)⟩,
      ⟨Rect.unit ![7, 0, 0] S1x8x128.size inb_S8x528x128_S1x8x128_7_0_0, k2_pay33 (k2_pay8 a v15 lo hi)⟩,
      ⟨Rect.unit ![6, 520, 0] S1x8x128.size inb_S8x528x128_S1x8x128_6_520_0, k2_pay32 (k2_pay31 (k2_pay9 a v15 lo hi))⟩,
      ⟨Rect.unit ![6, 8, 0] S1x512x128.size inb_S8x528x128_S1x512x128_6_8_0, k2_pay30 (k2_pay7 v15 lo hi)⟩,
      ⟨Rect.unit ![6, 0, 0] S1x8x128.size inb_S8x528x128_S1x8x128_6_0_0, k2_pay29 (k2_pay8 a v15 lo hi)⟩,
      ⟨Rect.unit ![5, 520, 0] S1x8x128.size inb_S8x528x128_S1x8x128_5_520_0, k2_pay28 (k2_pay9 a v15 lo hi)⟩,
      ⟨Rect.unit ![5, 8, 0] S1x512x128.size inb_S8x528x128_S1x512x128_5_8_0, k2_pay27 (k2_pay7 v15 lo hi)⟩,
      ⟨Rect.unit ![5, 0, 0] S1x8x128.size inb_S8x528x128_S1x8x128_5_0_0, k2_pay26 (k2_pay8 a v15 lo hi)⟩,
      ⟨Rect.unit ![4, 520, 0] S1x8x128.size inb_S8x528x128_S1x8x128_4_520_0, k2_pay25 (k2_pay9 a v15 lo hi)⟩,
      ⟨Rect.unit ![4, 8, 0] S1x512x128.size inb_S8x528x128_S1x512x128_4_8_0, k2_pay24 (k2_pay7 v15 lo hi)⟩,
      ⟨Rect.unit ![4, 0, 0] S1x8x128.size inb_S8x528x128_S1x8x128_4_0_0, k2_pay23 (k2_pay8 a v15 lo hi)⟩,
      ⟨Rect.unit ![3, 520, 0] S1x8x128.size inb_S8x528x128_S1x8x128_3_520_0, k2_pay22 (k2_pay9 a v15 lo hi)⟩,
      ⟨Rect.unit ![3, 8, 0] S1x512x128.size inb_S8x528x128_S1x512x128_3_8_0, k2_pay21 (k2_pay7 v15 lo hi)⟩,
      ⟨Rect.unit ![3, 0, 0] S1x8x128.size inb_S8x528x128_S1x8x128_3_0_0, k2_pay20 (k2_pay8 a v15 lo hi)⟩,
      ⟨Rect.unit ![2, 520, 0] S1x8x128.size inb_S8x528x128_S1x8x128_2_520_0, k2_pay19 (k2_pay9 a v15 lo hi)⟩,
      ⟨Rect.unit ![2, 8, 0] S1x512x128.size inb_S8x528x128_S1x512x128_2_8_0, k2_pay18 (k2_pay7 v15 lo hi)⟩,
      ⟨Rect.unit ![2, 0, 0] S1x8x128.size inb_S8x528x128_S1x8x128_2_0_0, k2_pay17 (k2_pay8 a v15 lo hi)⟩,
      ⟨Rect.unit ![1, 520, 0] S1x8x128.size inb_S8x528x128_S1x8x128_1_520_0, k2_pay16 (k2_pay15 a v15 lo hi)⟩,
      ⟨Rect.unit ![1, 8, 0] S1x512x128.size inb_S8x528x128_S1x512x128_1_8_0, k2_pay14 v15 lo hi⟩,
      ⟨Rect.unit ![1, 0, 0] S1x8x128.size inb_S8x528x128_S1x8x128_1_0_0, k2_pay13 a v15 lo hi⟩,
      ⟨Rect.unit ![0, 520, 0] S1x8x128.size inb_S8x528x128_S1x8x128_0_520_0, k2_pay12 a v15 lo hi⟩,
      ⟨Rect.unit ![0, 8, 0] S1x512x128.size inb_S8x528x128_S1x512x128_0_8_0, k2_pay11 v15 lo hi⟩,
      ⟨Rect.unit ![0, 0, 0] S1x8x128.size inb_S8x528x128_S1x8x128_0_0_0, k2_pay10 a v15 lo hi⟩]

variable (L : Layer 2048) (i : Fin 4)

theorem store_7_next {v15 : FVec Ideal S528x1024 .bf16} {lo hi : FVec Ideal S512x1024 .bf16} (h : Ext L i (k2_pay7 v15 lo hi)) (r : Fin 8) (c : Fin 128) :
    (k2_pay35 (k2_pay9 (BitVec.ofNat 32 i) v15 lo hi) : FVec Ideal S1x8x128 .f32) (ix3 0 r c) = padc L (512 * i + (520 + r)) (896 + c) := by
  pointwise [k2_pay35, k2_pay9]
  exact h.sel_next r (896 + c) r.isLt (by omega)

theorem store_7_mid {v15 : FVec Ideal S528x1024 .bf16} {lo hi : FVec Ideal S512x1024 .bf16} (h : Ext L i (k2_pay7 v15 lo hi)) (r : Fin 512) (c : Fin 128) :
    (k2_pay34 (k2_pay7 v15 lo hi) : FVec Ideal S1x512x128 .f32) (ix3 0 r c) = padc L (512 * i + (8 + r)) (896 + c) := by
  pointwise [k2_pay34]
  exact h.mid r (896 + c) r.isLt (by omega)

theorem store_7_prev {v15 : FVec Ideal S528x1024 .bf16} {lo hi : FVec Ideal S512x1024 .bf16} (h : Ext L i (k2_pay7 v15 lo hi)) (r : Fin 8) (c : Fin 128) :
    (k2_pay33 (k2_pay8 (BitVec.ofNat 32 i) v15 lo hi) : FVec Ideal S1x8x128 .f32) (ix3 0 r c) = padc L (512 * i + (r)) (896 + c) := by
  pointwise [k2_pay33, k2_pay8]
  exact h.sel_prev r (896 + c) r.isLt (by omega)

theorem store_6_next {v15 : FVec Ideal S528x1024 .bf16} {lo hi : FVec Ideal S512x1024 .bf16} (h : Ext L i (k2_pay7 v15 lo hi)) (r : Fin 8) (c : Fin 128) :
    (k2_pay32 (k2_pay31 (k2_pay9 (BitVec.ofNat 32 i) v15 lo hi)) : FVec Ideal S1x8x128 .f32) (ix3 0 r c) = padc L (512 * i + (520 + r)) (768 + c) := by
  pointwise [k2_pay32, k2_pay31, k2_pay9]
  exact h.sel_next r (768 + c) r.isLt (by omega)

theorem store_6_mid {v15 : FVec Ideal S528x1024 .bf16} {lo hi : FVec Ideal S512x1024 .bf16} (h : Ext L i (k2_pay7 v15 lo hi)) (r : Fin 512) (c : Fin 128) :
    (k2_pay30 (k2_pay7 v15 lo hi) : FVec Ideal S1x512x128 .f32) (ix3 0 r c) = padc L (512 * i + (8 + r)) (768 + c) := by
  pointwise [k2_pay30]
  exact h.mid r (768 + c) r.isLt (by omega)

theorem store_6_prev {v15 : FVec Ideal S528x1024 .bf16} {lo hi : FVec Ideal S512x1024 .bf16} (h : Ext L i (k2_pay7 v15 lo hi)) (r : Fin 8) (c : Fin 128) :
    (k2_pay29 (k2_pay8 (BitVec.ofNat 32 i) v15 lo hi) : FVec Ideal S1x8x128 .f32) (ix3 0 r c) = padc L (512 * i + (r)) (768 + c) := by
  pointwise [k2_pay29, k2_pay8]
  exact h.sel_prev r (768 + c) r.isLt (by omega)

theorem store_5_next {v15 : FVec Ideal S528x1024 .bf16} {lo hi : FVec Ideal S512x1024 .bf16} (h : Ext L i (k2_pay7 v15 lo hi)) (r : Fin 8) (c : Fin 128) :
    (k2_pay28 (k2_pay9 (BitVec.ofNat 32 i) v15 lo hi) : FVec Ideal S1x8x128 .f32) (ix3 0 r c) = padc L (512 * i + (520 + r)) (640 + c) := by
  pointwise [k2_pay28, k2_pay9]
  exact h.sel_next r (640 + c) r.isLt (by omega)

theorem store_5_mid {v15 : FVec Ideal S528x1024 .bf16} {lo hi : FVec Ideal S512x1024 .bf16} (h : Ext L i (k2_pay7 v15 lo hi)) (r : Fin 512) (c : Fin 128) :
    (k2_pay27 (k2_pay7 v15 lo hi) : FVec Ideal S1x512x128 .f32) (ix3 0 r c) = padc L (512 * i + (8 + r)) (640 + c) := by
  pointwise [k2_pay27]
  exact h.mid r (640 + c) r.isLt (by omega)

theorem store_5_prev {v15 : FVec Ideal S528x1024 .bf16} {lo hi : FVec Ideal S512x1024 .bf16} (h : Ext L i (k2_pay7 v15 lo hi)) (r : Fin 8) (c : Fin 128) :
    (k2_pay26 (k2_pay8 (BitVec.ofNat 32 i) v15 lo hi) : FVec Ideal S1x8x128 .f32) (ix3 0 r c) = padc L (512 * i + (r)) (640 + c) := by
  pointwise [k2_pay26, k2_pay8]
  exact h.sel_prev r (640 + c) r.isLt (by omega)

theorem store_4_next {v15 : FVec Ideal S528x1024 .bf16} {lo hi : FVec Ideal S512x1024 .bf16} (h : Ext L i (k2_pay7 v15 lo hi)) (r : Fin 8) (c : Fin 128) :
    (k2_pay25 (k2_pay9 (BitVec.ofNat 32 i) v15 lo hi) : FVec Ideal S1x8x128 .f32) (ix3 0 r c) = padc L (512 * i + (520 + r)) (512 + c) := by
  pointwise [k2_pay25, k2_pay9]
  exact h.sel_next r (512 + c) r.isLt (by omega)

theorem store_4_mid {v15 : FVec Ideal S528x1024 .bf16} {lo hi : FVec Ideal S512x1024 .bf16} (h : Ext L i (k2_pay7 v15 lo hi)) (r : Fin 512) (c : Fin 128) :
    (k2_pay24 (k2_pay7 v15 lo hi) : FVec Ideal S1x512x128 .f32) (ix3 0 r c) = padc L (512 * i + (8 + r)) (512 + c) := by
  pointwise [k2_pay24]
  exact h.mid r (512 + c) r.isLt (by omega)

theorem store_4_prev {v15 : FVec Ideal S528x1024 .bf16} {lo hi : FVec Ideal S512x1024 .bf16} (h : Ext L i (k2_pay7 v15 lo hi)) (r : Fin 8) (c : Fin 128) :
    (k2_pay23 (k2_pay8 (BitVec.ofNat 32 i) v15 lo hi) : FVec Ideal S1x8x128 .f32) (ix3 0 r c) = padc L (512 * i + (r)) (512 + c) := by
  pointwise [k2_pay23, k2_pay8]
  exact h.sel_prev r (512 + c) r.isLt (by omega)

theorem store_3_next {v15 : FVec Ideal S528x1024 .bf16} {lo hi : FVec Ideal S512x1024 .bf16} (h : Ext L i (k2_pay7 v15 lo hi)) (r : Fin 8) (c : Fin 128) :
    (k2_pay22 (k2_pay9 (BitVec.ofNat 32 i) v15 lo hi) : FVec Ideal S1x8x128 .f32) (ix3 0 r c) = padc L (512 * i + (520 + r)) (384 + c) := by
  pointwise [k2_pay22, k2_pay9]
  exact h.sel_next r (384 + c) r.isLt (by omega)

theorem store_3_mid {v15 : FVec Ideal S528x1024 .bf16} {lo hi : FVec Ideal S512x1024 .bf16} (h : Ext L i (k2_pay7 v15 lo hi)) (r : Fin 512) (c : Fin 128) :
    (k2_pay21 (k2_pay7 v15 lo hi) : FVec Ideal S1x512x128 .f32) (ix3 0 r c) = padc L (512 * i + (8 + r)) (384 + c) := by
  pointwise [k2_pay21]
  exact h.mid r (384 + c) r.isLt (by omega)

theorem store_3_prev {v15 : FVec Ideal S528x1024 .bf16} {lo hi : FVec Ideal S512x1024 .bf16} (h : Ext L i (k2_pay7 v15 lo hi)) (r : Fin 8) (c : Fin 128) :
    (k2_pay20 (k2_pay8 (BitVec.ofNat 32 i) v15 lo hi) : FVec Ideal S1x8x128 .f32) (ix3 0 r c) = padc L (512 * i + (r)) (384 + c) := by
  pointwise [k2_pay20, k2_pay8]
  exact h.sel_prev r (384 + c) r.isLt (by omega)

theorem store_2_next {v15 : FVec Ideal S528x1024 .bf16} {lo hi : FVec Ideal S512x1024 .bf16} (h : Ext L i (k2_pay7 v15 lo hi)) (r : Fin 8) (c : Fin 128) :
    (k2_pay19 (k2_pay9 (BitVec.ofNat 32 i) v15 lo hi) : FVec Ideal S1x8x128 .f32) (ix3 0 r c) = padc L (512 * i + (520 + r)) (256 + c) := by
  pointwise [k2_pay19, k2_pay9]
  exact h.sel_next r (256 + c) r.isLt (by omega)

theorem store_2_mid {v15 : FVec Ideal S528x1024 .bf16} {lo hi : FVec Ideal S512x1024 .bf16} (h : Ext L i (k2_pay7 v15 lo hi)) (r : Fin 512) (c : Fin 128) :
    (k2_pay18 (k2_pay7 v15 lo hi) : FVec Ideal S1x512x128 .f32) (ix3 0 r c) = padc L (512 * i + (8 + r)) (256 + c) := by
  pointwise [k2_pay18]
  exact h.mid r (256 + c) r.isLt (by omega)

theorem store_2_prev {v15 : FVec Ideal S528x1024 .bf16} {lo hi : FVec Ideal S512x1024 .bf16} (h : Ext L i (k2_pay7 v15 lo hi)) (r : Fin 8) (c : Fin 128) :
    (k2_pay17 (k2_pay8 (BitVec.ofNat 32 i) v15 lo hi) : FVec Ideal S1x8x128 .f32) (ix3 0 r c) = padc L (512 * i + (r)) (256 + c) := by
  pointwise [k2_pay17, k2_pay8]
  exact h.sel_prev r (256 + c) r.isLt (by omega)

theorem store_1_next {v15 : FVec Ideal S528x1024 .bf16} {lo hi : FVec Ideal S512x1024 .bf16} (h : Ext L i (k2_pay7 v15 lo hi)) (r : Fin 8) (c : Fin 128) :
    (k2_pay16 (k2_pay15 (BitVec.ofNat 32 i) v15 lo hi) : FVec Ideal S1x8x128 .f32) (ix3 0 r c) = padc L (512 * i + (520 + r)) (128 + c) := by
  pointwise [k2_pay16, k2_pay15, k2_pay8, k2_pay9]
  exact h.sel_next r (128 + c) r.isLt (by omega)

theorem store_1_mid {v15 : FVec Ideal S528x1024 .bf16} {lo hi : FVec Ideal S512x1024 .bf16} (h : Ext L i (k2_pay7 v15 lo hi)) (r : Fin 512) (c : Fin 128) :
    (k2_pay14 v15 lo hi : FVec Ideal S1x512x128 .f32) (ix3 0 r c) = padc L (512 * i + (8 + r)) (128 + c) := by
  pointwise [k2_pay14]
  exact h.mid r (128 + c) r.isLt (by omega)

theorem store_1_prev {v15 : FVec Ideal S528x1024 .bf16} {lo hi : FVec Ideal S512x1024 .bf16} (h : Ext L i (k2_pay7 v15 lo hi)) (r : Fin 8) (c : Fin 128) :
    (k2_pay13 (BitVec.ofNat 32 i) v15 lo hi : FVec Ideal S1x8x128 .f32) (ix3 0 r c) = padc L (512 * i + (r)) (128 + c) := by
  pointwise [k2_pay13, k2_pay8, k2_pay9]
  exact h.sel_prev r (128 + c) r.isLt (by omega)

theorem store_0_next {v15 : FVec Ideal S528x1024 .bf16} {lo hi : FVec Ideal S512x1024 .bf16} (h : Ext L i (k2_pay7 v15 lo hi)) (r : Fin 8) (c : Fin 128) :
    (k2_pay12 (BitVec.ofNat 32 i) v15 lo hi : FVec Ideal S1x8x128 .f32) (ix3 0 r c) = padc L (512 * i + (520 + r)) c := by
  pointwise [k2_pay12, k2_pay8, k2_pay9]
  exact h.sel_next r c r.isLt (by omega)

theorem store_0_mid {v15 : FVec Ideal S528x1024 .bf16} {lo hi : FVec Ideal S512x1024 .bf16} (h : Ext L i (k2_pay7 v15 lo hi)) (r : Fin 512) (c : Fin 128) :
    (k2_pay11 v15 lo hi : FVec Ideal S1x512x128 .f32) (ix3 0 r c) = padc L (512 * i + (8 + r)) c := by
  pointwise [k2_pay11]
  exact h.mid r c r.isLt (by omega)

theorem store_0_prev {v15 : FVec Ideal S528x1024 .bf16} {lo hi : FVec Ideal S512x1024 .bf16} (h : Ext L i (k2_pay7 v15 lo hi)) (r : Fin 8) (c : Fin 128) :
    (k2_pay10 (BitVec.ofNat 32 i) v15 lo hi : FVec Ideal S1x8x128 .f32) (ix3 0 r c) = padc L (512 * i + (r)) c := by
  pointwise [k2_pay10, k2_pay8, k2_pay9]
  exact h.sel_prev r c r.isLt (by omega)

/-- Every store is a block of the scratch's contents. -/
theorem slabs_pieces {v15 : FVec Ideal S528x1024 .bf16} {lo hi : FVec Ideal S512x1024 .bf16} (h : Ext L i (k2_pay7 v15 lo hi)) :
    View.PiecesOf (slabAt L i) (slabs (BitVec.ofNat 32 i) v15 lo hi) := by
  refine ⟨?_, ?_, ?_, ?_, ?_, ?_, ?_, ?_, ?_, ?_, ?_, ?_, ?_, ?_, ?_, ?_, ?_, ?_, ?_, ?_, ?_, ?_, ?_, ?_, trivial⟩
  · intro x
    have e : x = ix3 0 (x 1) (x 2) := unit_ix3 (n1 := 8) (n2 := 128) x
    rw [e]
    refine (store_7_next L i h (x 1) (x 2)).trans ?_
    unfold slabAt
    congr 1 <;> simp <;> omega
  · intro x
    have e : x = ix3 0 (x 1) (x 2) := unit_ix3 (n1 := 512) (n2 := 128) x
    rw [e]
    refine (store_7_mid L i h (x 1) (x 2)).trans ?_
    unfold slabAt
    congr 1 <;> simp <;> omega
  · intro x
    have e : x = ix3 0 (x 1) (x 2) := unit_ix3 (n1 := 8) (n2 := 128) x
    rw [e]
    refine (store_7_prev L i h (x 1) (x 2)).trans ?_
    unfold slabAt
    congr 1 <;> simp <;> omega
  · intro x
    have e : x = ix3 0 (x 1) (x 2) := unit_ix3 (n1 := 8) (n2 := 128) x
    rw [e]
    refine (store_6_next L i h (x 1) (x 2)).trans ?_
    unfold slabAt
    congr 1 <;> simp <;> omega
  · intro x
    have e : x = ix3 0 (x 1) (x 2) := unit_ix3 (n1 := 512) (n2 := 128) x
    rw [e]
    refine (store_6_mid L i h (x 1) (x 2)).trans ?_
    unfold slabAt
    congr 1 <;> simp <;> omega
  · intro x
    have e : x = ix3 0 (x 1) (x 2) := unit_ix3 (n1 := 8) (n2 := 128) x
    rw [e]
    refine (store_6_prev L i h (x 1) (x 2)).trans ?_
    unfold slabAt
    congr 1 <;> simp <;> omega
  · intro x
    have e : x = ix3 0 (x 1) (x 2) := unit_ix3 (n1 := 8) (n2 := 128) x
    rw [e]
    refine (store_5_next L i h (x 1) (x 2)).trans ?_
    unfold slabAt
    congr 1 <;> simp <;> omega
  · intro x
    have e : x = ix3 0 (x 1) (x 2) := unit_ix3 (n1 := 512) (n2 := 128) x
    rw [e]
    refine (store_5_mid L i h (x 1) (x 2)).trans ?_
    unfold slabAt
    congr 1 <;> simp <;> omega
  · intro x
    have e : x = ix3 0 (x 1) (x 2) := unit_ix3 (n1 := 8) (n2 := 128) x
    rw [e]
    refine (store_5_prev L i h (x 1) (x 2)).trans ?_
    unfold slabAt
    congr 1 <;> simp <;> omega
  · intro x
    have e : x = ix3 0 (x 1) (x 2) := unit_ix3 (n1 := 8) (n2 := 128) x
    rw [e]
    refine (store_4_next L i h (x 1) (x 2)).trans ?_
    unfold slabAt
    congr 1 <;> simp <;> omega
  · intro x
    have e : x = ix3 0 (x 1) (x 2) := unit_ix3 (n1 := 512) (n2 := 128) x
    rw [e]
    refine (store_4_mid L i h (x 1) (x 2)).trans ?_
    unfold slabAt
    congr 1 <;> simp <;> omega
  · intro x
    have e : x = ix3 0 (x 1) (x 2) := unit_ix3 (n1 := 8) (n2 := 128) x
    rw [e]
    refine (store_4_prev L i h (x 1) (x 2)).trans ?_
    unfold slabAt
    congr 1 <;> simp <;> omega
  · intro x
    have e : x = ix3 0 (x 1) (x 2) := unit_ix3 (n1 := 8) (n2 := 128) x
    rw [e]
    refine (store_3_next L i h (x 1) (x 2)).trans ?_
    unfold slabAt
    congr 1 <;> simp <;> omega
  · intro x
    have e : x = ix3 0 (x 1) (x 2) := unit_ix3 (n1 := 512) (n2 := 128) x
    rw [e]
    refine (store_3_mid L i h (x 1) (x 2)).trans ?_
    unfold slabAt
    congr 1 <;> simp <;> omega
  · intro x
    have e : x = ix3 0 (x 1) (x 2) := unit_ix3 (n1 := 8) (n2 := 128) x
    rw [e]
    refine (store_3_prev L i h (x 1) (x 2)).trans ?_
    unfold slabAt
    congr 1 <;> simp <;> omega
  · intro x
    have e : x = ix3 0 (x 1) (x 2) := unit_ix3 (n1 := 8) (n2 := 128) x
    rw [e]
    refine (store_2_next L i h (x 1) (x 2)).trans ?_
    unfold slabAt
    congr 1 <;> simp <;> omega
  · intro x
    have e : x = ix3 0 (x 1) (x 2) := unit_ix3 (n1 := 512) (n2 := 128) x
    rw [e]
    refine (store_2_mid L i h (x 1) (x 2)).trans ?_
    unfold slabAt
    congr 1 <;> simp <;> omega
  · intro x
    have e : x = ix3 0 (x 1) (x 2) := unit_ix3 (n1 := 8) (n2 := 128) x
    rw [e]
    refine (store_2_prev L i h (x 1) (x 2)).trans ?_
    unfold slabAt
    congr 1 <;> simp <;> omega
  · intro x
    have e : x = ix3 0 (x 1) (x 2) := unit_ix3 (n1 := 8) (n2 := 128) x
    rw [e]
    refine (store_1_next L i h (x 1) (x 2)).trans ?_
    unfold slabAt
    congr 1 <;> simp <;> omega
  · intro x
    have e : x = ix3 0 (x 1) (x 2) := unit_ix3 (n1 := 512) (n2 := 128) x
    rw [e]
    refine (store_1_mid L i h (x 1) (x 2)).trans ?_
    unfold slabAt
    congr 1 <;> simp <;> omega
  · intro x
    have e : x = ix3 0 (x 1) (x 2) := unit_ix3 (n1 := 8) (n2 := 128) x
    rw [e]
    refine (store_1_prev L i h (x 1) (x 2)).trans ?_
    unfold slabAt
    congr 1 <;> simp <;> omega
  · intro x
    have e : x = ix3 0 (x 1) (x 2) := unit_ix3 (n1 := 8) (n2 := 128) x
    rw [e]
    refine (store_0_next L i h (x 1) (x 2)).trans ?_
    unfold slabAt
    congr 1 <;> simp <;> omega
  · intro x
    have e : x = ix3 0 (x 1) (x 2) := unit_ix3 (n1 := 512) (n2 := 128) x
    rw [e]
    refine (store_0_mid L i h (x 1) (x 2)).trans ?_
    unfold slabAt
    congr 1 <;> simp <;> omega
  · intro x
    have e : x = ix3 0 (x 1) (x 2) := unit_ix3 (n1 := 8) (n2 := 128) x
    rw [e]
    refine (store_0_prev L i h (x 1) (x 2)).trans ?_
    unfold slabAt
    congr 1 <;> simp <;> omega

/-- A load after the stores reads the scratch's contents. -/
theorem slabs_read {v15 : FVec Ideal S528x1024 .bf16} {lo hi : FVec Ideal S512x1024 .bf16} (h : Ext L i (k2_pay7 v15 lo hi))
    (v : View Cert.PromptIdeal.sig .tc .vmem S8x528x128 .f32) (B : LoadRect S8x528x128) (j : B.shape.Idx) :
    v.readCov (slabs (BitVec.ofNat 32 i) v15 lo hi) B j = slabAt L i (B.idx j) := by
  rw [View.readCov_eq_canon']
  have e := View.canon_append_of_piecesOf (slabAt L i) [] _ (slabs_pieces L i h) (B.idx j)
    (View.cover_of_tiledBy (slabs (BitVec.ofNat 32 i) v15 lo hi) ![1, 8, 128] (by sl_kernel_rfl) _)
  rwa [List.append_nil] at e

/-- The product's rows, of the block's rows of the input and its neighbours'. -/
theorem ext_of_rows {g : Vec Ideal S1x1024 .f32} {x0 : Vec Ideal S1x512x1024 .f32} {xp xq : Vec Ideal S1x8x1024 .f32} {raw : Vec Ideal S512x2x1024 .bf16}
    (hg : ∀ c, g (ix2 0 c) = L.gi c) (hx : ∀ r c, x0 (ix3 0 r c) = L.x (tok i r) c)
    (hp : 0 < i.val → ∀ (r : Fin 8) c, xp (ix3 0 r c) = L.x ⟨512 * i + r - 8, by omega⟩ c)
    (hq : ∀ hi : i.val < 3, ∀ (r : Fin 8) c, xq (ix3 0 r c) = L.x ⟨512 * i + 512 + r, by omega⟩ c)
    (hw : Pairs (fun k p c => raw (ix3 k p c)) L.w 0) :
    Ext L i (k2_pay7 (k2_pay4 g x0 xp xq) (k2_pay5 raw) (k2_pay6 raw)) := by
  have key : ∀ (ρ : Fin 528) (t : Fin 2048) (_ : ∀ k, k2_pay4 g x0 xp xq (ix2 ρ k) = L.xn t k) (c : ℕ) (hc : c < 1024),
      k2_pay7 (k2_pay4 g x0 xp xq) (k2_pay5 raw) (k2_pay6 raw) (ix2 ρ ⟨c, hc⟩) = L.pv t ⟨c, hc⟩ := by
    intro ρ t ht c hc
    pointwise [k2_pay7, k2_pay5, k2_pay6]
    have e := hw.sum (fun x => by omega) ⟨c, hc⟩ (by simp; omega) _ _ ht
    rw [e]
    unfold Layer.pv Layer.proj
    simp only [Nat.zero_add]
  have pd : ∀ (t : Fin 2048) (c : ℕ) (hc : c < 1024) (n : ℕ) (_ : n = t + 8), L.pv t ⟨c, hc⟩ = padc L n c := by
    intro t c hc n hn
    subst hn
    unfold padc Layer.pad
    rw [dif_pos hc, dif_pos (by omega)]
    congr 1
  refine ⟨fun r c hr hc => ?_, fun hi r c hr hc => ?_, fun hi r c hr hc => ?_⟩
  · refine (key _ (tok i ⟨r, hr⟩) (fun k => ?_) c hc).trans (pd _ c hc _ (by simp [tok]; omega))
    have e : ∀ ρ : Fin 512, k2_pay4 g x0 xp xq (ix2 ⟨ρ.val, by omega⟩ k) = L.xn (tok i ρ) k := by
      intro ρ
      pointwise [k2_pay4, k2_pay3, k2_pay2]
      simp only [hx, hg]; rfl
    exact e ⟨r, hr⟩
  · refine (key _ ⟨512 * i + r - 8, by omega⟩ (fun k => ?_) c hc).trans (pd _ c hc _ (by simp; omega))
    have e : ∀ ρ : Fin 8, k2_pay4 g x0 xp xq (ix2 ⟨512 + ρ.val, by omega⟩ k) = L.xn ⟨512 * i + ρ.val - 8, by omega⟩ k := by
      intro ρ
      pointwise [k2_pay4, k2_pay3, k2_pay2]
      simp only [hp hi, hg]; rfl
    exact e ⟨r, hr⟩
  · refine (key _ ⟨512 * i + 512 + r, by omega⟩ (fun k => ?_) c hc).trans (pd _ c hc _ (by simp; omega))
    have e : ∀ ρ : Fin 8, k2_pay4 g x0 xp xq (ix2 ⟨520 + ρ.val, by omega⟩ k) = L.xn ⟨512 * i + 512 + ρ.val, by omega⟩ k := by
      intro ρ
      pointwise [k2_pay4, k2_pay3, k2_pay2]
      have a : ¬ 520 + ρ.val < 512 := by omega
      have b : ¬ 520 + ρ.val - 512 < 8 := by omega
      have d : 520 + ρ.val - 512 - 8 = ρ.val := by omega
      simp only [a, b, dite_false, hq hi, hg, d]; rfl
    exact e ⟨r, hr⟩

end Cert.Enc.Prompt
-- ==== Proof.PromptPool.lean ====
/- For the prompt: what the body of `encoder_main` computes of the pool branch: the window sums read from the scratch slabs, over the count of tokens
   in the window, less the token's own row; per group of 256 channels the product with the group's weights; scaled and gated. -/
module

public import proofs.«01_k».proof.Proof.Pool
public import proofs.«01_k».proof.Proof.PromptSlab
public import Idealize.ShloMosaic.Lib.SortNet.Extract

@[expose] public section

set_option maxRecDepth 16384

noncomputable section

namespace Cert.Enc.Prompt

open Idealize.ShloMosaic Idealize.SL.Sem Cert.PromptIdeal Cert.PromptIdeal.Gen

/-- The count of a window's tokens, as the kernel's words say it. -/
theorem cnt_word (n h : ℕ) (hn : n < 2048) (hh : h ≤ 8) :
    (IntOp.subi (IntOp.minsi (IntOp.addi (BitVec.ofNat 32 n) (BitVec.ofNat 32 h)) 2048#32)
      (IntOp.maxsi (IntOp.subi (BitVec.ofNat 32 n) (BitVec.ofNat 32 h)) 0#32)).toInt = ((min (n + h) 2048 - (n - h) : ℕ) : ℤ) := by
  have e1 := toInt_ofNat_small n (by omega)
  have e2 := toInt_ofNat_small h (by omega)
  have e3 : (2048#32).toInt = 2048 := by decide
  have e4 : (0#32).toInt = 0 := by decide
  have a := toInt_add_small (BitVec.ofNat 32 n) (BitVec.ofNat 32 h) (by omega) (by omega)
  have s := toInt_sub_small (BitVec.ofNat 32 n) (BitVec.ofNat 32 h) (by omega) (by omega)
  have mn := SortNet.toInt_minsi (BitVec.ofNat 32 n + BitVec.ofNat 32 h) 2048#32
  have mx := SortNet.toInt_maxsi (BitVec.ofNat 32 n - BitVec.ofNat 32 h) 0#32
  rw [e3] at mn; rw [e4] at mx
  simp only [IntOp.addi, IntOp.subi] at *
  rw [toInt_sub_small _ _ (by omega) (by omega)]
  omega

section

variable (L : Layer 2048) (i : Fin 4)

/-- The first rows of a window: `n` of them from row `o`. -/
def part (s o n : ℕ) (r : Fin 512) (l : Fin 128) : EReal := ∑ d ∈ Finset.range n, padc L (512 * i + (o + d + r)) (128 * s + l)

theorem padc_mid (r : Fin 512) (k : ℕ) (hk : k < 1024) : padc L (512 * i + (8 + r)) k = L.pv (tok i r) ⟨k, hk⟩ := by
  unfold padc Layer.pad
  rw [dif_pos hk, dif_pos (by omega)]
  congr 1; exact Fin.ext (by simp [tok]; omega)

/-- The window sum over its count, less the token's row. -/
theorem win_eq (half s : ℕ) (r : Fin 512) (l : Fin 128) (k : Fin 1024) (hk : k.val = 128 * s + l) (hh : half = 2 ^ (k.val / 256)) :
    part L i s (8 - half) (2 * half) r l * Ideal.div 1 (Layer.cnt half (tok i r)) - padc L (512 * i + (8 + r)) (128 * s + l)
      = L.poolSum (tok i r) k := by
  have hb : half ≤ 8 := by
    have : k.val / 256 ≤ 3 := by omega
    rw [hh]; exact (Nat.pow_le_pow_right (by decide) this).trans (by decide)
  unfold Layer.poolSum Layer.half
  rw [← hh, ← hk, padc_mid L i r k k.isLt]
  congr 2
  refine Finset.sum_congr rfl fun d _ => ?_
  unfold padc
  rw [← hk, dif_pos k.isLt]
  congr 1
  simp only [tok]; omega

/-- A group's product, as the layer has it at a channel. -/
def grp (g : Fin 4) (t : Fin 2048) (c : Fin 256) : EReal := ∑ k : Fin 256, L.poolSum t ⟨256 * g + k, by omega⟩ * L.wp g k c

theorem grp_eq (g : Fin 4) (t : Fin 2048) (c : Fin 256) (j : Fin 1024) (hj : j.val = 256 * g + c) :
    grp L g t c = ∑ k : Fin 256, L.poolSum t ⟨256 * (j / 256) + k, by omega⟩ * L.wp ⟨j / 256, by omega⟩ k ⟨j % 256, by omega⟩ := by
  have e1 : (⟨j / 256, by omega⟩ : Fin 4) = g := Fin.ext (by simp; omega)
  have e2 : (⟨j % 256, by omega⟩ : Fin 256) = c := Fin.ext (by simp; omega)
  refine Finset.sum_congr rfl fun k _ => ?_
  rw [e1, e2]; congr 2; exact Fin.ext (by simp; omega)

/-- The token's position. -/
theorem pay51_eq (r : Fin 512) : k2_pay51 (BitVec.ofNat 32 i) (ix2 r 0) = BitVec.ofNat 32 (tok i r) := by
  pointwise [k2_pay51]
  apply BitVec.eq_of_toNat_eq
  have := i.isLt
  simp only [IntOp.addi, Scalar.muli, IntOp.muli, tok, BitVec.toNat_add, BitVec.toNat_mul, BitVec.toNat_ofNat]
  omega

variable {p : IVec S512x1 32} (hp : ∀ r : Fin 512, p (ix2 r 0) = BitVec.ofNat 32 (tok i r))

include hp

theorem cnt_at (h : ℕ) (hh : h ≤ 8) (r : Fin 512) :
    FloatOps.sitofp (F := Ideal) FTy.f32 (IntOp.subi (IntOp.minsi (IntOp.addi (p (ix2 r 0)) (BitVec.ofNat 32 h)) 2048#32)
      (IntOp.maxsi (IntOp.subi (p (ix2 r 0)) (BitVec.ofNat 32 h)) 0#32)) = Layer.cnt h (tok i r) := by
  rw [hp r]
  refine (congrArg (fun z : ℤ => ((z : ℝ) : EReal)) (cnt_word _ h (tok i r).isLt hh)).trans ?_
  simp only [Layer.cnt, Int.cast_natCast]

theorem pay57_eq (r : Fin 512) : k2_pay57 (F := Ideal) p (ix2 r 0) = Ideal.div 1 (Layer.cnt 2 (tok i r)) := by
  pointwise [k2_pay57]
  exact congrArg (Ideal.div 1) (cnt_at i hp 2 (by decide) r)

theorem pay61_eq (r : Fin 512) : k2_pay61 (F := Ideal) p (ix2 r 0) = Ideal.div 1 (Layer.cnt 4 (tok i r)) := by
  pointwise [k2_pay61]
  exact congrArg (Ideal.div 1) (cnt_at i hp 4 (by decide) r)

theorem pay68_eq (r : Fin 512) : k2_pay68 (F := Ideal) p (k2_pay66 p) k2_pay67 (ix2 r 0) = Ideal.div 1 (Layer.cnt 8 (tok i r)) := by
  pointwise [k2_pay68, k2_pay66, k2_pay67]
  exact congrArg (Ideal.div 1) (cnt_at i hp 8 (by decide) r)

/-- The first group's windows. -/
theorem pay53_eq {a b c d e f : Vec Ideal S1x512x128 .f32}
    (ha : ∀ r l, a (ix3 0 r l) = padc L (512 * i + (7 + r.val)) (128 * 0 + l.val))
    (hb : ∀ r l, b (ix3 0 r l) = padc L (512 * i + (8 + r.val)) (128 * 0 + l.val))
    (hc : ∀ r l, c (ix3 0 r l) = padc L (512 * i + (8 + r.val)) (128 * 0 + l.val))
    (hd : ∀ r l, d (ix3 0 r l) = padc L (512 * i + (7 + r.val)) (128 * 1 + l.val))
    (he : ∀ r l, e (ix3 0 r l) = padc L (512 * i + (8 + r.val)) (128 * 1 + l.val))
    (hf : ∀ r l, f (ix3 0 r l) = padc L (512 * i + (8 + r.val)) (128 * 1 + l.val))
    (r : Fin 512) (k : Fin 256) :
    k2_pay53 p k2_pay52 a b c d e f (ix2 r k) = L.poolSum (tok i r) ⟨k, by omega⟩ := by
  pointwise [k2_pay53, k2_pay52]
  have hn := cnt_at i hp 1 (by decide) r
  simp only [ha, hb, hc, hd, he, hf, hn]
  split
  · refine .trans ?_ (win_eq L i 1 0 r ⟨k, by omega⟩ ⟨k, by omega⟩ (by simp) (by simp; rw [Nat.div_eq_of_lt k.isLt]; rfl))
    simp only [part, Finset.sum_range_succ, Finset.sum_range_zero, zero_add, Nat.add_zero, Nat.reduceAdd, Nat.reduceSub, Nat.reduceMul]
  · refine .trans ?_ (win_eq L i 1 1 r ⟨k - 128, by omega⟩ ⟨k, by omega⟩ (by simp; omega) (by simp; rw [Nat.div_eq_of_lt k.isLt]; rfl))
    simp only [part, Finset.sum_range_succ, Finset.sum_range_zero, zero_add, Nat.add_zero, Nat.reduceAdd, Nat.reduceSub, Nat.reduceMul]

/-- The second group's first half. -/
theorem pay58_eq {a b c d e : Vec Ideal S1x512x128 .f32}
    (ha : ∀ r l, a (ix3 0 r l) = padc L (512 * i + (6 + r.val)) (128 * 2 + l.val))
    (hb : ∀ r l, b (ix3 0 r l) = padc L (512 * i + (7 + r.val)) (128 * 2 + l.val))
    (hc : ∀ r l, c (ix3 0 r l) = padc L (512 * i + (8 + r.val)) (128 * 2 + l.val))
    (hd : ∀ r l, d (ix3 0 r l) = padc L (512 * i + (9 + r.val)) (128 * 2 + l.val))
    (he : ∀ r l, e (ix3 0 r l) = padc L (512 * i + (8 + r.val)) (128 * 2 + l.val))
    (r : Fin 512) (l : Fin 128) : k2_pay58 p a b c d e (ix2 r l) = L.poolSum (tok i r) ⟨256 * 1 + (l), by omega⟩ := by
  pointwise [k2_pay58, k2_pay57]
  have hn := cnt_at i hp 2 (by decide) r
  simp only [ha, hb, hc, hd, he, hn]
  refine .trans ?_ (win_eq L i 2 2 r l ⟨256 * 1 + (l), by omega⟩ (by simp; try omega) (by rw [show (256 * 1 + (l.val)) / 256 = 1 by omega]; rfl))
  simp only [part, Finset.sum_range_succ, Finset.sum_range_zero, zero_add, Nat.add_zero, Nat.reduceAdd, Nat.reduceSub, Nat.reduceMul]

end

section

variable (L : Layer 2048) (i : Fin 4)

theorem pay56_eq {a : FVec Ideal S512x256 .bf16} {w : Vec Ideal S128x2x256 .bf16}
    (ha : ∀ (r : Fin 512) (k : Fin 256), a (ix2 r k) = L.poolSum (tok i r) ⟨k, by omega⟩)
    (hw : Pairs (fun k p c => w (ix3 k p c)) (L.wp 0) 0) (r : Fin 512) (c : Fin 256) :
    k2_pay56 a (k2_pay54 w) (k2_pay55 w) (ix2 r c) = grp L 0 (tok i r) c := by
  pointwise [k2_pay56, k2_pay54, k2_pay55]
  refine (hw.sum (fun x => by omega) c (by omega) _ _ (ha r)).trans ?_
  refine Finset.sum_congr rfl fun k _ => ?_
  congr 2 <;> exact Fin.ext (by simp)

theorem pay59_eq {v0 : Vec Ideal S1x512x128 .f32}
    (hv0 : ∀ r l, v0 (ix3 0 r l) = padc L (512 * i + (6 + r.val)) (128 * 3 + l.val))
    (r : Fin 512) (l : Fin 128) : k2_pay59 v0 (ix2 r l) = part L i 3 6 1 r l := by
  pointwise [k2_pay59]
  simp only [hv0, part, Finset.sum_range_succ, Finset.sum_range_zero, zero_add, Nat.add_zero, Nat.reduceAdd, Nat.reduceSub, Nat.reduceMul]

/-- The second group's product. -/
theorem pay60_eq {n : FVec Ideal S512x1 .f32} {a m : FVec Ideal S512x128 .f32} {v0 v1 v2 v3 : Vec Ideal S1x512x128 .f32} {w : Vec Ideal S128x2x256 .bf16}
    (hn : ∀ r, n (ix2 r 0) = Ideal.div 1 (Layer.cnt 2 (tok i r)))
    (ha : ∀ r (l : Fin 128), a (ix2 r l) = L.poolSum (tok i r) ⟨256 * 1 + (l), by omega⟩)
    (hm : ∀ r l, m (ix2 r l) = part L i 3 6 1 r l)
    (hv0 : ∀ r l, v0 (ix3 0 r l) = padc L (512 * i + (7 + r.val)) (128 * 3 + l.val))
    (hv1 : ∀ r l, v1 (ix3 0 r l) = padc L (512 * i + (8 + r.val)) (128 * 3 + l.val))
    (hv2 : ∀ r l, v2 (ix3 0 r l) = padc L (512 * i + (9 + r.val)) (128 * 3 + l.val))
    (hv3 : ∀ r l, v3 (ix3 0 r l) = padc L (512 * i + (8 + r.val)) (128 * 3 + l.val))
    (hw : Pairs (fun k p c => w (ix3 k p c)) (L.wp 1) 0)
    (r : Fin 512) (c : Fin 256) : k2_pay60 n a m v0 v1 v2 v3 w (ix2 r c) = grp L 1 (tok i r) c := by
  pointwise [k2_pay60]
  simp only [hn, hm, hv0, hv1, hv2, hv3]
  refine (hw.sum_two c (by omega) _ _ (fun k => L.poolSum (tok i r) ⟨256 * 1 + k, by omega⟩) (ha r) fun l => ?_).trans ?_
  · refine .trans ?_ (win_eq L i 2 3 r l ⟨256 * 1 + (128 + l), by omega⟩ (by simp; try omega) (by rw [show (256 * 1 + (128 + l.val)) / 256 = 1 by omega]; rfl))
    simp only [part, Finset.sum_range_succ, Finset.sum_range_zero, zero_add, Nat.add_zero, Nat.reduceAdd, Nat.reduceSub, Nat.reduceMul]
  · refine Finset.sum_congr rfl fun k _ => ?_
    congr 2; exact Fin.ext (by simp)

theorem pay62_eq {v0 : Vec Ideal S1x512x128 .f32}
    (hv0 : ∀ r l, v0 (ix3 0 r l) = padc L (512 * i + (4 + r.val)) (128 * 4 + l.val))
    (r : Fin 512) (l : Fin 128) : k2_pay62 v0 (ix2 r l) = part L i 4 4 1 r l := by
  pointwise [k2_pay62]
  simp only [hv0, part, Finset.sum_range_succ, Finset.sum_range_zero, zero_add, Nat.add_zero, Nat.reduceAdd, Nat.reduceSub, Nat.reduceMul]

/-- The third group's first half. -/
theorem pay63_eq {n : FVec Ideal S512x1 .f32} {m : FVec Ideal S512x128 .f32} {v0 v1 v2 v3 v4 v5 v6 v7 : Vec Ideal S1x512x128 .f32}
    (hn : ∀ r, n (ix2 r 0) = Ideal.div 1 (Layer.cnt 4 (tok i r)))
    (hm : ∀ r l, m (ix2 r l) = part L i 4 4 1 r l)
    (hv0 : ∀ r l, v0 (ix3 0 r l) = padc L (512 * i + (5 + r.val)) (128 * 4 + l.val))
    (hv1 : ∀ r l, v1 (ix3 0 r l) = padc L (512 * i + (6 + r.val)) (128 * 4 + l.val))
    (hv2 : ∀ r l, v2 (ix3 0 r l) = padc L (512 * i + (7 + r.val)) (128 * 4 + l.val))
    (hv3 : ∀ r l, v3 (ix3 0 r l) = padc L (512 * i + (8 + r.val)) (128 * 4 + l.val))
    (hv4 : ∀ r l, v4 (ix3 0 r l) = padc L (512 * i + (9 + r.val)) (128 * 4 + l.val))
    (hv5 : ∀ r l, v5 (ix3 0 r l) = padc L (512 * i + (10 + r.val)) (128 * 4 + l.val))
    (hv6 : ∀ r l, v6 (ix3 0 r l) = padc L (512 * i + (11 + r.val)) (128 * 4 + l.val))
    (hv7 : ∀ r l, v7 (ix3 0 r l) = padc L (512 * i + (8 + r.val)) (128 * 4 + l.val))
    (r : Fin 512) (l : Fin 128) : k2_pay63 n m v0 v1 v2 v3 v4 v5 v6 v7 (ix2 r l) = L.poolSum (tok i r) ⟨256 * 2 + (l), by omega⟩ := by
  pointwise [k2_pay63]
  simp only [hn, hm, hv0, hv1, hv2, hv3, hv4, hv5, hv6, hv7]
  refine .trans ?_ (win_eq L i 4 4 r l ⟨256 * 2 + (l), by omega⟩ (by simp; try omega) (by rw [show (256 * 2 + (l.val)) / 256 = 2 by omega]; rfl))
  simp only [part, Finset.sum_range_succ, Finset.sum_range_zero, zero_add, Nat.add_zero, Nat.reduceAdd, Nat.reduceSub, Nat.reduceMul]

theorem pay64_eq {v0 v1 : Vec Ideal S1x512x128 .f32}
    (hv0 : ∀ r l, v0 (ix3 0 r l) = padc L (512 * i + (4 + r.val)) (128 * 5 + l.val))
    (hv1 : ∀ r l, v1 (ix3 0 r l) = padc L (512 * i + (5 + r.val)) (128 * 5 + l.val))
    (r : Fin 512) (l : Fin 128) : k2_pay64 v0 v1 (ix2 r l) = part L i 5 4 2 r l := by
  pointwise [k2_pay64]
  simp only [hv0, hv1, part, Finset.sum_range_succ, Finset.sum_range_zero, zero_add, Nat.add_zero, Nat.reduceAdd, Nat.reduceSub, Nat.reduceMul]

/-- The third group's product. -/
theorem pay65_eq {n : FVec Ideal S512x1 .f32} {a m : FVec Ideal S512x128 .f32} {v0 v1 v2 v3 v4 v5 v6 : Vec Ideal S1x512x128 .f32} {w : Vec Ideal S128x2x256 .bf16}
    (hn : ∀ r, n (ix2 r 0) = Ideal.div 1 (Layer.cnt 4 (tok i r)))
    (ha : ∀ r (l : Fin 128), a (ix2 r l) = L.poolSum (tok i r) ⟨256 * 2 + (l), by omega⟩)
    (hm : ∀ r l, m (ix2 r l) = part L i 5 4 2 r l)
    (hv0 : ∀ r l, v0 (ix3 0 r l) = padc L (512 * i + (6 + r.val)) (128 * 5 + l.val))
    (hv1 : ∀ r l, v1 (ix3 0 r l) = padc L (512 * i + (7 + r.val)) (128 * 5 + l.val))
    (hv2 : ∀ r l, v2 (ix3 0 r l) = padc L (512 * i + (8 + r.val)) (128 * 5 + l.val))
    (hv3 : ∀ r l, v3 (ix3 0 r l) = padc L (512 * i + (9 + r.val)) (128 * 5 + l.val))
    (hv4 : ∀ r l, v4 (ix3 0 r l) = padc L (512 * i + (10 + r.val)) (128 * 5 + l.val))
    (hv5 : ∀ r l, v5 (ix3 0 r l) = padc L (512 * i + (11 + r.val)) (128 * 5 + l.val))
    (hv6 : ∀ r l, v6 (ix3 0 r l) = padc L (512 * i + (8 + r.val)) (128 * 5 + l.val))
    (hw : Pairs (fun k p c => w (ix3 k p c)) (L.wp 2) 0)
    (r : Fin 512) (c : Fin 256) : k2_pay65 n a m v0 v1 v2 v3 v4 v5 v6 w (ix2 r c) = grp L 2 (tok i r) c := by
  pointwise [k2_pay65]
  simp only [hn, hm, hv0, hv1, hv2, hv3, hv4, hv5, hv6]
  refine (hw.sum_two c (by omega) _ _ (fun k => L.poolSum (tok i r) ⟨256 * 2 + k, by omega⟩) (ha r) fun l => ?_).trans ?_
  · refine .trans ?_ (win_eq L i 4 5 r l ⟨256 * 2 + (128 + l), by omega⟩ (by simp; try omega) (by rw [show (256 * 2 + (128 + l.val)) / 256 = 2 by omega]; rfl))
    simp only [part, Finset.sum_range_succ, Finset.sum_range_zero, zero_add, Nat.add_zero, Nat.reduceAdd, Nat.reduceSub, Nat.reduceMul]
  · refine Finset.sum_congr rfl fun k _ => ?_
    congr 2; exact Fin.ext (by simp)

theorem pay69_eq {v0 v1 v2 v3 v4 v5 v6 v7 : Vec Ideal S1x512x128 .f32}
    (hv0 : ∀ r l, v0 (ix3 0 r l) = padc L (512 * i + (0 + r.val)) (128 * 6 + l.val))
    (hv1 : ∀ r l, v1 (ix3 0 r l) = padc L (512 * i + (1 + r.val)) (128 * 6 + l.val))
    (hv2 : ∀ r l, v2 (ix3 0 r l) = padc L (512 * i + (2 + r.val)) (128 * 6 + l.val))
    (hv3 : ∀ r l, v3 (ix3 0 r l) = padc L (512 * i + (3 + r.val)) (128 * 6 + l.val))
    (hv4 : ∀ r l, v4 (ix3 0 r l) = padc L (512 * i + (4 + r.val)) (128 * 6 + l.val))
    (hv5 : ∀ r l, v5 (ix3 0 r l) = padc L (512 * i + (5 + r.val)) (128 * 6 + l.val))
    (hv6 : ∀ r l, v6 (ix3 0 r l) = padc L (512 * i + (6 + r.val)) (128 * 6 + l.val))
    (hv7 : ∀ r l, v7 (ix3 0 r l) = padc L (512 * i + (7 + r.val)) (128 * 6 + l.val))
    (r : Fin 512) (l : Fin 128) : k2_pay69 v0 v1 v2 v3 v4 v5 v6 v7 (ix2 r l) = part L i 6 0 8 r l := by
  pointwise [k2_pay69]
  simp only [hv0, hv1, hv2, hv3, hv4, hv5, hv6, hv7, part, Finset.sum_range_succ, Finset.sum_range_zero, zero_add, Nat.add_zero, Nat.reduceAdd, Nat.reduceSub, Nat.reduceMul]

/-- The fourth group's first half. -/
theorem pay70_eq {n : FVec Ideal S512x1 .f32} {m : FVec Ideal S512x128 .f32} {v0 v1 v2 v3 v4 v5 v6 v7 v8 : Vec Ideal S1x512x128 .f32}
    (hn : ∀ r, n (ix2 r 0) = Ideal.div 1 (Layer.cnt 8 (tok i r)))
    (hm : ∀ r l, m (ix2 r l) = part L i 6 0 8 r l)
    (hv0 : ∀ r l, v0 (ix3 0 r l) = padc L (512 * i + (8 + r.val)) (128 * 6 + l.val))
    (hv1 : ∀ r l, v1 (ix3 0 r l) = padc L (512 * i + (9 + r.val)) (128 * 6 + l.val))
    (hv2 : ∀ r l, v2 (ix3 0 r l) = padc L (512 * i + (10 + r.val)) (128 * 6 + l.val))
    (hv3 : ∀ r l, v3 (ix3 0 r l) = padc L (512 * i + (11 + r.val)) (128 * 6 + l.val))
    (hv4 : ∀ r l, v4 (ix3 0 r l) = padc L (512 * i + (12 + r.val)) (128 * 6 + l.val))
    (hv5 : ∀ r l, v5 (ix3 0 r l) = padc L (512 * i + (13 + r.val)) (128 * 6 + l.val))
    (hv6 : ∀ r l, v6 (ix3 0 r l) = padc L (512 * i + (14 + r.val)) (128 * 6 + l.val))
    (hv7 : ∀ r l, v7 (ix3 0 r l) = padc L (512 * i + (15 + r.val)) (128 * 6 + l.val))
    (hv8 : ∀ r l, v8 (ix3 0 r l) = padc L (512 * i + (8 + r.val)) (128 * 6 + l.val))
    (r : Fin 512) (l : Fin 128) : k2_pay70 n m v0 v1 v2 v3 v4 v5 v6 v7 v8 (ix2 r l) = L.poolSum (tok i r) ⟨256 * 3 + (l), by omega⟩ := by
  pointwise [k2_pay70]
  simp only [hn, hm, hv0, hv1, hv2, hv3, hv4, hv5, hv6, hv7, hv8]
  refine .trans ?_ (win_eq L i 8 6 r l ⟨256 * 3 + (l), by omega⟩ (by simp; try omega) (by rw [show (256 * 3 + (l.val)) / 256 = 3 by omega]; rfl))
  simp only [part, Finset.sum_range_succ, Finset.sum_range_zero, zero_add, Nat.add_zero, Nat.reduceAdd, Nat.reduceSub, Nat.reduceMul]

theorem pay71_eq {v0 : Vec Ideal S1x512x128 .f32}
    (hv0 : ∀ r l, v0 (ix3 0 r l) = padc L (512 * i + (0 + r.val)) (128 * 7 + l.val))
    (r : Fin 512) (l : Fin 128) : k2_pay71 v0 (ix2 r l) = part L i 7 0 1 r l := by
  pointwise [k2_pay71]
  simp only [hv0, part, Finset.sum_range_succ, Finset.sum_range_zero, zero_add, Nat.add_zero, Nat.reduceAdd, Nat.reduceSub, Nat.reduceMul]

theorem pay72_eq {m : FVec Ideal S512x128 .f32} {v0 v1 v2 v3 v4 v5 v6 v7 v8 v9 : Vec Ideal S1x512x128 .f32}
    (hm : ∀ r l, m (ix2 r l) = part L i 7 0 1 r l)
    (hv0 : ∀ r l, v0 (ix3 0 r l) = padc L (512 * i + (1 + r.val)) (128 * 7 + l.val))
    (hv1 : ∀ r l, v1 (ix3 0 r l) = padc L (512 * i + (2 + r.val)) (128 * 7 + l.val))
    (hv2 : ∀ r l, v2 (ix3 0 r l) = padc L (512 * i + (3 + r.val)) (128 * 7 + l.val))
    (hv3 : ∀ r l, v3 (ix3 0 r l) = padc L (512 * i + (4 + r.val)) (128 * 7 + l.val))
    (hv4 : ∀ r l, v4 (ix3 0 r l) = padc L (512 * i + (5 + r.val)) (128 * 7 + l.val))
    (hv5 : ∀ r l, v5 (ix3 0 r l) = padc L (512 * i + (6 + r.val)) (128 * 7 + l.val))
    (hv6 : ∀ r l, v6 (ix3 0 r l) = padc L (512 * i + (7 + r.val)) (128 * 7 + l.val))
    (hv7 : ∀ r l, v7 (ix3 0 r l) = padc L (512 * i + (8 + r.val)) (128 * 7 + l.val))
    (hv8 : ∀ r l, v8 (ix3 0 r l) = padc L (512 * i + (9 + r.val)) (128 * 7 + l.val))
    (hv9 : ∀ r l, v9 (ix3 0 r l) = padc L (512 * i + (10 + r.val)) (128 * 7 + l.val))
    (r : Fin 512) (l : Fin 128) : k2_pay72 m v0 v1 v2 v3 v4 v5 v6 v7 v8 v9 (ix2 r l) = part L i 7 0 11 r l := by
  pointwise [k2_pay72]
  simp only [hm, hv0, hv1, hv2, hv3, hv4, hv5, hv6, hv7, hv8, hv9, part, Finset.sum_range_succ, Finset.sum_range_zero, zero_add, Nat.add_zero, Nat.reduceAdd, Nat.reduceSub, Nat.reduceMul]

/-- The pool branch before its output weights. -/
theorem pay73_eq {z : FVec Ideal S512x1024 .f32} {g0 g1 g2 : FVec Ideal S512x256 .f32} {n : FVec Ideal S512x1 .f32} {a m : FVec Ideal S512x128 .f32}
    {v0 v1 v2 v3 v4 v5 : Vec Ideal S1x512x128 .f32} {w : Vec Ideal S128x2x256 .bf16} {s : Vec Ideal S1x1024 .f32}
    (hz : ∀ r (c : Fin 1024), z (ix2 r c) = L.proj (tok i r) ⟨1024 + c, by omega⟩ * sigTanh (L.proj (tok i r) ⟨1024 + c, by omega⟩))
    (hg0 : ∀ r c, g0 (ix2 r c) = grp L 0 (tok i r) c)
    (hg1 : ∀ r c, g1 (ix2 r c) = grp L 1 (tok i r) c)
    (hg2 : ∀ r c, g2 (ix2 r c) = grp L 2 (tok i r) c)
    (hn : ∀ r, n (ix2 r 0) = Ideal.div 1 (Layer.cnt 8 (tok i r)))
    (ha : ∀ r (l : Fin 128), a (ix2 r l) = L.poolSum (tok i r) ⟨256 * 3 + (l), by omega⟩)
    (hm : ∀ r l, m (ix2 r l) = part L i 7 0 11 r l)
    (hv0 : ∀ r l, v0 (ix3 0 r l) = padc L (512 * i + (11 + r.val)) (128 * 7 + l.val))
    (hv1 : ∀ r l, v1 (ix3 0 r l) = padc L (512 * i + (12 + r.val)) (128 * 7 + l.val))
    (hv2 : ∀ r l, v2 (ix3 0 r l) = padc L (512 * i + (13 + r.val)) (128 * 7 + l.val))
    (hv3 : ∀ r l, v3 (ix3 0 r l) = padc L (512 * i + (14 + r.val)) (128 * 7 + l.val))
    (hv4 : ∀ r l, v4 (ix3 0 r l) = padc L (512 * i + (15 + r.val)) (128 * 7 + l.val))
    (hv5 : ∀ r l, v5 (ix3 0 r l) = padc L (512 * i + (8 + r.val)) (128 * 7 + l.val))
    (hw : Pairs (fun k p c => w (ix3 k p c)) (L.wp 3) 0)
    (hs : ∀ c, s (ix2 0 c) = L.sc c)
    (r : Fin 512) (c : Fin 1024) : k2_pay73 z g0 g1 g2 n a m v0 v1 v2 v3 v4 v5 w s (ix2 r c) = L.yin sigTanh L.poolSum (tok i r) c := by
  pointwise [k2_pay73]
  simp only [hn, hm, hv0, hv1, hv2, hv3, hv4, hv5, hz, hs, hg0, hg1, hg2]
  unfold Layer.yin
  congr 2
  split
  · exact grp_eq L 0 _ _ c (by simp)
  split
  · exact grp_eq L 1 _ _ c (by simp; omega)
  split
  · exact grp_eq L 2 _ _ c (by simp; omega)
  refine .trans ?_ (grp_eq L 3 (tok i r) ⟨c - 256 - 256 - 256, by omega⟩ c (by simp; omega))
  refine (hw.sum_two ⟨c - 256 - 256 - 256, by omega⟩ (by simp; omega) _ _ (fun k => L.poolSum (tok i r) ⟨256 * 3 + k, by omega⟩) (ha r) fun l => ?_).trans ?_
  · refine .trans ?_ (win_eq L i 8 7 r l ⟨256 * 3 + (128 + l), by omega⟩ (by simp; try omega) (by rw [show (256 * 3 + (128 + l.val)) / 256 = 3 by omega]; rfl))
    simp only [part, Finset.sum_range_succ, Finset.sum_range_zero, zero_add, Nat.add_zero, Nat.reduceAdd, Nat.reduceSub, Nat.reduceMul]
  · refine Finset.sum_congr rfl fun k _ => ?_
    congr 2; exact Fin.ext (by simp)

end

end Cert.Enc.Prompt
-- ==== Proof.PromptBlock.lean ====
/- For the prompt: what the body of `encoder_main` leaves in the output's staging buffer: each of its stages is a payload of the loads and of the stages
   before it, so the lemmas of `Rows`, `Slab`, `Attend` and `Pool` compose to the layer's output at the block's tokens. -/
module

public import proofs.«01_k».proof.Proof.Block
public import proofs.«01_k».proof.Proof.Gen.PromptIdeal.Frame
public import proofs.«01_k».proof.Proof.PromptAttend
public import proofs.«01_k».proof.Proof.PromptPool

@[expose] public section

set_option maxRecDepth 16384

noncomputable section

namespace Cert.Enc.Prompt

open Idealize.ShloMosaic Idealize.SL.Sem Cert.PromptIdeal Cert.PromptIdeal.Gen

/-- A load of a whole buffer's contents. -/
theorem load_at {S : Shape} {e : EltTy} {m : Memref sig .tc .vmem S e} (h : m.IsWhole) (x : Vec Ideal S e) (B : Rect S) :
    View.readAt (Elt Ideal) m.view B.toLoadRect (h.unread x) = View.ld x B := by
  rw [View.readAt_eq_ld, Memref.IsWhole.read_unread]

/-- The scratch's contents at a load of 512 rows of one slab. -/
theorem slabAt_unit (L : Layer 2048) (i : Fin 4) (s o : ℕ) (inb) (r : Fin 512) (l : Fin 128) :
    slabAt L i ((Rect.unit (s := S8x528x128) ![s, o, 0] S1x512x128.size inb).toLoadRect.idx (ix3 0 r l))
      = padc L (512 * i + (o + r.val)) (128 * s + l.val) := by
  unfold slabAt
  congr 1 <;> simp

/-- The staged blocks at block `i`, as functions of the layer's arguments. -/
structure Staged (L : Layer 2048) (i : Fin 4) (x0 : Vec Ideal S1x512x1024 .f32) (x1 x2 : Vec Ideal S1x8x1024 .f32) (x3 : Vec Ideal S1x512x512 .bf16)
    (x4 : Vec Ideal S1x256x1024 .bf16) (x5 : Vec Ideal S1x1024 .f32) (x6 : Vec Ideal S512x2x7168 .bf16) (x7 : Vec Ideal S512x2x256 .bf16)
    (x8 : Vec Ideal S1x1024 .f32) (x9 : Vec Ideal S512x2x1024 .bf16) (x10 x11 : Vec Ideal S256x2x1024 .bf16) (x12 : Vec Ideal S1x3072 .f32)
    (x13 : Vec Ideal S512x2x1024 .bf16) (x14 : Vec Ideal S1x1024 .f32) : Prop where
  x : ∀ r c, x0 (ix3 0 r c) = L.x (tok i r) c
  prev : 0 < i.val → ∀ (r : Fin 8) c, x1 (ix3 0 r c) = L.x ⟨512 * i + r - 8, by omega⟩ c
  next : ∀ hi : i.val < 3, ∀ (r : Fin 8) c, x2 (ix3 0 r c) = L.x ⟨512 * i + 512 + r, by omega⟩ c
  f : ∀ r c, x3 (ix3 0 r c) = L.f (tok i r) c
  kv : ∀ m j, x4 (ix3 0 m j) = L.kv m j
  gi : ∀ c, x5 (ix2 0 c) = L.gi c
  w : Pairs (fun k p c => x6 (ix3 k p c)) L.w 0
  wp : ∀ (g : Fin 4) (k : Fin 128) (p : Fin 2) (c : Fin 256), x7 (ix3 ⟨128 * g + k, by omega⟩ p c) = L.wp g ⟨2 * k + p, by omega⟩ c
  sc : ∀ c, x8 (ix2 0 c) = L.sc c
  wpo : Pairs (fun k p c => x9 (ix3 k p c)) L.wpo 0
  wfo : Pairs (fun k p c => x10 (ix3 k p c)) L.wfo 0
  wao : Pairs (fun k p c => x11 (ix3 k p c)) L.wao 0
  bg : ∀ c, x12 (ix2 0 c) = L.bg c
  wo : Pairs (fun k p c => x13 (ix3 k p c)) L.wo 0
  gf : ∀ c, x14 (ix2 0 c) = L.gf c

section

variable {L : Layer 2048} {i : Fin 4} (c : Dev nD) (g : grid2.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x512x512 .bf16) (harg5 : arg5.IsWhole)
  (arg6 : Memref sig .tc .vmem S1x256x1024 .bf16) (harg6 : arg6.IsWhole)
  (arg7 : Memref sig .tc .vmem S1x1024 .f32) (harg7 : arg7.IsWhole)
  (arg8 : Memref sig .tc .vmem S512x2x7168 .bf16) (harg8 : arg8.IsWhole)
  (arg9 : Memref sig .tc .vmem S512x2x256 .bf16) (harg9 : arg9.IsWhole)
  (arg10 : Memref sig .tc .vmem S1x1024 .f32) (harg10 : arg10.IsWhole)
  (arg11 : Memref sig .tc .vmem S512x2x1024 .bf16) (harg11 : arg11.IsWhole)
  (arg12 : Memref sig .tc .vmem S256x2x1024 .bf16) (harg12 : arg12.IsWhole)
  (arg13 : Memref sig .tc .vmem S256x2x1024 .bf16) (harg13 : arg13.IsWhole)
  (arg14 : Memref sig .tc .vmem S1x3072 .f32) (harg14 : arg14.IsWhole)
  (arg15 : Memref sig .tc .vmem S512x2x1024 .bf16) (harg15 : arg15.IsWhole)
  (arg16 : Memref sig .tc .vmem S1x1024 .f32) (harg16 : arg16.IsWhole)
  (arg18 : Memref sig .tc .vmem S8x528x128 .f32)
  {x0 : Vec Ideal S1x512x1024 .f32}  {x1 : Vec Ideal S1x8x1024 .f32}  {x2 : Vec Ideal S1x8x1024 .f32}  {x3 : Vec Ideal S1x512x512 .bf16}
  {x4 : Vec Ideal S1x256x1024 .bf16}  {x5 : Vec Ideal S1x1024 .f32}  {x6 : Vec Ideal S512x2x7168 .bf16}  {x7 : Vec Ideal S512x2x256 .bf16}
  {x8 : Vec Ideal S1x1024 .f32}  {x9 : Vec Ideal S512x2x1024 .bf16}  {x10 : Vec Ideal S256x2x1024 .bf16}  {x11 : Vec Ideal S256x2x1024 .bf16}
  {x12 : Vec Ideal S1x3072 .f32}  {x13 : Vec Ideal S512x2x1024 .bf16}  {x14 : Vec Ideal S1x1024 .f32}
  (S : Staged L i x0 x1 x2 x3 x4 x5 x6 x7 x8 x9 x10 x11 x12 x13 x14)

include S in
theorem stage_r (r : Fin 512) (d : Fin 1024) :
    kernelRun2_A.sl.r c arg2 harg2 x0 (ix2 r d) = L.x (tok i r) d := by
  unfold kernelRun2_A.sl.r
  exact pay2_eq L (tok i) (fun r c => by rw [load_at]; pointwise; exact S.x _ _) r d

include S in
/-- The normalised rows. -/
theorem stage_r_1 (r : Fin 512) (d : Fin 1024) :
    kernelRun2_A.sl.r_1 c arg2 harg2 arg7 harg7 x0 x5 (ix2 r d) = L.xn (tok i r) d := by
  unfold kernelRun2_A.sl.r_1
  exact pay3_eq L (tok i) (fun c => by rw [load_at]; pointwise; exact S.gi _) (fun r c => by rw [load_at]; pointwise; exact S.x _ _) r d

include S in
/-- The queries. -/
theorem stage_r_10 (r d : Fin 512) :
    kernelRun2_A.sl.r_10 c arg2 harg2 arg7 harg7 arg8 harg8 x0 x5 x6 (ix2 r d) = L.proj (tok i r) ⟨3072 + d, by omega⟩ := by
  unfold kernelRun2_A.sl.r_10
  exact pay36_eq L (tok i) (stage_r_1 c arg2 harg2 arg7 harg7 S) (S.w.cols 3072 _ (fun c => by omega) fun k p c => by rw [load_at]; pointwise) r d

include S in
theorem stage_r_11 (r : Fin 512) :
    kernelRun2_A.sl.r_11 c arg2 harg2 arg6 harg6 arg7 harg7 arg8 harg8 x0 x4 x5 x6 (ix2 r 0) = ∑ m, L.ex (tok i r) 0 m := by
  unfold kernelRun2_A.sl.r_11
  exact pay38_eq L (tok i) (stage_r_1 c arg2 harg2 arg7 harg7 S) (S.w.cols 3072 _ (fun c => by omega) fun k p c => by rw [load_at]; pointwise) (fun m d _ => by rw [load_at]; pointwise; exact (S.kv _ _).trans (by congr 1 <;> exact Fin.ext (by simp))) r

include S in
theorem stage_r_12 (r : Fin 512) (m : Fin 256) :
    kernelRun2_A.sl.r_12 c arg2 harg2 arg6 harg6 arg7 harg7 arg8 harg8 x0 x4 x5 x6 (ix2 r m) = L.ex (tok i r) 0 m := by
  unfold kernelRun2_A.sl.r_12
  exact pay39_eq L (tok i) (stage_r_1 c arg2 harg2 arg7 harg7 S) (S.w.cols 3072 _ (fun c => by omega) fun k p c => by rw [load_at]; pointwise) (fun m d _ => by rw [load_at]; pointwise; exact (S.kv _ _).trans (by congr 1 <;> exact Fin.ext (by simp))) r m

include S in
theorem stage_r_13 (r : Fin 512) :
    kernelRun2_A.sl.r_13 c arg2 harg2 arg6 harg6 arg7 harg7 arg8 harg8 x0 x4 x5 x6 (ix2 r 0) = ∑ m, L.ex (tok i r) 1 m := by
  unfold kernelRun2_A.sl.r_13
  exact pay41_eq L (tok i) (fun r d _ => stage_r_10 c arg2 harg2 arg7 harg7 arg8 harg8 S r d) (fun m d _ => by rw [load_at]; pointwise; exact (S.kv _ _).trans (by congr 1 <;> exact Fin.ext (by simp))) r

include S in
theorem stage_r_14 (r : Fin 512) (m : Fin 256) :
    kernelRun2_A.sl.r_14 c arg2 harg2 arg6 harg6 arg7 harg7 arg8 harg8 x0 x4 x5 x6 (ix2 r m) = L.ex (tok i r) 1 m := by
  unfold kernelRun2_A.sl.r_14
  exact pay42_eq L (tok i) (fun r d _ => stage_r_10 c arg2 harg2 arg7 harg7 arg8 harg8 S r d) (fun m d _ => by rw [load_at]; pointwise; exact (S.kv _ _).trans (by congr 1 <;> exact Fin.ext (by simp))) r m

include S in
theorem stage_r_15 (r : Fin 512) :
    kernelRun2_A.sl.r_15 c arg2 harg2 arg6 harg6 arg7 harg7 arg8 harg8 x0 x4 x5 x6 (ix2 r 0) = ∑ m, L.ex (tok i r) 2 m := by
  unfold kernelRun2_A.sl.r_15
  exact pay44_eq L (tok i) (fun r d _ => stage_r_10 c arg2 harg2 arg7 harg7 arg8 harg8 S r d) (fun m d _ => by rw [load_at]; pointwise; exact (S.kv _ _).trans (by congr 1 <;> exact Fin.ext (by simp))) r

include S in
theorem stage_r_16 (r : Fin 512) (m : Fin 256) :
    kernelRun2_A.sl.r_16 c arg2 harg2 arg6 harg6 arg7 harg7 arg8 harg8 x0 x4 x5 x6 (ix2 r m) = L.ex (tok i r) 2 m := by
  unfold kernelRun2_A.sl.r_16
  exact pay45_eq L (tok i) (fun r d _ => stage_r_10 c arg2 harg2 arg7 harg7 arg8 harg8 S r d) (fun m d _ => by rw [load_at]; pointwise; exact (S.kv _ _).trans (by congr 1 <;> exact Fin.ext (by simp))) r m

include S in
theorem stage_r_17 (r : Fin 512) (m : Fin 256) :
    kernelRun2_A.sl.r_17 c arg2 harg2 arg6 harg6 arg7 harg7 arg8 harg8 x0 x4 x5 x6 (ix2 r m) = L.ex (tok i r) 3 m := by
  unfold kernelRun2_A.sl.r_17
  exact pay46_eq L (tok i) (fun r d _ => stage_r_10 c arg2 harg2 arg7 harg7 arg8 harg8 S r d) (fun m d _ => by rw [load_at]; pointwise; exact (S.kv _ _).trans (by congr 1 <;> exact Fin.ext (by simp))) r m

include S in
theorem stage_r_18 (r : Fin 512) :
    kernelRun2_A.sl.r_18 c arg2 harg2 arg6 harg6 arg7 harg7 arg8 harg8 x0 x4 x5 x6 (ix2 r 0) = ∑ m, L.ex (tok i r) 3 m := by
  unfold kernelRun2_A.sl.r_18
  exact pay47_eq L (tok i) (stage_r_17 c arg2 harg2 arg6 harg6 arg7 harg7 arg8 harg8 S) r

include S in
theorem stage_r_19 (r : Fin 512) (m : Fin 256) :
    kernelRun2_A.sl.r_19 c arg2 harg2 arg6 harg6 arg7 harg7 arg8 harg8 x0 x4 x5 x6 (ix2 r m) = L.ex (tok i r) 3 m := by
  unfold kernelRun2_A.sl.r_19
  exact pay48_eq L (tok i) (stage_r_17 c arg2 harg2 arg6 harg6 arg7 harg7 arg8 harg8 S) r m

include S in
/-- The Fourier branch. -/
theorem stage_r_20 (r d : Fin 512) :
    kernelRun2_A.sl.r_20 c arg2 harg2 arg5 harg5 arg7 harg7 arg8 harg8 x0 x3 x5 x6 (ix2 r d) = L.fin sigTanh (tok i r) d := by
  unfold kernelRun2_A.sl.r_20
  exact pay49_eq L (tok i) (stage_r_1 c arg2 harg2 arg7 harg7 S) (fun r c => by rw [load_at]; pointwise; exact S.f _ _) (S.w.cols 2560 _ (fun c => by omega) fun k p c => by rw [load_at]; pointwise) r d

include S in
/-- The attention branch. -/
theorem stage_r_43 (r d : Fin 512) :
    kernelRun2_A.sl.r_43 c arg2 harg2 arg6 harg6 arg7 harg7 arg8 harg8 x0 x4 x5 x6 (ix2 r d) = L.ain sigTanh L.attLast (tok i r) d := by
  unfold kernelRun2_A.sl.r_43
  exact pay74_eq L (tok i) (stage_r_1 c arg2 harg2 arg7 harg7 S) (stage_r_11 c arg2 harg2 arg6 harg6 arg7 harg7 arg8 harg8 S) (stage_r_12 c arg2 harg2 arg6 harg6 arg7 harg7 arg8 harg8 S) (stage_r_13 c arg2 harg2 arg6 harg6 arg7 harg7 arg8 harg8 S)
    (stage_r_14 c arg2 harg2 arg6 harg6 arg7 harg7 arg8 harg8 S) (stage_r_15 c arg2 harg2 arg6 harg6 arg7 harg7 arg8 harg8 S) (stage_r_16 c arg2 harg2 arg6 harg6 arg7 harg7 arg8 harg8 S)
    (stage_r_18 c arg2 harg2 arg6 harg6 arg7 harg7 arg8 harg8 S) (stage_r_19 c arg2 harg2 arg6 harg6 arg7 harg7 arg8 harg8 S)
    (S.w.cols 3584 _ (fun c => by omega) fun k p c => by rw [load_at]; pointwise)
    (fun m d => by rw [load_at]; pointwise; exact S.kv _ _) (fun m d => by rw [load_at]; pointwise; exact S.kv _ _) (fun m d => by rw [load_at]; pointwise; exact S.kv _ _) (fun m d => by rw [load_at]; pointwise; exact S.kv _ _) r d

include S in
theorem stage_r_21 (r : Fin 512) (d : Fin 1024) :
    kernelRun2_A.sl.r_21 c arg2 harg2 arg7 harg7 arg8 harg8 x0 x5 x6 (ix2 r d) = L.proj (tok i r) ⟨1024 + d, by omega⟩ * sigTanh (L.proj (tok i r) ⟨1024 + d, by omega⟩) := by
  unfold kernelRun2_A.sl.r_21
  exact pay50_eq L (tok i) (stage_r_1 c arg2 harg2 arg7 harg7 S) (S.w.cols 1024 _ (fun c => by omega) fun k p c => by rw [load_at]; pointwise) r d

include S in
theorem stage_r_45 (r : Fin 512) (d : Fin 1024) :
    kernelRun2_A.sl.r_45 c arg2 harg2 arg7 harg7 arg8 harg8 arg14 harg14 x0 x5 x6 x12 (ix2 r d) = L.gate sigTanh 1024 (by omega) (tok i r) d := by
  unfold kernelRun2_A.sl.r_45
  exact pay76_eq L (tok i) (stage_r_1 c arg2 harg2 arg7 harg7 S) (S.w.cols 5120 _ (fun c => by omega) fun k p c => by rw [load_at]; pointwise) (fun c => by rw [load_at]; pointwise; exact S.bg _) r d

include S in
theorem stage_ext : Ext L i (k2_pay7 (kernelRun2_A.sl.r_2 c arg2 harg2 arg3 harg3 arg4 harg4 arg7 harg7 x0 x1 x2 x5) (kernelRun2_A.sl.r_3 c arg8 harg8 x6) (kernelRun2_A.sl.r_4 c arg8 harg8 x6)) := by
  unfold kernelRun2_A.sl.r_2 kernelRun2_A.sl.r_3 kernelRun2_A.sl.r_4
  exact ext_of_rows L i (fun c => by rw [load_at]; pointwise; exact S.gi _) (fun r c => by rw [load_at]; pointwise; exact S.x _ _)
    (fun hi r c => by rw [load_at]; pointwise; exact S.prev hi _ _) (fun hi r c => by rw [load_at]; pointwise; exact S.next hi _ _)
    (S.w.cols 0 _ (fun c => by omega) fun k p c => by rw [load_at]; pointwise)

theorem stage_slabs (hg : (g 1).val = i.val) : kernelRun2_A.sl.HS0_24 c g arg2 harg2 arg3 harg3 arg4 harg4 arg7 harg7 arg8 harg8 x0 x1 x2 x5 x6 = slabs (BitVec.ofNat 32 i) (kernelRun2_A.sl.r_2 c arg2 harg2 arg3 harg3 arg4 harg4 arg7 harg7 x0 x1 x2 x5) (kernelRun2_A.sl.r_3 c arg8 harg8 x6) (kernelRun2_A.sl.r_4 c arg8 harg8 x6) := by
  rw [← hg]; rfl

include S in
theorem stage_v249 (hg : (g 1).val = i.val) (r : Fin 512) (l : Fin 128) :
    kernelRun2_A.sl.v249 c g arg2 harg2 arg3 harg3 arg4 harg4 arg7 harg7 arg8 harg8 arg18 x0 x1 x2 x5 x6 (ix3 0 r l) = padc L (512 * i + (7 + r.val)) (128 * 0 + l.val) := by
  unfold kernelRun2_A.sl.v249
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 0 7 _ r l

include S in
theorem stage_v251 (hg : (g 1).val = i.val) (r : Fin 512) (l : Fin 128) :
    kernelRun2_A.sl.v251 c g arg2 harg2 arg3 harg3 arg4 harg4 arg7 harg7 arg8 harg8 arg18 x0 x1 x2 x5 x6 (ix3 0 r l) = padc L (512 * i + (8 + r.val)) (128 * 0 + l.val) := by
  unfold kernelRun2_A.sl.v251
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 0 8 _ r l

include S in
theorem stage_v259 (hg : (g 1).val = i.val) (r : Fin 512) (l : Fin 128) :
    kernelRun2_A.sl.v259 c g arg2 harg2 arg3 harg3 arg4 harg4 arg7 harg7 arg8 harg8 arg18 x0 x1 x2 x5 x6 (ix3 0 r l) = padc L (512 * i + (7 + r.val)) (128 * 1 + l.val) := by
  unfold kernelRun2_A.sl.v259
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 1 7 _ r l

include S in
theorem stage_v261 (hg : (g 1).val = i.val) (r : Fin 512) (l : Fin 128) :
    kernelRun2_A.sl.v261 c g arg2 harg2 arg3 harg3 arg4 harg4 arg7 harg7 arg8 harg8 arg18 x0 x1 x2 x5 x6 (ix3 0 r l) = padc L (512 * i + (8 + r.val)) (128 * 1 + l.val) := by
  unfold kernelRun2_A.sl.v261
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 1 8 _ r l

include S in
theorem stage_v287 (hg : (g 1).val = i.val) (r : Fin 512) (l : Fin 128) :
    kernelRun2_A.sl.v287 c g arg2 harg2 arg3 harg3 arg4 harg4 arg7 harg7 arg8 harg8 arg18 x0 x1 x2 x5 x6 (ix3 0 r l) = padc L (512 * i + (6 + r.val)) (128 * 2 + l.val) := by
  unfold kernelRun2_A.sl.v287
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 6 _ r l

include S in
theorem stage_v289 (hg : (g 1).val = i.val) (r : Fin 512) (l : Fin 128) :
    kernelRun2_A.sl.v289 c g arg2 harg2 arg3 harg3 arg4 harg4 arg7 harg7 arg8 harg8 arg18 x0 x1 x2 x5 x6 (ix3 0 r l) = padc L (512 * i + (7 + r.val)) (128 * 2 + l.val) := by
  unfold kernelRun2_A.sl.v289
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 7 _ r l

include S in
theorem stage_v292 (hg : (g 1).val = i.val) (r : Fin 512) (l : Fin 128) :
    kernelRun2_A.sl.v292 c g arg2 harg2 arg3 harg3 arg4 harg4 arg7 harg7 arg8 harg8 arg18 x0 x1 x2 x5 x6 (ix3 0 r l) = padc L (512 * i + (8 + r.val)) (128 * 2 + l.val) := by
  unfold kernelRun2_A.sl.v292
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 8 _ r l

include S in
theorem stage_v295 (hg : (g 1).val = i.val) (r : Fin 512) (l : Fin 128) :
    kernelRun2_A.sl.v295 c g arg2 harg2 arg3 harg3 arg4 harg4 arg7 harg7 arg8 harg8 arg18 x0 x1 x2 x5 x6 (ix3 0 r l) = padc L (512 * i + (9 + r.val)) (128 * 2 + l.val) := by
  unfold kernelRun2_A.sl.v295
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 2 9 _ r l

include S in
theorem stage_v303 (hg : (g 1).val = i.val) (r : Fin 512) (l : Fin 128) :
    kernelRun2_A.sl.v303 c g arg2 harg2 arg3 harg3 arg4 harg4 arg7 harg7 arg8 harg8 arg18 x0 x1 x2 x5 x6 (ix3 0 r l) = padc L (512 * i + (6 + r.val)) (128 * 3 + l.val) := by
  unfold kernelRun2_A.sl.v303
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 6 _ r l

include S in
theorem stage_v305 (hg : (g 1).val = i.val) (r : Fin 512) (l : Fin 128) :
    kernelRun2_A.sl.v305 c g arg2 harg2 arg3 harg3 arg4 harg4 arg7 harg7 arg8 harg8 arg18 x0 x1 x2 x5 x6 (ix3 0 r l) = padc L (512 * i + (7 + r.val)) (128 * 3 + l.val) := by
  unfold kernelRun2_A.sl.v305
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 7 _ r l

include S in
theorem stage_v308 (hg : (g 1).val = i.val) (r : Fin 512) (l : Fin 128) :
    kernelRun2_A.sl.v308 c g arg2 harg2 arg3 harg3 arg4 harg4 arg7 harg7 arg8 harg8 arg18 x0 x1 x2 x5 x6 (ix3 0 r l) = padc L (512 * i + (8 + r.val)) (128 * 3 + l.val) := by
  unfold kernelRun2_A.sl.v308
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 8 _ r l

include S in
theorem stage_v311 (hg : (g 1).val = i.val) (r : Fin 512) (l : Fin 128) :
    kernelRun2_A.sl.v311 c g arg2 harg2 arg3 harg3 arg4 harg4 arg7 harg7 arg8 harg8 arg18 x0 x1 x2 x5 x6 (ix3 0 r l) = padc L (512 * i + (9 + r.val)) (128 * 3 + l.val) := by
  unfold kernelRun2_A.sl.v311
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 3 9 _ r l

include S in
theorem stage_v337 (hg : (g 1).val = i.val) (r : Fin 512) (l : Fin 128) :
    kernelRun2_A.sl.v337 c g arg2 harg2 arg3 harg3 arg4 harg4 arg7 harg7 arg8 harg8 arg18 x0 x1 x2 x5 x6 (ix3 0 r l) = padc L (512 * i + (4 + r.val)) (128 * 4 + l.val) := by
  unfold kernelRun2_A.sl.v337
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 4 _ r l

include S in
theorem stage_v339 (hg : (g 1).val = i.val) (r : Fin 512) (l : Fin 128) :
    kernelRun2_A.sl.v339 c g arg2 harg2 arg3 harg3 arg4 harg4 arg7 harg7 arg8 harg8 arg18 x0 x1 x2 x5 x6 (ix3 0 r l) = padc L (512 * i + (5 + r.val)) (128 * 4 + l.val) := by
  unfold kernelRun2_A.sl.v339
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 5 _ r l

include S in
theorem stage_v342 (hg : (g 1).val = i.val) (r : Fin 512) (l : Fin 128) :
    kernelRun2_A.sl.v342 c g arg2 harg2 arg3 harg3 arg4 harg4 arg7 harg7 arg8 harg8 arg18 x0 x1 x2 x5 x6 (ix3 0 r l) = padc L (512 * i + (6 + r.val)) (128 * 4 + l.val) := by
  unfold kernelRun2_A.sl.v342
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 6 _ r l

include S in
theorem stage_v345 (hg : (g 1).val = i.val) (r : Fin 512) (l : Fin 128) :
    kernelRun2_A.sl.v345 c g arg2 harg2 arg3 harg3 arg4 harg4 arg7 harg7 arg8 harg8 arg18 x0 x1 x2 x5 x6 (ix3 0 r l) = padc L (512 * i + (7 + r.val)) (128 * 4 + l.val) := by
  unfold kernelRun2_A.sl.v345
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 7 _ r l

include S in
theorem stage_v348 (hg : (g 1).val = i.val) (r : Fin 512) (l : Fin 128) :
    kernelRun2_A.sl.v348 c g arg2 harg2 arg3 harg3 arg4 harg4 arg7 harg7 arg8 harg8 arg18 x0 x1 x2 x5 x6 (ix3 0 r l) = padc L (512 * i + (8 + r.val)) (128 * 4 + l.val) := by
  unfold kernelRun2_A.sl.v348
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 8 _ r l

include S in
theorem stage_v351 (hg : (g 1).val = i.val) (r : Fin 512) (l : Fin 128) :
    kernelRun2_A.sl.v351 c g arg2 harg2 arg3 harg3 arg4 harg4 arg7 harg7 arg8 harg8 arg18 x0 x1 x2 x5 x6 (ix3 0 r l) = padc L (512 * i + (9 + r.val)) (128 * 4 + l.val) := by
  unfold kernelRun2_A.sl.v351
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 9 _ r l

include S in
theorem stage_v354 (hg : (g 1).val = i.val) (r : Fin 512) (l : Fin 128) :
    kernelRun2_A.sl.v354 c g arg2 harg2 arg3 harg3 arg4 harg4 arg7 harg7 arg8 harg8 arg18 x0 x1 x2 x5 x6 (ix3 0 r l) = padc L (512 * i + (10 + r.val)) (128 * 4 + l.val) := by
  unfold kernelRun2_A.sl.v354
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 10 _ r l

include S in
theorem stage_v357 (hg : (g 1).val = i.val) (r : Fin 512) (l : Fin 128) :
    kernelRun2_A.sl.v357 c g arg2 harg2 arg3 harg3 arg4 harg4 arg7 harg7 arg8 harg8 arg18 x0 x1 x2 x5 x6 (ix3 0 r l) = padc L (512 * i + (11 + r.val)) (128 * 4 + l.val) := by
  unfold kernelRun2_A.sl.v357
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 4 11 _ r l

include S in
theorem stage_v365 (hg : (g 1).val = i.val) (r : Fin 512) (l : Fin 128) :
    kernelRun2_A.sl.v365 c g arg2 harg2 arg3 harg3 arg4 harg4 arg7 harg7 arg8 harg8 arg18 x0 x1 x2 x5 x6 (ix3 0 r l) = padc L (512 * i + (4 + r.val)) (128 * 5 + l.val) := by
  unfold kernelRun2_A.sl.v365
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 4 _ r l

include S in
theorem stage_v367 (hg : (g 1).val = i.val) (r : Fin 512) (l : Fin 128) :
    kernelRun2_A.sl.v367 c g arg2 harg2 arg3 harg3 arg4 harg4 arg7 harg7 arg8 harg8 arg18 x0 x1 x2 x5 x6 (ix3 0 r l) = padc L (512 * i + (5 + r.val)) (128 * 5 + l.val) := by
  unfold kernelRun2_A.sl.v367
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 5 _ r l

include S in
theorem stage_v370 (hg : (g 1).val = i.val) (r : Fin 512) (l : Fin 128) :
    kernelRun2_A.sl.v370 c g arg2 harg2 arg3 harg3 arg4 harg4 arg7 harg7 arg8 harg8 arg18 x0 x1 x2 x5 x6 (ix3 0 r l) = padc L (512 * i + (6 + r.val)) (128 * 5 + l.val) := by
  unfold kernelRun2_A.sl.v370
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 6 _ r l

include S in
theorem stage_v373 (hg : (g 1).val = i.val) (r : Fin 512) (l : Fin 128) :
    kernelRun2_A.sl.v373 c g arg2 harg2 arg3 harg3 arg4 harg4 arg7 harg7 arg8 harg8 arg18 x0 x1 x2 x5 x6 (ix3 0 r l) = padc L (512 * i + (7 + r.val)) (128 * 5 + l.val) := by
  unfold kernelRun2_A.sl.v373
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 7 _ r l

include S in
theorem stage_v376 (hg : (g 1).val = i.val) (r : Fin 512) (l : Fin 128) :
    kernelRun2_A.sl.v376 c g arg2 harg2 arg3 harg3 arg4 harg4 arg7 harg7 arg8 harg8 arg18 x0 x1 x2 x5 x6 (ix3 0 r l) = padc L (512 * i + (8 + r.val)) (128 * 5 + l.val) := by
  unfold kernelRun2_A.sl.v376
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 8 _ r l

include S in
theorem stage_v379 (hg : (g 1).val = i.val) (r : Fin 512) (l : Fin 128) :
    kernelRun2_A.sl.v379 c g arg2 harg2 arg3 harg3 arg4 harg4 arg7 harg7 arg8 harg8 arg18 x0 x1 x2 x5 x6 (ix3 0 r l) = padc L (512 * i + (9 + r.val)) (128 * 5 + l.val) := by
  unfold kernelRun2_A.sl.v379
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 9 _ r l

include S in
theorem stage_v382 (hg : (g 1).val = i.val) (r : Fin 512) (l : Fin 128) :
    kernelRun2_A.sl.v382 c g arg2 harg2 arg3 harg3 arg4 harg4 arg7 harg7 arg8 harg8 arg18 x0 x1 x2 x5 x6 (ix3 0 r l) = padc L (512 * i + (10 + r.val)) (128 * 5 + l.val) := by
  unfold kernelRun2_A.sl.v382
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 10 _ r l

include S in
theorem stage_v385 (hg : (g 1).val = i.val) (r : Fin 512) (l : Fin 128) :
    kernelRun2_A.sl.v385 c g arg2 harg2 arg3 harg3 arg4 harg4 arg7 harg7 arg8 harg8 arg18 x0 x1 x2 x5 x6 (ix3 0 r l) = padc L (512 * i + (11 + r.val)) (128 * 5 + l.val) := by
  unfold kernelRun2_A.sl.v385
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 5 11 _ r l

include S in
theorem stage_v411 (hg : (g 1).val = i.val) (r : Fin 512) (l : Fin 128) :
    kernelRun2_A.sl.v411 c g arg2 harg2 arg3 harg3 arg4 harg4 arg7 harg7 arg8 harg8 arg18 x0 x1 x2 x5 x6 (ix3 0 r l) = padc L (512 * i + (0 + r.val)) (128 * 6 + l.val) := by
  unfold kernelRun2_A.sl.v411
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 0 _ r l

include S in
theorem stage_v413 (hg : (g 1).val = i.val) (r : Fin 512) (l : Fin 128) :
    kernelRun2_A.sl.v413 c g arg2 harg2 arg3 harg3 arg4 harg4 arg7 harg7 arg8 harg8 arg18 x0 x1 x2 x5 x6 (ix3 0 r l) = padc L (512 * i + (1 + r.val)) (128 * 6 + l.val) := by
  unfold kernelRun2_A.sl.v413
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 1 _ r l

include S in
theorem stage_v416 (hg : (g 1).val = i.val) (r : Fin 512) (l : Fin 128) :
    kernelRun2_A.sl.v416 c g arg2 harg2 arg3 harg3 arg4 harg4 arg7 harg7 arg8 harg8 arg18 x0 x1 x2 x5 x6 (ix3 0 r l) = padc L (512 * i + (2 + r.val)) (128 * 6 + l.val) := by
  unfold kernelRun2_A.sl.v416
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 2 _ r l

include S in
theorem stage_v419 (hg : (g 1).val = i.val) (r : Fin 512) (l : Fin 128) :
    kernelRun2_A.sl.v419 c g arg2 harg2 arg3 harg3 arg4 harg4 arg7 harg7 arg8 harg8 arg18 x0 x1 x2 x5 x6 (ix3 0 r l) = padc L (512 * i + (3 + r.val)) (128 * 6 + l.val) := by
  unfold kernelRun2_A.sl.v419
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 3 _ r l

include S in
theorem stage_v422 (hg : (g 1).val = i.val) (r : Fin 512) (l : Fin 128) :
    kernelRun2_A.sl.v422 c g arg2 harg2 arg3 harg3 arg4 harg4 arg7 harg7 arg8 harg8 arg18 x0 x1 x2 x5 x6 (ix3 0 r l) = padc L (512 * i + (4 + r.val)) (128 * 6 + l.val) := by
  unfold kernelRun2_A.sl.v422
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 4 _ r l

include S in
theorem stage_v425 (hg : (g 1).val = i.val) (r : Fin 512) (l : Fin 128) :
    kernelRun2_A.sl.v425 c g arg2 harg2 arg3 harg3 arg4 harg4 arg7 harg7 arg8 harg8 arg18 x0 x1 x2 x5 x6 (ix3 0 r l) = padc L (512 * i + (5 + r.val)) (128 * 6 + l.val) := by
  unfold kernelRun2_A.sl.v425
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 5 _ r l

include S in
theorem stage_v428 (hg : (g 1).val = i.val) (r : Fin 512) (l : Fin 128) :
    kernelRun2_A.sl.v428 c g arg2 harg2 arg3 harg3 arg4 harg4 arg7 harg7 arg8 harg8 arg18 x0 x1 x2 x5 x6 (ix3 0 r l) = padc L (512 * i + (6 + r.val)) (128 * 6 + l.val) := by
  unfold kernelRun2_A.sl.v428
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 6 _ r l

include S in
theorem stage_v431 (hg : (g 1).val = i.val) (r : Fin 512) (l : Fin 128) :
    kernelRun2_A.sl.v431 c g arg2 harg2 arg3 harg3 arg4 harg4 arg7 harg7 arg8 harg8 arg18 x0 x1 x2 x5 x6 (ix3 0 r l) = padc L (512 * i + (7 + r.val)) (128 * 6 + l.val) := by
  unfold kernelRun2_A.sl.v431
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 7 _ r l

include S in
theorem stage_v434 (hg : (g 1).val = i.val) (r : Fin 512) (l : Fin 128) :
    kernelRun2_A.sl.v434 c g arg2 harg2 arg3 harg3 arg4 harg4 arg7 harg7 arg8 harg8 arg18 x0 x1 x2 x5 x6 (ix3 0 r l) = padc L (512 * i + (8 + r.val)) (128 * 6 + l.val) := by
  unfold kernelRun2_A.sl.v434
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 8 _ r l

include S in
theorem stage_v437 (hg : (g 1).val = i.val) (r : Fin 512) (l : Fin 128) :
    kernelRun2_A.sl.v437 c g arg2 harg2 arg3 harg3 arg4 harg4 arg7 harg7 arg8 harg8 arg18 x0 x1 x2 x5 x6 (ix3 0 r l) = padc L (512 * i + (9 + r.val)) (128 * 6 + l.val) := by
  unfold kernelRun2_A.sl.v437
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 9 _ r l

include S in
theorem stage_v440 (hg : (g 1).val = i.val) (r : Fin 512) (l : Fin 128) :
    kernelRun2_A.sl.v440 c g arg2 harg2 arg3 harg3 arg4 harg4 arg7 harg7 arg8 harg8 arg18 x0 x1 x2 x5 x6 (ix3 0 r l) = padc L (512 * i + (10 + r.val)) (128 * 6 + l.val) := by
  unfold kernelRun2_A.sl.v440
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 10 _ r l

include S in
theorem stage_v443 (hg : (g 1).val = i.val) (r : Fin 512) (l : Fin 128) :
    kernelRun2_A.sl.v443 c g arg2 harg2 arg3 harg3 arg4 harg4 arg7 harg7 arg8 harg8 arg18 x0 x1 x2 x5 x6 (ix3 0 r l) = padc L (512 * i + (11 + r.val)) (128 * 6 + l.val) := by
  unfold kernelRun2_A.sl.v443
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 11 _ r l

include S in
theorem stage_v446 (hg : (g 1).val = i.val) (r : Fin 512) (l : Fin 128) :
    kernelRun2_A.sl.v446 c g arg2 harg2 arg3 harg3 arg4 harg4 arg7 harg7 arg8 harg8 arg18 x0 x1 x2 x5 x6 (ix3 0 r l) = padc L (512 * i + (12 + r.val)) (128 * 6 + l.val) := by
  unfold kernelRun2_A.sl.v446
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 12 _ r l

include S in
theorem stage_v449 (hg : (g 1).val = i.val) (r : Fin 512) (l : Fin 128) :
    kernelRun2_A.sl.v449 c g arg2 harg2 arg3 harg3 arg4 harg4 arg7 harg7 arg8 harg8 arg18 x0 x1 x2 x5 x6 (ix3 0 r l) = padc L (512 * i + (13 + r.val)) (128 * 6 + l.val) := by
  unfold kernelRun2_A.sl.v449
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 13 _ r l

include S in
theorem stage_v452 (hg : (g 1).val = i.val) (r : Fin 512) (l : Fin 128) :
    kernelRun2_A.sl.v452 c g arg2 harg2 arg3 harg3 arg4 harg4 arg7 harg7 arg8 harg8 arg18 x0 x1 x2 x5 x6 (ix3 0 r l) = padc L (512 * i + (14 + r.val)) (128 * 6 + l.val) := by
  unfold kernelRun2_A.sl.v452
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 14 _ r l

include S in
theorem stage_v455 (hg : (g 1).val = i.val) (r : Fin 512) (l : Fin 128) :
    kernelRun2_A.sl.v455 c g arg2 harg2 arg3 harg3 arg4 harg4 arg7 harg7 arg8 harg8 arg18 x0 x1 x2 x5 x6 (ix3 0 r l) = padc L (512 * i + (15 + r.val)) (128 * 6 + l.val) := by
  unfold kernelRun2_A.sl.v455
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 6 15 _ r l

include S in
theorem stage_v463 (hg : (g 1).val = i.val) (r : Fin 512) (l : Fin 128) :
    kernelRun2_A.sl.v463 c g arg2 harg2 arg3 harg3 arg4 harg4 arg7 harg7 arg8 harg8 arg18 x0 x1 x2 x5 x6 (ix3 0 r l) = padc L (512 * i + (0 + r.val)) (128 * 7 + l.val) := by
  unfold kernelRun2_A.sl.v463
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 0 _ r l

include S in
theorem stage_v465 (hg : (g 1).val = i.val) (r : Fin 512) (l : Fin 128) :
    kernelRun2_A.sl.v465 c g arg2 harg2 arg3 harg3 arg4 harg4 arg7 harg7 arg8 harg8 arg18 x0 x1 x2 x5 x6 (ix3 0 r l) = padc L (512 * i + (1 + r.val)) (128 * 7 + l.val) := by
  unfold kernelRun2_A.sl.v465
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 1 _ r l

include S in
theorem stage_v468 (hg : (g 1).val = i.val) (r : Fin 512) (l : Fin 128) :
    kernelRun2_A.sl.v468 c g arg2 harg2 arg3 harg3 arg4 harg4 arg7 harg7 arg8 harg8 arg18 x0 x1 x2 x5 x6 (ix3 0 r l) = padc L (512 * i + (2 + r.val)) (128 * 7 + l.val) := by
  unfold kernelRun2_A.sl.v468
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 2 _ r l

include S in
theorem stage_v471 (hg : (g 1).val = i.val) (r : Fin 512) (l : Fin 128) :
    kernelRun2_A.sl.v471 c g arg2 harg2 arg3 harg3 arg4 harg4 arg7 harg7 arg8 harg8 arg18 x0 x1 x2 x5 x6 (ix3 0 r l) = padc L (512 * i + (3 + r.val)) (128 * 7 + l.val) := by
  unfold kernelRun2_A.sl.v471
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 3 _ r l

include S in
theorem stage_v474 (hg : (g 1).val = i.val) (r : Fin 512) (l : Fin 128) :
    kernelRun2_A.sl.v474 c g arg2 harg2 arg3 harg3 arg4 harg4 arg7 harg7 arg8 harg8 arg18 x0 x1 x2 x5 x6 (ix3 0 r l) = padc L (512 * i + (4 + r.val)) (128 * 7 + l.val) := by
  unfold kernelRun2_A.sl.v474
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 4 _ r l

include S in
theorem stage_v477 (hg : (g 1).val = i.val) (r : Fin 512) (l : Fin 128) :
    kernelRun2_A.sl.v477 c g arg2 harg2 arg3 harg3 arg4 harg4 arg7 harg7 arg8 harg8 arg18 x0 x1 x2 x5 x6 (ix3 0 r l) = padc L (512 * i + (5 + r.val)) (128 * 7 + l.val) := by
  unfold kernelRun2_A.sl.v477
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 5 _ r l

include S in
theorem stage_v480 (hg : (g 1).val = i.val) (r : Fin 512) (l : Fin 128) :
    kernelRun2_A.sl.v480 c g arg2 harg2 arg3 harg3 arg4 harg4 arg7 harg7 arg8 harg8 arg18 x0 x1 x2 x5 x6 (ix3 0 r l) = padc L (512 * i + (6 + r.val)) (128 * 7 + l.val) := by
  unfold kernelRun2_A.sl.v480
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 6 _ r l

include S in
theorem stage_v483 (hg : (g 1).val = i.val) (r : Fin 512) (l : Fin 128) :
    kernelRun2_A.sl.v483 c g arg2 harg2 arg3 harg3 arg4 harg4 arg7 harg7 arg8 harg8 arg18 x0 x1 x2 x5 x6 (ix3 0 r l) = padc L (512 * i + (7 + r.val)) (128 * 7 + l.val) := by
  unfold kernelRun2_A.sl.v483
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 7 _ r l

include S in
theorem stage_v486 (hg : (g 1).val = i.val) (r : Fin 512) (l : Fin 128) :
    kernelRun2_A.sl.v486 c g arg2 harg2 arg3 harg3 arg4 harg4 arg7 harg7 arg8 harg8 arg18 x0 x1 x2 x5 x6 (ix3 0 r l) = padc L (512 * i + (8 + r.val)) (128 * 7 + l.val) := by
  unfold kernelRun2_A.sl.v486
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 8 _ r l

include S in
theorem stage_v489 (hg : (g 1).val = i.val) (r : Fin 512) (l : Fin 128) :
    kernelRun2_A.sl.v489 c g arg2 harg2 arg3 harg3 arg4 harg4 arg7 harg7 arg8 harg8 arg18 x0 x1 x2 x5 x6 (ix3 0 r l) = padc L (512 * i + (9 + r.val)) (128 * 7 + l.val) := by
  unfold kernelRun2_A.sl.v489
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 9 _ r l

include S in
theorem stage_v492 (hg : (g 1).val = i.val) (r : Fin 512) (l : Fin 128) :
    kernelRun2_A.sl.v492 c g arg2 harg2 arg3 harg3 arg4 harg4 arg7 harg7 arg8 harg8 arg18 x0 x1 x2 x5 x6 (ix3 0 r l) = padc L (512 * i + (10 + r.val)) (128 * 7 + l.val) := by
  unfold kernelRun2_A.sl.v492
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 10 _ r l

include S in
theorem stage_v495 (hg : (g 1).val = i.val) (r : Fin 512) (l : Fin 128) :
    kernelRun2_A.sl.v495 c g arg2 harg2 arg3 harg3 arg4 harg4 arg7 harg7 arg8 harg8 arg18 x0 x1 x2 x5 x6 (ix3 0 r l) = padc L (512 * i + (11 + r.val)) (128 * 7 + l.val) := by
  unfold kernelRun2_A.sl.v495
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 11 _ r l

include S in
theorem stage_v498 (hg : (g 1).val = i.val) (r : Fin 512) (l : Fin 128) :
    kernelRun2_A.sl.v498 c g arg2 harg2 arg3 harg3 arg4 harg4 arg7 harg7 arg8 harg8 arg18 x0 x1 x2 x5 x6 (ix3 0 r l) = padc L (512 * i + (12 + r.val)) (128 * 7 + l.val) := by
  unfold kernelRun2_A.sl.v498
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 12 _ r l

include S in
theorem stage_v501 (hg : (g 1).val = i.val) (r : Fin 512) (l : Fin 128) :
    kernelRun2_A.sl.v501 c g arg2 harg2 arg3 harg3 arg4 harg4 arg7 harg7 arg8 harg8 arg18 x0 x1 x2 x5 x6 (ix3 0 r l) = padc L (512 * i + (13 + r.val)) (128 * 7 + l.val) := by
  unfold kernelRun2_A.sl.v501
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 13 _ r l

include S in
theorem stage_v504 (hg : (g 1).val = i.val) (r : Fin 512) (l : Fin 128) :
    kernelRun2_A.sl.v504 c g arg2 harg2 arg3 harg3 arg4 harg4 arg7 harg7 arg8 harg8 arg18 x0 x1 x2 x5 x6 (ix3 0 r l) = padc L (512 * i + (14 + r.val)) (128 * 7 + l.val) := by
  unfold kernelRun2_A.sl.v504
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 14 _ r l

include S in
theorem stage_v507 (hg : (g 1).val = i.val) (r : Fin 512) (l : Fin 128) :
    kernelRun2_A.sl.v507 c g arg2 harg2 arg3 harg3 arg4 harg4 arg7 harg7 arg8 harg8 arg18 x0 x1 x2 x5 x6 (ix3 0 r l) = padc L (512 * i + (15 + r.val)) (128 * 7 + l.val) := by
  unfold kernelRun2_A.sl.v507
  rw [stage_slabs (i := i) c g arg2 harg2 arg3 harg3 arg4 harg4 arg7 harg7 arg8 harg8 hg, slabs_read L i (stage_ext c arg2 harg2 arg3 harg3 arg4 harg4 arg7 harg7 arg8 harg8 S) _ _ _]
  exact slabAt_unit L i 7 15 _ r l

/-- A token's position. -/
theorem stage_r_22 (hg : (g 1).val = i.val) (r : Fin 512) :
    kernelRun2_A.sl.r_22 g (ix2 r 0) = BitVec.ofNat 32 (tok i r) := by
  unfold kernelRun2_A.sl.r_22
  exact (by rw [hg]; exact pay51_eq i r)

include S in
theorem stage_r_23 (hg : (g 1).val = i.val) (r : Fin 512) (k : Fin 256) :
    kernelRun2_A.sl.r_23 c g arg2 harg2 arg3 harg3 arg4 harg4 arg7 harg7 arg8 harg8 arg18 x0 x1 x2 x5 x6 (ix2 r k) = L.poolSum (tok i r) ⟨k, by omega⟩ := by
  unfold kernelRun2_A.sl.r_23
  exact pay53_eq L i (stage_r_22 g hg)
      (stage_v249 c g arg2 harg2 arg3 harg3 arg4 harg4 arg7 harg7 arg8 harg8 arg18 S hg)
      (stage_v251 c g arg2 harg2 arg3 harg3 arg4 harg4 arg7 harg7 arg8 harg8 arg18 S hg)
      (stage_v251 c g arg2 harg2 arg3 harg3 arg4 harg4 arg7 harg7 arg8 harg8 arg18 S hg)
      (stage_v259 c g arg2 harg2 arg3 harg3 arg4 harg4 arg7 harg7 arg8 harg8 arg18 S hg)
      (stage_v261 c g arg2 harg2 arg3 harg3 arg4 harg4 arg7 harg7 arg8 harg8 arg18 S hg)
      (stage_v261 c g arg2 harg2 arg3 harg3 arg4 harg4 arg7 harg7 arg8 harg8 arg18 S hg) r k

include S in
theorem stage_r_26 (hg : (g 1).val = i.val) (r : Fin 512) (d : Fin 256) :
    kernelRun2_A.sl.r_26 c g arg2 harg2 arg3 harg3 arg4 harg4 arg7 harg7 arg8 harg8 arg9 harg9 arg18 x0 x1 x2 x5 x6 x7 (ix2 r d) = grp L 0 (tok i r) d := by
  unfold kernelRun2_A.sl.r_26 kernelRun2_A.sl.r_24 kernelRun2_A.sl.r_25
  exact pay56_eq L i (stage_r_23 c g arg2 harg2 arg3 harg3 arg4 harg4 arg7 harg7 arg8 harg8 arg18 S hg) (fun k p c h1 h2 => by rw [load_at]; pointwise; exact (congrArg (fun z => x7 (ix3 z p c)) (Fin.ext (by simp))).trans ((S.wp 0 k p c).trans (by congr 1 <;> exact Fin.ext (by simp)))) r d

theorem stage_r_27 (hg : (g 1).val = i.val) (r : Fin 512) :
    kernelRun2_A.sl.r_27 (F := Ideal) g (ix2 r 0) = Ideal.div 1 (Layer.cnt 2 (tok i r)) := by
  unfold kernelRun2_A.sl.r_27
  exact pay57_eq i (stage_r_22 g hg) r

include S in
theorem stage_r_28 (hg : (g 1).val = i.val) (r : Fin 512) (l : Fin 128) :
    kernelRun2_A.sl.r_28 c g arg2 harg2 arg3 harg3 arg4 harg4 arg7 harg7 arg8 harg8 arg18 x0 x1 x2 x5 x6 (ix2 r l) = L.poolSum (tok i r) ⟨256 * 1 + l, by omega⟩ := by
  unfold kernelRun2_A.sl.r_28
  exact pay58_eq L i (stage_r_22 g hg)
      (stage_v287 c g arg2 harg2 arg3 harg3 arg4 harg4 arg7 harg7 arg8 harg8 arg18 S hg)
      (stage_v289 c g arg2 harg2 arg3 harg3 arg4 harg4 arg7 harg7 arg8 harg8 arg18 S hg)
      (stage_v292 c g arg2 harg2 arg3 harg3 arg4 harg4 arg7 harg7 arg8 harg8 arg18 S hg)
      (stage_v295 c g arg2 harg2 arg3 harg3 arg4 harg4 arg7 harg7 arg8 harg8 arg18 S hg)
      (stage_v292 c g arg2 harg2 arg3 harg3 arg4 harg4 arg7 harg7 arg8 harg8 arg18 S hg) r l

include S in
theorem stage_r_29 (hg : (g 1).val = i.val) (r : Fin 512) (l : Fin 128) :
    kernelRun2_A.sl.r_29 c g arg2 harg2 arg3 harg3 arg4 harg4 arg7 harg7 arg8 harg8 arg18 x0 x1 x2 x5 x6 (ix2 r l) = part L i 3 6 1 r l := by
  unfold kernelRun2_A.sl.r_29
  exact pay59_eq L i
      (stage_v303 c g arg2 harg2 arg3 harg3 arg4 harg4 arg7 harg7 arg8 harg8 arg18 S hg) r l

include S in
theorem stage_r_30 (hg : (g 1).val = i.val) (r : Fin 512) (d : Fin 256) :
    kernelRun2_A.sl.r_30 c g arg2 harg2 arg3 harg3 arg4 harg4 arg7 harg7 arg8 harg8 arg9 harg9 arg18 x0 x1 x2 x5 x6 x7 (ix2 r d) = grp L 1 (tok i r) d := by
  unfold kernelRun2_A.sl.r_30
  exact pay60_eq L i (stage_r_27 g hg) (stage_r_28 c g arg2 harg2 arg3 harg3 arg4 harg4 arg7 harg7 arg8 harg8 arg18 S hg) (stage_r_29 c g arg2 harg2 arg3 harg3 arg4 harg4 arg7 harg7 arg8 harg8 arg18 S hg)
      (stage_v305 c g arg2 harg2 arg3 harg3 arg4 harg4 arg7 harg7 arg8 harg8 arg18 S hg)
      (stage_v308 c g arg2 harg2 arg3 harg3 arg4 harg4 arg7 harg7 arg8 harg8 arg18 S hg)
      (stage_v311 c g arg2 harg2 arg3 harg3 arg4 harg4 arg7 harg7 arg8 harg8 arg18 S hg)
      (stage_v308 c g arg2 harg2 arg3 harg3 arg4 harg4 arg7 harg7 arg8 harg8 arg18 S hg)
      (fun k p c h1 h2 => by rw [load_at]; pointwise; exact (S.wp 1 _ _ _).trans (by congr 1 <;> exact Fin.ext (by simp))) r d

theorem stage_r_31 (hg : (g 1).val = i.val) (r : Fin 512) :
    kernelRun2_A.sl.r_31 (F := Ideal) g (ix2 r 0) = Ideal.div 1 (Layer.cnt 4 (tok i r)) := by
  unfold kernelRun2_A.sl.r_31
  exact pay61_eq i (stage_r_22 g hg) r

include S in
theorem stage_r_32 (hg : (g 1).val = i.val) (r : Fin 512) (l : Fin 128) :
    kernelRun2_A.sl.r_32 c g arg2 harg2 arg3 harg3 arg4 harg4 arg7 harg7 arg8 harg8 arg18 x0 x1 x2 x5 x6 (ix2 r l) = part L i 4 4 1 r l := by
  unfold kernelRun2_A.sl.r_32
  exact pay62_eq L i
      (stage_v337 c g arg2 harg2 arg3 harg3 arg4 harg4 arg7 harg7 arg8 harg8 arg18 S hg) r l

include S in
theorem stage_r_33 (hg : (g 1).val = i.val) (r : Fin 512) (l : Fin 128) :
    kernelRun2_A.sl.r_33 c g arg2 harg2 arg3 harg3 arg4 harg4 arg7 harg7 arg8 harg8 arg18 x0 x1 x2 x5 x6 (ix2 r l) = L.poolSum (tok i r) ⟨256 * 2 + l, by omega⟩ := by
  unfold kernelRun2_A.sl.r_33
  exact pay63_eq L i (stage_r_31 g hg) (stage_r_32 c g arg2 harg2 arg3 harg3 arg4 harg4 arg7 harg7 arg8 harg8 arg18 S hg)
      (stage_v339 c g arg2 harg2 arg3 harg3 arg4 harg4 arg7 harg7 arg8 harg8 arg18 S hg)
      (stage_v342 c g arg2 harg2 arg3 harg3 arg4 harg4 arg7 harg7 arg8 harg8 arg18 S hg)
      (stage_v345 c g arg2 harg2 arg3 harg3 arg4 harg4 arg7 harg7 arg8 harg8 arg18 S hg)
      (stage_v348 c g arg2 harg2 arg3 harg3 arg4 harg4 arg7 harg7 arg8 harg8 arg18 S hg)
      (stage_v351 c g arg2 harg2 arg3 harg3 arg4 harg4 arg7 harg7 arg8 harg8 arg18 S hg)
      (stage_v354 c g arg2 harg2 arg3 harg3 arg4 harg4 arg7 harg7 arg8 harg8 arg18 S hg)
      (stage_v357 c g arg2 harg2 arg3 harg3 arg4 harg4 arg7 harg7 arg8 harg8 arg18 S hg)
      (stage_v348 c g arg2 harg2 arg3 harg3 arg4 harg4 arg7 harg7 arg8 harg8 arg18 S hg) r l

include S in
theorem stage_r_34 (hg : (g 1).val = i.val) (r : Fin 512) (l : Fin 128) :
    kernelRun2_A.sl.r_34 c g arg2 harg2 arg3 harg3 arg4 harg4 arg7 harg7 arg8 harg8 arg18 x0 x1 x2 x5 x6 (ix2 r l) = part L i 5 4 2 r l := by
  unfold kernelRun2_A.sl.r_34
  exact pay64_eq L i
      (stage_v365 c g arg2 harg2 arg3 harg3 arg4 harg4 arg7 harg7 arg8 harg8 arg18 S hg)
      (stage_v367 c g arg2 harg2 arg3 harg3 arg4 harg4 arg7 harg7 arg8 harg8 arg18 S hg) r l

include S in
theorem stage_r_35 (hg : (g 1).val = i.val) (r : Fin 512) (d : Fin 256) :
    kernelRun2_A.sl.r_35 c g arg2 harg2 arg3 harg3 arg4 harg4 arg7 harg7 arg8 harg8 arg9 harg9 arg18 x0 x1 x2 x5 x6 x7 (ix2 r d) = grp L 2 (tok i r) d := by
  unfold kernelRun2_A.sl.r_35
  exact pay65_eq L i (stage_r_31 g hg) (stage_r_33 c g arg2 harg2 arg3 harg3 arg4 harg4 arg7 harg7 arg8 harg8 arg18 S hg) (stage_r_34 c g arg2 harg2 arg3 harg3 arg4 harg4 arg7 harg7 arg8 harg8 arg18 S hg)
      (stage_v370 c g arg2 harg2 arg3 harg3 arg4 harg4 arg7 harg7 arg8 harg8 arg18 S hg)
      (stage_v373 c g arg2 harg2 arg3 harg3 arg4 harg4 arg7 harg7 arg8 harg8 arg18 S hg)
      (stage_v376 c g arg2 harg2 arg3 harg3 arg4 harg4 arg7 harg7 arg8 harg8 arg18 S hg)
      (stage_v379 c g arg2 harg2 arg3 harg3 arg4 harg4 arg7 harg7 arg8 harg8 arg18 S hg)
      (stage_v382 c g arg2 harg2 arg3 harg3 arg4 harg4 arg7 harg7 arg8 harg8 arg18 S hg)
      (stage_v385 c g arg2 harg2 arg3 harg3 arg4 harg4 arg7 harg7 arg8 harg8 arg18 S hg)
      (stage_v376 c g arg2 harg2 arg3 harg3 arg4 harg4 arg7 harg7 arg8 harg8 arg18 S hg)
      (fun k p c h1 h2 => by rw [load_at]; pointwise; exact (S.wp 2 _ _ _).trans (by congr 1 <;> exact Fin.ext (by simp))) r d

theorem stage_r_37 (hg : (g 1).val = i.val) (r : Fin 512) : kernelRun2_A.sl.r_37 (F := Ideal) g (ix2 r 0) = Ideal.div 1 (Layer.cnt 8 (tok i r)) := by
  unfold kernelRun2_A.sl.r_37 kernelRun2_A.sl.r_36
  exact pay68_eq i (stage_r_22 g hg) r

include S in
theorem stage_r_38 (hg : (g 1).val = i.val) (r : Fin 512) (l : Fin 128) :
    kernelRun2_A.sl.r_38 c g arg2 harg2 arg3 harg3 arg4 harg4 arg7 harg7 arg8 harg8 arg18 x0 x1 x2 x5 x6 (ix2 r l) = part L i 6 0 8 r l := by
  unfold kernelRun2_A.sl.r_38
  exact pay69_eq L i
      (stage_v411 c g arg2 harg2 arg3 harg3 arg4 harg4 arg7 harg7 arg8 harg8 arg18 S hg)
      (stage_v413 c g arg2 harg2 arg3 harg3 arg4 harg4 arg7 harg7 arg8 harg8 arg18 S hg)
      (stage_v416 c g arg2 harg2 arg3 harg3 arg4 harg4 arg7 harg7 arg8 harg8 arg18 S hg)
      (stage_v419 c g arg2 harg2 arg3 harg3 arg4 harg4 arg7 harg7 arg8 harg8 arg18 S hg)
      (stage_v422 c g arg2 harg2 arg3 harg3 arg4 harg4 arg7 harg7 arg8 harg8 arg18 S hg)
      (stage_v425 c g arg2 harg2 arg3 harg3 arg4 harg4 arg7 harg7 arg8 harg8 arg18 S hg)
      (stage_v428 c g arg2 harg2 arg3 harg3 arg4 harg4 arg7 harg7 arg8 harg8 arg18 S hg)
      (stage_v431 c g arg2 harg2 arg3 harg3 arg4 harg4 arg7 harg7 arg8 harg8 arg18 S hg) r l

include S in
theorem stage_r_39 (hg : (g 1).val = i.val) (r : Fin 512) (l : Fin 128) :
    kernelRun2_A.sl.r_39 c g arg2 harg2 arg3 harg3 arg4 harg4 arg7 harg7 arg8 harg8 arg18 x0 x1 x2 x5 x6 (ix2 r l) = L.poolSum (tok i r) ⟨256 * 3 + l, by omega⟩ := by
  unfold kernelRun2_A.sl.r_39
  exact pay70_eq L i (stage_r_37 g hg) (stage_r_38 c g arg2 harg2 arg3 harg3 arg4 harg4 arg7 harg7 arg8 harg8 arg18 S hg)
      (stage_v434 c g arg2 harg2 arg3 harg3 arg4 harg4 arg7 harg7 arg8 harg8 arg18 S hg)
      (stage_v437 c g arg2 harg2 arg3 harg3 arg4 harg4 arg7 harg7 arg8 harg8 arg18 S hg)
      (stage_v440 c g arg2 harg2 arg3 harg3 arg4 harg4 arg7 harg7 arg8 harg8 arg18 S hg)
      (stage_v443 c g arg2 harg2 arg3 harg3 arg4 harg4 arg7 harg7 arg8 harg8 arg18 S hg)
      (stage_v446 c g arg2 harg2 arg3 harg3 arg4 harg4 arg7 harg7 arg8 harg8 arg18 S hg)
      (stage_v449 c g arg2 harg2 arg3 harg3 arg4 harg4 arg7 harg7 arg8 harg8 arg18 S hg)
      (stage_v452 c g arg2 harg2 arg3 harg3 arg4 harg4 arg7 harg7 arg8 harg8 arg18 S hg)
      (stage_v455 c g arg2 harg2 arg3 harg3 arg4 harg4 arg7 harg7 arg8 harg8 arg18 S hg)
      (stage_v434 c g arg2 harg2 arg3 harg3 arg4 harg4 arg7 harg7 arg8 harg8 arg18 S hg) r l

include S in
theorem stage_r_40 (hg : (g 1).val = i.val) (r : Fin 512) (l : Fin 128) :
    kernelRun2_A.sl.r_40 c g arg2 harg2 arg3 harg3 arg4 harg4 arg7 harg7 arg8 harg8 arg18 x0 x1 x2 x5 x6 (ix2 r l) = part L i 7 0 1 r l := by
  unfold kernelRun2_A.sl.r_40
  exact pay71_eq L i
      (stage_v463 c g arg2 harg2 arg3 harg3 arg4 harg4 arg7 harg7 arg8 harg8 arg18 S hg) r l

include S in
theorem stage_r_41 (hg : (g 1).val = i.val) (r : Fin 512) (l : Fin 128) :
    kernelRun2_A.sl.r_41 c g arg2 harg2 arg3 harg3 arg4 harg4 arg7 harg7 arg8 harg8 arg18 x0 x1 x2 x5 x6 (ix2 r l) = part L i 7 0 11 r l := by
  unfold kernelRun2_A.sl.r_41
  exact pay72_eq L i (stage_r_40 c g arg2 harg2 arg3 harg3 arg4 harg4 arg7 harg7 arg8 harg8 arg18 S hg)
      (stage_v465 c g arg2 harg2 arg3 harg3 arg4 harg4 arg7 harg7 arg8 harg8 arg18 S hg)
      (stage_v468 c g arg2 harg2 arg3 harg3 arg4 harg4 arg7 harg7 arg8 harg8 arg18 S hg)
      (stage_v471 c g arg2 harg2 arg3 harg3 arg4 harg4 arg7 harg7 arg8 harg8 arg18 S hg)
      (stage_v474 c g arg2 harg2 arg3 harg3 arg4 harg4 arg7 harg7 arg8 harg8 arg18 S hg)
      (stage_v477 c g arg2 harg2 arg3 harg3 arg4 harg4 arg7 harg7 arg8 harg8 arg18 S hg)
      (stage_v480 c g arg2 harg2 arg3 harg3 arg4 harg4 arg7 harg7 arg8 harg8 arg18 S hg)
      (stage_v483 c g arg2 harg2 arg3 harg3 arg4 harg4 arg7 harg7 arg8 harg8 arg18 S hg)
      (stage_v486 c g arg2 harg2 arg3 harg3 arg4 harg4 arg7 harg7 arg8 harg8 arg18 S hg)
      (stage_v489 c g arg2 harg2 arg3 harg3 arg4 harg4 arg7 harg7 arg8 harg8 arg18 S hg)
      (stage_v492 c g arg2 harg2 arg3 harg3 arg4 harg4 arg7 harg7 arg8 harg8 arg18 S hg) r l

include S in
/-- The pool branch before its output weights. -/
theorem stage_r_42 (hg : (g 1).val = i.val) (r : Fin 512) (d : Fin 1024) :
    kernelRun2_A.sl.r_42 c g arg2 harg2 arg3 harg3 arg4 harg4 arg7 harg7 arg8 harg8 arg9 harg9 arg10 harg10 arg18 x0 x1 x2 x5 x6 x7 x8 (ix2 r d) = L.yin sigTanh L.poolSum (tok i r) d := by
  unfold kernelRun2_A.sl.r_42
  exact pay73_eq L i (stage_r_21 c arg2 harg2 arg7 harg7 arg8 harg8 S) (stage_r_26 c g arg2 harg2 arg3 harg3 arg4 harg4 arg7 harg7 arg8 harg8 arg9 harg9 arg18 S hg) (stage_r_30 c g arg2 harg2 arg3 harg3 arg4 harg4 arg7 harg7 arg8 harg8 arg9 harg9 arg18 S hg) (stage_r_35 c g arg2 harg2 arg3 harg3 arg4 harg4 arg7 harg7 arg8 harg8 arg9 harg9 arg18 S hg) (stage_r_37 g hg) (stage_r_39 c g arg2 harg2 arg3 harg3 arg4 harg4 arg7 harg7 arg8 harg8 arg18 S hg) (stage_r_41 c g arg2 harg2 arg3 harg3 arg4 harg4 arg7 harg7 arg8 harg8 arg18 S hg)
      (stage_v495 c g arg2 harg2 arg3 harg3 arg4 harg4 arg7 harg7 arg8 harg8 arg18 S hg)
      (stage_v498 c g arg2 harg2 arg3 harg3 arg4 harg4 arg7 harg7 arg8 harg8 arg18 S hg)
      (stage_v501 c g arg2 harg2 arg3 harg3 arg4 harg4 arg7 harg7 arg8 harg8 arg18 S hg)
      (stage_v504 c g arg2 harg2 arg3 harg3 arg4 harg4 arg7 harg7 arg8 harg8 arg18 S hg)
      (stage_v507 c g arg2 harg2 arg3 harg3 arg4 harg4 arg7 harg7 arg8 harg8 arg18 S hg)
      (stage_v486 c g arg2 harg2 arg3 harg3 arg4 harg4 arg7 harg7 arg8 harg8 arg18 S hg)
      (fun k p c h1 h2 => by rw [load_at]; pointwise; exact (S.wp 3 _ _ _).trans (by congr 1 <;> exact Fin.ext (by simp))) (fun c => by rw [load_at]; pointwise; exact S.sc _) r d

include S in
theorem stage_r_44 (hg : (g 1).val = i.val) (r : Fin 512) (d : Fin 1024) :
    kernelRun2_A.sl.r_44 c g arg2 harg2 arg3 harg3 arg4 harg4 arg7 harg7 arg8 harg8 arg9 harg9 arg10 harg10 arg11 harg11 arg14 harg14 arg18 x0 x1 x2 x5 x6 x7 x8 x9 x12 (ix2 r d) = L.brA sigTanh L.poolSum (tok i r) d := by
  unfold kernelRun2_A.sl.r_44
  exact pay75_eq L (tok i) (stage_r_1 c arg2 harg2 arg7 harg7 S) (stage_r_42 c g arg2 harg2 arg3 harg3 arg4 harg4 arg7 harg7 arg8 harg8 arg9 harg9 arg10 harg10 arg18 S hg) (S.w.cols 4096 _ (fun c => by omega) fun k p c => by rw [load_at]; pointwise) (fun c => by rw [load_at]; pointwise; exact S.bg _)
      (S.wpo.cols 0 _ (fun c => by omega) fun k p c => by rw [load_at]; pointwise) r d

include S in
/-- The residual stream after the layer. -/
theorem stage_r_46 (hg : (g 1).val = i.val) (r : Fin 512) (d : Fin 1024) :
    kernelRun2_A.sl.r_46 c g arg2 harg2 arg3 harg3 arg4 harg4 arg5 harg5 arg6 harg6 arg7 harg7 arg8 harg8 arg9 harg9 arg10 harg10 arg11 harg11 arg12 harg12 arg13 harg13 arg14 harg14 arg15 harg15 arg18 x0 x1 x2 x3 x4 x5 x6 x7 x8 x9 x10 x11 x12 x13 (ix2 r d) = L.res sigTanh L.poolSum L.attLast (tok i r) d := by
  unfold kernelRun2_A.sl.r_46
  exact pay77_eq L (tok i) (stage_r c arg2 harg2 S) (stage_r_1 c arg2 harg2 arg7 harg7 S) (stage_r_20 c arg2 harg2 arg5 harg5 arg7 harg7 arg8 harg8 S) (stage_r_43 c arg2 harg2 arg6 harg6 arg7 harg7 arg8 harg8 S) (stage_r_44 c g arg2 harg2 arg3 harg3 arg4 harg4 arg7 harg7 arg8 harg8 arg9 harg9 arg10 harg10 arg11 harg11 arg14 harg14 arg18 S hg) (stage_r_45 c arg2 harg2 arg7 harg7 arg8 harg8 arg14 harg14 S)
      (S.wfo.cols 0 _ (fun c => by omega) fun k p c => by rw [load_at]; pointwise) (S.w.cols 6144 _ (fun c => by omega) fun k p c => by rw [load_at]; pointwise) (fun c => by rw [load_at]; pointwise; exact S.bg _)
      (S.wao.cols 0 _ (fun c => by omega) fun k p c => by rw [load_at]; pointwise) (S.wo.cols 0 _ (fun c => by omega) fun k p c => by rw [load_at]; pointwise) r d

end

end Cert.Enc.Prompt
-- ==== Proof.PromptOut.lean ====
/- For the prompt: what the body of `encoder_main` leaves in the output's staging buffer at a point of its grid, over that point's blocks. -/
module

public import proofs.«01_k».proof.Proof.Out
public import proofs.«01_k».proof.Proof.PromptBlock

@[expose] public section

set_option maxRecDepth 16384

noncomputable section

namespace Cert.Enc.Prompt

open Idealize.ShloMosaic Idealize.SL.Sem Cert.PromptIdeal Cert.PromptIdeal.Gen

variable {L : Layer 2048} {i : Fin 4} (V : (c : Dev nD) → (b : Ref sig .tc) → Buf (Elt Ideal) ((c.tc : Thread nD τ).loc b))

/-- The output block is the layer's output at the block's tokens. -/
theorem outs_eq (c : Dev nD) (t : Fin cfg2.N) (hg : (grid2.coords t 1).val = i.val)
    (S : Staged L i (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (iblk2 V c 11 t) (iblk2 V c 12 t) (iblk2 V c 13 t) (iblk2 V c 14 t))
    (r : Fin 512) (d : Fin 1024) :
    (outsAt2 V c t : Vec Ideal S1x512x1024 .f32) (ix3 0 r d) = L.out sigTanh L.poolSum L.attLast (tok i r) d := by
  have hz : (![0, 0, 0] : Fin 3 → Nat) = fun _ => 0 := by funext a; fin_cases a <;> rfl
  unfold outsAt2 out2_A_15
  rw [View.read_writes_eq_canon _ _ _ (cover2_A_15 _ _ _ _ _ _ _ _ _ _ _ _ _ _ _ _ _ _ _ _ _ _ _ _ _ _ _ _ _ _ _ _ _ _ _ _ _ _ _ _ _ _ _ _ _ _ _ _ _ _ _)]
  unfold kernelRun2_A
  dsimp only
  rw [View.canon_unit_zero hz]
  exact pay1_eq L (y := fun r d => L.res sigTanh L.poolSum L.attLast (tok i r) d)
    (fun r d => stage_r_46 c (grid2.coords t) _ _ _ _ _ _ _ _ _ _ _ _ _ _ _ _ _ _ _ _ _ _ _ _ _ _ _ _ _ S hg r d)
    (fun c => by rw [load_at]; pointwise; exact S.gf _) r d

end Cert.Enc.Prompt
-- ==== Proof.PromptPack.lean ====
/- For the prompt: what `pack_weights` leaves in its output arrays: row `2k + p` of a weight matrix at (k, p). -/
module

public import proofs.«01_k».proof.Proof.Pack
public import proofs.«01_k».proof.Proof.Gen.PromptIdeal.Frame
public import Idealize.ShloMosaic.Lib.Pointwise
public import Idealize.ShloMosaic.Lib.Pipeline.ValueKit

@[expose] public section

set_option maxRecDepth 16384

noncomputable section

namespace Cert.Enc.Prompt

open Idealize.ShloMosaic Idealize.SL.Sem Cert.PromptIdeal Cert.PromptIdeal.Gen

variable (V : (c : Dev nD) → (b : Ref sig .tc) → Buf (Elt Ideal) ((c.tc : Thread nD τ).loc b))

/-- Every window of `pack_weights` takes block `t` of rows at point `t`. -/
theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0] :=
  (by decide +kernel : ∀ t : Fin grid0.N, _)

theorem pack3 (v : Vec Ideal S128x7168 .f32) (y : S64x2x7168.Idx) :
    k0_pay3 v y = v (ix2 (n0 := 128) (n1 := 7168) ⟨(2 * (y 0).val + (y 1).val) % 128, Nat.mod_lt _ (by decide)⟩ (y 2)) := by
  obtain ⟨k, p, c, rfl⟩ : ∃ k p c, y = ix3 (n0 := 64) (n1 := 2) (n2 := 7168) k p c := ⟨y 0, y 1, y 2, eq_ix3 y⟩
  pointwise [k0_pay3]
  have hp := p.isLt
  split
  · exact congrArg v (congrArg (ix2 · c) (Fin.ext (by simp; omega)))
  · exact congrArg v (congrArg (ix2 · c) (Fin.ext (by simp; omega)))

/-- Output 0. -/
theorem packed7 (c : Dev nD) : (dat0 V c).arrAt 7 cfg0.N
    = fun y => V c main_v0 (ix2 (n0 := 1024) (n1 := 7168) ⟨(2 * (y 0).val + (y 1).val) % 1024, Nat.mod_lt _ (by decide)⟩ (y 2)) := by
  refine (dat0 V c).arrAt_eq_of_covers 7 _ (by decide +kernel) fun t hf y => ?_
  obtain ⟨e0, e1, e2, e3, e4, e5, e6, e7, e8, e9, e10, e11, e12, e13⟩ := idx0 t
  blk_simp
  rw [after0_7]
  frame_out
  refine (pack3 _ y).trans ?_
  blk_ext [iblk0, e0, e7]

theorem pack4 (v : Vec Ideal S128x256 .f32) (y : S64x2x256.Idx) :
    k0_pay4 v y = v (ix2 (n0 := 128) (n1 := 256) ⟨(2 * (y 0).val + (y 1).val) % 128, Nat.mod_lt _ (by decide)⟩ (y 2)) := by
  obtain ⟨k, p, c, rfl⟩ : ∃ k p c, y = ix3 (n0 := 64) (n1 := 2) (n2 := 256) k p c := ⟨y 0, y 1, y 2, eq_ix3 y⟩
  pointwise [k0_pay4]
  have hp := p.isLt
  split
  · exact congrArg v (congrArg (ix2 · c) (Fin.ext (by simp; omega)))
  · exact congrArg v (congrArg (ix2 · c) (Fin.ext (by simp; omega)))

/-- Output 1. -/
theorem packed8 (c : Dev nD) : (dat0 V c).arrAt 8 cfg0.N
    = fun y => V c main_v7 (ix2 (n0 := 1024) (n1 := 256) ⟨(2 * (y 0).val + (y 1).val) % 1024, Nat.mod_lt _ (by decide)⟩ (y 2)) := by
  refine (dat0 V c).arrAt_eq_of_covers 8 _ (by decide +kernel) fun t hf y => ?_
  obtain ⟨e0, e1, e2, e3, e4, e5, e6, e7, e8, e9, e10, e11, e12, e13⟩ := idx0 t
  blk_simp
  rw [after0_8]
  frame_out
  refine (pack4 _ y).trans ?_
  blk_ext [iblk0, e1, e8]

theorem pack5 (v : Vec Ideal S128x1024 .f32) (y : S64x2x1024.Idx) :
    k0_pay5 v y = v (ix2 (n0 := 128) (n1 := 1024) ⟨(2 * (y 0).val + (y 1).val) % 128, Nat.mod_lt _ (by decide)⟩ (y 2)) := by
  obtain ⟨k, p, c, rfl⟩ : ∃ k p c, y = ix3 (n0 := 64) (n1 := 2) (n2 := 1024) k p c := ⟨y 0, y 1, y 2, eq_ix3 y⟩
  pointwise [k0_pay5]
  have hp := p.isLt
  split
  · exact congrArg v (congrArg (ix2 · c) (Fin.ext (by simp; omega)))
  · exact congrArg v (congrArg (ix2 · c) (Fin.ext (by simp; omega)))

/-- Output 2. -/
theorem packed9 (c : Dev nD) : (dat0 V c).arrAt 9 cfg0.N
    = fun y => V c main_v2 (ix2 (n0 := 1024) (n1 := 1024) ⟨(2 * (y 0).val + (y 1).val) % 1024, Nat.mod_lt _ (by decide)⟩ (y 2)) := by
  refine (dat0 V c).arrAt_eq_of_covers 9 _ (by decide +kernel) fun t hf y => ?_
  obtain ⟨e0, e1, e2, e3, e4, e5, e6, e7, e8, e9, e10, e11, e12, e13⟩ := idx0 t
  blk_simp
  rw [after0_9]
  frame_out
  refine (pack5 _ y).trans ?_
  blk_ext [iblk0, e2, e9]

theorem pack6 (v : Vec Ideal S128x1024 .f32) (y : S64x2x1024.Idx) :
    k0_pay6 v y = v (ix2 (n0 := 128) (n1 := 1024) ⟨(2 * (y 0).val + (y 1).val) % 128, Nat.mod_lt _ (by decide)⟩ (y 2)) := by
  obtain ⟨k, p, c, rfl⟩ : ∃ k p c, y = ix3 (n0 := 64) (n1 := 2) (n2 := 1024) k p c := ⟨y 0, y 1, y 2, eq_ix3 y⟩
  pointwise [k0_pay6]
  have hp := p.isLt
  split
  · exact congrArg v (congrArg (ix2 · c) (Fin.ext (by simp; omega)))
  · exact congrArg v (congrArg (ix2 · c) (Fin.ext (by simp; omega)))

/-- Output 3. -/
theorem packed10 (c : Dev nD) : (dat0 V c).arrAt 10 cfg0.N
    = fun y => V c main_v3 (ix2 (n0 := 1024) (n1 := 1024) ⟨(2 * (y 0).val + (y 1).val) % 1024, Nat.mod_lt _ (by decide)⟩ (y 2)) := by
  refine (dat0 V c).arrAt_eq_of_covers 10 _ (by decide +kernel) fun t hf y => ?_
  obtain ⟨e0, e1, e2, e3, e4, e5, e6, e7, e8, e9, e10, e11, e12, e13⟩ := idx0 t
  blk_simp
  rw [after0_10]
  frame_out
  refine (pack6 _ y).trans ?_
  blk_ext [iblk0, e3, e10]

theorem pack7 (v : Vec Ideal S64x1024 .f32) (y : S32x2x1024.Idx) :
    k0_pay7 v y = v (ix2 (n0 := 64) (n1 := 1024) ⟨(2 * (y 0).val + (y 1).val) % 64, Nat.mod_lt _ (by decide)⟩ (y 2)) := by
  obtain ⟨k, p, c, rfl⟩ : ∃ k p c, y = ix3 (n0 := 32) (n1 := 2) (n2 := 1024) k p c := ⟨y 0, y 1, y 2, eq_ix3 y⟩
  pointwise [k0_pay7]
  have hp := p.isLt
  split
  · exact congrArg v (congrArg (ix2 · c) (Fin.ext (by simp; omega)))
  · exact congrArg v (congrArg (ix2 · c) (Fin.ext (by simp; omega)))

/-- Output 4. -/
theorem packed11 (c : Dev nD) : (dat0 V c).arrAt 11 cfg0.N
    = fun y => V c main_v4 (ix2 (n0 := 512) (n1 := 1024) ⟨(2 * (y 0).val + (y 1).val) % 512, Nat.mod_lt _ (by decide)⟩ (y 2)) := by
  refine (dat0 V c).arrAt_eq_of_covers 11 _ (by decide +kernel) fun t hf y => ?_
  obtain ⟨e0, e1, e2, e3, e4, e5, e6, e7, e8, e9, e10, e11, e12, e13⟩ := idx0 t
  blk_simp
  rw [after0_11]
  frame_out
  refine (pack7 _ y).trans ?_
  blk_ext [iblk0, e4, e11]

theorem pack1 (v : Vec Ideal S64x1024 .f32) (y : S32x2x1024.Idx) :
    k0_pay1 v y = v (ix2 (n0 := 64) (n1 := 1024) ⟨(2 * (y 0).val + (y 1).val) % 64, Nat.mod_lt _ (by decide)⟩ (y 2)) := by
  obtain ⟨k, p, c, rfl⟩ : ∃ k p c, y = ix3 (n0 := 32) (n1 := 2) (n2 := 1024) k p c := ⟨y 0, y 1, y 2, eq_ix3 y⟩
  pointwise [k0_pay1]
  have hp := p.isLt
  split
  · exact congrArg v (congrArg (ix2 · c) (Fin.ext (by simp; omega)))
  · exact congrArg v (congrArg (ix2 · c) (Fin.ext (by simp; omega)))

/-- Output 5. -/
theorem packed12 (c : Dev nD) : (dat0 V c).arrAt 12 cfg0.N
    = fun y => V c main_v5 (ix2 (n0 := 512) (n1 := 1024) ⟨(2 * (y 0).val + (y 1).val) % 512, Nat.mod_lt _ (by decide)⟩ (y 2)) := by
  refine (dat0 V c).arrAt_eq_of_covers 12 _ (by decide +kernel) fun t hf y => ?_
  obtain ⟨e0, e1, e2, e3, e4, e5, e6, e7, e8, e9, e10, e11, e12, e13⟩ := idx0 t
  blk_simp
  rw [after0_12]
  frame_out
  refine (pack1 _ y).trans ?_
  blk_ext [iblk0, e5, e12]

theorem pack2 (v : Vec Ideal S128x1024 .f32) (y : S64x2x1024.Idx) :
    k0_pay2 v y = v (ix2 (n0 := 128) (n1 := 1024) ⟨(2 * (y 0).val + (y 1).val) % 128, Nat.mod_lt _ (by decide)⟩ (y 2)) := by
  obtain ⟨k, p, c, rfl⟩ : ∃ k p c, y = ix3 (n0 := 64) (n1 := 2) (n2 := 1024) k p c := ⟨y 0, y 1, y 2, eq_ix3 y⟩
  pointwise [k0_pay2]
  have hp := p.isLt
  split
  · exact congrArg v (congrArg (ix2 · c) (Fin.ext (by simp; omega)))
  · exact congrArg v (congrArg (ix2 · c) (Fin.ext (by simp; omega)))

/-- Output 6. -/
theorem packed13 (c : Dev nD) : (dat0 V c).arrAt 13 cfg0.N
    = fun y => V c main_v6 (ix2 (n0 := 1024) (n1 := 1024) ⟨(2 * (y 0).val + (y 1).val) % 1024, Nat.mod_lt _ (by decide)⟩ (y 2)) := by
  refine (dat0 V c).arrAt_eq_of_covers 13 _ (by decide +kernel) fun t hf y => ?_
  obtain ⟨e0, e1, e2, e3, e4, e5, e6, e7, e8, e9, e10, e11, e12, e13⟩ := idx0 t
  blk_simp
  rw [after0_13]
  frame_out
  refine (pack2 _ y).trans ?_
  blk_ext [iblk0, e6, e13]

end Cert.Enc.Prompt
-- ==== Proof.PromptKv.lean ====
/- For the prompt: what `kv_proj` leaves in its output array: the memory's keys and values. -/
module

public import proofs.«01_k».proof.Proof.Kv
public import proofs.«01_k».proof.Proof.Gen.PromptIdeal.Frame
public import proofs.«01_k».proof.Proof.PromptRows
public import Idealize.ShloMosaic.Lib.Pipeline.ValueKit

@[expose] public section

set_option maxRecDepth 16384

noncomputable section

namespace Cert.Enc.Prompt

open Idealize.ShloMosaic Idealize.SL.Sem Cert.PromptIdeal Cert.PromptIdeal.Gen

variable (V : (c : Dev nD) → (b : Ref sig .tc) → Buf (Elt Ideal) ((c.tc : Thread nD τ).loc b))

/-- The one payload, over four batches: a batch's normalised memory times the packed weights. -/
theorem kvpay_eq (L : Layer 2048) {x : Vec Ideal S4x256x1024 .f32} {g : Vec Ideal S1x1024 .f32} {raw : Vec Ideal S512x2x1024 .bf16} (b : Fin 4)
    (hx : ∀ r c, x (ix3 b r c) = L.mem r c) (hg : ∀ c, g (ix2 0 c) = L.gm c) (hw : Pairs (fun k p c => raw (ix3 k p c)) L.wkv 0)
    (r : Fin 256) (j : Fin 1024) : k1_pay1 x g raw (ix3 b r j) = L.kv r j := by
  pointwise [k1_pay1]
  simp only [hx, hg]
  exact (hw.sum (fun x => by omega) j (by omega) _ (fun k => rms (L.mem r) L.gm k) (fun k => rfl)).trans
    (Finset.sum_congr rfl fun k _ => by congr 2; exact Fin.ext (by simp))

/-- A point takes four batches; the other windows are whole arrays. -/
theorem idx1 : ∀ t : Fin cfg1.N, win1_0.index t = ![t.val, 0, 0] ∧ win1_1.index t = ![0, 0] ∧ win1_2.index t = ![0, 0, 0]
    ∧ win1_3.index t = ![t.val, 0, 0] := (by decide +kernel : ∀ t : Fin grid1.N, _)

theorem lt1 : ∀ t : Fin cfg1.N, t.val < 4 := (by decide +kernel : ∀ t : Fin grid1.N, _)

set_option maxHeartbeats 1000000 in
/-- What `kv_proj` leaves: every batch's keys and values. -/
theorem kv_arr (L : Fin 16 → Layer 2048) (c : Dev nD) (hx : ∀ b r k, (V c main_arg2 : Vec Ideal S16x256x1024 .f32) (ix3 b r k) = (L b).mem r k)
    (hg : ∀ b k, (V c main_arg4 : Vec Ideal S1x1024 .f32) (ix2 0 k) = (L b).gm k)
    (hw : ∀ b, Pairs (fun k p j => (V c main_v8_2 : Vec Ideal S512x2x1024 .bf16) (ix3 k p j)) (L b).wkv 0) :
    (dat1 V c).arrAt 3 cfg1.N = fun y => (L (y 0)).kv (y 1) (y 2) := by
  refine (dat1 V c).arrAt_eq_of_covers 3 _ (by decide +kernel) fun t hf y => ?_
  obtain ⟨e0, e1, e2, e3⟩ := idx1 t
  have ht := lt1 t
  have h1 : iblk1 V c 1 t = V c main_arg4 := by blk_ext! [iblk1, e1]
  have h2 : iblk1 V c 2 t = V c main_v8_2 := by blk_ext! [iblk1, e2]
  blk_simp
  rw [after1_3]
  frame_out
  rw [h1, h2]
  obtain ⟨b, r, j, rfl⟩ : ∃ b r j, y = ix3 (n0 := 4) (n1 := 256) (n2 := 1024) b r j := ⟨y 0, y 1, y 2, eq_ix3 y⟩
  refine (kvpay_eq (L ⟨4 * t.val + b.val, by omega⟩) b (fun r k => ?_) (hg _) (hw _) r j).trans ?_
  · refine Eq.trans ?_ (hx _ r k)
    blk_ext [iblk1, e0]
  · congr 1
    · exact congrArg L (Fin.ext (by show 4 * t.val + b.val = _; blk_simp [e3]; try omega))
    · exact Fin.ext (by blk_simp [e3])
    · exact Fin.ext (by blk_simp [e3])

end Cert.Enc.Prompt
-- ==== Proof.PromptArgs.lean ====
/- For the prompt: the layer whose arguments are the fifteen argument arrays. -/
module

public import proofs.«01_k».proof.Proof.Layer
public import proofs.«01_k».proof.PromptIdeal
public import Idealize.ShloMosaic.Lib.Pointwise

@[expose] public section

noncomputable section

namespace Cert.Enc.Prompt

open Idealize.ShloMosaic Cert.PromptIdeal

/-- Batch `b`'s layer over its argument arrays. -/
def ofArgs (b : Fin 16) (a0 : Vec Ideal S16x2048x1024 .f32) (a1 : Vec Ideal S16x2048x512 .bf16) (a2 : Vec Ideal S16x256x1024 .f32)
    (a3 a4 : Vec Ideal S1x1024 .f32) (a5 : Vec Ideal S1x1024x7168 .f32) (a6 : Vec Ideal S1x4x256x256 .f32) (a7 : Vec Ideal S1x1024 .f32)
    (a8 a9 : Vec Ideal S1x1024x1024 .f32) (a10 a11 : Vec Ideal S1x512x1024 .f32) (a12 : Vec Ideal S1x3072 .f32)
    (a13 : Vec Ideal S1x1024x1024 .f32) (a14 : Vec Ideal S1024 .f32) : Layer 2048 where
  x t k := a0 (ix3 b t k)
  f t k := a1 (ix3 b t k)
  mem m k := a2 (ix3 b m k)
  gi k := a3 (ix2 0 k)
  gm k := a4 (ix2 0 k)
  w k j := a5 (ix3 0 k j)
  wp g k j := a6 (ix4 0 g k j)
  sc j := a7 (ix2 0 j)
  wkv k j := a8 (ix3 0 k j)
  wpo k j := a9 (ix3 0 k j)
  wfo k j := a10 (ix3 0 k j)
  wao k j := a11 (ix3 0 k j)
  bg j := a12 (ix2 0 j)
  wo k j := a13 (ix3 0 k j)
  gf j := a14 (ix1 j)

end Cert.Enc.Prompt
-- ==== Proof.PromptMain.lean ====
/- For the prompt: the kernel's result array: the layer's output. The regions in order, each over the contents the one before it leaves. -/
module

public import proofs.«01_k».proof.Proof.Main
public import proofs.«01_k».proof.Proof.PromptOut
public import proofs.«01_k».proof.Proof.PromptPack
public import proofs.«01_k».proof.Proof.PromptKv
public import proofs.«01_k».proof.Proof.PromptArgs

@[expose] public section

set_option maxRecDepth 16384

noncomputable section

namespace Cert.Enc.Prompt

open Idealize.ShloMosaic Idealize.SL.Sem Cert.PromptIdeal Cert.PromptIdeal.Gen

section

variable (V : (c : Dev nD) → (b : Ref sig .tc) → Buf (Elt Ideal) ((c.tc : Thread nD τ).loc b)) (L : Fin 16 → Layer 2048)

/-- The block of 512 tokens a point of the grid works on. -/
abbrev blkNo (t : Fin cfg2.N) : Fin 4 := ⟨(grid2.coords t 1).val, (grid2.coords t 1).isLt⟩

/-- The batch a point of the grid works on. -/
abbrev batNo (t : Fin cfg2.N) : Fin 16 := ⟨(grid2.coords t 0).val, (grid2.coords t 0).isLt⟩

theorem idx2a : ∀ t : Fin cfg2.N, win2_0.index t = ![(grid2.coords t 0).val, (grid2.coords t 1).val, 0]
    ∧ win2_1.index t = ![(grid2.coords t 0).val, 64 * (grid2.coords t 1).val - 1, 0] ∧ win2_2.index t = ![(grid2.coords t 0).val, min (64 * (grid2.coords t 1).val + 64) 255, 0]
    ∧ win2_3.index t = ![(grid2.coords t 0).val, (grid2.coords t 1).val, 0] ∧ win2_15.index t = ![(grid2.coords t 0).val, (grid2.coords t 1).val, 0] :=
  (by decide +kernel : ∀ t : Fin grid2.N, _)

theorem idx2b : ∀ t : Fin cfg2.N, win2_4.index t = ![(grid2.coords t 0).val, 0, 0] ∧ win2_5.index t = ![0, 0] ∧ win2_6.index t = ![0, 0, 0]
    ∧ win2_7.index t = ![0, 0, 0] ∧ win2_8.index t = ![0, 0] ∧ win2_9.index t = ![0, 0, 0] ∧ win2_10.index t = ![0, 0, 0]
    ∧ win2_11.index t = ![0, 0, 0] ∧ win2_12.index t = ![0, 0] ∧ win2_13.index t = ![0, 0, 0] ∧ win2_14.index t = ![0, 0] :=
  (by decide +kernel : ∀ t : Fin grid2.N, _)

/-- The arrays `encoder_main` reads, as functions of the layer's arguments. -/
structure Arrays (c : Dev nD) : Prop where
  x : ∀ b r k, (V c main_arg0 : Vec Ideal S16x2048x1024 .f32) (ix3 b r k) = (L b).x r k
  f : ∀ b r k, (V c main_arg1 : Vec Ideal S16x2048x512 .bf16) (ix3 b r k) = (L b).f r k
  kv : ∀ b m j, (V c main_v9 : Vec Ideal S16x256x1024 .bf16) (ix3 b m j) = (L b).kv m j
  gi : ∀ b k, (V c main_arg3 : Vec Ideal S1x1024 .f32) (ix2 0 k) = (L b).gi k
  w : ∀ b, Pairs (fun k p j => (V c main_v8_0 : Vec Ideal S512x2x7168 .bf16) (ix3 k p j)) (L b).w 0
  wp : ∀ (b : Fin 16) (g : Fin 4) (k : Fin 128) (p : Fin 2) (j : Fin 256) (h1 : 128 * g.val + k.val < 512) (h2 : 2 * k.val + p.val < 256),
    (V c main_v8_1 : Vec Ideal S512x2x256 .bf16) (ix3 ⟨128 * g + k, h1⟩ p j) = (L b).wp g ⟨2 * k + p, h2⟩ j
  sc : ∀ b k, (V c main_arg7 : Vec Ideal S1x1024 .f32) (ix2 0 k) = (L b).sc k
  wpo : ∀ b, Pairs (fun k p j => (V c main_v8_3 : Vec Ideal S512x2x1024 .bf16) (ix3 k p j)) (L b).wpo 0
  wfo : ∀ b, Pairs (fun k p j => (V c main_v8_4 : Vec Ideal S256x2x1024 .bf16) (ix3 k p j)) (L b).wfo 0
  wao : ∀ b, Pairs (fun k p j => (V c main_v8_5 : Vec Ideal S256x2x1024 .bf16) (ix3 k p j)) (L b).wao 0
  bg : ∀ b k, (V c main_arg12 : Vec Ideal S1x3072 .f32) (ix2 0 k) = (L b).bg k
  wo : ∀ b, Pairs (fun k p j => (V c main_v8_6 : Vec Ideal S512x2x1024 .bf16) (ix3 k p j)) (L b).wo 0
  gf : ∀ b k, (V c main_v10 : Vec Ideal S1x1024 .f32) (ix2 0 k) = (L b).gf k

variable {V L}

theorem staged {c : Dev nD} (A : Arrays V L c) (t : Fin cfg2.N) :
    Staged (L (batNo t)) (blkNo t) (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (iblk2 V c 11 t) (iblk2 V c 12 t) (iblk2 V c 13 t) (iblk2 V c 14 t) := by
  obtain ⟨e0, e1, e2, e3, e15⟩ := idx2a t
  obtain ⟨e4, e5, e6, e7, e8, e9, e10, e11, e12, e13, e14⟩ := idx2b t
  have h5 : iblk2 V c 5 t = V c main_arg3 := by blk_ext! [iblk2, e5]
  have h6 : iblk2 V c 6 t = V c main_v8_0 := by blk_ext! [iblk2, e6]
  have h7 : iblk2 V c 7 t = V c main_v8_1 := by blk_ext! [iblk2, e7]
  have h8 : iblk2 V c 8 t = V c main_arg7 := by blk_ext! [iblk2, e8]
  have h9 : iblk2 V c 9 t = V c main_v8_3 := by blk_ext! [iblk2, e9]
  have h10 : iblk2 V c 10 t = V c main_v8_4 := by blk_ext! [iblk2, e10]
  have h11 : iblk2 V c 11 t = V c main_v8_5 := by blk_ext! [iblk2, e11]
  have h12 : iblk2 V c 12 t = V c main_arg12 := by blk_ext! [iblk2, e12]
  have h13 : iblk2 V c 13 t = V c main_v8_6 := by blk_ext! [iblk2, e13]
  have h14 : iblk2 V c 14 t = V c main_v10 := by blk_ext! [iblk2, e14]
  have hb : (blkNo t).val = (grid2.coords t 1).val := rfl
  have hlt := (grid2.coords t 1).isLt
  rw [h5, h6, h7, h8, h9, h10, h11, h12, h13, h14]
  refine ⟨fun r k => ?_, fun hi r k => ?_, fun hi r k => ?_, fun r k => ?_, fun m j => ?_, A.gi _, A.w _, fun g k p j => A.wp _ g k p j _ _, A.sc _,
    A.wpo _, A.wfo _, A.wao _, A.bg _, A.wo _, A.gf _⟩
  · refine Eq.trans ?_ (A.x _ _ k)
    blk_ext [iblk2, e0, tok]
  · refine Eq.trans ?_ (A.x _ _ k)
    blk_ext [iblk2, e1]
  · refine Eq.trans ?_ (A.x _ _ k)
    blk_ext [iblk2, e2]
  · refine Eq.trans ?_ (A.f _ _ k)
    blk_ext [iblk2, e3, tok]
  · refine Eq.trans ?_ (A.kv _ m j)
    blk_ext [iblk2, e4]

/-- The array `encoder_main` leaves. -/
theorem main_arr {c : Dev nD} (A : Arrays V L c) :
    (dat2 V c).arrAt 15 cfg2.N = fun y => (L (y 0)).out sigTanh (L (y 0)).poolSum (L (y 0)).attLast (y 1) (y 2) := by
  refine (dat2 V c).arrAt_eq_of_covers 15 _ (by decide +kernel) fun t hf y => ?_
  obtain ⟨-, -, -, -, e15⟩ := idx2a t
  blk_simp
  rw [after2_15]
  obtain ⟨b, r, j, rfl⟩ : ∃ b r j, y = ix3 (n0 := 1) (n1 := 512) (n2 := 1024) b r j := ⟨y 0, y 1, y 2, eq_ix3 y⟩
  obtain rfl : b = 0 := Subsingleton.elim _ _
  refine (outs_eq V c t (i := blkNo t) rfl (staged A t) r j).trans ?_
  have key : ∀ (b' : Fin 16) (r' : Fin 2048) (j' : Fin 1024), batNo t = b' → tok (blkNo t) r = r' → j = j' →
      (L (batNo t)).out sigTanh (L (batNo t)).poolSum (L (batNo t)).attLast (tok (blkNo t) r) j
        = (L b').out sigTanh (L b').poolSum (L b').attLast r' j' := by
    rintro _ _ _ rfl rfl rfl
    rfl
  exact key _ _ _ (Fin.ext (by show (grid2.coords t 0).val = _; blk_simp [e15]; try exact (Nat.add_zero _).symm)) (Fin.ext (by blk_simp [e15]; try (simp [tok]; try omega))) (Fin.ext (by blk_simp [e15]))

end

end Cert.Enc.Prompt
-- ==== Proof.PromptResult.lean ====
/- For the prompt: the kernel's run from a launch memory: its result array holds the layer's output over the argument arrays. -/
module

public import proofs.«01_k».proof.Proof.Result
public import proofs.«01_k».proof.Proof.PromptMain
public import Idealize.ShloMosaic.Lib.StableHlo.ReadAt
public import Idealize.ShloMosaic.Adequacy

@[expose] public section

set_option maxRecDepth 16384

noncomputable section

namespace Cert.Enc.Prompt

open Idealize.ShloMosaic Idealize.SL.Sem Cert.PromptIdeal Cert.PromptIdeal.Gen

variable (m : (ℓ : Loc nD τ sig) → Buf (Elt Ideal) ℓ) (ρ : Dev nD → PrngReg)

/-- Batch `b`'s layer over a launch memory's argument arrays. -/
def layerK (c : Dev nD) (b : Fin 16) : Layer 2048 :=
  ofArgs b (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))

theorem v0_at (c : Dev nD) (b : Fin 16) (k : Fin 1024) (j : Fin 7168) : (V1 m ρ c main_v0 : Vec Ideal S1024x7168 .f32) (ix2 k j) = (layerK m c b).w k j := by
  show StableHlo.after hostOps0 (W0 m ρ c) (Proc.devRef .tc main_v0) (ix2 k j) = _
  after_reads_at
  rfl

theorem v2_at (c : Dev nD) (b : Fin 16) (k : Fin 1024) (j : Fin 1024) : (V1 m ρ c main_v2 : Vec Ideal S1024x1024 .f32) (ix2 k j) = (layerK m c b).wkv k j := by
  show StableHlo.after hostOps0 (W0 m ρ c) (Proc.devRef .tc main_v2) (ix2 k j) = _
  after_reads_at
  rfl

theorem v3_at (c : Dev nD) (b : Fin 16) (k : Fin 1024) (j : Fin 1024) : (V1 m ρ c main_v3 : Vec Ideal S1024x1024 .f32) (ix2 k j) = (layerK m c b).wpo k j := by
  show StableHlo.after hostOps0 (W0 m ρ c) (Proc.devRef .tc main_v3) (ix2 k j) = _
  after_reads_at
  rfl

theorem v4_at (c : Dev nD) (b : Fin 16) (k : Fin 512) (j : Fin 1024) : (V1 m ρ c main_v4 : Vec Ideal S512x1024 .f32) (ix2 k j) = (layerK m c b).wfo k j := by
  show StableHlo.after hostOps0 (W0 m ρ c) (Proc.devRef .tc main_v4) (ix2 k j) = _
  after_reads_at
  rfl

theorem v5_at (c : Dev nD) (b : Fin 16) (k : Fin 512) (j : Fin 1024) : (V1 m ρ c main_v5 : Vec Ideal S512x1024 .f32) (ix2 k j) = (layerK m c b).wao k j := by
  show StableHlo.after hostOps0 (W0 m ρ c) (Proc.devRef .tc main_v5) (ix2 k j) = _
  after_reads_at
  rfl

theorem v6_at (c : Dev nD) (b : Fin 16) (k : Fin 1024) (j : Fin 1024) : (V1 m ρ c main_v6 : Vec Ideal S1024x1024 .f32) (ix2 k j) = (layerK m c b).wo k j := by
  show StableHlo.after hostOps0 (W0 m ρ c) (Proc.devRef .tc main_v6) (ix2 k j) = _
  after_reads_at
  rfl

theorem v7_at (c : Dev nD) (b : Fin 16) (k : Fin 1024) (j : Fin 256) :
    (V1 m ρ c main_v7 : Vec Ideal S1024x256 .f32) (ix2 k j) = (layerK m c b).wp ⟨k / 256, by omega⟩ ⟨k % 256, Nat.mod_lt _ (by decide)⟩ j := by
  show StableHlo.after hostOps0 (W0 m ρ c) (Proc.devRef .tc main_v7) (ix2 k j) = _
  after_reads_at
  rfl

theorem v10_at (c : Dev nD) (b : Fin 16) (j : Fin 1024) : (V4 m ρ c main_v10 : Vec Ideal S1x1024 .f32) (ix2 0 j) = (layerK m c b).gf j := by
  show StableHlo.after hostOps2 (W3 m ρ c) (Proc.devRef .tc main_v10) (ix2 0 j) = _
  after_reads_at
  rw [W3_args m ρ c main_arg14 (by decide)]
  rfl

/-- A packed array is still there when `encoder_main` is launched. -/
theorem V4_of_V2 (c : Dev nD) (r : Ref sig .tc) (h4 : r ∉ hostOps2_W) (h3 : ∀ w : Fin cfg1.W, Pipeline.arrRef spec1 w = r → (cfg1.win w).isOut = false) :
    V4 m ρ c r = V2 m ρ c r := (W4_of m ρ c r h4).trans (W3_of m ρ c r h3)

theorem v8_0_pairs (c : Dev nD) (b : Fin 16) :
    Pairs (fun k p j => (V4 m ρ c main_v8_0 : Vec Ideal S512x2x7168 .bf16) (ix3 k p j)) (layerK m c b).w 0 := by
  have e : (V4 m ρ c main_v8_0 : Vec Ideal S512x2x7168 .bf16) = _ :=
    (V4_of_V2 m ρ c main_v8_0 (by decide) (by decide)).trans ((W2_arr m ρ c 7).trans (packed7 (V1 m ρ) c))
  rw [e]
  exact pairs_of _ (by decide) (a := fun k j => (V1 m ρ c main_v0 : Vec Ideal S1024x7168 .f32) (ix2 k j)) (fun k p j => rfl) (v0_at m ρ c b)

theorem v8_3_pairs (c : Dev nD) (b : Fin 16) :
    Pairs (fun k p j => (V4 m ρ c main_v8_3 : Vec Ideal S512x2x1024 .bf16) (ix3 k p j)) (layerK m c b).wpo 0 := by
  have e : (V4 m ρ c main_v8_3 : Vec Ideal S512x2x1024 .bf16) = _ :=
    (V4_of_V2 m ρ c main_v8_3 (by decide) (by decide)).trans ((W2_arr m ρ c 10).trans (packed10 (V1 m ρ) c))
  rw [e]
  exact pairs_of _ (by decide) (a := fun k j => (V1 m ρ c main_v3 : Vec Ideal S1024x1024 .f32) (ix2 k j)) (fun k p j => rfl) (v3_at m ρ c b)

theorem v8_4_pairs (c : Dev nD) (b : Fin 16) :
    Pairs (fun k p j => (V4 m ρ c main_v8_4 : Vec Ideal S256x2x1024 .bf16) (ix3 k p j)) (layerK m c b).wfo 0 := by
  have e : (V4 m ρ c main_v8_4 : Vec Ideal S256x2x1024 .bf16) = _ :=
    (V4_of_V2 m ρ c main_v8_4 (by decide) (by decide)).trans ((W2_arr m ρ c 11).trans (packed11 (V1 m ρ) c))
  rw [e]
  exact pairs_of _ (by decide) (a := fun k j => (V1 m ρ c main_v4 : Vec Ideal S512x1024 .f32) (ix2 k j)) (fun k p j => rfl) (v4_at m ρ c b)

theorem v8_5_pairs (c : Dev nD) (b : Fin 16) :
    Pairs (fun k p j => (V4 m ρ c main_v8_5 : Vec Ideal S256x2x1024 .bf16) (ix3 k p j)) (layerK m c b).wao 0 := by
  have e : (V4 m ρ c main_v8_5 : Vec Ideal S256x2x1024 .bf16) = _ :=
    (V4_of_V2 m ρ c main_v8_5 (by decide) (by decide)).trans ((W2_arr m ρ c 12).trans (packed12 (V1 m ρ) c))
  rw [e]
  exact pairs_of _ (by decide) (a := fun k j => (V1 m ρ c main_v5 : Vec Ideal S512x1024 .f32) (ix2 k j)) (fun k p j => rfl) (v5_at m ρ c b)

theorem v8_6_pairs (c : Dev nD) (b : Fin 16) :
    Pairs (fun k p j => (V4 m ρ c main_v8_6 : Vec Ideal S512x2x1024 .bf16) (ix3 k p j)) (layerK m c b).wo 0 := by
  have e : (V4 m ρ c main_v8_6 : Vec Ideal S512x2x1024 .bf16) = _ :=
    (V4_of_V2 m ρ c main_v8_6 (by decide) (by decide)).trans ((W2_arr m ρ c 13).trans (packed13 (V1 m ρ) c))
  rw [e]
  exact pairs_of _ (by decide) (a := fun k j => (V1 m ρ c main_v6 : Vec Ideal S1024x1024 .f32) (ix2 k j)) (fun k p j => rfl) (v6_at m ρ c b)

theorem v8_2_pairs (c : Dev nD) (b : Fin 16) :
    Pairs (fun k p j => (V2 m ρ c main_v8_2 : Vec Ideal S512x2x1024 .bf16) (ix3 k p j)) (layerK m c b).wkv 0 := by
  have e : (V2 m ρ c main_v8_2 : Vec Ideal S512x2x1024 .bf16) = _ := (W2_arr m ρ c 9).trans (packed9 (V1 m ρ) c)
  rw [e]
  exact pairs_of _ (by decide) (a := fun k j => (V1 m ρ c main_v2 : Vec Ideal S1024x1024 .f32) (ix2 k j)) (fun k p j => rfl) (v2_at m ρ c b)

theorem v8_1_at (c : Dev nD) (b : Fin 16) (g : Fin 4) (k : Fin 128) (p : Fin 2) (j : Fin 256) (h1 : 128 * g.val + k.val < 512) (h2 : 2 * k.val + p.val < 256) :
    (V4 m ρ c main_v8_1 : Vec Ideal S512x2x256 .bf16) (ix3 ⟨128 * g + k, h1⟩ p j) = (layerK m c b).wp g ⟨2 * k + p, h2⟩ j := by
  have e : (V4 m ρ c main_v8_1 : Vec Ideal S512x2x256 .bf16) = _ :=
    (V4_of_V2 m ρ c main_v8_1 (by decide) (by decide)).trans ((W2_arr m ρ c 8).trans (packed8 (V1 m ρ) c))
  rw [e]
  refine (v7_at m ρ c b _ j).trans ?_
  have hp := p.isLt
  congr 1 <;> exact Fin.ext (by simp; omega)

theorem v9_at (c : Dev nD) (b : Fin 16) (r : Fin 256) (j : Fin 1024) :
    (V4 m ρ c main_v9 : Vec Ideal S16x256x1024 .bf16) (ix3 b r j) = (layerK m c b).kv r j := by
  have e : (V4 m ρ c main_v9 : Vec Ideal S16x256x1024 .bf16) = _ :=
    (W4_of m ρ c main_v9 (by decide)).trans ((W3_arr m ρ c 3).trans (kv_arr (V2 m ρ) (layerK m c) c
      (fun b r k => congrFun (W2_args m ρ c main_arg2 (by decide)) (ix3 b r k)) (fun b k => congrFun (W2_args m ρ c main_arg4 (by decide)) (ix2 0 k))
      (v8_2_pairs m ρ c)))
  rw [e]
  rfl

/-- The arrays `encoder_main` reads. -/
theorem arrays (c : Dev nD) : Arrays (V4 m ρ) (layerK m c) c where
  x b r k := congrFun (W4_args m ρ c main_arg0 (by decide)) (ix3 b r k)
  f b r k := congrFun (W4_args m ρ c main_arg1 (by decide)) (ix3 b r k)
  kv := v9_at m ρ c
  gi _ k := congrFun (W4_args m ρ c main_arg3 (by decide)) (ix2 0 k)
  w := v8_0_pairs m ρ c
  wp := v8_1_at m ρ c
  sc _ k := congrFun (W4_args m ρ c main_arg7 (by decide)) (ix2 0 k)
  wpo := v8_3_pairs m ρ c
  wfo := v8_4_pairs m ρ c
  wao := v8_5_pairs m ρ c
  bg _ k := congrFun (W4_args m ρ c main_arg12 (by decide)) (ix2 0 k)
  wo := v8_6_pairs m ρ c
  gf := v10_at m ρ c

/-- The result array at the end of the run. -/
theorem result (c : Dev nD) : (W5 m ρ c (Proc.devRef .tc main_v11) : Vec Ideal S16x2048x1024 .f32)
    = fun y => (layerK m c (y 0)).out sigTanh (layerK m c (y 0)).poolSum (layerK m c (y 0)).attLast (y 1) (y 2) :=
  (W5_arr m ρ c 15).trans (main_arr (arrays m ρ c))

end Cert.Enc.Prompt
-- ==== Proof.PromptKernelRun.lean ====
/- For the prompt: the kernel's run, its result array read off the contents the last region leaves. The launch is the generated frame's. -/
module

public import proofs.«01_k».proof.Proof.KernelRun
public import proofs.«01_k».proof.Proof.PromptResult

@[expose] public section

set_option maxRecDepth 16384

noncomputable section

namespace Cert.Enc.Prompt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal Cert.PromptIdeal.Gen

set_option maxHeartbeats 4000000 in
/-- Every fair execution of the kernel ends with the layer's output in the result array and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v11) : Vec Ideal S16x2048x1024 .f32)
        = (fun y => (layerK m c (y 0)).out sigTanh (layerK m c (y 0)).poolSum (layerK m c (y 0)).attLast (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨(h c _ (mem_uc main_v11 (by decide))).trans (result m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c)⟩)

end Cert.Enc.Prompt
-- ==== Proof.PromptRefRows.lean ====
/- For the prompt: the reference read at an index: the normalised rows, the projections and the gates, as the layer's functions. -/
module

public import proofs.«01_k».proof.Proof.RefRows
public import proofs.«01_k».proof.Proof.Gen.PromptReferenceIdeal.Read
public import proofs.«01_k».proof.Proof.PromptArgs

@[expose] public section

set_option maxRecDepth 16384

noncomputable section

namespace Cert.Enc.Prompt

open Idealize.ShloMosaic Cert.PromptReferenceIdeal Cert.PromptReferenceIdeal.Read

section

variable {L : Layer 2048} {a0 : Vec Ideal S16x2048x1024 .f32} {a1 : Vec Ideal S16x2048x512 .bf16} {a2 : Vec Ideal S16x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} {b : Fin 16} (hL : L = ofArgs b a0 a1 a2 a3 a4 a5 a6 a7 a8 a9 a10 a11 a12 a13 a14)

include hL

theorem r13 (t : Fin 2048) (k : Fin 1024) : val_main_v13 (F := Ideal) a0 a3 (ix3 b t k) = L.xn t k := by
  subst hL
  pointwise [val_main_v13, val_main_v10, val_main_v12, val_main_v11, val_main_v0, val_main_v9, val_main_v8, val_main_v7, val_main_v6, val_main_v5,
    val_main_v4, val_main_v3, val_main_v2, val_main_v1, val_main_cst, val_main_cst_0, val_main_cst_1]
  rfl

theorem r27 (t : Fin 256) (k : Fin 1024) : val_main_v27 (F := Ideal) a2 a4 (ix3 b t k) = rms (L.mem t) L.gm k := by
  subst hL
  pointwise [val_main_v27, val_main_v24, val_main_v26, val_main_v25, val_main_v14, val_main_v23, val_main_v22, val_main_v21, val_main_v20, val_main_v19,
    val_main_v18, val_main_v17, val_main_v16, val_main_v15, val_main_cst_2, val_main_cst_3, val_main_cst_4]
  rfl

theorem r29 (t : Fin 2048) (j : Fin 7168) : val_main_v29 (F := Ideal) a0 a3 a5 (ix3 b t j) = L.proj t j := by
  pointwise [val_main_v29, val_main_v28]
  simp only [r13 hL]
  subst hL
  rfl

theorem r154 (t : Fin 256) (j : Fin 1024) : val_main_v154 (F := Ideal) a2 a4 a8 (ix3 b t j) = L.kv t j := by
  pointwise [val_main_v154, val_main_v153]
  simp only [r27 hL]
  subst hL
  rfl

theorem r46 (t : Fin 2048) (j : Fin 3072) :
    val_main_v46 (F := Ideal) a0 a3 a5 a12 (ix3 b t j) = Ideal.logistic (L.proj t ⟨4096 + j, by omega⟩ + L.bg j) := by
  pointwise [val_main_v46, val_main_v45, val_main_v44, val_main_v43, val_main_v42, val_main_v41, val_main_v40, val_main_v39, val_main_v38, val_main_v37,
    val_main_v36, val_main_cst_5, val_main_cst_6]
  simp only [r29 hL]
  subst hL
  rfl

end

end Cert.Enc.Prompt
-- ==== Proof.PromptRefAttend.lean ====
/- For the prompt: the reference's attention read at an index. -/
module

public import proofs.«01_k».proof.Proof.RefAttend
public import proofs.«01_k».proof.Proof.PromptRefRows
public import Idealize.ShloMosaic.Lib.ReduceAll

@[expose] public section

set_option maxRecDepth 16384

noncomputable section

namespace Cert.Enc.Prompt

open Idealize.ShloMosaic Cert.PromptReferenceIdeal Cert.PromptReferenceIdeal.Read

section

variable {L : Layer 2048} {a0 : Vec Ideal S16x2048x1024 .f32} {a1 : Vec Ideal S16x2048x512 .bf16} {a2 : Vec Ideal S16x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} {b : Fin 16} (hL : L = ofArgs b a0 a1 a2 a3 a4 a5 a6 a7 a8 a9 a10 a11 a12 a13 a14)

include hL

theorem r162 (t : Fin 2048) (h : Fin 4) (m : Fin 256) : val_main_v162 (F := Ideal) a0 a2 a3 a4 a5 a8 (ix4 b h t m) = L.score t h m := by
  pointwise [val_main_v162, val_main_v161, val_main_v160, val_main_v157, val_main_v158, val_main_v155, val_main_v34, val_main_cst_31]
  simp only [r29 hL, r154 hL]
  unfold Layer.score
  simp only [Nat.mul_comm h.val 128]
  rfl

theorem r163 (t : Fin 2048) (h : Fin 4) : val_main_v163 (F := Ideal) a0 a2 a3 a4 a5 a8 (ix3 b h t) = L.top t h := by
  pointwise [val_main_v163, val_main_cst_32]
  simp only [r162 hL]
  rfl

/-- The greatest score is no less than the fold's start. -/
theorem r165 (t : Fin 2048) (h : Fin 4) : val_main_v165 (F := Ideal) a0 a2 a3 a4 a5 a8 (ix3 b h t) = L.top t h := by
  rw [val_main_v165_apply, r163 hL]
  exact max_eq_right ((Finset.le_fold_max _).2 (Or.inl le_rfl))

omit hL in
theorem idx167 (t : Fin 2048) (h : Fin 4) (m : Fin 256) : idx_main_v166 (idx_main_v167 (ix4 b h t m)) = ix3 b h t := by
  funext a
  fin_cases a <;> rfl

theorem r167 (t : Fin 2048) (h : Fin 4) (m : Fin 256) : val_main_v167 (F := Ideal) a0 a2 a3 a4 a5 a8 (ix4 b h t m) = L.top t h :=
  (val_main_v167_apply a0 a2 a3 a4 a5 a8 _).trans ((val_main_v166_apply a0 a2 a3 a4 a5 a8 _).trans (by rw [idx167]; exact r165 hL t h))

theorem r169 (t : Fin 2048) (h : Fin 4) (m : Fin 256) : val_main_v169 (F := Ideal) a0 a2 a3 a4 a5 a8 (ix4 b h t m) = L.ex t h m :=
  (congrArg Ideal.exp ((val_main_v168_apply a0 a2 a3 a4 a5 a8 _).trans (congrArg₂ (fun x y : EReal => x - y) (r162 hL t h m) (r167 hL t h m))))

theorem r173 (t : Fin 2048) (h : Fin 4) (m : Fin 256) :
    val_main_v173 (F := Ideal) a0 a2 a3 a4 a5 a8 (ix4 b h t m) = Ideal.div (L.ex t h m) (∑ m, L.ex t h m) := by
  pointwise [val_main_v173, val_main_v172, val_main_v171, val_main_v170, val_main_cst_34]
  simp only [r169 hL]

theorem r176 (t : Fin 2048) (j : Fin 512) : val_main_v176 (F := Ideal) a0 a2 a3 a4 a5 a8 (ix3 b t j) = L.attFirst t j := by
  pointwise [val_main_v176, val_main_v175, val_main_v174, val_main_v159, val_main_v156]
  simp only [r173 hL, r154 hL]
  exact Finset.sum_congr rfl fun m _ => mul_comm _ _

end

end Cert.Enc.Prompt
-- ==== Proof.PromptRefOut.lean ====
/- For the prompt: the reference's branches, their merge and its result, read at an index. -/
module

public import proofs.«01_k».proof.Proof.RefOut
public import proofs.«01_k».proof.Proof.PromptRefAttend
public import Idealize.ShloMosaic.Lib.ReduceAll

@[expose] public section

set_option maxRecDepth 16384

noncomputable section

namespace Cert.Enc.Prompt

open Idealize.ShloMosaic Cert.PromptReferenceIdeal Cert.PromptReferenceIdeal.Read

section

variable {L : Layer 2048} {a0 : Vec Ideal S16x2048x1024 .f32} {a1 : Vec Ideal S16x2048x512 .bf16} {a2 : Vec Ideal S16x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} {b : Fin 16} (hL : L = ofArgs b a0 a1 a2 a3 a4 a5 a6 a7 a8 a9 a10 a11 a12 a13 a14)

include hL

/-- What the pool branch's stacked groups hold. -/
def Pooled (b : Fin 16) (L : Layer 2048) (a0 : Vec Ideal S16x2048x1024 .f32) (a3 : Vec Ideal S1x1024 .f32) (a5 : Vec Ideal S1x1024x7168 .f32) : Prop :=
  ∀ (t : Fin 2048) (g : Fin 4) (k : Fin 256) (h : 256 * g.val + k.val < 1024),
    val_main_v137 (F := Ideal) a0 a3 a5 (ix4 b t g k) = L.poolDiff t ⟨256 * g + k, h⟩

theorem r145 (hP : Pooled b L a0 a3 a5) (t : Fin 2048) (j : Fin 1024) :
    val_main_v145 (F := Ideal) a0 a3 a5 a6 a7 (ix3 b t j) = L.yin Ideal.logistic L.poolDiff t j := by
  pointwise [val_main_v145, val_main_v144, val_main_v143, val_main_v142, val_main_v141, val_main_v140, val_main_v139, val_main_v138, val_main_v51,
    val_main_v50, val_main_v31, val_main_call17_v5, val_main_call17_v4, val_main_call17_v3, val_main_call17_v2, val_main_call17_v1,
    val_main_call17_v0, val_main_call17_cst, val_main_call17_cst_0]
  have e : ∀ x : Fin 256, val_main_v137 (F := Ideal) a0 a3 a5 (ix4 b t ⟨j.val / 256, by omega⟩ x) = L.poolDiff t ⟨256 * (j.val / 256) + x, by omega⟩ :=
    fun x => hP t _ x _
  simp only [r29 hL, e]
  clear e hP
  subst hL
  exact congrArg₂ (fun x y : EReal => x * y) (congrArg (fun x : EReal => x * _) (Finset.sum_congr rfl fun x _ => mul_comm _ _)) rfl

theorem r150 (t : Fin 2048) (j : Fin 512) :
    val_main_v150 (F := Ideal) a0 a1 a3 a5 (ix3 b t j) = L.fin Ideal.logistic t j := by
  pointwise [val_main_v150, val_main_v149, val_main_v148, val_main_v33, val_main_call18_v5, val_main_call18_v4, val_main_call18_v3,
    val_main_call18_v2, val_main_call18_v1, val_main_call18_v0, val_main_call18_cst, val_main_call18_cst_0]
  simp only [r29 hL]
  subst hL
  rfl

theorem r178 (t : Fin 2048) (j : Fin 512) :
    val_main_v178 (F := Ideal) a0 a2 a3 a4 a5 a8 (ix3 b t j) = L.ain Ideal.logistic L.attFirst t j := by
  pointwise [val_main_v178, val_main_v177, val_main_v35, val_main_call19_v5, val_main_call19_v4, val_main_call19_v3,
    val_main_call19_v2, val_main_call19_v1, val_main_call19_v0, val_main_call19_cst, val_main_call19_cst_0]
  simp only [r29 hL, r176 hL]
  rfl

theorem r181 (hP : Pooled b L a0 a3 a5) (t : Fin 2048) (j : Fin 1024) :
    val_main_v181 (F := Ideal) a0 a3 a5 a6 a7 a9 a12 (ix3 b t j) = L.brA Ideal.logistic L.poolDiff t j := by
  pointwise [val_main_v181, val_main_v147, val_main_v146, val_main_v47]
  simp only [r145 hL hP, r46 hL]
  clear hP
  subst hL
  unfold Layer.brA Layer.gate
  simp only [Nat.zero_add]
  rfl

theorem r182 (t : Fin 2048) (j : Fin 1024) :
    val_main_v182 (F := Ideal) a0 a1 a3 a5 a10 a12 (ix3 b t j) = L.brB Ideal.logistic t j := by
  pointwise [val_main_v182, val_main_v152, val_main_v151, val_main_v48]
  simp only [r150 hL, r46 hL]
  subst hL
  rfl

theorem r184 (t : Fin 2048) (j : Fin 1024) :
    val_main_v184 (F := Ideal) a0 a2 a3 a4 a5 a8 a11 a12 (ix3 b t j) = L.brC Ideal.logistic L.attFirst t j := by
  pointwise [val_main_v184, val_main_v180, val_main_v179, val_main_v49]
  simp only [r178 hL, r46 hL]
  subst hL
  rfl

theorem r185 (hP : Pooled b L a0 a3 a5) (t : Fin 2048) (j : Fin 1024) :
    val_main_v185 (F := Ideal) a0 a1 a2 a3 a4 a5 a6 a7 a8 a9 a10 a11 a12 (ix3 b t j) = L.merged Ideal.logistic L.poolDiff L.attFirst t j :=
  congrArg₂ (fun x y : EReal => x + y) (congrArg₂ (fun x y : EReal => x + y) (r181 hL hP t j) (r182 hL t j)) (r184 hL t j)

theorem r188 (hP : Pooled b L a0 a3 a5) (t : Fin 2048) (j : Fin 1024) :
    val_main_v188 (F := Ideal) a0 a1 a2 a3 a4 a5 a6 a7 a8 a9 a10 a11 a12 a13 (ix3 b t j) = L.res Ideal.logistic L.poolDiff L.attFirst t j := by
  pointwise [val_main_v188, val_main_v187, val_main_v186]
  simp only [r185 hL hP]
  clear hP
  subst hL
  rfl

/-- The reference's result. -/
theorem r201 (hP : Pooled b L a0 a3 a5) (t : Fin 2048) (j : Fin 1024) :
    val_main_v201 (F := Ideal) a0 a1 a2 a3 a4 a5 a6 a7 a8 a9 a10 a11 a12 a13 a14 (ix3 b t j) = L.out Ideal.logistic L.poolDiff L.attFirst t j := by
  pointwise [val_main_v201, val_main_v200, val_main_v199, val_main_v198, val_main_v197, val_main_v196, val_main_v195, val_main_v194, val_main_v193,
    val_main_v192, val_main_v191, val_main_v190, val_main_v189, val_main_cst_35, val_main_cst_36, val_main_cst_37]
  simp only [r188 hL hP]
  clear hP
  subst hL
  rfl

end

end Cert.Enc.Prompt
-- ==== Proof.PromptRefCum.lean ====
/- For the prompt: the reference's running sum over the tokens, read at an index. -/
module

public import proofs.«01_k».proof.Proof.RefCum
public import proofs.«01_k».proof.Proof.PromptRefRows

@[expose] public section

set_option maxRecDepth 16384

noncomputable section

namespace Cert.Enc.Prompt

open Idealize.ShloMosaic Cert.PromptReferenceIdeal Cert.PromptReferenceIdeal.Read

/-- The window's shape: one axis of 2048. -/
abbrev winShape : Shape := ⟨4, ![1, 2048, 1, 1]⟩

theorem winShape_numel : winShape.numel = 2048 := by
  simp [winShape, Shape.numel, Fin.prod_univ_four]

theorem winShape_symm (n : Fin winShape.numel) (h : n.val < 2048) : winShape.rowMajor.symm n = ix4 (0 : Fin 1) (⟨n.val, h⟩ : Fin 2048) (0 : Fin 1) (0 : Fin 1) := by
  refine (winShape.rowMajor.symm_apply_eq).2 (Fin.ext ?_)
  rw [Shape.rowMajor_val_four]
  show n.val = _
  simp

/-- The running sum at a token. -/
theorem cum_at (b : Fin 16) (x : Vec Ideal S16x2048x4x256 .f32) (init : Vec Ideal S_ .f32) (h0 : ∀ i, init i = (0 : EReal))
    (hw : S16x2048x4x256.ReduceWindows ![1, 2048, 1, 1] ![1, 1, 1, 1] ![0, 2047, 0, 0] ![0, 0, 0, 0] S16x2048x4x256) (hu : 0 < S_.numel)
    (t : Fin 2048) (g : Fin 4) (k : Fin 256) (f : ℕ → EReal) (hf : ∀ s (h : s < 2048), f s = x (ix4 b ⟨s, h⟩ g k)) :
    (Host.reduceWindowAdd (F := Ideal) (φ := .f32) (s := S16x2048x4x256) (t := S16x2048x4x256) (u := S_) ![1, 2048, 1, 1] ![1, 1, 1, 1] ![0, 2047, 0, 0] ![0, 0, 0, 0] x init hw hu) (ix4 b t g k)
      = ∑ s ∈ Finset.range (t.val + 1), f s := by
  refine (window_at _ _ _ _ _ _ _ _ _ (fun n : Fin winShape.numel => if 2048 - 1 ≤ t.val + n.val then f (t.val + n.val - (2048 - 1)) else 0) ?_ ?_).trans ?_
  · intro n q
    have w0 : (winShape.rowMajor.symm n 0).val = 0 := Nat.lt_one_iff.1 (Fin.isLt _)
    have w1 : (winShape.rowMajor.symm n 1).val = n.val := by
      rw [winShape_symm n (lt_of_lt_of_eq n.isLt winShape_numel)]
      rfl
    have w2 : (winShape.rowMajor.symm n 2).val = 0 := Nat.lt_one_iff.1 (Fin.isLt _)
    have w3 : (winShape.rowMajor.symm n 3).val = 0 := Nat.lt_one_iff.1 (Fin.isLt _)
    have q1 := q 1
    change 2047 ≤ t.val * 1 + (winShape.rowMajor.symm n 1).val ∧ t.val * 1 + (winShape.rowMajor.symm n 1).val - 2047 < 2048 at q1
    rw [w1] at q1
    rw [if_pos (by omega), hf _ (by omega)]
    refine congrArg x (funext fun a => Fin.ext ?_)
    match a with
    | ⟨0, _⟩ =>
      show b.val * 1 + (winShape.rowMajor.symm n 0).val - 0 = b.val
      rw [w0]
      omega
    | ⟨1, _⟩ =>
      show t.val * 1 + (winShape.rowMajor.symm n 1).val - 2047 = t.val + n.val - (2048 - 1)
      rw [w1]
      omega
    | ⟨2, _⟩ =>
      show g.val * 1 + (winShape.rowMajor.symm n 2).val - 0 = g.val
      rw [w2]
      omega
    | ⟨3, _⟩ =>
      show k.val * 1 + (winShape.rowMajor.symm n 3).val - 0 = k.val
      rw [w3]
      omega
  · intro n q
    have w0 : (winShape.rowMajor.symm n 0).val = 0 := Nat.lt_one_iff.1 (Fin.isLt _)
    have w1 : (winShape.rowMajor.symm n 1).val = n.val := by
      rw [winShape_symm n (lt_of_lt_of_eq n.isLt winShape_numel)]
      rfl
    have w2 : (winShape.rowMajor.symm n 2).val = 0 := Nat.lt_one_iff.1 (Fin.isLt _)
    have w3 : (winShape.rowMajor.symm n 3).val = 0 := Nat.lt_one_iff.1 (Fin.isLt _)
    have hn : n.val < 2048 := lt_of_lt_of_eq n.isLt winShape_numel
    have ht := t.isLt
    rw [h0, if_neg]
    intro hc
    refine q fun a => ?_
    match a with
    | ⟨0, _⟩ =>
      show 0 ≤ b.val * 1 + (winShape.rowMajor.symm n 0).val ∧ b.val * 1 + (winShape.rowMajor.symm n 0).val - 0 < 16
      rw [w0]
      omega
    | ⟨1, _⟩ =>
      show 2047 ≤ t.val * 1 + (winShape.rowMajor.symm n 1).val ∧ t.val * 1 + (winShape.rowMajor.symm n 1).val - 2047 < 2048
      rw [w1]
      omega
    | ⟨2, _⟩ =>
      show 0 ≤ g.val * 1 + (winShape.rowMajor.symm n 2).val ∧ g.val * 1 + (winShape.rowMajor.symm n 2).val - 0 < 4
      rw [w2]
      omega
    | ⟨3, _⟩ =>
      show 0 ≤ k.val * 1 + (winShape.rowMajor.symm n 3).val ∧ k.val * 1 + (winShape.rowMajor.symm n 3).val - 0 < 256
      rw [w3]
      omega
  rw [h0, zero_add, ← Fin.sum_univ_def, Fin.sum_univ_eq_sum_range (fun n => if 2048 - 1 ≤ t.val + n then f (t.val + n - (2048 - 1)) else 0) winShape.numel, winShape_numel]
  exact window_sum f 2048 t.val t.isLt

section

variable {L : Layer 2048} {a0 : Vec Ideal S16x2048x1024 .f32} {a1 : Vec Ideal S16x2048x512 .bf16} {a2 : Vec Ideal S16x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} {b : Fin 16} (hL : L = ofArgs b a0 a1 a2 a3 a4 a5 a6 a7 a8 a9 a10 a11 a12 a13 a14)

include hL

theorem r52 (t : Fin 2048) (g : Fin 4) (k : Fin 256) (h : 256 * g.val + k.val < 1024) :
    val_main_v52 (F := Ideal) a0 a3 a5 (ix4 b t g k) = L.pv t ⟨256 * g + k, h⟩ := by
  pointwise [val_main_v52, val_main_v30]
  simp only [r29 hL]
  exact congrArg (L.proj t) (Fin.ext (by show g.val * 256 + k.val = 256 * g.val + k.val; omega))

theorem r54 (t : Fin 2048) (g : Fin 4) (k : Fin 256) (h : 256 * g.val + k.val < 1024) :
    val_main_v54 (F := Ideal) a0 a3 a5 (ix4 b t g k) = L.run (t.val + 1) ⟨256 * g + k, h⟩ :=
  cum_at b (val_main_v52 (F := Ideal) a0 a3 a5) (val_main_call0_call0_v0 (F := Ideal)) (fun _ => Ideal.ofBits_zero .f32) _ _ t g k
    (fun s => L.pad (s + 8) ⟨256 * g + k, h⟩) fun s hs => by
      rw [r52 hL ⟨s, hs⟩ g k h]
      unfold Layer.pad
      rw [dif_pos (by omega)]
      rfl

/-- The running sum with the zero row before it: row `n` is the sum of the first `n` tokens. -/
theorem r55 (n : Fin 2049) (g : Fin 4) (k : Fin 256) (h : 256 * g.val + k.val < 1024) :
    val_main_v55 (F := Ideal) a0 a3 a5 (ix4 b n g k) = L.run n.val ⟨256 * g + k, h⟩ := by
  pointwise [val_main_v55]
  split
  · next c =>
    have e : n.val = 0 := by omega
    have e1 : L.run n.val ⟨256 * g + k, h⟩ = 0 := (congrArg (fun q => L.run q ⟨256 * g + k, h⟩) e).trans (Finset.sum_range_zero _)
    exact (Ideal.ofBits_zero .f32).trans e1.symm
  · next c =>
    rw [r54 hL _ g k h]
    exact congrArg (fun q => L.run q ⟨256 * g + k, h⟩) (by show n.val - 1 + 1 = n.val; omega)

end

end Cert.Enc.Prompt
-- ==== Proof.PromptRefTake.lean ====
/- For the prompt: the reference's window ends: words, and a row taken by a word. -/
module

public import proofs.«01_k».proof.Proof.RefTake
public import proofs.«01_k».proof.Proof.PromptRefRows
public import Idealize.ShloMosaic.Lib.ReduceAll
public import Idealize.ShloMosaic.Lib.Routing.OpsSearch
public import Idealize.ShloMosaic.Lib.Routing.OpsPair
public import Idealize.ShloMosaic.Lib.Tactic.WordOmega

@[expose] public section

set_option maxRecDepth 16384

noncomputable section

namespace Cert.Enc.Prompt

open Idealize.ShloMosaic Cert.PromptReferenceIdeal Cert.PromptReferenceIdeal.Gen Cert.PromptReferenceIdeal.Read

/-- A row taken by its word. -/
theorem take_row (b : Fin 16) (x : Vec Ideal S16x2049x256 .f32) (idx : IVec S2048x1 32) (t : Fin 2048) (k : Fin 256) (n : ℕ) (hn : n < 2049)
    (h : idx (ix2 t (0 : Fin 1)) = BitVec.ofNat 32 n) :
    (Host.gather gather_S16x2049x256_S2048x1_S16x2048x256_02_1_n_n_1_1_161256 x idx : Vec Ideal S16x2048x256 .f32) (ix3 b t k) = x (ix3 b ⟨n, hn⟩ k) := by
  unfold Host.gather
  refine congrArg x (funext fun a => Fin.ext ?_)
  have hi : (idx (ix2 t (0 : Fin 1))).toInt.toNat = n := by
    rw [h, StableHlo.Predicate.toInt_ofNat_small n (by omega)]
    exact Int.toNat_natCast n
  match a with
  | ⟨0, _⟩ =>
    have e : ∀ X : Fin 3, X = 0 → (ix3 b t k X).val = b.val := fun X h => by subst h; rfl
    show GatherDims.start gather_S16x2049x256_S2048x1_S16x2048x256_02_1_n_n_1_1_161256 (ix3 b t k) idx 0
      + GatherDims.batchCoord gather_S16x2049x256_S2048x1_S16x2048x256_02_1_n_n_1_1_161256 (ix3 b t k) 0
      + GatherDims.offCoord gather_S16x2049x256_S2048x1_S16x2048x256_02_1_n_n_1_1_161256 (ix3 b t k) 0 = b.val
    rw [GatherDims.batchCoord_eq_zero _ _ _ List.not_mem_nil, Nat.add_zero]
    unfold GatherDims.start GatherDims.offCoord
    rw [dif_neg (show (0 : Fin 3) ∉ gather_S16x2049x256_S2048x1_S16x2048x256_02_1_n_n_1_1_161256.startIndexMap by decide), dif_pos (show (0 : Fin 3) ∈ gather_S16x2049x256_S2048x1_S16x2048x256_02_1_n_n_1_1_161256.sKept by decide), Nat.zero_add]
    exact e _ rfl
  | ⟨1, _⟩ =>
    have e : (gather_S16x2049x256_S2048x1_S16x2048x256_02_1_n_n_1_1_161256.siIdx (ix3 b t k) ⟨0, Nat.zero_lt_one⟩) = ix2 t (0 : Fin 1) := by
      funext b
      match b with
      | ⟨0, _⟩ => rfl
      | ⟨1, _⟩ => exact Fin.ext (Nat.lt_one_iff.1 (Fin.isLt _))
    show min (idx (gather_S16x2049x256_S2048x1_S16x2048x256_02_1_n_n_1_1_161256.siIdx (ix3 b t k) ⟨0, Nat.zero_lt_one⟩)).toInt.toNat (2049 - 1) + 0 + 0 = n
    rw [e, hi]
    omega
  | ⟨2, _⟩ =>
    have e : ∀ X : Fin 3, X = 2 → (ix3 b t k X).val = k.val := fun X h => by subst h; rfl
    show GatherDims.start gather_S16x2049x256_S2048x1_S16x2048x256_02_1_n_n_1_1_161256 (ix3 b t k) idx 2
      + GatherDims.batchCoord gather_S16x2049x256_S2048x1_S16x2048x256_02_1_n_n_1_1_161256 (ix3 b t k) 2
      + GatherDims.offCoord gather_S16x2049x256_S2048x1_S16x2048x256_02_1_n_n_1_1_161256 (ix3 b t k) 2 = k.val
    rw [GatherDims.batchCoord_eq_zero _ _ _ List.not_mem_nil, Nat.add_zero]
    unfold GatherDims.start GatherDims.offCoord
    rw [dif_neg (show (2 : Fin 3) ∉ gather_S16x2049x256_S2048x1_S16x2048x256_02_1_n_n_1_1_161256.startIndexMap by decide), dif_pos (show (2 : Fin 3) ∈ gather_S16x2049x256_S2048x1_S16x2048x256_02_1_n_n_1_1_161256.sKept by decide), Nat.zero_add]
    exact e _ rfl

/-- The low end of a window: the difference, at least zero and at most 2048. -/
theorem lo_word (t h : ℕ) (ht : t < 2048) (hh : h ≤ 8) :
    IntOp.minsi 2048#32 (IntOp.maxsi 0#32 (BitVec.ofNat 32 t - BitVec.ofNat 32 h)) = BitVec.ofNat 32 (t - h) := by
  by_cases c : h ≤ t
  · have e : BitVec.ofNat 32 t - BitVec.ofNat 32 h = BitVec.ofNat 32 (t - h) := by
      apply BitVec.eq_of_toNat_eq
      rw [BitVec.toNat_sub, BitVec.toNat_ofNat, BitVec.toNat_ofNat, BitVec.toNat_ofNat]
      omega
    rw [e]
    exact (Routing.clip_word (x := t - h) (lo := 0) (hi := 2048) (by omega) (by omega) (by omega)).trans (by rw [Nat.max_eq_left (Nat.zero_le _), Nat.min_eq_left (by omega)])
  · have e : (BitVec.ofNat 32 t - BitVec.ofNat 32 h).slt 0#32 = true := by
      rw [BitVec.slt_zero_eq_msb, BitVec.msb_eq_decide, BitVec.toNat_sub, BitVec.toNat_ofNat, BitVec.toNat_ofNat]
      exact decide_eq_true (by omega)
    have m : IntOp.maxsi 0#32 (BitVec.ofNat 32 t - BitVec.ofNat 32 h) = 0#32 := by
      unfold IntOp.maxsi
      rw [if_pos e]
    rw [m, Nat.sub_eq_zero_of_le (by omega)]
    rfl

/-- The high end of a window. -/
theorem hi_word (t h : ℕ) (ht : t < 2048) (hh : h ≤ 8) :
    IntOp.minsi 2048#32 (IntOp.maxsi 0#32 (BitVec.ofNat 32 t + BitVec.ofNat 32 h)) = BitVec.ofNat 32 (min (t + h) 2048) := by
  rw [← BitVec.ofNat_add]
  exact (Routing.clip_word (x := t + h) (lo := 0) (hi := 2048) (by omega) (by omega) (by omega)).trans (by rw [Nat.max_eq_left (Nat.zero_le _)])

/-- A word of a place is in the table: the test that guards the taken row holds. -/
theorem in_table (n : ℕ) (hn : n < 2049) :
    IntOp.andi (IntOp.cmpi .sge (BitVec.ofNat 32 n) 0#32) (IntOp.cmpi .sle (BitVec.ofNat 32 n) 2048#32) = 1#1 := by
  word_omega

/-- A place's word is not negative, so it is kept. -/
theorem keep_word (n : ℕ) (hn : n < 2049) (a : BitVec 32) : Scalar.select (IntOp.cmpi .slt (BitVec.ofNat 32 n) 0#32) a (BitVec.ofNat 32 n) = BitVec.ofNat 32 n :=
  Idealize.ShloMosaic.Routing.wrap_of_lt _ _ (by rw [BitVec.toNat_ofNat]; omega)

/-- The places' words with the negative ones wrapped. -/
def wrapped (w : IVec S2048 32) : IVec S2048x1 32 :=
  broadcastInDim S2048x1 ![0] bcast_S2048_S2048x1_0
    (select (cmpi .slt w (broadcastInDim S2048 ![] bcast_S_S2048 (constantI S_ 32 0#32)))
      (addi w (broadcastInDim S2048 ![] bcast_S_S2048 (constantI S_ 32 2049#32))) w)

/-- Where the wrapped words are in the table. -/
def inside (w : IVec S2048 32) : IVec S2048x1 1 :=
  andi (cmpi .sge (wrapped w) (broadcastInDim S2048x1 ![] bcast_S_S2048x1 (constantI S_ 32 0#32)))
    (cmpi .sle (wrapped w) (broadcastInDim S2048x1 ![0, 1] bcast_S1x1_S2048x1_0_1 (broadcastInDim S1x1 ![1] bcast_S1_S1x1_1 (constantI S1 32 2048#32))))

/-- The rows that the words name. -/
def taken (x : Vec Ideal S16x2049x256 .f32) (w : IVec S2048 32) : Vec Ideal S16x2048x256 .f32 :=
  select (broadcastInDim S16x2048x256 ![1] bcast_S2048_S16x2048x256_1 (Host.reduce IntOp.andi (inside w) (constantI S_ 1 1#1) reducesTo_S2048x1_S2048_d1 h_S_))
    (Host.gather gather_S16x2049x256_S2048x1_S16x2048x256_02_1_n_n_1_1_161256 x (wrapped w))
    (broadcastInDim S16x2048x256 ![] bcast_S_S16x2048x256 (constant (F := Ideal) S_ .f32 0x7FC00000#32))

theorem wrapped_at (w : IVec S2048 32) (t : Fin 2048) (n : ℕ) (hn : n < 2049) (h : w (ix1 t) = BitVec.ofNat 32 n) :
    wrapped w (ix2 t (0 : Fin 1)) = BitVec.ofNat 32 n := by
  pointwise [wrapped]
  rw [h]
  exact keep_word n hn _

theorem inside_at (w : IVec S2048 32) (n : Fin 2048 → ℕ) (hn : ∀ t, n t < 2049) (h : ∀ t, w (ix1 t) = BitVec.ofNat 32 (n t)) (i : S2048x1.Idx) :
    inside w i = 1#1 := by
  have e : i = ix2 (n0 := 2048) (n1 := 1) (i 0) 0 := (eq_ix2 i).trans (congrArg (ix2 (n0 := 2048) (n1 := 1) (i 0)) (Fin.ext (Nat.lt_one_iff.1 (Fin.isLt _))))
  generalize i 0 = t at e
  subst e
  pointwise [inside]
  rw [wrapped_at w t (n t) (hn t) (h t)]
  exact in_table (n t) (hn t)

theorem taken_at (b : Fin 16) (x : Vec Ideal S16x2049x256 .f32) (w : IVec S2048 32) (n : Fin 2048 → ℕ) (hn : ∀ t, n t < 2049)
    (h : ∀ t, w (ix1 t) = BitVec.ofNat 32 (n t)) (t : Fin 2048) (k : Fin 256) :
    taken x w (ix3 b t k) = x (ix3 b ⟨n t, hn t⟩ k) := by
  have m : (Host.reduce IntOp.andi (inside w) (constantI S_ 1 1#1) reducesTo_S2048x1_S2048_d1 h_S_) (ix1 t) = 1#1 :=
    Host.reduce_andi_one _ _ _ _ _ rfl (inside_at w n hn h)
  refine Eq.trans ?_ (take_row b x (wrapped w) t k (n t) (hn t) (wrapped_at w t (n t) (hn t) (h t)))
  unfold taken
  generalize (Host.reduce IntOp.andi (inside w) (constantI S_ 1 1#1) reducesTo_S2048x1_S2048_d1 h_S_) = b at m
  pointwise []
  rw [m]
  rfl

end Cert.Enc.Prompt
-- ==== Proof.PromptRefPool.lean ====
/- For the prompt: the reference's window means, one group of channels at a time, and the stacked groups. -/
module

public import proofs.«01_k».proof.Proof.RefPool
public import proofs.«01_k».proof.Proof.PromptRefOut
public import proofs.«01_k».proof.Proof.PromptRefCum
public import proofs.«01_k».proof.Proof.PromptRefTake

@[expose] public section

set_option maxRecDepth 16384

noncomputable section

namespace Cert.Enc.Prompt

open Idealize.ShloMosaic Cert.PromptReferenceIdeal Cert.PromptReferenceIdeal.Gen Cert.PromptReferenceIdeal.Read

/-- The count of a window, from the words of its ends. -/
theorem count_word (t : Fin 2048) (h : ℕ) :
    (((BitVec.ofNat 32 (min (t.val + h) 2048) - BitVec.ofNat 32 (t.val - h)).toInt : ℝ) : EReal) = Layer.cnt h t := by
  have e : BitVec.ofNat 32 (min (t.val + h) 2048) - BitVec.ofNat 32 (t.val - h) = BitVec.ofNat 32 (min (t.val + h) 2048 - (t.val - h)) := by
    apply BitVec.eq_of_toNat_eq
    rw [BitVec.toNat_sub, BitVec.toNat_ofNat, BitVec.toNat_ofNat, BitVec.toNat_ofNat]
    omega
  rw [e, StableHlo.Predicate.toInt_ofNat_small _ (by omega), Int.cast_natCast]
  rfl

section

variable {L : Layer 2048} {a0 : Vec Ideal S16x2048x1024 .f32} {a1 : Vec Ideal S16x2048x512 .bf16} {a2 : Vec Ideal S16x256x1024 .f32}
    {a3 a4 : Vec Ideal S1x1024 .f32} {a5 : Vec Ideal S1x1024x7168 .f32} {a6 : Vec Ideal S1x4x256x256 .f32} {a7 : Vec Ideal S1x1024 .f32}
    {a8 a9 : Vec Ideal S1x1024x1024 .f32} {a10 a11 : Vec Ideal S1x512x1024 .f32} {a12 : Vec Ideal S1x3072 .f32}
    {a13 : Vec Ideal S1x1024x1024 .f32} {a14 : Vec Ideal S1024 .f32} {b : Fin 16} (hL : L = ofArgs b a0 a1 a2 a3 a4 a5 a6 a7 a8 a9 a10 a11 a12 a13 a14)

/-- One group's window mean less its channels, from the table of running sums, the window's ends and the channels. -/
theorem mean_at (h : ℕ) (t : Fin 2048) (c : Fin 1024) (hc : Layer.half c = h) (A B N P : EReal)
    (hA : A = L.run (min (t + h) 2048) c) (hB : B = L.run (t - h) c) (hN : N = Layer.cnt h t) (hP : P = L.pv t c) :
    Ideal.div (A - B) N - P = L.poolDiff t c := by
  subst hA hB hN hP hc
  rfl

theorem w59 (t : Fin 2048) : val_main_v59 (F := Ideal) (ix1 t) = BitVec.ofNat 32 (t - 1) := by
  pointwise [val_main_v59, val_main_call1_v4, val_main_call1_v3, val_main_call1_v2, val_main_call1_v1, val_main_call1_v0, val_main_v58, val_main_v57, val_main_v56,
    val_main_c, val_main_c_8, val_main_c_9]
  exact lo_word t 1 t.isLt (by omega)

theorem w62 (t : Fin 2048) : val_main_v62 (F := Ideal) (ix1 t) = BitVec.ofNat 32 (min (t + 1) 2048) := by
  pointwise [val_main_v62, val_main_call2_v4, val_main_call2_v3, val_main_call2_v2, val_main_call2_v1, val_main_call2_v0, val_main_v61, val_main_v60, val_main_v56,
    val_main_c_10, val_main_c_11, val_main_c_12]
  exact hi_word t 1 t.isLt (by omega)

theorem n64 (t : Fin 2048) : val_main_v64 (F := Ideal) (ix1 t) = Layer.cnt 1 t := by
  refine Eq.trans ?_ (count_word t 1)
  rw [← w62 t, ← w59 t]
  rfl

include hL

theorem r67 (n : Fin 2049) (k : Fin 256) (c : Fin 1024) (hc : c.val = 0 + k.val) :
    val_main_v67 (F := Ideal) a0 a3 a5 (ix3 b n k) = L.run n.val c := by
  pointwise [val_main_v67, val_main_v66]
  exact (r55 hL n 0 k (by show 256 * 0 + k.val < 1024; omega)).trans (congrArg (L.run n.val) (Fin.ext hc.symm))

theorem r68 (t : Fin 2048) (k : Fin 256) (c : Fin 1024) (hc : c.val = 0 + k.val) :
    val_main_v68 (F := Ideal) a0 a3 a5 (ix3 b t k) = L.run (min (t + 1) 2048) c :=
  (taken_at b (val_main_v67 (F := Ideal) a0 a3 a5) (val_main_v62 (F := Ideal)) (fun t => min (t + 1) 2048) (fun t => by omega) w62 t k).trans
    (r67 hL _ k c hc)

theorem r69 (t : Fin 2048) (k : Fin 256) (c : Fin 1024) (hc : c.val = 0 + k.val) :
    val_main_v69 (F := Ideal) a0 a3 a5 (ix3 b t k) = L.run (t - 1) c :=
  (taken_at b (val_main_v67 (F := Ideal) a0 a3 a5) (val_main_v59 (F := Ideal)) (fun t => t - 1) (fun t => by omega) w59 t k).trans
    (r67 hL _ k c hc)

theorem r75 (t : Fin 2048) (k : Fin 256) (c : Fin 1024) (hc : c.val = 0 + k.val) :
    val_main_v75 (F := Ideal) a0 a3 a5 (ix3 b t k) = L.poolDiff t c := by
  pointwise [val_main_v75, val_main_v74, val_main_v73, val_main_v72, val_main_v71, val_main_v70, val_main_v65]
  exact mean_at 1 t c (by
    have e : c.val / 256 = 0 := by omega
    exact congrArg (2 ^ ·) e) _ _ _ _ (r68 hL t k c hc) (r69 hL t k c hc) (n64 t) ((r52 hL t 0 k (by show 256 * 0 + k.val < 1024; omega)).trans (congrArg (L.pv t) (Fin.ext hc.symm)))

omit hL

theorem w78 (t : Fin 2048) : val_main_v78 (F := Ideal) (ix1 t) = BitVec.ofNat 32 (t - 2) := by
  pointwise [val_main_v78, val_main_call5_v4, val_main_call5_v3, val_main_call5_v2, val_main_call5_v1, val_main_call5_v0, val_main_v77, val_main_v76, val_main_v56,
    val_main_c_13, val_main_c_14, val_main_c_15]
  exact lo_word t 2 t.isLt (by omega)

theorem w81 (t : Fin 2048) : val_main_v81 (F := Ideal) (ix1 t) = BitVec.ofNat 32 (min (t + 2) 2048) := by
  pointwise [val_main_v81, val_main_call6_v4, val_main_call6_v3, val_main_call6_v2, val_main_call6_v1, val_main_call6_v0, val_main_v80, val_main_v79, val_main_v56,
    val_main_c_16, val_main_c_17, val_main_c_18]
  exact hi_word t 2 t.isLt (by omega)

theorem n83 (t : Fin 2048) : val_main_v83 (F := Ideal) (ix1 t) = Layer.cnt 2 t := by
  refine Eq.trans ?_ (count_word t 2)
  rw [← w81 t, ← w78 t]
  rfl

include hL

theorem r86 (n : Fin 2049) (k : Fin 256) (c : Fin 1024) (hc : c.val = 256 + k.val) :
    val_main_v86 (F := Ideal) a0 a3 a5 (ix3 b n k) = L.run n.val c := by
  pointwise [val_main_v86, val_main_v85]
  exact (r55 hL n 1 k (by show 256 * 1 + k.val < 1024; omega)).trans (congrArg (L.run n.val) (Fin.ext hc.symm))

theorem r87 (t : Fin 2048) (k : Fin 256) (c : Fin 1024) (hc : c.val = 256 + k.val) :
    val_main_v87 (F := Ideal) a0 a3 a5 (ix3 b t k) = L.run (min (t + 2) 2048) c :=
  (taken_at b (val_main_v86 (F := Ideal) a0 a3 a5) (val_main_v81 (F := Ideal)) (fun t => min (t + 2) 2048) (fun t => by omega) w81 t k).trans
    (r86 hL _ k c hc)

theorem r88 (t : Fin 2048) (k : Fin 256) (c : Fin 1024) (hc : c.val = 256 + k.val) :
    val_main_v88 (F := Ideal) a0 a3 a5 (ix3 b t k) = L.run (t - 2) c :=
  (taken_at b (val_main_v86 (F := Ideal) a0 a3 a5) (val_main_v78 (F := Ideal)) (fun t => t - 2) (fun t => by omega) w78 t k).trans
    (r86 hL _ k c hc)

theorem r94 (t : Fin 2048) (k : Fin 256) (c : Fin 1024) (hc : c.val = 256 + k.val) :
    val_main_v94 (F := Ideal) a0 a3 a5 (ix3 b t k) = L.poolDiff t c := by
  pointwise [val_main_v94, val_main_v93, val_main_v92, val_main_v91, val_main_v90, val_main_v89, val_main_v84]
  exact mean_at 2 t c (by
    have e : c.val / 256 = 1 := by omega
    exact congrArg (2 ^ ·) e) _ _ _ _ (r87 hL t k c hc) (r88 hL t k c hc) (n83 t) ((r52 hL t 1 k (by show 256 * 1 + k.val < 1024; omega)).trans (congrArg (L.pv t) (Fin.ext hc.symm)))

omit hL

theorem w97 (t : Fin 2048) : val_main_v97 (F := Ideal) (ix1 t) = BitVec.ofNat 32 (t - 4) := by
  pointwise [val_main_v97, val_main_call9_v4, val_main_call9_v3, val_main_call9_v2, val_main_call9_v1, val_main_call9_v0, val_main_v96, val_main_v95, val_main_v56,
    val_main_c_19, val_main_c_20, val_main_c_21]
  exact lo_word t 4 t.isLt (by omega)

theorem w100 (t : Fin 2048) : val_main_v100 (F := Ideal) (ix1 t) = BitVec.ofNat 32 (min (t + 4) 2048) := by
  pointwise [val_main_v100, val_main_call10_v4, val_main_call10_v3, val_main_call10_v2, val_main_call10_v1, val_main_call10_v0, val_main_v99, val_main_v98, val_main_v56,
    val_main_c_22, val_main_c_23, val_main_c_24]
  exact hi_word t 4 t.isLt (by omega)

theorem n102 (t : Fin 2048) : val_main_v102 (F := Ideal) (ix1 t) = Layer.cnt 4 t := by
  refine Eq.trans ?_ (count_word t 4)
  rw [← w100 t, ← w97 t]
  rfl

include hL

theorem r105 (n : Fin 2049) (k : Fin 256) (c : Fin 1024) (hc : c.val = 512 + k.val) :
    val_main_v105 (F := Ideal) a0 a3 a5 (ix3 b n k) = L.run n.val c := by
  pointwise [val_main_v105, val_main_v104]
  exact (r55 hL n 2 k (by show 256 * 2 + k.val < 1024; omega)).trans (congrArg (L.run n.val) (Fin.ext hc.symm))

theorem r106 (t : Fin 2048) (k : Fin 256) (c : Fin 1024) (hc : c.val = 512 + k.val) :
    val_main_v106 (F := Ideal) a0 a3 a5 (ix3 b t k) = L.run (min (t + 4) 2048) c :=
  (taken_at b (val_main_v105 (F := Ideal) a0 a3 a5) (val_main_v100 (F := Ideal)) (fun t => min (t + 4) 2048) (fun t => by omega) w100 t k).trans
    (r105 hL _ k c hc)

theorem r107 (t : Fin 2048) (k : Fin 256) (c : Fin 1024) (hc : c.val = 512 + k.val) :
    val_main_v107 (F := Ideal) a0 a3 a5 (ix3 b t k) = L.run (t - 4) c :=
  (taken_at b (val_main_v105 (F := Ideal) a0 a3 a5) (val_main_v97 (F := Ideal)) (fun t => t - 4) (fun t => by omega) w97 t k).trans
    (r105 hL _ k c hc)

theorem r113 (t : Fin 2048) (k : Fin 256) (c : Fin 1024) (hc : c.val = 512 + k.val) :
    val_main_v113 (F := Ideal) a0 a3 a5 (ix3 b t k) = L.poolDiff t c := by
  pointwise [val_main_v113, val_main_v112, val_main_v111, val_main_v110, val_main_v109, val_main_v108, val_main_v103]
  exact mean_at 4 t c (by
    have e : c.val / 256 = 2 := by omega
    exact congrArg (2 ^ ·) e) _ _ _ _ (r106 hL t k c hc) (r107 hL t k c hc) (n102 t) ((r52 hL t 2 k (by show 256 * 2 + k.val < 1024; omega)).trans (congrArg (L.pv t) (Fin.ext hc.symm)))

omit hL

theorem w116 (t : Fin 2048) : val_main_v116 (F := Ideal) (ix1 t) = BitVec.ofNat 32 (t - 8) := by
  pointwise [val_main_v116, val_main_call13_v4, val_main_call13_v3, val_main_call13_v2, val_main_call13_v1, val_main_call13_v0, val_main_v115, val_main_v114, val_main_v56,
    val_main_c_25, val_main_c_26, val_main_c_27]
  exact lo_word t 8 t.isLt (by omega)

theorem w119 (t : Fin 2048) : val_main_v119 (F := Ideal) (ix1 t) = BitVec.ofNat 32 (min (t + 8) 2048) := by
  pointwise [val_main_v119, val_main_call14_v4, val_main_call14_v3, val_main_call14_v2, val_main_call14_v1, val_main_call14_v0, val_main_v118, val_main_v117, val_main_v56,
    val_main_c_28, val_main_c_29, val_main_c_30]
  exact hi_word t 8 t.isLt (by omega)

theorem n121 (t : Fin 2048) : val_main_v121 (F := Ideal) (ix1 t) = Layer.cnt 8 t := by
  refine Eq.trans ?_ (count_word t 8)
  rw [← w119 t, ← w116 t]
  rfl

include hL

theorem r124 (n : Fin 2049) (k : Fin 256) (c : Fin 1024) (hc : c.val = 768 + k.val) :
    val_main_v124 (F := Ideal) a0 a3 a5 (ix3 b n k) = L.run n.val c := by
  pointwise [val_main_v124, val_main_v123]
  exact (r55 hL n 3 k (by show 256 * 3 + k.val < 1024; omega)).trans (congrArg (L.run n.val) (Fin.ext hc.symm))

theorem r125 (t : Fin 2048) (k : Fin 256) (c : Fin 1024) (hc : c.val = 768 + k.val) :
    val_main_v125 (F := Ideal) a0 a3 a5 (ix3 b t k) = L.run (min (t + 8) 2048) c :=
  (taken_at b (val_main_v124 (F := Ideal) a0 a3 a5) (val_main_v119 (F := Ideal)) (fun t => min (t + 8) 2048) (fun t => by omega) w119 t k).trans
    (r124 hL _ k c hc)

theorem r126 (t : Fin 2048) (k : Fin 256) (c : Fin 1024) (hc : c.val = 768 + k.val) :
    val_main_v126 (F := Ideal) a0 a3 a5 (ix3 b t k) = L.run (t - 8) c :=
  (taken_at b (val_main_v124 (F := Ideal) a0 a3 a5) (val_main_v116 (F := Ideal)) (fun t => t - 8) (fun t => by omega) w116 t k).trans
    (r124 hL _ k c hc)

theorem r132 (t : Fin 2048) (k : Fin 256) (c : Fin 1024) (hc : c.val = 768 + k.val) :
    val_main_v132 (F := Ideal) a0 a3 a5 (ix3 b t k) = L.poolDiff t c := by
  pointwise [val_main_v132, val_main_v131, val_main_v130, val_main_v129, val_main_v128, val_main_v127, val_main_v122]
  exact mean_at 8 t c (by
    have e : c.val / 256 = 3 := by omega
    exact congrArg (2 ^ ·) e) _ _ _ _ (r125 hL t k c hc) (r126 hL t k c hc) (n121 t) ((r52 hL t 3 k (by show 256 * 3 + k.val < 1024; omega)).trans (congrArg (L.pv t) (Fin.ext hc.symm)))

/-- The stacked groups. -/
theorem pooled : Pooled b L a0 a3 a5 := by
  intro t g k h
  pointwise [val_main_v137, val_main_v133, val_main_v134, val_main_v135, val_main_v136]
  split
  · exact r75 hL t k _ (by show 256 * g.val + k.val = 0 + k.val; omega)
  · split
    · exact r94 hL t k _ (by show 256 * g.val + k.val = 256 + k.val; omega)
    · split
      · exact r113 hL t k _ (by show 256 * g.val + k.val = 512 + k.val; omega)
      · exact r132 hL t k _ (by show 256 * g.val + k.val = 768 + k.val; omega)

end

end Cert.Enc.Prompt
-- ==== Proof.PromptPreFacts.lean ====
/- For the prompt: what the finiteness precondition gives: the six arguments it reads are real numbers. -/
module

public import proofs.«01_k».proof.Proof.PreFacts
public import proofs.«01_k».proof.Defs
public import proofs.«01_k».proof.Proof.Equal
public import proofs.«01_k».proof.Proof.PromptResult

@[expose] public section

namespace Cert.Enc.Prompt

open Idealize.ShloMosaic

/-- The shape relations the precondition's broadcasts need. -/
theorem preFacts : Cert.Pre_finite_prompt.Facts where
  bcast_S_S16x2048x1024 := by decide
  bcast_S_S16x256x1024 := by decide
  bcast_S_S1x1024 := by decide
  bcast_S_S1x1024x7168 := by decide
  bcast_S_S1x1024x1024 := by decide

/-- Under the finiteness precondition the kernel's layer is made of real numbers. -/
theorem layer_real [Cert.Pre_finite_prompt.Facts] (m : (ℓ : Loc Cert.PromptIdeal.nD Cert.PromptIdeal.τ Cert.PromptIdeal.sig) → Buf (Elt Ideal) ℓ)
    (h : Cert.Pre_PromptIdeal_finite_prompt m) (c : Dev Cert.PromptIdeal.nD) (b : Fin 16) : (layerK m c b).Real := by
  obtain ⟨h0, h2, h3, h4, h5, h8⟩ := h c
  exact {
    x := fun t k => Rl.of_abs (congrFun h0 (ix3 b t k))
    mem := fun t k => Rl.of_abs (congrFun h2 (ix3 b t k))
    gi := fun k => Rl.of_abs (congrFun h3 (ix2 0 k))
    gm := fun k => Rl.of_abs (congrFun h4 (ix2 0 k))
    w := fun k j => Rl.of_abs (congrFun h5 (ix3 0 k j))
    wkv := fun k j => Rl.of_abs (congrFun h8 (ix3 0 k j)) }

end Cert.Enc.Prompt
-- ==== Proof.PromptAlgebraic.lean ====
/- For the prompt: the kernel's result is the reference's: the two runs, each at its own form of the layer, and the two forms of a real layer. -/
module

public import proofs.«01_k».proof.Proof.Algebraic
public import proofs.«01_k».proof.Proof.PromptKernelRun
public import proofs.«01_k».proof.Proof.PromptRefPool
public import proofs.«01_k».proof.Proof.PromptPreFacts
public import proofs.«01_k».proof.Proof.Gen.PromptReferenceIdeal.Run

@[expose] public section

set_option maxRecDepth 16384

namespace Cert.Enc.Prompt

open Idealize.ShloMosaic Idealize.ShloMosaic.TcCoe Idealize.SL.Sem

section

open Cert.PromptReferenceIdeal Cert.PromptReferenceIdeal.Read

/-- The reference's result over real layers, in the kernel's form. -/
theorem reference_out (a0 : Vec Ideal S16x2048x1024 .f32) (a1 : Vec Ideal S16x2048x512 .bf16) (a2 : Vec Ideal S16x256x1024 .f32)
    (a3 a4 : Vec Ideal S1x1024 .f32) (a5 : Vec Ideal S1x1024x7168 .f32) (a6 : Vec Ideal S1x4x256x256 .f32) (a7 : Vec Ideal S1x1024 .f32)
    (a8 a9 : Vec Ideal S1x1024x1024 .f32) (a10 a11 : Vec Ideal S1x512x1024 .f32) (a12 : Vec Ideal S1x3072 .f32)
    (a13 : Vec Ideal S1x1024x1024 .f32) (a14 : Vec Ideal S1024 .f32) (L : Fin 16 → Layer 2048)
    (hL : ∀ b, L b = ofArgs b a0 a1 a2 a3 a4 a5 a6 a7 a8 a9 a10 a11 a12 a13 a14) (hr : ∀ b, (L b).Real) :
    val_main_v201 (F := Ideal) a0 a1 a2 a3 a4 a5 a6 a7 a8 a9 a10 a11 a12 a13 a14
      = (fun y => (L (y 0)).out sigTanh (L (y 0)).poolSum (L (y 0)).attLast (y 1) (y 2)) := by
  funext y
  rw [(hr (y 0)).out]
  exact (congrArg (val_main_v201 (F := Ideal) a0 a1 a2 a3 a4 a5 a6 a7 a8 a9 a10 a11 a12 a13 a14) (eq_ix3 y)).trans
    (r201 (hL (y 0)) (pooled (hL (y 0))) (y 1) (y 2))

/-- The same at arguments equal to a real layer's. -/
theorem reference_out_at {a0 b0 : Vec Ideal S16x2048x1024 .f32} {a1 b1 : Vec Ideal S16x2048x512 .bf16} {a2 b2 : Vec Ideal S16x256x1024 .f32}
    {a3 a4 b3 b4 : Vec Ideal S1x1024 .f32} {a5 b5 : Vec Ideal S1x1024x7168 .f32} {a6 b6 : Vec Ideal S1x4x256x256 .f32}
    {a7 b7 : Vec Ideal S1x1024 .f32} {a8 a9 b8 b9 : Vec Ideal S1x1024x1024 .f32} {a10 a11 b10 b11 : Vec Ideal S1x512x1024 .f32}
    {a12 b12 : Vec Ideal S1x3072 .f32} {a13 b13 : Vec Ideal S1x1024x1024 .f32} {a14 b14 : Vec Ideal S1024 .f32}
    (L : Fin 16 → Layer 2048) (hL : ∀ b, L b = ofArgs b a0 a1 a2 a3 a4 a5 a6 a7 a8 a9 a10 a11 a12 a13 a14) (hr : ∀ b, (L b).Real)
    (h0 : b0 = a0) (h1 : b1 = a1) (h2 : b2 = a2) (h3 : b3 = a3) (h4 : b4 = a4)
    (h5 : b5 = a5) (h6 : b6 = a6) (h7 : b7 = a7) (h8 : b8 = a8) (h9 : b9 = a9)
    (h10 : b10 = a10) (h11 : b11 = a11) (h12 : b12 = a12) (h13 : b13 = a13) (h14 : b14 = a14) :
    val_main_v201 (F := Ideal) b0 b1 b2 b3 b4 b5 b6 b7 b8 b9 b10 b11 b12 b13 b14
      = (fun y => (L (y 0)).out sigTanh (L (y 0)).poolSum (L (y 0)).attLast (y 1) (y 2)) := by
  subst h0 h1 h2 h3 h4 h5 h6 h7 h8 h9 h10 h11 h12 h13 h14
  exact reference_out _ _ _ _ _ _ _ _ _ _ _ _ _ _ _ L hL hr

end

set_option maxHeartbeats 4000000 in
/-- Over finite arguments the kernel and the reference end with the same array. -/
theorem algebraic : Cert.algebraic_PromptIdeal_PromptReferenceIdeal_pre_finite_prompt (hPromptIdeal := Cert.PromptIdeal.Gen.facts)
    (hPromptReferenceIdeal := Cert.PromptReferenceIdeal.Gen.facts) (hPre_finite_prompt := preFacts) := by
  intro m g m' g' hp ha
  refine ⟨_, kernel_run m g, (θ_run Cert.PromptReferenceIdeal.defs _ _).mono (fun r h c => ⟨?_, (h c).2⟩) (Cert.PromptReferenceIdeal.Value.run m' g')⟩
  refine ((h c).1.trans (Cert.PromptReferenceIdeal.Read.val_main_v201_eq (StableHlo.launchContents m' c))).trans ?_
  obtain ⟨e0, e1, e2, e3, e4, e5, e6, e7, e8, e9, e10, e11, e12, e13, e14⟩ := ha c
  exact reference_out_at (layerK m c) (fun _ => rfl) (@layer_real preFacts m hp c)
    ((StableHlo.launchContents_devRef m' c Cert.PromptReferenceIdeal.main_arg0).trans e0)
    ((StableHlo.launchContents_devRef m' c Cert.PromptReferenceIdeal.main_arg1).trans e1)
    ((StableHlo.launchContents_devRef m' c Cert.PromptReferenceIdeal.main_arg2).trans e2)
    ((StableHlo.launchContents_devRef m' c Cert.PromptReferenceIdeal.main_arg3).trans e3)
    ((StableHlo.launchContents_devRef m' c Cert.PromptReferenceIdeal.main_arg4).trans e4)
    ((StableHlo.launchContents_devRef m' c Cert.PromptReferenceIdeal.main_arg5).trans e5)
    ((StableHlo.launchContents_devRef m' c Cert.PromptReferenceIdeal.main_arg6).trans e6)
    ((StableHlo.launchContents_devRef m' c Cert.PromptReferenceIdeal.main_arg7).trans e7)
    ((StableHlo.launchContents_devRef m' c Cert.PromptReferenceIdeal.main_arg8).trans e8)
    ((StableHlo.launchContents_devRef m' c Cert.PromptReferenceIdeal.main_arg9).trans e9)
    ((StableHlo.launchContents_devRef m' c Cert.PromptReferenceIdeal.main_arg10).trans e10)
    ((StableHlo.launchContents_devRef m' c Cert.PromptReferenceIdeal.main_arg11).trans e11)
    ((StableHlo.launchContents_devRef m' c Cert.PromptReferenceIdeal.main_arg12).trans e12)
    ((StableHlo.launchContents_devRef m' c Cert.PromptReferenceIdeal.main_arg13).trans e13)
    ((StableHlo.launchContents_devRef m' c Cert.PromptReferenceIdeal.main_arg14).trans e14)

end Cert.Enc.Prompt
-- ==== Proof.lean ====
/- The certificate: for the sample and for the prompt the frames and the ledger (Proof/Frames.lean, Proof/PromptFrames.lean), the equality
   with the reference (Proof/Algebraic.lean, Proof/PromptAlgebraic.lean). -/
module

public import proofs.«01_k».proof.Proof.Frames
public import proofs.«01_k».proof.Proof.Algebraic
public import proofs.«01_k».proof.Proof.PromptFrames
public import proofs.«01_k».proof.Proof.PromptAlgebraic

@[expose] public section

namespace Cert.Proof

theorem claim : Cert.Claim :=
  ⟨Cert.Kernel.Gen.facts, Cert.KernelIdeal.Gen.facts, Cert.ReferenceIdeal.Gen.facts, Cert.Prompt.Gen.facts, Cert.PromptIdeal.Gen.facts,
    Cert.PromptReferenceIdeal.Gen.facts, Cert.Enc.preFacts, Cert.Enc.Prompt.preFacts,
    kernelFrame, idealFrame, fun m ρ _ => idealFrame m ρ trivial, referenceFrame, fun m ρ _ => referenceFrame m ρ trivial,
    Prompt.kernelFrame, Prompt.idealFrame, fun m ρ _ => Prompt.idealFrame m ρ trivial, Prompt.referenceFrame,
    fun m ρ _ => Prompt.referenceFrame m ρ trivial, ledger, Cert.Enc.algebraic, Prompt.ledger, Cert.Enc.Prompt.algebraic⟩

end Cert.Proof

end
